-- ==== Defs.lean ====
def Pre_FfOut (m : (ℓ : Loc Cert.FfOut.nD Cert.FfOut.τ Cert.FfOut.sig) → Buf (Elt Bits) ℓ) : Prop :=
  True

def Pre_FfOutIdeal (m : (ℓ : Loc Cert.FfOutIdeal.nD Cert.FfOutIdeal.τ Cert.FfOutIdeal.sig) → Buf (Elt Ideal) ℓ) : Prop :=
  True

def Pre_FfOutReferenceIdeal (m : (ℓ : Loc Cert.FfOutReferenceIdeal.nD Cert.FfOutReferenceIdeal.τ Cert.FfOutReferenceIdeal.sig) → Buf (Elt Ideal) ℓ) : Prop :=
  True

def Pre_FfOutWeight (m : (ℓ : Loc Cert.FfOutWeight.nD Cert.FfOutWeight.τ Cert.FfOutWeight.sig) → Buf (Elt Bits) ℓ) : Prop :=
  True

def Pre_FfOutWeightIdeal (m : (ℓ : Loc Cert.FfOutWeightIdeal.nD Cert.FfOutWeightIdeal.τ Cert.FfOutWeightIdeal.sig) → Buf (Elt Ideal) ℓ) : Prop :=
  True

def Pre_FfOutWeightReferenceIdeal (m : (ℓ : Loc Cert.FfOutWeightReferenceIdeal.nD Cert.FfOutWeightReferenceIdeal.τ Cert.FfOutWeightReferenceIdeal.sig) → Buf (Elt Ideal) ℓ) : Prop :=
  True

def Pre_FfInWeight (m : (ℓ : Loc Cert.FfInWeight.nD Cert.FfInWeight.τ Cert.FfInWeight.sig) → Buf (Elt Bits) ℓ) : Prop :=
  True

def Pre_FfInWeightIdeal (m : (ℓ : Loc Cert.FfInWeightIdeal.nD Cert.FfInWeightIdeal.τ Cert.FfInWeightIdeal.sig) → Buf (Elt Ideal) ℓ) : Prop :=
  True

def Pre_FfInWeightReferenceIdeal (m : (ℓ : Loc Cert.FfInWeightReferenceIdeal.nD Cert.FfInWeightReferenceIdeal.τ Cert.FfInWeightReferenceIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightReferenceIdeal (m : (ℓ : Loc Cert.GateWeightReferenceIdeal.nD Cert.GateWeightReferenceIdeal.τ Cert.GateWeightReferenceIdeal.sig) → Buf (Elt Ideal) ℓ) : Prop :=
  True

def Pre_EmbedWeight (m : (ℓ : Loc Cert.EmbedWeight.nD Cert.EmbedWeight.τ Cert.EmbedWeight.sig) → Buf (Elt Bits) ℓ) : Prop :=
  True

def Pre_EmbedWeightIdeal (m : (ℓ : Loc Cert.EmbedWeightIdeal.nD Cert.EmbedWeightIdeal.τ Cert.EmbedWeightIdeal.sig) → Buf (Elt Ideal) ℓ) : Prop :=
  True

def Pre_EmbedWeightReferenceIdeal (m : (ℓ : Loc Cert.EmbedWeightReferenceIdeal.nD Cert.EmbedWeightReferenceIdeal.τ Cert.EmbedWeightReferenceIdeal.sig) → Buf (Elt Ideal) ℓ) : Prop :=
  True

def Pre_MixWeight (m : (ℓ : Loc Cert.MixWeight.nD Cert.MixWeight.τ Cert.MixWeight.sig) → Buf (Elt Bits) ℓ) : Prop :=
  True

def Pre_MixWeightIdeal (m : (ℓ : Loc Cert.MixWeightIdeal.nD Cert.MixWeightIdeal.τ Cert.MixWeightIdeal.sig) → Buf (Elt Ideal) ℓ) : Prop :=
  True

def Pre_MixWeightReferenceIdeal (m : (ℓ : Loc Cert.MixWeightReferenceIdeal.nD Cert.MixWeightReferenceIdeal.τ Cert.MixWeightReferenceIdeal.sig) → Buf (Elt Ideal) ℓ) : Prop :=
  True

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightReferenceIdeal (m : (ℓ : Loc Cert.UpWeightReferenceIdeal.nD Cert.UpWeightReferenceIdeal.τ Cert.UpWeightReferenceIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_FfIn (m : (ℓ : Loc Cert.FfIn.nD Cert.FfIn.τ Cert.FfIn.sig) → Buf (Elt Bits) ℓ) : Prop :=
  True

def Pre_FfInIdeal (m : (ℓ : Loc Cert.FfInIdeal.nD Cert.FfInIdeal.τ Cert.FfInIdeal.sig) → Buf (Elt Ideal) ℓ) : Prop :=
  True

def Pre_FfInReferenceIdeal (m : (ℓ : Loc Cert.FfInReferenceIdeal.nD Cert.FfInReferenceIdeal.τ Cert.FfInReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_InForward (m : (ℓ : Loc Cert.InForward.nD Cert.InForward.τ Cert.InForward.sig) → Buf (Elt Bits) ℓ) : Prop :=
  True

def Pre_InForwardIdeal (m : (ℓ : Loc Cert.InForwardIdeal.nD Cert.InForwardIdeal.τ Cert.InForwardIdeal.sig) → Buf (Elt Ideal) ℓ) : Prop :=
  True

def Pre_InForwardReferenceIdeal (m : (ℓ : Loc Cert.InForwardReferenceIdeal.nD Cert.InForwardReferenceIdeal.τ Cert.InForwardReferenceIdeal.sig) → Buf (Elt Ideal) ℓ) : Prop :=
  True

def Pre_MixForward (m : (ℓ : Loc Cert.MixForward.nD Cert.MixForward.τ Cert.MixForward.sig) → Buf (Elt Bits) ℓ) : Prop :=
  True

def Pre_MixForwardIdeal (m : (ℓ : Loc Cert.MixForwardIdeal.nD Cert.MixForwardIdeal.τ Cert.MixForwardIdeal.sig) → Buf (Elt Ideal) ℓ) : Prop :=
  True

def Pre_MixForwardReferenceIdeal (m : (ℓ : Loc Cert.MixForwardReferenceIdeal.nD Cert.MixForwardReferenceIdeal.τ Cert.MixForwardReferenceIdeal.sig) → Buf (Elt Ideal) ℓ) : Prop :=
  True

def Pre_FfInForward (m : (ℓ : Loc Cert.FfInForward.nD Cert.FfInForward.τ Cert.FfInForward.sig) → Buf (Elt Bits) ℓ) : Prop :=
  True

def Pre_FfInForwardIdeal (m : (ℓ : Loc Cert.FfInForwardIdeal.nD Cert.FfInForwardIdeal.τ Cert.FfInForwardIdeal.sig) → Buf (Elt Ideal) ℓ) : Prop :=
  True

def Pre_FfInForwardReferenceIdeal (m : (ℓ : Loc Cert.FfInForwardReferenceIdeal.nD Cert.FfInForwardReferenceIdeal.τ Cert.FfInForwardReferenceIdeal.sig) → Buf (Elt Ideal) ℓ) : Prop :=
  True

def Pre_FfOutForward (m : (ℓ : Loc Cert.FfOutForward.nD Cert.FfOutForward.τ Cert.FfOutForward.sig) → Buf (Elt Bits) ℓ) : Prop :=
  True

def Pre_FfOutForwardIdeal (m : (ℓ : Loc Cert.FfOutForwardIdeal.nD Cert.FfOutForwardIdeal.τ Cert.FfOutForwardIdeal.sig) → Buf (Elt Ideal) ℓ) : Prop :=
  True

def Pre_FfOutForwardReferenceIdeal (m : (ℓ : Loc Cert.FfOutForwardReferenceIdeal.nD Cert.FfOutForwardReferenceIdeal.τ Cert.FfOutForwardReferenceIdeal.sig) → Buf (Elt Ideal) ℓ) : Prop :=
  True

def Pre_EmbedForward (m : (ℓ : Loc Cert.EmbedForward.nD Cert.EmbedForward.τ Cert.EmbedForward.sig) → Buf (Elt Bits) ℓ) : Prop :=
  True

def Pre_EmbedForwardIdeal (m : (ℓ : Loc Cert.EmbedForwardIdeal.nD Cert.EmbedForwardIdeal.τ Cert.EmbedForwardIdeal.sig) → Buf (Elt Ideal) ℓ) : Prop :=
  True

def Pre_EmbedForwardReferenceIdeal (m : (ℓ : Loc Cert.EmbedForwardReferenceIdeal.nD Cert.EmbedForwardReferenceIdeal.τ Cert.EmbedForwardReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamFf (m : (ℓ : Loc Cert.AdamFf.nD Cert.AdamFf.τ Cert.AdamFf.sig) → Buf (Elt Bits) ℓ) : Prop :=
  True

def Pre_AdamFfIdeal (m : (ℓ : Loc Cert.AdamFfIdeal.nD Cert.AdamFfIdeal.τ Cert.AdamFfIdeal.sig) → Buf (Elt Ideal) ℓ) : Prop :=
  True

def Pre_AdamFfReferenceIdeal (m : (ℓ : Loc Cert.AdamFfReferenceIdeal.nD Cert.AdamFfReferenceIdeal.τ Cert.AdamFfReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixReferenceIdeal (m : (ℓ : Loc Cert.AdamMixReferenceIdeal.nD Cert.AdamMixReferenceIdeal.τ Cert.AdamMixReferenceIdeal.sig) → Buf (Elt Ideal) ℓ) : Prop :=
  True

def Pre_AdamEmbed (m : (ℓ : Loc Cert.AdamEmbed.nD Cert.AdamEmbed.τ Cert.AdamEmbed.sig) → Buf (Elt Bits) ℓ) : Prop :=
  True

def Pre_AdamEmbedIdeal (m : (ℓ : Loc Cert.AdamEmbedIdeal.nD Cert.AdamEmbedIdeal.τ Cert.AdamEmbedIdeal.sig) → Buf (Elt Ideal) ℓ) : Prop :=
  True

def Pre_AdamEmbedReferenceIdeal (m : (ℓ : Loc Cert.AdamEmbedReferenceIdeal.nD Cert.AdamEmbedReferenceIdeal.τ Cert.AdamEmbedReferenceIdeal.sig) → Buf (Elt Ideal) ℓ) : Prop :=
  True

def Pre_WindowForward (m : (ℓ : Loc Cert.WindowForward.nD Cert.WindowForward.τ Cert.WindowForward.sig) → Buf (Elt Bits) ℓ) : Prop :=
  True

def Pre_WindowForwardIdeal (m : (ℓ : Loc Cert.WindowForwardIdeal.nD Cert.WindowForwardIdeal.τ Cert.WindowForwardIdeal.sig) → Buf (Elt Ideal) ℓ) : Prop :=
  True

def Pre_WindowForwardReferenceIdeal (m : (ℓ : Loc Cert.WindowForwardReferenceIdeal.nD Cert.WindowForwardReferenceIdeal.τ Cert.WindowForwardReferenceIdeal.sig) → Buf (Elt Ideal) ℓ) : Prop :=
  True

def quiescent_FfOut [hFfOut : Cert.FfOut.Facts] : Prop :=
  ∀ (m : (ℓ : Loc Cert.FfOut.nD Cert.FfOut.τ Cert.FfOut.sig) → Buf (Elt Bits) ℓ) (g : Dev Cert.FfOut.nD → PrngReg), Pre_FfOut m →
    θ_run (Cert.FfOut.defs (F := Bits)) (onTc (τ := Cert.FfOut.τ) (Cert.FfOut.main (F := Bits))) ⟨m, fun _ => 0, g⟩ (fun r => (∀ c : Dev Cert.FfOut.nD,
      r.2.mem ((c.tc : Thread Cert.FfOut.nD Cert.FfOut.τ).loc Cert.FfOut.main_arg0) = m ((c.tc : Thread Cert.FfOut.nD Cert.FfOut.τ).loc Cert.FfOut.main_arg0)
      ∧ r.2.mem ((c.tc : Thread Cert.FfOut.nD Cert.FfOut.τ).loc Cert.FfOut.main_arg1) = m ((c.tc : Thread Cert.FfOut.nD Cert.FfOut.τ).loc Cert.FfOut.main_arg1)
      ∧ r.2.mem ((c.tc : Thread Cert.FfOut.nD Cert.FfOut.τ).loc Cert.FfOut.main_arg2) = m ((c.tc : Thread Cert.FfOut.nD Cert.FfOut.τ).loc Cert.FfOut.main_arg2)
      ∧ r.2.mem ((c.tc : Thread Cert.FfOut.nD Cert.FfOut.τ).loc Cert.FfOut.main_arg3) = m ((c.tc : Thread Cert.FfOut.nD Cert.FfOut.τ).loc Cert.FfOut.main_arg3))
      ∧ r.2.sem = fun _ => 0)

def quiescent_FfOutIdeal [hFfOutIdeal : Cert.FfOutIdeal.Facts] : Prop :=
  ∀ (m : (ℓ : Loc Cert.FfOutIdeal.nD Cert.FfOutIdeal.τ Cert.FfOutIdeal.sig) → Buf (Elt Ideal) ℓ) (g : Dev Cert.FfOutIdeal.nD → PrngReg), Pre_FfOutIdeal m →
    θ_run (Cert.FfOutIdeal.defs (F := Ideal)) (onTc (τ := Cert.FfOutIdeal.τ) (Cert.FfOutIdeal.main (F := Ideal))) ⟨m, fun _ => 0, g⟩ (fun r => (∀ c : Dev Cert.FfOutIdeal.nD,
      r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
      ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
      ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2)
      ∧ r.2.mem ((c.tc : Thread Cert.FfOutIdeal.nD Cert.FfOutIdeal.τ).loc Cert.FfOutIdeal.main_arg3) = m ((c.tc : Thread Cert.FfOutIdeal.nD Cert.FfOutIdeal.τ).loc Cert.FfOutIdeal.main_arg3))
      ∧ r.2.sem = fun _ => 0)

def quiescent_FfOutReferenceIdeal [hFfOutReferenceIdeal : Cert.FfOutReferenceIdeal.Facts] : Prop :=
  ∀ (m : (ℓ : Loc Cert.FfOutReferenceIdeal.nD Cert.FfOutReferenceIdeal.τ Cert.FfOutReferenceIdeal.sig) → Buf (Elt Ideal) ℓ) (g : Dev Cert.FfOutReferenceIdeal.nD → PrngReg), Pre_FfOutReferenceIdeal m →
    θ_run (Cert.FfOutReferenceIdeal.defs (F := Ideal)) (onTc (τ := Cert.FfOutReferenceIdeal.τ) (Cert.FfOutReferenceIdeal.main (F := Ideal))) ⟨m, fun _ => 0, g⟩ (fun r => (∀ c : Dev Cert.FfOutReferenceIdeal.nD,
      r.2.mem ((c.tc : Thread Cert.FfOutReferenceIdeal.nD Cert.FfOutReferenceIdeal.τ).loc Cert.FfOutReferenceIdeal.main_arg0) = m ((c.tc : Thread Cert.FfOutReferenceIdeal.nD Cert.FfOutReferenceIdeal.τ).loc Cert.FfOutReferenceIdeal.main_arg0)
      ∧ r.2.mem ((c.tc : Thread Cert.FfOutReferenceIdeal.nD Cert.FfOutReferenceIdeal.τ).loc Cert.FfOutReferenceIdeal.main_arg1) = m ((c.tc : Thread Cert.FfOutReferenceIdeal.nD Cert.FfOutReferenceIdeal.τ).loc Cert.FfOutReferenceIdeal.main_arg1)
      ∧ r.2.mem ((c.tc : Thread Cert.FfOutReferenceIdeal.nD Cert.FfOutReferenceIdeal.τ).loc Cert.FfOutReferenceIdeal.main_arg2) = m ((c.tc : Thread Cert.FfOutReferenceIdeal.nD Cert.FfOutReferenceIdeal.τ).loc Cert.FfOutReferenceIdeal.main_arg2)
      ∧ r.2.mem ((c.tc : Thread Cert.FfOutReferenceIdeal.nD Cert.FfOutReferenceIdeal.τ).loc Cert.FfOutReferenceIdeal.main_arg3) = m ((c.tc : Thread Cert.FfOutReferenceIdeal.nD Cert.FfOutReferenceIdeal.τ).loc Cert.FfOutReferenceIdeal.main_arg3))
      ∧ r.2.sem = fun _ => 0)

def quiescent_FfOutWeight [hFfOutWeight : Cert.FfOutWeight.Facts] : Prop :=
  ∀ (m : (ℓ : Loc Cert.FfOutWeight.nD Cert.FfOutWeight.τ Cert.FfOutWeight.sig) → Buf (Elt Bits) ℓ) (g : Dev Cert.FfOutWeight.nD → PrngReg), Pre_FfOutWeight m →
    θ_run (Cert.FfOutWeight.defs (F := Bits)) (onTc (τ := Cert.FfOutWeight.τ) (Cert.FfOutWeight.main (F := Bits))) ⟨m, fun _ => 0, g⟩ (fun r => (∀ c : Dev Cert.FfOutWeight.nD,
      r.2.mem ((c.tc : Thread Cert.FfOutWeight.nD Cert.FfOutWeight.τ).loc Cert.FfOutWeight.main_arg0) = m ((c.tc : Thread Cert.FfOutWeight.nD Cert.FfOutWeight.τ).loc Cert.FfOutWeight.main_arg0)
      ∧ r.2.mem ((c.tc : Thread Cert.FfOutWeight.nD Cert.FfOutWeight.τ).loc Cert.FfOutWeight.main_arg1) = m ((c.tc : Thread Cert.FfOutWeight.nD Cert.FfOutWeight.τ).loc Cert.FfOutWeight.main_arg1)
      ∧ r.2.mem ((c.tc : Thread Cert.FfOutWeight.nD Cert.FfOutWeight.τ).loc Cert.FfOutWeight.main_arg2) = m ((c.tc : Thread Cert.FfOutWeight.nD Cert.FfOutWeight.τ).loc Cert.FfOutWeight.main_arg2))
      ∧ r.2.sem = fun _ => 0)

def quiescent_FfOutWeightIdeal [hFfOutWeightIdeal : Cert.FfOutWeightIdeal.Facts] : Prop :=
  ∀ (m : (ℓ : Loc Cert.FfOutWeightIdeal.nD Cert.FfOutWeightIdeal.τ Cert.FfOutWeightIdeal.sig) → Buf (Elt Ideal) ℓ) (g : Dev Cert.FfOutWeightIdeal.nD → PrngReg), Pre_FfOutWeightIdeal m →
    θ_run (Cert.FfOutWeightIdeal.defs (F := Ideal)) (onTc (τ := Cert.FfOutWeightIdeal.τ) (Cert.FfOutWeightIdeal.main (F := Ideal))) ⟨m, fun _ => 0, g⟩ (fun r => (∀ c : Dev Cert.FfOutWeightIdeal.nD,
      r.2.mem ((c.tc : Thread Cert.FfOutWeightIdeal.nD Cert.FfOutWeightIdeal.τ).loc Cert.FfOutWeightIdeal.main_arg0) = m ((c.tc : Thread Cert.FfOutWeightIdeal.nD Cert.FfOutWeightIdeal.τ).loc Cert.FfOutWeightIdeal.main_arg0)
      ∧ r.2.mem ((c.tc : Thread Cert.FfOutWeightIdeal.nD Cert.FfOutWeightIdeal.τ).loc Cert.FfOutWeightIdeal.main_arg1) = m ((c.tc : Thread Cert.FfOutWeightIdeal.nD Cert.FfOutWeightIdeal.τ).loc Cert.FfOutWeightIdeal.main_arg1)
      ∧ r.2.mem ((c.tc : Thread Cert.FfOutWeightIdeal.nD Cert.FfOutWeightIdeal.τ).loc Cert.FfOutWeightIdeal.main_arg2) = m ((c.tc : Thread Cert.FfOutWeightIdeal.nD Cert.FfOutWeightIdeal.τ).loc Cert.FfOutWeightIdeal.main_arg2))
      ∧ r.2.sem = fun _ => 0)

def quiescent_FfOutWeightReferenceIdeal [hFfOutWeightReferenceIdeal : Cert.FfOutWeightReferenceIdeal.Facts] : Prop :=
  ∀ (m : (ℓ : Loc Cert.FfOutWeightReferenceIdeal.nD Cert.FfOutWeightReferenceIdeal.τ Cert.FfOutWeightReferenceIdeal.sig) → Buf (Elt Ideal) ℓ) (g : Dev Cert.FfOutWeightReferenceIdeal.nD → PrngReg), Pre_FfOutWeightReferenceIdeal m →
    θ_run (Cert.FfOutWeightReferenceIdeal.defs (F := Ideal)) (onTc (τ := Cert.FfOutWeightReferenceIdeal.τ) (Cert.FfOutWeightReferenceIdeal.main (F := Ideal))) ⟨m, fun _ => 0, g⟩ (fun r => (∀ c : Dev Cert.FfOutWeightReferenceIdeal.nD,
      r.2.mem ((c.tc : Thread Cert.FfOutWeightReferenceIdeal.nD Cert.FfOutWeightReferenceIdeal.τ).loc Cert.FfOutWeightReferenceIdeal.main_arg0) = m ((c.tc : Thread Cert.FfOutWeightReferenceIdeal.nD Cert.FfOutWeightReferenceIdeal.τ).loc Cert.FfOutWeightReferenceIdeal.main_arg0)
      ∧ r.2.mem ((c.tc : Thread Cert.FfOutWeightReferenceIdeal.nD Cert.FfOutWeightReferenceIdeal.τ).loc Cert.FfOutWeightReferenceIdeal.main_arg1) = m ((c.tc : Thread Cert.FfOutWeightReferenceIdeal.nD Cert.FfOutWeightReferenceIdeal.τ).loc Cert.FfOutWeightReferenceIdeal.main_arg1)
      ∧ r.2.mem ((c.tc : Thread Cert.FfOutWeightReferenceIdeal.nD Cert.FfOutWeightReferenceIdeal.τ).loc Cert.FfOutWeightReferenceIdeal.main_arg2) = m ((c.tc : Thread Cert.FfOutWeightReferenceIdeal.nD Cert.FfOutWeightReferenceIdeal.τ).loc Cert.FfOutWeightReferenceIdeal.main_arg2))
      ∧ r.2.sem = fun _ => 0)

def quiescent_FfInWeight [hFfInWeight : Cert.FfInWeight.Facts] : Prop :=
  ∀ (m : (ℓ : Loc Cert.FfInWeight.nD Cert.FfInWeight.τ Cert.FfInWeight.sig) → Buf (Elt Bits) ℓ) (g : Dev Cert.FfInWeight.nD → PrngReg), Pre_FfInWeight m →
    θ_run (Cert.FfInWeight.defs (F := Bits)) (onTc (τ := Cert.FfInWeight.τ) (Cert.FfInWeight.main (F := Bits))) ⟨m, fun _ => 0, g⟩ (fun r => (∀ c : Dev Cert.FfInWeight.nD,
      r.2.mem ((c.tc : Thread Cert.FfInWeight.nD Cert.FfInWeight.τ).loc Cert.FfInWeight.main_arg0) = m ((c.tc : Thread Cert.FfInWeight.nD Cert.FfInWeight.τ).loc Cert.FfInWeight.main_arg0)
      ∧ r.2.mem ((c.tc : Thread Cert.FfInWeight.nD Cert.FfInWeight.τ).loc Cert.FfInWeight.main_arg1) = m ((c.tc : Thread Cert.FfInWeight.nD Cert.FfInWeight.τ).loc Cert.FfInWeight.main_arg1)
      ∧ r.2.mem ((c.tc : Thread Cert.FfInWeight.nD Cert.FfInWeight.τ).loc Cert.FfInWeight.main_arg2) = m ((c.tc : Thread Cert.FfInWeight.nD Cert.FfInWeight.τ).loc Cert.FfInWeight.main_arg2)
      ∧ r.2.mem ((c.tc : Thread Cert.FfInWeight.nD Cert.FfInWeight.τ).loc Cert.FfInWeight.main_arg3) = m ((c.tc : Thread Cert.FfInWeight.nD Cert.FfInWeight.τ).loc Cert.FfInWeight.main_arg3))
      ∧ r.2.sem = fun _ => 0)

def quiescent_FfInWeightIdeal [hFfInWeightIdeal : Cert.FfInWeightIdeal.Facts] : Prop :=
  ∀ (m : (ℓ : Loc Cert.FfInWeightIdeal.nD Cert.FfInWeightIdeal.τ Cert.FfInWeightIdeal.sig) → Buf (Elt Ideal) ℓ) (g : Dev Cert.FfInWeightIdeal.nD → PrngReg), Pre_FfInWeightIdeal m →
    θ_run (Cert.FfInWeightIdeal.defs (F := Ideal)) (onTc (τ := Cert.FfInWeightIdeal.τ) (Cert.FfInWeightIdeal.main (F := Ideal))) ⟨m, fun _ => 0, g⟩ (fun r => (∀ c : Dev Cert.FfInWeightIdeal.nD,
      r.2.mem ((c.tc : Thread Cert.FfInWeightIdeal.nD Cert.FfInWeightIdeal.τ).loc Cert.FfInWeightIdeal.main_arg0) = m ((c.tc : Thread Cert.FfInWeightIdeal.nD Cert.FfInWeightIdeal.τ).loc Cert.FfInWeightIdeal.main_arg0)
      ∧ r.2.mem ((c.tc : Thread Cert.FfInWeightIdeal.nD Cert.FfInWeightIdeal.τ).loc Cert.FfInWeightIdeal.main_arg1) = m ((c.tc : Thread Cert.FfInWeightIdeal.nD Cert.FfInWeightIdeal.τ).loc Cert.FfInWeightIdeal.main_arg1)
      ∧ r.2.mem ((c.tc : Thread Cert.FfInWeightIdeal.nD Cert.FfInWeightIdeal.τ).loc Cert.FfInWeightIdeal.main_arg2) = m ((c.tc : Thread Cert.FfInWeightIdeal.nD Cert.FfInWeightIdeal.τ).loc Cert.FfInWeightIdeal.main_arg2)
      ∧ r.2.mem ((c.tc : Thread Cert.FfInWeightIdeal.nD Cert.FfInWeightIdeal.τ).loc Cert.FfInWeightIdeal.main_arg3) = m ((c.tc : Thread Cert.FfInWeightIdeal.nD Cert.FfInWeightIdeal.τ).loc Cert.FfInWeightIdeal.main_arg3))
      ∧ r.2.sem = fun _ => 0)

def quiescent_FfInWeightReferenceIdeal [hFfInWeightReferenceIdeal : Cert.FfInWeightReferenceIdeal.Facts] : Prop :=
  ∀ (m : (ℓ : Loc Cert.FfInWeightReferenceIdeal.nD Cert.FfInWeightReferenceIdeal.τ Cert.FfInWeightReferenceIdeal.sig) → Buf (Elt Ideal) ℓ) (g : Dev Cert.FfInWeightReferenceIdeal.nD → PrngReg), Pre_FfInWeightReferenceIdeal m →
    θ_run (Cert.FfInWeightReferenceIdeal.defs (F := Ideal)) (onTc (τ := Cert.FfInWeightReferenceIdeal.τ) (Cert.FfInWeightReferenceIdeal.main (F := Ideal))) ⟨m, fun _ => 0, g⟩ (fun r => (∀ c : Dev Cert.FfInWeightReferenceIdeal.nD,
      r.2.mem ((c.tc : Thread Cert.FfInWeightReferenceIdeal.nD Cert.FfInWeightReferenceIdeal.τ).loc Cert.FfInWeightReferenceIdeal.main_arg0) = m ((c.tc : Thread Cert.FfInWeightReferenceIdeal.nD Cert.FfInWeightReferenceIdeal.τ).loc Cert.FfInWeightReferenceIdeal.main_arg0)
      ∧ r.2.mem ((c.tc : Thread Cert.FfInWeightReferenceIdeal.nD Cert.FfInWeightReferenceIdeal.τ).loc Cert.FfInWeightReferenceIdeal.main_arg1) = m ((c.tc : Thread Cert.FfInWeightReferenceIdeal.nD Cert.FfInWeightReferenceIdeal.τ).loc Cert.FfInWeightReferenceIdeal.main_arg1)
      ∧ r.2.mem ((c.tc : Thread Cert.FfInWeightReferenceIdeal.nD Cert.FfInWeightReferenceIdeal.τ).loc Cert.FfInWeightReferenceIdeal.main_arg2) = m ((c.tc : Thread Cert.FfInWeightReferenceIdeal.nD Cert.FfInWeightReferenceIdeal.τ).loc Cert.FfInWeightReferenceIdeal.main_arg2)
      ∧ r.2.mem ((c.tc : Thread Cert.FfInWeightReferenceIdeal.nD Cert.FfInWeightReferenceIdeal.τ).loc Cert.FfInWeightReferenceIdeal.main_arg3) = m ((c.tc : Thread Cert.FfInWeightReferenceIdeal.nD Cert.FfInWeightReferenceIdeal.τ).loc Cert.FfInWeightReferenceIdeal.main_arg3))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1)
      ∧ r.2.mem ((c.tc : Thread Cert.GateWeight.nD Cert.GateWeight.τ).loc Cert.GateWeight.main_arg2) = m ((c.tc : Thread Cert.GateWeight.nD Cert.GateWeight.τ).loc Cert.GateWeight.main_arg2)
      ∧ r.2.mem ((c.tc : Thread Cert.GateWeight.nD Cert.GateWeight.τ).loc Cert.GateWeight.main_arg3) = m ((c.tc : Thread Cert.GateWeight.nD Cert.GateWeight.τ).loc Cert.GateWeight.main_arg3))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1)
      ∧ r.2.mem ((c.tc : Thread Cert.GateWeightIdeal.nD Cert.GateWeightIdeal.τ).loc Cert.GateWeightIdeal.main_arg2) = m ((c.tc : Thread Cert.GateWeightIdeal.nD Cert.GateWeightIdeal.τ).loc Cert.GateWeightIdeal.main_arg2)
      ∧ r.2.mem ((c.tc : Thread Cert.GateWeightIdeal.nD Cert.GateWeightIdeal.τ).loc Cert.GateWeightIdeal.main_arg3) = m ((c.tc : Thread Cert.GateWeightIdeal.nD Cert.GateWeightIdeal.τ).loc Cert.GateWeightIdeal.main_arg3))
      ∧ r.2.sem = fun _ => 0)

def quiescent_GateWeightReferenceIdeal [hGateWeightReferenceIdeal : Cert.GateWeightReferenceIdeal.Facts] : Prop :=
  ∀ (m : (ℓ : Loc Cert.GateWeightReferenceIdeal.nD Cert.GateWeightReferenceIdeal.τ Cert.GateWeightReferenceIdeal.sig) → Buf (Elt Ideal) ℓ) (g : Dev Cert.GateWeightReferenceIdeal.nD → PrngReg), Pre_GateWeightReferenceIdeal m →
    θ_run (Cert.GateWeightReferenceIdeal.defs (F := Ideal)) (onTc (τ := Cert.GateWeightReferenceIdeal.τ) (Cert.GateWeightReferenceIdeal.main (F := Ideal))) ⟨m, fun _ => 0, g⟩ (fun r => (∀ c : Dev Cert.GateWeightReferenceIdeal.nD,
      r.2.mem ((c.tc : Thread Cert.GateWeightReferenceIdeal.nD Cert.GateWeightReferenceIdeal.τ).loc Cert.GateWeightReferenceIdeal.main_arg0) = m ((c.tc : Thread Cert.GateWeightReferenceIdeal.nD Cert.GateWeightReferenceIdeal.τ).loc Cert.GateWeightReferenceIdeal.main_arg0)
      ∧ r.2.mem ((c.tc : Thread Cert.GateWeightReferenceIdeal.nD Cert.GateWeightReferenceIdeal.τ).loc Cert.GateWeightReferenceIdeal.main_arg1) = m ((c.tc : Thread Cert.GateWeightReferenceIdeal.nD Cert.GateWeightReferenceIdeal.τ).loc Cert.GateWeightReferenceIdeal.main_arg1)
      ∧ r.2.mem ((c.tc : Thread Cert.GateWeightReferenceIdeal.nD Cert.GateWeightReferenceIdeal.τ).loc Cert.GateWeightReferenceIdeal.main_arg2) = m ((c.tc : Thread Cert.GateWeightReferenceIdeal.nD Cert.GateWeightReferenceIdeal.τ).loc Cert.GateWeightReferenceIdeal.main_arg2)
      ∧ r.2.mem ((c.tc : Thread Cert.GateWeightReferenceIdeal.nD Cert.GateWeightReferenceIdeal.τ).loc Cert.GateWeightReferenceIdeal.main_arg3) = m ((c.tc : Thread Cert.GateWeightReferenceIdeal.nD Cert.GateWeightReferenceIdeal.τ).loc Cert.GateWeightReferenceIdeal.main_arg3))
      ∧ r.2.sem = fun _ => 0)

def quiescent_EmbedWeight [hEmbedWeight : Cert.EmbedWeight.Facts] : Prop :=
  ∀ (m : (ℓ : Loc Cert.EmbedWeight.nD Cert.EmbedWeight.τ Cert.EmbedWeight.sig) → Buf (Elt Bits) ℓ) (g : Dev Cert.EmbedWeight.nD → PrngReg), Pre_EmbedWeight m →
    θ_run (Cert.EmbedWeight.defs (F := Bits)) (onTc (τ := Cert.EmbedWeight.τ) (Cert.EmbedWeight.main (F := Bits))) ⟨m, fun _ => 0, g⟩ (fun r => (∀ c : Dev Cert.EmbedWeight.nD,
      r.2.mem ((c.tc : Thread Cert.EmbedWeight.nD Cert.EmbedWeight.τ).loc Cert.EmbedWeight.main_arg0) = m ((c.tc : Thread Cert.EmbedWeight.nD Cert.EmbedWeight.τ).loc Cert.EmbedWeight.main_arg0)
      ∧ r.2.mem ((c.tc : Thread Cert.EmbedWeight.nD Cert.EmbedWeight.τ).loc Cert.EmbedWeight.main_arg1) = m ((c.tc : Thread Cert.EmbedWeight.nD Cert.EmbedWeight.τ).loc Cert.EmbedWeight.main_arg1)
      ∧ r.2.mem ((c.tc : Thread Cert.EmbedWeight.nD Cert.EmbedWeight.τ).loc Cert.EmbedWeight.main_arg2) = m ((c.tc : Thread Cert.EmbedWeight.nD Cert.EmbedWeight.τ).loc Cert.EmbedWeight.main_arg2))
      ∧ r.2.sem = fun _ => 0)

def quiescent_EmbedWeightIdeal [hEmbedWeightIdeal : Cert.EmbedWeightIdeal.Facts] : Prop :=
  ∀ (m : (ℓ : Loc Cert.EmbedWeightIdeal.nD Cert.EmbedWeightIdeal.τ Cert.EmbedWeightIdeal.sig) → Buf (Elt Ideal) ℓ) (g : Dev Cert.EmbedWeightIdeal.nD → PrngReg), Pre_EmbedWeightIdeal m →
    θ_run (Cert.EmbedWeightIdeal.defs (F := Ideal)) (onTc (τ := Cert.EmbedWeightIdeal.τ) (Cert.EmbedWeightIdeal.main (F := Ideal))) ⟨m, fun _ => 0, g⟩ (fun r => (∀ c : Dev Cert.EmbedWeightIdeal.nD,
      r.2.mem ((c.tc : Thread Cert.EmbedWeightIdeal.nD Cert.EmbedWeightIdeal.τ).loc Cert.EmbedWeightIdeal.main_arg0) = m ((c.tc : Thread Cert.EmbedWeightIdeal.nD Cert.EmbedWeightIdeal.τ).loc Cert.EmbedWeightIdeal.main_arg0)
      ∧ r.2.mem ((c.tc : Thread Cert.EmbedWeightIdeal.nD Cert.EmbedWeightIdeal.τ).loc Cert.EmbedWeightIdeal.main_arg1) = m ((c.tc : Thread Cert.EmbedWeightIdeal.nD Cert.EmbedWeightIdeal.τ).loc Cert.EmbedWeightIdeal.main_arg1)
      ∧ r.2.mem ((c.tc : Thread Cert.EmbedWeightIdeal.nD Cert.EmbedWeightIdeal.τ).loc Cert.EmbedWeightIdeal.main_arg2) = m ((c.tc : Thread Cert.EmbedWeightIdeal.nD Cert.EmbedWeightIdeal.τ).loc Cert.EmbedWeightIdeal.main_arg2))
      ∧ r.2.sem = fun _ => 0)

def quiescent_EmbedWeightReferenceIdeal [hEmbedWeightReferenceIdeal : Cert.EmbedWeightReferenceIdeal.Facts] : Prop :=
  ∀ (m : (ℓ : Loc Cert.EmbedWeightReferenceIdeal.nD Cert.EmbedWeightReferenceIdeal.τ Cert.EmbedWeightReferenceIdeal.sig) → Buf (Elt Ideal) ℓ) (g : Dev Cert.EmbedWeightReferenceIdeal.nD → PrngReg), Pre_EmbedWeightReferenceIdeal m →
    θ_run (Cert.EmbedWeightReferenceIdeal.defs (F := Ideal)) (onTc (τ := Cert.EmbedWeightReferenceIdeal.τ) (Cert.EmbedWeightReferenceIdeal.main (F := Ideal))) ⟨m, fun _ => 0, g⟩ (fun r => (∀ c : Dev Cert.EmbedWeightReferenceIdeal.nD,
      r.2.mem ((c.tc : Thread Cert.EmbedWeightReferenceIdeal.nD Cert.EmbedWeightReferenceIdeal.τ).loc Cert.EmbedWeightReferenceIdeal.main_arg0) = m ((c.tc : Thread Cert.EmbedWeightReferenceIdeal.nD Cert.EmbedWeightReferenceIdeal.τ).loc Cert.EmbedWeightReferenceIdeal.main_arg0)
      ∧ r.2.mem ((c.tc : Thread Cert.EmbedWeightReferenceIdeal.nD Cert.EmbedWeightReferenceIdeal.τ).loc Cert.EmbedWeightReferenceIdeal.main_arg1) = m ((c.tc : Thread Cert.EmbedWeightReferenceIdeal.nD Cert.EmbedWeightReferenceIdeal.τ).loc Cert.EmbedWeightReferenceIdeal.main_arg1)
      ∧ r.2.mem ((c.tc : Thread Cert.EmbedWeightReferenceIdeal.nD Cert.EmbedWeightReferenceIdeal.τ).loc Cert.EmbedWeightReferenceIdeal.main_arg2) = m ((c.tc : Thread Cert.EmbedWeightReferenceIdeal.nD Cert.EmbedWeightReferenceIdeal.τ).loc Cert.EmbedWeightReferenceIdeal.main_arg2))
      ∧ r.2.sem = fun _ => 0)

def quiescent_MixWeight [hMixWeight : Cert.MixWeight.Facts] : Prop :=
  ∀ (m : (ℓ : Loc Cert.MixWeight.nD Cert.MixWeight.τ Cert.MixWeight.sig) → Buf (Elt Bits) ℓ) (g : Dev Cert.MixWeight.nD → PrngReg), Pre_MixWeight m →
    θ_run (Cert.MixWeight.defs (F := Bits)) (onTc (τ := Cert.MixWeight.τ) (Cert.MixWeight.main (F := Bits))) ⟨m, fun _ => 0, g⟩ (fun r => (∀ c : Dev Cert.MixWeight.nD,
      r.2.mem ((c.tc : Thread Cert.MixWeight.nD Cert.MixWeight.τ).loc Cert.MixWeight.main_arg0) = m ((c.tc : Thread Cert.MixWeight.nD Cert.MixWeight.τ).loc Cert.MixWeight.main_arg0)
      ∧ r.2.mem ((c.tc : Thread Cert.MixWeight.nD Cert.MixWeight.τ).loc Cert.MixWeight.main_arg1) = m ((c.tc : Thread Cert.MixWeight.nD Cert.MixWeight.τ).loc Cert.MixWeight.main_arg1)
      ∧ r.2.mem ((c.tc : Thread Cert.MixWeight.nD Cert.MixWeight.τ).loc Cert.MixWeight.main_arg2) = m ((c.tc : Thread Cert.MixWeight.nD Cert.MixWeight.τ).loc Cert.MixWeight.main_arg2)
      ∧ r.2.mem ((c.tc : Thread Cert.MixWeight.nD Cert.MixWeight.τ).loc Cert.MixWeight.main_arg3) = m ((c.tc : Thread Cert.MixWeight.nD Cert.MixWeight.τ).loc Cert.MixWeight.main_arg3))
      ∧ r.2.sem = fun _ => 0)

def quiescent_MixWeightIdeal [hMixWeightIdeal : Cert.MixWeightIdeal.Facts] : Prop :=
  ∀ (m : (ℓ : Loc Cert.MixWeightIdeal.nD Cert.MixWeightIdeal.τ Cert.MixWeightIdeal.sig) → Buf (Elt Ideal) ℓ) (g : Dev Cert.MixWeightIdeal.nD → PrngReg), Pre_MixWeightIdeal m →
    θ_run (Cert.MixWeightIdeal.defs (F := Ideal)) (onTc (τ := Cert.MixWeightIdeal.τ) (Cert.MixWeightIdeal.main (F := Ideal))) ⟨m, fun _ => 0, g⟩ (fun r => (∀ c : Dev Cert.MixWeightIdeal.nD,
      r.2.mem ((c.tc : Thread Cert.MixWeightIdeal.nD Cert.MixWeightIdeal.τ).loc Cert.MixWeightIdeal.main_arg0) = m ((c.tc : Thread Cert.MixWeightIdeal.nD Cert.MixWeightIdeal.τ).loc Cert.MixWeightIdeal.main_arg0)
      ∧ r.2.mem ((c.tc : Thread Cert.MixWeightIdeal.nD Cert.MixWeightIdeal.τ).loc Cert.MixWeightIdeal.main_arg1) = m ((c.tc : Thread Cert.MixWeightIdeal.nD Cert.MixWeightIdeal.τ).loc Cert.MixWeightIdeal.main_arg1)
      ∧ r.2.mem ((c.tc : Thread Cert.MixWeightIdeal.nD Cert.MixWeightIdeal.τ).loc Cert.MixWeightIdeal.main_arg2) = m ((c.tc : Thread Cert.MixWeightIdeal.nD Cert.MixWeightIdeal.τ).loc Cert.MixWeightIdeal.main_arg2)
      ∧ r.2.mem ((c.tc : Thread Cert.MixWeightIdeal.nD Cert.MixWeightIdeal.τ).loc Cert.MixWeightIdeal.main_arg3) = m ((c.tc : Thread Cert.MixWeightIdeal.nD Cert.MixWeightIdeal.τ).loc Cert.MixWeightIdeal.main_arg3))
      ∧ r.2.sem = fun _ => 0)

def quiescent_MixWeightReferenceIdeal [hMixWeightReferenceIdeal : Cert.MixWeightReferenceIdeal.Facts] : Prop :=
  ∀ (m : (ℓ : Loc Cert.MixWeightReferenceIdeal.nD Cert.MixWeightReferenceIdeal.τ Cert.MixWeightReferenceIdeal.sig) → Buf (Elt Ideal) ℓ) (g : Dev Cert.MixWeightReferenceIdeal.nD → PrngReg), Pre_MixWeightReferenceIdeal m →
    θ_run (Cert.MixWeightReferenceIdeal.defs (F := Ideal)) (onTc (τ := Cert.MixWeightReferenceIdeal.τ) (Cert.MixWeightReferenceIdeal.main (F := Ideal))) ⟨m, fun _ => 0, g⟩ (fun r => (∀ c : Dev Cert.MixWeightReferenceIdeal.nD,
      r.2.mem ((c.tc : Thread Cert.MixWeightReferenceIdeal.nD Cert.MixWeightReferenceIdeal.τ).loc Cert.MixWeightReferenceIdeal.main_arg0) = m ((c.tc : Thread Cert.MixWeightReferenceIdeal.nD Cert.MixWeightReferenceIdeal.τ).loc Cert.MixWeightReferenceIdeal.main_arg0)
      ∧ r.2.mem ((c.tc : Thread Cert.MixWeightReferenceIdeal.nD Cert.MixWeightReferenceIdeal.τ).loc Cert.MixWeightReferenceIdeal.main_arg1) = m ((c.tc : Thread Cert.MixWeightReferenceIdeal.nD Cert.MixWeightReferenceIdeal.τ).loc Cert.MixWeightReferenceIdeal.main_arg1)
      ∧ r.2.mem ((c.tc : Thread Cert.MixWeightReferenceIdeal.nD Cert.MixWeightReferenceIdeal.τ).loc Cert.MixWeightReferenceIdeal.main_arg2) = m ((c.tc : Thread Cert.MixWeightReferenceIdeal.nD Cert.MixWeightReferenceIdeal.τ).loc Cert.MixWeightReferenceIdeal.main_arg2)
      ∧ r.2.mem ((c.tc : Thread Cert.MixWeightReferenceIdeal.nD Cert.MixWeightReferenceIdeal.τ).loc Cert.MixWeightReferenceIdeal.main_arg3) = m ((c.tc : Thread Cert.MixWeightReferenceIdeal.nD Cert.MixWeightReferenceIdeal.τ).loc Cert.MixWeightReferenceIdeal.main_arg3))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1)
      ∧ r.2.mem ((c.tc : Thread Cert.UpWeight.nD Cert.UpWeight.τ).loc Cert.UpWeight.main_arg2) = m ((c.tc : Thread Cert.UpWeight.nD Cert.UpWeight.τ).loc Cert.UpWeight.main_arg2)
      ∧ r.2.mem ((c.tc : Thread Cert.UpWeight.nD Cert.UpWeight.τ).loc Cert.UpWeight.main_arg3) = m ((c.tc : Thread Cert.UpWeight.nD Cert.UpWeight.τ).loc Cert.UpWeight.main_arg3))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1)
      ∧ r.2.mem ((c.tc : Thread Cert.UpWeightIdeal.nD Cert.UpWeightIdeal.τ).loc Cert.UpWeightIdeal.main_arg2) = m ((c.tc : Thread Cert.UpWeightIdeal.nD Cert.UpWeightIdeal.τ).loc Cert.UpWeightIdeal.main_arg2)
      ∧ r.2.mem ((c.tc : Thread Cert.UpWeightIdeal.nD Cert.UpWeightIdeal.τ).loc Cert.UpWeightIdeal.main_arg3) = m ((c.tc : Thread Cert.UpWeightIdeal.nD Cert.UpWeightIdeal.τ).loc Cert.UpWeightIdeal.main_arg3))
      ∧ r.2.sem = fun _ => 0)

def quiescent_UpWeightReferenceIdeal [hUpWeightReferenceIdeal : Cert.UpWeightReferenceIdeal.Facts] : Prop :=
  ∀ (m : (ℓ : Loc Cert.UpWeightReferenceIdeal.nD Cert.UpWeightReferenceIdeal.τ Cert.UpWeightReferenceIdeal.sig) → Buf (Elt Ideal) ℓ) (g : Dev Cert.UpWeightReferenceIdeal.nD → PrngReg), Pre_UpWeightReferenceIdeal m →
    θ_run (Cert.UpWeightReferenceIdeal.defs (F := Ideal)) (onTc (τ := Cert.UpWeightReferenceIdeal.τ) (Cert.UpWeightReferenceIdeal.main (F := Ideal))) ⟨m, fun _ => 0, g⟩ (fun r => (∀ c : Dev Cert.UpWeightReferenceIdeal.nD,
      r.2.mem ((c.tc : Thread Cert.UpWeightReferenceIdeal.nD Cert.UpWeightReferenceIdeal.τ).loc Cert.UpWeightReferenceIdeal.main_arg0) = m ((c.tc : Thread Cert.UpWeightReferenceIdeal.nD Cert.UpWeightReferenceIdeal.τ).loc Cert.UpWeightReferenceIdeal.main_arg0)
      ∧ r.2.mem ((c.tc : Thread Cert.UpWeightReferenceIdeal.nD Cert.UpWeightReferenceIdeal.τ).loc Cert.UpWeightReferenceIdeal.main_arg1) = m ((c.tc : Thread Cert.UpWeightReferenceIdeal.nD Cert.UpWeightReferenceIdeal.τ).loc Cert.UpWeightReferenceIdeal.main_arg1)
      ∧ r.2.mem ((c.tc : Thread Cert.UpWeightReferenceIdeal.nD Cert.UpWeightReferenceIdeal.τ).loc Cert.UpWeightReferenceIdeal.main_arg2) = m ((c.tc : Thread Cert.UpWeightReferenceIdeal.nD Cert.UpWeightReferenceIdeal.τ).loc Cert.UpWeightReferenceIdeal.main_arg2)
      ∧ r.2.mem ((c.tc : Thread Cert.UpWeightReferenceIdeal.nD Cert.UpWeightReferenceIdeal.τ).loc Cert.UpWeightReferenceIdeal.main_arg3) = m ((c.tc : Thread Cert.UpWeightReferenceIdeal.nD Cert.UpWeightReferenceIdeal.τ).loc Cert.UpWeightReferenceIdeal.main_arg3))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1)
      ∧ r.2.mem ((c.tc : Thread Cert.InWeight.nD Cert.InWeight.τ).loc Cert.InWeight.main_arg2) = m ((c.tc : Thread Cert.InWeight.nD Cert.InWeight.τ).loc Cert.InWeight.main_arg2))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
      ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1)
      ∧ r.2.mem ((c.tc : Thread Cert.InWeightReferenceIdeal.nD Cert.InWeightReferenceIdeal.τ).loc Cert.InWeightReferenceIdeal.main_arg2) = m ((c.tc : Thread Cert.InWeightReferenceIdeal.nD Cert.InWeightReferenceIdeal.τ).loc Cert.InWeightReferenceIdeal.main_arg2))
      ∧ r.2.sem = fun _ => 0)

def quiescent_FfIn [hFfIn : Cert.FfIn.Facts] : Prop :=
  ∀ (m : (ℓ : Loc Cert.FfIn.nD Cert.FfIn.τ Cert.FfIn.sig) → Buf (Elt Bits) ℓ) (g : Dev Cert.FfIn.nD → PrngReg), Pre_FfIn m →
    θ_run (Cert.FfIn.defs (F := Bits)) (onTc (τ := Cert.FfIn.τ) (Cert.FfIn.main (F := Bits))) ⟨m, fun _ => 0, g⟩ (fun r => (∀ c : Dev Cert.FfIn.nD,
      r.2.mem ((c.tc : Thread Cert.FfIn.nD Cert.FfIn.τ).loc Cert.FfIn.main_arg0) = m ((c.tc : Thread Cert.FfIn.nD Cert.FfIn.τ).loc Cert.FfIn.main_arg0)
      ∧ r.2.mem ((c.tc : Thread Cert.FfIn.nD Cert.FfIn.τ).loc Cert.FfIn.main_arg1) = m ((c.tc : Thread Cert.FfIn.nD Cert.FfIn.τ).loc Cert.FfIn.main_arg1)
      ∧ r.2.mem ((c.tc : Thread Cert.FfIn.nD Cert.FfIn.τ).loc Cert.FfIn.main_arg2) = m ((c.tc : Thread Cert.FfIn.nD Cert.FfIn.τ).loc Cert.FfIn.main_arg2)
      ∧ r.2.mem ((c.tc : Thread Cert.FfIn.nD Cert.FfIn.τ).loc Cert.FfIn.main_arg3) = m ((c.tc : Thread Cert.FfIn.nD Cert.FfIn.τ).loc Cert.FfIn.main_arg3)
      ∧ r.2.mem ((c.tc : Thread Cert.FfIn.nD Cert.FfIn.τ).loc Cert.FfIn.main_arg4) = m ((c.tc : Thread Cert.FfIn.nD Cert.FfIn.τ).loc Cert.FfIn.main_arg4))
      ∧ r.2.sem = fun _ => 0)

def quiescent_FfInIdeal [hFfInIdeal : Cert.FfInIdeal.Facts] : Prop :=
  ∀ (m : (ℓ : Loc Cert.FfInIdeal.nD Cert.FfInIdeal.τ Cert.FfInIdeal.sig) → Buf (Elt Ideal) ℓ) (g : Dev Cert.FfInIdeal.nD → PrngReg), Pre_FfInIdeal m →
    θ_run (Cert.FfInIdeal.defs (F := Ideal)) (onTc (τ := Cert.FfInIdeal.τ) (Cert.FfInIdeal.main (F := Ideal))) ⟨m, fun _ => 0, g⟩ (fun r => (∀ c : Dev Cert.FfInIdeal.nD,
      r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
      ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1)
      ∧ r.2.mem ((c.tc : Thread Cert.FfInIdeal.nD Cert.FfInIdeal.τ).loc Cert.FfInIdeal.main_arg2) = m ((c.tc : Thread Cert.FfInIdeal.nD Cert.FfInIdeal.τ).loc Cert.FfInIdeal.main_arg2)
      ∧ r.2.mem ((c.tc : Thread Cert.FfInIdeal.nD Cert.FfInIdeal.τ).loc Cert.FfInIdeal.main_arg3) = m ((c.tc : Thread Cert.FfInIdeal.nD Cert.FfInIdeal.τ).loc Cert.FfInIdeal.main_arg3)
      ∧ r.2.mem ((c.tc : Thread Cert.FfInIdeal.nD Cert.FfInIdeal.τ).loc Cert.FfInIdeal.main_arg4) = m ((c.tc : Thread Cert.FfInIdeal.nD Cert.FfInIdeal.τ).loc Cert.FfInIdeal.main_arg4))
      ∧ r.2.sem = fun _ => 0)

def quiescent_FfInReferenceIdeal [hFfInReferenceIdeal : Cert.FfInReferenceIdeal.Facts] : Prop :=
  ∀ (m : (ℓ : Loc Cert.FfInReferenceIdeal.nD Cert.FfInReferenceIdeal.τ Cert.FfInReferenceIdeal.sig) → Buf (Elt Ideal) ℓ) (g : Dev Cert.FfInReferenceIdeal.nD → PrngReg), Pre_FfInReferenceIdeal m →
    θ_run (Cert.FfInReferenceIdeal.defs (F := Ideal)) (onTc (τ := Cert.FfInReferenceIdeal.τ) (Cert.FfInReferenceIdeal.main (F := Ideal))) ⟨m, fun _ => 0, g⟩ (fun r => (∀ c : Dev Cert.FfInReferenceIdeal.nD,
      r.2.mem ((c.tc : Thread Cert.FfInReferenceIdeal.nD Cert.FfInReferenceIdeal.τ).loc Cert.FfInReferenceIdeal.main_arg0) = m ((c.tc : Thread Cert.FfInReferenceIdeal.nD Cert.FfInReferenceIdeal.τ).loc Cert.FfInReferenceIdeal.main_arg0)
      ∧ r.2.mem ((c.tc : Thread Cert.FfInReferenceIdeal.nD Cert.FfInReferenceIdeal.τ).loc Cert.FfInReferenceIdeal.main_arg1) = m ((c.tc : Thread Cert.FfInReferenceIdeal.nD Cert.FfInReferenceIdeal.τ).loc Cert.FfInReferenceIdeal.main_arg1)
      ∧ r.2.mem ((c.tc : Thread Cert.FfInReferenceIdeal.nD Cert.FfInReferenceIdeal.τ).loc Cert.FfInReferenceIdeal.main_arg2) = m ((c.tc : Thread Cert.FfInReferenceIdeal.nD Cert.FfInReferenceIdeal.τ).loc Cert.FfInReferenceIdeal.main_arg2)
      ∧ r.2.mem ((c.tc : Thread Cert.FfInReferenceIdeal.nD Cert.FfInReferenceIdeal.τ).loc Cert.FfInReferenceIdeal.main_arg3) = m ((c.tc : Thread Cert.FfInReferenceIdeal.nD Cert.FfInReferenceIdeal.τ).loc Cert.FfInReferenceIdeal.main_arg3)
      ∧ r.2.mem ((c.tc : Thread Cert.FfInReferenceIdeal.nD Cert.FfInReferenceIdeal.τ).loc Cert.FfInReferenceIdeal.main_arg4) = m ((c.tc : Thread Cert.FfInReferenceIdeal.nD Cert.FfInReferenceIdeal.τ).loc Cert.FfInReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_InForward [hInForward : Cert.InForward.Facts] : Prop :=
  ∀ (m : (ℓ : Loc Cert.InForward.nD Cert.InForward.τ Cert.InForward.sig) → Buf (Elt Bits) ℓ) (g : Dev Cert.InForward.nD → PrngReg), Pre_InForward m →
    θ_run (Cert.InForward.defs (F := Bits)) (onTc (τ := Cert.InForward.τ) (Cert.InForward.main (F := Bits))) ⟨m, fun _ => 0, g⟩ (fun r => (∀ c : Dev Cert.InForward.nD,
      r.2.mem ((c.tc : Thread Cert.InForward.nD Cert.InForward.τ).loc Cert.InForward.main_arg0) = m ((c.tc : Thread Cert.InForward.nD Cert.InForward.τ).loc Cert.InForward.main_arg0)
      ∧ r.2.mem ((c.tc : Thread Cert.InForward.nD Cert.InForward.τ).loc Cert.InForward.main_arg1) = m ((c.tc : Thread Cert.InForward.nD Cert.InForward.τ).loc Cert.InForward.main_arg1)
      ∧ r.2.mem ((c.tc : Thread Cert.InForward.nD Cert.InForward.τ).loc Cert.InForward.main_arg2) = m ((c.tc : Thread Cert.InForward.nD Cert.InForward.τ).loc Cert.InForward.main_arg2))
      ∧ r.2.sem = fun _ => 0)

def quiescent_InForwardIdeal [hInForwardIdeal : Cert.InForwardIdeal.Facts] : Prop :=
  ∀ (m : (ℓ : Loc Cert.InForwardIdeal.nD Cert.InForwardIdeal.τ Cert.InForwardIdeal.sig) → Buf (Elt Ideal) ℓ) (g : Dev Cert.InForwardIdeal.nD → PrngReg), Pre_InForwardIdeal m →
    θ_run (Cert.InForwardIdeal.defs (F := Ideal)) (onTc (τ := Cert.InForwardIdeal.τ) (Cert.InForwardIdeal.main (F := Ideal))) ⟨m, fun _ => 0, g⟩ (fun r => (∀ c : Dev Cert.InForwardIdeal.nD,
      r.2.mem ((c.tc : Thread Cert.InForwardIdeal.nD Cert.InForwardIdeal.τ).loc Cert.InForwardIdeal.main_arg0) = m ((c.tc : Thread Cert.InForwardIdeal.nD Cert.InForwardIdeal.τ).loc Cert.InForwardIdeal.main_arg0)
      ∧ r.2.mem ((c.tc : Thread Cert.InForwardIdeal.nD Cert.InForwardIdeal.τ).loc Cert.InForwardIdeal.main_arg1) = m ((c.tc : Thread Cert.InForwardIdeal.nD Cert.InForwardIdeal.τ).loc Cert.InForwardIdeal.main_arg1)
      ∧ r.2.mem ((c.tc : Thread Cert.InForwardIdeal.nD Cert.InForwardIdeal.τ).loc Cert.InForwardIdeal.main_arg2) = m ((c.tc : Thread Cert.InForwardIdeal.nD Cert.InForwardIdeal.τ).loc Cert.InForwardIdeal.main_arg2))
      ∧ r.2.sem = fun _ => 0)

def quiescent_InForwardReferenceIdeal [hInForwardReferenceIdeal : Cert.InForwardReferenceIdeal.Facts] : Prop :=
  ∀ (m : (ℓ : Loc Cert.InForwardReferenceIdeal.nD Cert.InForwardReferenceIdeal.τ Cert.InForwardReferenceIdeal.sig) → Buf (Elt Ideal) ℓ) (g : Dev Cert.InForwardReferenceIdeal.nD → PrngReg), Pre_InForwardReferenceIdeal m →
    θ_run (Cert.InForwardReferenceIdeal.defs (F := Ideal)) (onTc (τ := Cert.InForwardReferenceIdeal.τ) (Cert.InForwardReferenceIdeal.main (F := Ideal))) ⟨m, fun _ => 0, g⟩ (fun r => (∀ c : Dev Cert.InForwardReferenceIdeal.nD,
      r.2.mem ((c.tc : Thread Cert.InForwardReferenceIdeal.nD Cert.InForwardReferenceIdeal.τ).loc Cert.InForwardReferenceIdeal.main_arg0) = m ((c.tc : Thread Cert.InForwardReferenceIdeal.nD Cert.InForwardReferenceIdeal.τ).loc Cert.InForwardReferenceIdeal.main_arg0)
      ∧ r.2.mem ((c.tc : Thread Cert.InForwardReferenceIdeal.nD Cert.InForwardReferenceIdeal.τ).loc Cert.InForwardReferenceIdeal.main_arg1) = m ((c.tc : Thread Cert.InForwardReferenceIdeal.nD Cert.InForwardReferenceIdeal.τ).loc Cert.InForwardReferenceIdeal.main_arg1)
      ∧ r.2.mem ((c.tc : Thread Cert.InForwardReferenceIdeal.nD Cert.InForwardReferenceIdeal.τ).loc Cert.InForwardReferenceIdeal.main_arg2) = m ((c.tc : Thread Cert.InForwardReferenceIdeal.nD Cert.InForwardReferenceIdeal.τ).loc Cert.InForwardReferenceIdeal.main_arg2))
      ∧ r.2.sem = fun _ => 0)

def quiescent_MixForward [hMixForward : Cert.MixForward.Facts] : Prop :=
  ∀ (m : (ℓ : Loc Cert.MixForward.nD Cert.MixForward.τ Cert.MixForward.sig) → Buf (Elt Bits) ℓ) (g : Dev Cert.MixForward.nD → PrngReg), Pre_MixForward m →
    θ_run (Cert.MixForward.defs (F := Bits)) (onTc (τ := Cert.MixForward.τ) (Cert.MixForward.main (F := Bits))) ⟨m, fun _ => 0, g⟩ (fun r => (∀ c : Dev Cert.MixForward.nD,
      r.2.mem ((c.tc : Thread Cert.MixForward.nD Cert.MixForward.τ).loc Cert.MixForward.main_arg0) = m ((c.tc : Thread Cert.MixForward.nD Cert.MixForward.τ).loc Cert.MixForward.main_arg0)
      ∧ r.2.mem ((c.tc : Thread Cert.MixForward.nD Cert.MixForward.τ).loc Cert.MixForward.main_arg1) = m ((c.tc : Thread Cert.MixForward.nD Cert.MixForward.τ).loc Cert.MixForward.main_arg1)
      ∧ r.2.mem ((c.tc : Thread Cert.MixForward.nD Cert.MixForward.τ).loc Cert.MixForward.main_arg2) = m ((c.tc : Thread Cert.MixForward.nD Cert.MixForward.τ).loc Cert.MixForward.main_arg2)
      ∧ r.2.mem ((c.tc : Thread Cert.MixForward.nD Cert.MixForward.τ).loc Cert.MixForward.main_arg3) = m ((c.tc : Thread Cert.MixForward.nD Cert.MixForward.τ).loc Cert.MixForward.main_arg3)
      ∧ r.2.mem ((c.tc : Thread Cert.MixForward.nD Cert.MixForward.τ).loc Cert.MixForward.main_arg4) = m ((c.tc : Thread Cert.MixForward.nD Cert.MixForward.τ).loc Cert.MixForward.main_arg4)
      ∧ r.2.mem ((c.tc : Thread Cert.MixForward.nD Cert.MixForward.τ).loc Cert.MixForward.main_arg5) = m ((c.tc : Thread Cert.MixForward.nD Cert.MixForward.τ).loc Cert.MixForward.main_arg5)
      ∧ r.2.mem ((c.tc : Thread Cert.MixForward.nD Cert.MixForward.τ).loc Cert.MixForward.main_arg6) = m ((c.tc : Thread Cert.MixForward.nD Cert.MixForward.τ).loc Cert.MixForward.main_arg6))
      ∧ r.2.sem = fun _ => 0)

def quiescent_MixForwardIdeal [hMixForwardIdeal : Cert.MixForwardIdeal.Facts] : Prop :=
  ∀ (m : (ℓ : Loc Cert.MixForwardIdeal.nD Cert.MixForwardIdeal.τ Cert.MixForwardIdeal.sig) → Buf (Elt Ideal) ℓ) (g : Dev Cert.MixForwardIdeal.nD → PrngReg), Pre_MixForwardIdeal m →
    θ_run (Cert.MixForwardIdeal.defs (F := Ideal)) (onTc (τ := Cert.MixForwardIdeal.τ) (Cert.MixForwardIdeal.main (F := Ideal))) ⟨m, fun _ => 0, g⟩ (fun r => (∀ c : Dev Cert.MixForwardIdeal.nD,
      r.2.mem ((c.tc : Thread Cert.MixForwardIdeal.nD Cert.MixForwardIdeal.τ).loc Cert.MixForwardIdeal.main_arg0) = m ((c.tc : Thread Cert.MixForwardIdeal.nD Cert.MixForwardIdeal.τ).loc Cert.MixForwardIdeal.main_arg0)
      ∧ r.2.mem ((c.tc : Thread Cert.MixForwardIdeal.nD Cert.MixForwardIdeal.τ).loc Cert.MixForwardIdeal.main_arg1) = m ((c.tc : Thread Cert.MixForwardIdeal.nD Cert.MixForwardIdeal.τ).loc Cert.MixForwardIdeal.main_arg1)
      ∧ r.2.mem ((c.tc : Thread Cert.MixForwardIdeal.nD Cert.MixForwardIdeal.τ).loc Cert.MixForwardIdeal.main_arg2) = m ((c.tc : Thread Cert.MixForwardIdeal.nD Cert.MixForwardIdeal.τ).loc Cert.MixForwardIdeal.main_arg2)
      ∧ r.2.mem ((c.tc : Thread Cert.MixForwardIdeal.nD Cert.MixForwardIdeal.τ).loc Cert.MixForwardIdeal.main_arg3) = m ((c.tc : Thread Cert.MixForwardIdeal.nD Cert.MixForwardIdeal.τ).loc Cert.MixForwardIdeal.main_arg3)
      ∧ r.2.mem ((c.tc : Thread Cert.MixForwardIdeal.nD Cert.MixForwardIdeal.τ).loc Cert.MixForwardIdeal.main_arg4) = m ((c.tc : Thread Cert.MixForwardIdeal.nD Cert.MixForwardIdeal.τ).loc Cert.MixForwardIdeal.main_arg4)
      ∧ r.2.mem ((c.tc : Thread Cert.MixForwardIdeal.nD Cert.MixForwardIdeal.τ).loc Cert.MixForwardIdeal.main_arg5) = m ((c.tc : Thread Cert.MixForwardIdeal.nD Cert.MixForwardIdeal.τ).loc Cert.MixForwardIdeal.main_arg5)
      ∧ r.2.mem ((c.tc : Thread Cert.MixForwardIdeal.nD Cert.MixForwardIdeal.τ).loc Cert.MixForwardIdeal.main_arg6) = m ((c.tc : Thread Cert.MixForwardIdeal.nD Cert.MixForwardIdeal.τ).loc Cert.MixForwardIdeal.main_arg6))
      ∧ r.2.sem = fun _ => 0)

def quiescent_MixForwardReferenceIdeal [hMixForwardReferenceIdeal : Cert.MixForwardReferenceIdeal.Facts] : Prop :=
  ∀ (m : (ℓ : Loc Cert.MixForwardReferenceIdeal.nD Cert.MixForwardReferenceIdeal.τ Cert.MixForwardReferenceIdeal.sig) → Buf (Elt Ideal) ℓ) (g : Dev Cert.MixForwardReferenceIdeal.nD → PrngReg), Pre_MixForwardReferenceIdeal m →
    θ_run (Cert.MixForwardReferenceIdeal.defs (F := Ideal)) (onTc (τ := Cert.MixForwardReferenceIdeal.τ) (Cert.MixForwardReferenceIdeal.main (F := Ideal))) ⟨m, fun _ => 0, g⟩ (fun r => (∀ c : Dev Cert.MixForwardReferenceIdeal.nD,
      r.2.mem ((c.tc : Thread Cert.MixForwardReferenceIdeal.nD Cert.MixForwardReferenceIdeal.τ).loc Cert.MixForwardReferenceIdeal.main_arg0) = m ((c.tc : Thread Cert.MixForwardReferenceIdeal.nD Cert.MixForwardReferenceIdeal.τ).loc Cert.MixForwardReferenceIdeal.main_arg0)
      ∧ r.2.mem ((c.tc : Thread Cert.MixForwardReferenceIdeal.nD Cert.MixForwardReferenceIdeal.τ).loc Cert.MixForwardReferenceIdeal.main_arg1) = m ((c.tc : Thread Cert.MixForwardReferenceIdeal.nD Cert.MixForwardReferenceIdeal.τ).loc Cert.MixForwardReferenceIdeal.main_arg1)
      ∧ r.2.mem ((c.tc : Thread Cert.MixForwardReferenceIdeal.nD Cert.MixForwardReferenceIdeal.τ).loc Cert.MixForwardReferenceIdeal.main_arg2) = m ((c.tc : Thread Cert.MixForwardReferenceIdeal.nD Cert.MixForwardReferenceIdeal.τ).loc Cert.MixForwardReferenceIdeal.main_arg2)
      ∧ r.2.mem ((c.tc : Thread Cert.MixForwardReferenceIdeal.nD Cert.MixForwardReferenceIdeal.τ).loc Cert.MixForwardReferenceIdeal.main_arg3) = m ((c.tc : Thread Cert.MixForwardReferenceIdeal.nD Cert.MixForwardReferenceIdeal.τ).loc Cert.MixForwardReferenceIdeal.main_arg3)
      ∧ r.2.mem ((c.tc : Thread Cert.MixForwardReferenceIdeal.nD Cert.MixForwardReferenceIdeal.τ).loc Cert.MixForwardReferenceIdeal.main_arg4) = m ((c.tc : Thread Cert.MixForwardReferenceIdeal.nD Cert.MixForwardReferenceIdeal.τ).loc Cert.MixForwardReferenceIdeal.main_arg4)
      ∧ r.2.mem ((c.tc : Thread Cert.MixForwardReferenceIdeal.nD Cert.MixForwardReferenceIdeal.τ).loc Cert.MixForwardReferenceIdeal.main_arg5) = m ((c.tc : Thread Cert.MixForwardReferenceIdeal.nD Cert.MixForwardReferenceIdeal.τ).loc Cert.MixForwardReferenceIdeal.main_arg5)
      ∧ r.2.mem ((c.tc : Thread Cert.MixForwardReferenceIdeal.nD Cert.MixForwardReferenceIdeal.τ).loc Cert.MixForwardReferenceIdeal.main_arg6) = m ((c.tc : Thread Cert.MixForwardReferenceIdeal.nD Cert.MixForwardReferenceIdeal.τ).loc Cert.MixForwardReferenceIdeal.main_arg6))
      ∧ r.2.sem = fun _ => 0)

def quiescent_FfInForward [hFfInForward : Cert.FfInForward.Facts] : Prop :=
  ∀ (m : (ℓ : Loc Cert.FfInForward.nD Cert.FfInForward.τ Cert.FfInForward.sig) → Buf (Elt Bits) ℓ) (g : Dev Cert.FfInForward.nD → PrngReg), Pre_FfInForward m →
    θ_run (Cert.FfInForward.defs (F := Bits)) (onTc (τ := Cert.FfInForward.τ) (Cert.FfInForward.main (F := Bits))) ⟨m, fun _ => 0, g⟩ (fun r => (∀ c : Dev Cert.FfInForward.nD,
      r.2.mem ((c.tc : Thread Cert.FfInForward.nD Cert.FfInForward.τ).loc Cert.FfInForward.main_arg0) = m ((c.tc : Thread Cert.FfInForward.nD Cert.FfInForward.τ).loc Cert.FfInForward.main_arg0)
      ∧ r.2.mem ((c.tc : Thread Cert.FfInForward.nD Cert.FfInForward.τ).loc Cert.FfInForward.main_arg1) = m ((c.tc : Thread Cert.FfInForward.nD Cert.FfInForward.τ).loc Cert.FfInForward.main_arg1)
      ∧ r.2.mem ((c.tc : Thread Cert.FfInForward.nD Cert.FfInForward.τ).loc Cert.FfInForward.main_arg2) = m ((c.tc : Thread Cert.FfInForward.nD Cert.FfInForward.τ).loc Cert.FfInForward.main_arg2))
      ∧ r.2.sem = fun _ => 0)

def quiescent_FfInForwardIdeal [hFfInForwardIdeal : Cert.FfInForwardIdeal.Facts] : Prop :=
  ∀ (m : (ℓ : Loc Cert.FfInForwardIdeal.nD Cert.FfInForwardIdeal.τ Cert.FfInForwardIdeal.sig) → Buf (Elt Ideal) ℓ) (g : Dev Cert.FfInForwardIdeal.nD → PrngReg), Pre_FfInForwardIdeal m →
    θ_run (Cert.FfInForwardIdeal.defs (F := Ideal)) (onTc (τ := Cert.FfInForwardIdeal.τ) (Cert.FfInForwardIdeal.main (F := Ideal))) ⟨m, fun _ => 0, g⟩ (fun r => (∀ c : Dev Cert.FfInForwardIdeal.nD,
      r.2.mem ((c.tc : Thread Cert.FfInForwardIdeal.nD Cert.FfInForwardIdeal.τ).loc Cert.FfInForwardIdeal.main_arg0) = m ((c.tc : Thread Cert.FfInForwardIdeal.nD Cert.FfInForwardIdeal.τ).loc Cert.FfInForwardIdeal.main_arg0)
      ∧ r.2.mem ((c.tc : Thread Cert.FfInForwardIdeal.nD Cert.FfInForwardIdeal.τ).loc Cert.FfInForwardIdeal.main_arg1) = m ((c.tc : Thread Cert.FfInForwardIdeal.nD Cert.FfInForwardIdeal.τ).loc Cert.FfInForwardIdeal.main_arg1)
      ∧ r.2.mem ((c.tc : Thread Cert.FfInForwardIdeal.nD Cert.FfInForwardIdeal.τ).loc Cert.FfInForwardIdeal.main_arg2) = m ((c.tc : Thread Cert.FfInForwardIdeal.nD Cert.FfInForwardIdeal.τ).loc Cert.FfInForwardIdeal.main_arg2))
      ∧ r.2.sem = fun _ => 0)

def quiescent_FfInForwardReferenceIdeal [hFfInForwardReferenceIdeal : Cert.FfInForwardReferenceIdeal.Facts] : Prop :=
  ∀ (m : (ℓ : Loc Cert.FfInForwardReferenceIdeal.nD Cert.FfInForwardReferenceIdeal.τ Cert.FfInForwardReferenceIdeal.sig) → Buf (Elt Ideal) ℓ) (g : Dev Cert.FfInForwardReferenceIdeal.nD → PrngReg), Pre_FfInForwardReferenceIdeal m →
    θ_run (Cert.FfInForwardReferenceIdeal.defs (F := Ideal)) (onTc (τ := Cert.FfInForwardReferenceIdeal.τ) (Cert.FfInForwardReferenceIdeal.main (F := Ideal))) ⟨m, fun _ => 0, g⟩ (fun r => (∀ c : Dev Cert.FfInForwardReferenceIdeal.nD,
      r.2.mem ((c.tc : Thread Cert.FfInForwardReferenceIdeal.nD Cert.FfInForwardReferenceIdeal.τ).loc Cert.FfInForwardReferenceIdeal.main_arg0) = m ((c.tc : Thread Cert.FfInForwardReferenceIdeal.nD Cert.FfInForwardReferenceIdeal.τ).loc Cert.FfInForwardReferenceIdeal.main_arg0)
      ∧ r.2.mem ((c.tc : Thread Cert.FfInForwardReferenceIdeal.nD Cert.FfInForwardReferenceIdeal.τ).loc Cert.FfInForwardReferenceIdeal.main_arg1) = m ((c.tc : Thread Cert.FfInForwardReferenceIdeal.nD Cert.FfInForwardReferenceIdeal.τ).loc Cert.FfInForwardReferenceIdeal.main_arg1)
      ∧ r.2.mem ((c.tc : Thread Cert.FfInForwardReferenceIdeal.nD Cert.FfInForwardReferenceIdeal.τ).loc Cert.FfInForwardReferenceIdeal.main_arg2) = m ((c.tc : Thread Cert.FfInForwardReferenceIdeal.nD Cert.FfInForwardReferenceIdeal.τ).loc Cert.FfInForwardReferenceIdeal.main_arg2))
      ∧ r.2.sem = fun _ => 0)

def quiescent_FfOutForward [hFfOutForward : Cert.FfOutForward.Facts] : Prop :=
  ∀ (m : (ℓ : Loc Cert.FfOutForward.nD Cert.FfOutForward.τ Cert.FfOutForward.sig) → Buf (Elt Bits) ℓ) (g : Dev Cert.FfOutForward.nD → PrngReg), Pre_FfOutForward m →
    θ_run (Cert.FfOutForward.defs (F := Bits)) (onTc (τ := Cert.FfOutForward.τ) (Cert.FfOutForward.main (F := Bits))) ⟨m, fun _ => 0, g⟩ (fun r => (∀ c : Dev Cert.FfOutForward.nD,
      r.2.mem ((c.tc : Thread Cert.FfOutForward.nD Cert.FfOutForward.τ).loc Cert.FfOutForward.main_arg0) = m ((c.tc : Thread Cert.FfOutForward.nD Cert.FfOutForward.τ).loc Cert.FfOutForward.main_arg0)
      ∧ r.2.mem ((c.tc : Thread Cert.FfOutForward.nD Cert.FfOutForward.τ).loc Cert.FfOutForward.main_arg1) = m ((c.tc : Thread Cert.FfOutForward.nD Cert.FfOutForward.τ).loc Cert.FfOutForward.main_arg1)
      ∧ r.2.mem ((c.tc : Thread Cert.FfOutForward.nD Cert.FfOutForward.τ).loc Cert.FfOutForward.main_arg2) = m ((c.tc : Thread Cert.FfOutForward.nD Cert.FfOutForward.τ).loc Cert.FfOutForward.main_arg2))
      ∧ r.2.sem = fun _ => 0)

def quiescent_FfOutForwardIdeal [hFfOutForwardIdeal : Cert.FfOutForwardIdeal.Facts] : Prop :=
  ∀ (m : (ℓ : Loc Cert.FfOutForwardIdeal.nD Cert.FfOutForwardIdeal.τ Cert.FfOutForwardIdeal.sig) → Buf (Elt Ideal) ℓ) (g : Dev Cert.FfOutForwardIdeal.nD → PrngReg), Pre_FfOutForwardIdeal m →
    θ_run (Cert.FfOutForwardIdeal.defs (F := Ideal)) (onTc (τ := Cert.FfOutForwardIdeal.τ) (Cert.FfOutForwardIdeal.main (F := Ideal))) ⟨m, fun _ => 0, g⟩ (fun r => (∀ c : Dev Cert.FfOutForwardIdeal.nD,
      r.2.mem ((c.tc : Thread Cert.FfOutForwardIdeal.nD Cert.FfOutForwardIdeal.τ).loc Cert.FfOutForwardIdeal.main_arg0) = m ((c.tc : Thread Cert.FfOutForwardIdeal.nD Cert.FfOutForwardIdeal.τ).loc Cert.FfOutForwardIdeal.main_arg0)
      ∧ r.2.mem ((c.tc : Thread Cert.FfOutForwardIdeal.nD Cert.FfOutForwardIdeal.τ).loc Cert.FfOutForwardIdeal.main_arg1) = m ((c.tc : Thread Cert.FfOutForwardIdeal.nD Cert.FfOutForwardIdeal.τ).loc Cert.FfOutForwardIdeal.main_arg1)
      ∧ r.2.mem ((c.tc : Thread Cert.FfOutForwardIdeal.nD Cert.FfOutForwardIdeal.τ).loc Cert.FfOutForwardIdeal.main_arg2) = m ((c.tc : Thread Cert.FfOutForwardIdeal.nD Cert.FfOutForwardIdeal.τ).loc Cert.FfOutForwardIdeal.main_arg2))
      ∧ r.2.sem = fun _ => 0)

def quiescent_FfOutForwardReferenceIdeal [hFfOutForwardReferenceIdeal : Cert.FfOutForwardReferenceIdeal.Facts] : Prop :=
  ∀ (m : (ℓ : Loc Cert.FfOutForwardReferenceIdeal.nD Cert.FfOutForwardReferenceIdeal.τ Cert.FfOutForwardReferenceIdeal.sig) → Buf (Elt Ideal) ℓ) (g : Dev Cert.FfOutForwardReferenceIdeal.nD → PrngReg), Pre_FfOutForwardReferenceIdeal m →
    θ_run (Cert.FfOutForwardReferenceIdeal.defs (F := Ideal)) (onTc (τ := Cert.FfOutForwardReferenceIdeal.τ) (Cert.FfOutForwardReferenceIdeal.main (F := Ideal))) ⟨m, fun _ => 0, g⟩ (fun r => (∀ c : Dev Cert.FfOutForwardReferenceIdeal.nD,
      r.2.mem ((c.tc : Thread Cert.FfOutForwardReferenceIdeal.nD Cert.FfOutForwardReferenceIdeal.τ).loc Cert.FfOutForwardReferenceIdeal.main_arg0) = m ((c.tc : Thread Cert.FfOutForwardReferenceIdeal.nD Cert.FfOutForwardReferenceIdeal.τ).loc Cert.FfOutForwardReferenceIdeal.main_arg0)
      ∧ r.2.mem ((c.tc : Thread Cert.FfOutForwardReferenceIdeal.nD Cert.FfOutForwardReferenceIdeal.τ).loc Cert.FfOutForwardReferenceIdeal.main_arg1) = m ((c.tc : Thread Cert.FfOutForwardReferenceIdeal.nD Cert.FfOutForwardReferenceIdeal.τ).loc Cert.FfOutForwardReferenceIdeal.main_arg1)
      ∧ r.2.mem ((c.tc : Thread Cert.FfOutForwardReferenceIdeal.nD Cert.FfOutForwardReferenceIdeal.τ).loc Cert.FfOutForwardReferenceIdeal.main_arg2) = m ((c.tc : Thread Cert.FfOutForwardReferenceIdeal.nD Cert.FfOutForwardReferenceIdeal.τ).loc Cert.FfOutForwardReferenceIdeal.main_arg2))
      ∧ r.2.sem = fun _ => 0)

def quiescent_EmbedForward [hEmbedForward : Cert.EmbedForward.Facts] : Prop :=
  ∀ (m : (ℓ : Loc Cert.EmbedForward.nD Cert.EmbedForward.τ Cert.EmbedForward.sig) → Buf (Elt Bits) ℓ) (g : Dev Cert.EmbedForward.nD → PrngReg), Pre_EmbedForward m →
    θ_run (Cert.EmbedForward.defs (F := Bits)) (onTc (τ := Cert.EmbedForward.τ) (Cert.EmbedForward.main (F := Bits))) ⟨m, fun _ => 0, g⟩ (fun r => (∀ c : Dev Cert.EmbedForward.nD,
      r.2.mem ((c.tc : Thread Cert.EmbedForward.nD Cert.EmbedForward.τ).loc Cert.EmbedForward.main_arg0) = m ((c.tc : Thread Cert.EmbedForward.nD Cert.EmbedForward.τ).loc Cert.EmbedForward.main_arg0)
      ∧ r.2.mem ((c.tc : Thread Cert.EmbedForward.nD Cert.EmbedForward.τ).loc Cert.EmbedForward.main_arg1) = m ((c.tc : Thread Cert.EmbedForward.nD Cert.EmbedForward.τ).loc Cert.EmbedForward.main_arg1)
      ∧ r.2.mem ((c.tc : Thread Cert.EmbedForward.nD Cert.EmbedForward.τ).loc Cert.EmbedForward.main_arg2) = m ((c.tc : Thread Cert.EmbedForward.nD Cert.EmbedForward.τ).loc Cert.EmbedForward.main_arg2)
      ∧ r.2.mem ((c.tc : Thread Cert.EmbedForward.nD Cert.EmbedForward.τ).loc Cert.EmbedForward.main_arg3) = m ((c.tc : Thread Cert.EmbedForward.nD Cert.EmbedForward.τ).loc Cert.EmbedForward.main_arg3)
      ∧ r.2.mem ((c.tc : Thread Cert.EmbedForward.nD Cert.EmbedForward.τ).loc Cert.EmbedForward.main_arg4) = m ((c.tc : Thread Cert.EmbedForward.nD Cert.EmbedForward.τ).loc Cert.EmbedForward.main_arg4))
      ∧ r.2.sem = fun _ => 0)

def quiescent_EmbedForwardIdeal [hEmbedForwardIdeal : Cert.EmbedForwardIdeal.Facts] : Prop :=
  ∀ (m : (ℓ : Loc Cert.EmbedForwardIdeal.nD Cert.EmbedForwardIdeal.τ Cert.EmbedForwardIdeal.sig) → Buf (Elt Ideal) ℓ) (g : Dev Cert.EmbedForwardIdeal.nD → PrngReg), Pre_EmbedForwardIdeal m →
    θ_run (Cert.EmbedForwardIdeal.defs (F := Ideal)) (onTc (τ := Cert.EmbedForwardIdeal.τ) (Cert.EmbedForwardIdeal.main (F := Ideal))) ⟨m, fun _ => 0, g⟩ (fun r => (∀ c : Dev Cert.EmbedForwardIdeal.nD,
      r.2.mem ((c.tc : Thread Cert.EmbedForwardIdeal.nD Cert.EmbedForwardIdeal.τ).loc Cert.EmbedForwardIdeal.main_arg0) = m ((c.tc : Thread Cert.EmbedForwardIdeal.nD Cert.EmbedForwardIdeal.τ).loc Cert.EmbedForwardIdeal.main_arg0)
      ∧ r.2.mem ((c.tc : Thread Cert.EmbedForwardIdeal.nD Cert.EmbedForwardIdeal.τ).loc Cert.EmbedForwardIdeal.main_arg1) = m ((c.tc : Thread Cert.EmbedForwardIdeal.nD Cert.EmbedForwardIdeal.τ).loc Cert.EmbedForwardIdeal.main_arg1)
      ∧ r.2.mem ((c.tc : Thread Cert.EmbedForwardIdeal.nD Cert.EmbedForwardIdeal.τ).loc Cert.EmbedForwardIdeal.main_arg2) = m ((c.tc : Thread Cert.EmbedForwardIdeal.nD Cert.EmbedForwardIdeal.τ).loc Cert.EmbedForwardIdeal.main_arg2)
      ∧ r.2.mem ((c.tc : Thread Cert.EmbedForwardIdeal.nD Cert.EmbedForwardIdeal.τ).loc Cert.EmbedForwardIdeal.main_arg3) = m ((c.tc : Thread Cert.EmbedForwardIdeal.nD Cert.EmbedForwardIdeal.τ).loc Cert.EmbedForwardIdeal.main_arg3)
      ∧ r.2.mem ((c.tc : Thread Cert.EmbedForwardIdeal.nD Cert.EmbedForwardIdeal.τ).loc Cert.EmbedForwardIdeal.main_arg4) = m ((c.tc : Thread Cert.EmbedForwardIdeal.nD Cert.EmbedForwardIdeal.τ).loc Cert.EmbedForwardIdeal.main_arg4))
      ∧ r.2.sem = fun _ => 0)

def quiescent_EmbedForwardReferenceIdeal [hEmbedForwardReferenceIdeal : Cert.EmbedForwardReferenceIdeal.Facts] : Prop :=
  ∀ (m : (ℓ : Loc Cert.EmbedForwardReferenceIdeal.nD Cert.EmbedForwardReferenceIdeal.τ Cert.EmbedForwardReferenceIdeal.sig) → Buf (Elt Ideal) ℓ) (g : Dev Cert.EmbedForwardReferenceIdeal.nD → PrngReg), Pre_EmbedForwardReferenceIdeal m →
    θ_run (Cert.EmbedForwardReferenceIdeal.defs (F := Ideal)) (onTc (τ := Cert.EmbedForwardReferenceIdeal.τ) (Cert.EmbedForwardReferenceIdeal.main (F := Ideal))) ⟨m, fun _ => 0, g⟩ (fun r => (∀ c : Dev Cert.EmbedForwardReferenceIdeal.nD,
      r.2.mem ((c.tc : Thread Cert.EmbedForwardReferenceIdeal.nD Cert.EmbedForwardReferenceIdeal.τ).loc Cert.EmbedForwardReferenceIdeal.main_arg0) = m ((c.tc : Thread Cert.EmbedForwardReferenceIdeal.nD Cert.EmbedForwardReferenceIdeal.τ).loc Cert.EmbedForwardReferenceIdeal.main_arg0)
      ∧ r.2.mem ((c.tc : Thread Cert.EmbedForwardReferenceIdeal.nD Cert.EmbedForwardReferenceIdeal.τ).loc Cert.EmbedForwardReferenceIdeal.main_arg1) = m ((c.tc : Thread Cert.EmbedForwardReferenceIdeal.nD Cert.EmbedForwardReferenceIdeal.τ).loc Cert.EmbedForwardReferenceIdeal.main_arg1)
      ∧ r.2.mem ((c.tc : Thread Cert.EmbedForwardReferenceIdeal.nD Cert.EmbedForwardReferenceIdeal.τ).loc Cert.EmbedForwardReferenceIdeal.main_arg2) = m ((c.tc : Thread Cert.EmbedForwardReferenceIdeal.nD Cert.EmbedForwardReferenceIdeal.τ).loc Cert.EmbedForwardReferenceIdeal.main_arg2)
      ∧ r.2.mem ((c.tc : Thread Cert.EmbedForwardReferenceIdeal.nD Cert.EmbedForwardReferenceIdeal.τ).loc Cert.EmbedForwardReferenceIdeal.main_arg3) = m ((c.tc : Thread Cert.EmbedForwardReferenceIdeal.nD Cert.EmbedForwardReferenceIdeal.τ).loc Cert.EmbedForwardReferenceIdeal.main_arg3)
      ∧ r.2.mem ((c.tc : Thread Cert.EmbedForwardReferenceIdeal.nD Cert.EmbedForwardReferenceIdeal.τ).loc Cert.EmbedForwardReferenceIdeal.main_arg4) = m ((c.tc : Thread Cert.EmbedForwardReferenceIdeal.nD Cert.EmbedForwardReferenceIdeal.τ).loc Cert.EmbedForwardReferenceIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamFf [hAdamFf : Cert.AdamFf.Facts] : Prop :=
  ∀ (m : (ℓ : Loc Cert.AdamFf.nD Cert.AdamFf.τ Cert.AdamFf.sig) → Buf (Elt Bits) ℓ) (g : Dev Cert.AdamFf.nD → PrngReg), Pre_AdamFf m →
    θ_run (Cert.AdamFf.defs (F := Bits)) (onTc (τ := Cert.AdamFf.τ) (Cert.AdamFf.main (F := Bits))) ⟨m, fun _ => 0, g⟩ (fun r => (∀ c : Dev Cert.AdamFf.nD,
      r.2.mem ((c.tc : Thread Cert.AdamFf.nD Cert.AdamFf.τ).loc Cert.AdamFf.main_arg0) = m ((c.tc : Thread Cert.AdamFf.nD Cert.AdamFf.τ).loc Cert.AdamFf.main_arg0)
      ∧ r.2.mem ((c.tc : Thread Cert.AdamFf.nD Cert.AdamFf.τ).loc Cert.AdamFf.main_arg1) = m ((c.tc : Thread Cert.AdamFf.nD Cert.AdamFf.τ).loc Cert.AdamFf.main_arg1)
      ∧ r.2.mem ((c.tc : Thread Cert.AdamFf.nD Cert.AdamFf.τ).loc Cert.AdamFf.main_arg2) = m ((c.tc : Thread Cert.AdamFf.nD Cert.AdamFf.τ).loc Cert.AdamFf.main_arg2)
      ∧ r.2.mem ((c.tc : Thread Cert.AdamFf.nD Cert.AdamFf.τ).loc Cert.AdamFf.main_arg3) = m ((c.tc : Thread Cert.AdamFf.nD Cert.AdamFf.τ).loc Cert.AdamFf.main_arg3)
      ∧ r.2.mem ((c.tc : Thread Cert.AdamFf.nD Cert.AdamFf.τ).loc Cert.AdamFf.main_arg4) = m ((c.tc : Thread Cert.AdamFf.nD Cert.AdamFf.τ).loc Cert.AdamFf.main_arg4))
      ∧ r.2.sem = fun _ => 0)

def quiescent_AdamFfIdeal [hAdamFfIdeal : Cert.AdamFfIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg), Pre_AdamFfIdeal m →
    θ_run (Cert.AdamFfIdeal.defs (F := Ideal)) (onTc (τ := Cert.AdamFfIdeal.τ) (Cert.AdamFfIdeal.main (F := Ideal))) ⟨m, fun _ => 0, g⟩ (fun r => (∀ c : Dev Cert.AdamFfIdeal.nD,
      r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
      ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
      ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
      ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
      ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4))
      ∧ r.2.sem = fun _ => 0)

def quiescent_AdamFfReferenceIdeal [hAdamFfReferenceIdeal : Cert.AdamFfReferenceIdeal.Facts] : Prop :=
  ∀ (m : (ℓ : Loc Cert.AdamFfReferenceIdeal.nD Cert.AdamFfReferenceIdeal.τ Cert.AdamFfReferenceIdeal.sig) → Buf (Elt Ideal) ℓ) (g : Dev Cert.AdamFfReferenceIdeal.nD → PrngReg), Pre_AdamFfReferenceIdeal m →
    θ_run (Cert.AdamFfReferenceIdeal.defs (F := Ideal)) (onTc (τ := Cert.AdamFfReferenceIdeal.τ) (Cert.AdamFfReferenceIdeal.main (F := Ideal))) ⟨m, fun _ => 0, g⟩ (fun r => (∀ c : Dev Cert.AdamFfReferenceIdeal.nD,
      r.2.mem ((c.tc : Thread Cert.AdamFfReferenceIdeal.nD Cert.AdamFfReferenceIdeal.τ).loc Cert.AdamFfReferenceIdeal.main_arg0) = m ((c.tc : Thread Cert.AdamFfReferenceIdeal.nD Cert.AdamFfReferenceIdeal.τ).loc Cert.AdamFfReferenceIdeal.main_arg0)
      ∧ r.2.mem ((c.tc : Thread Cert.AdamFfReferenceIdeal.nD Cert.AdamFfReferenceIdeal.τ).loc Cert.AdamFfReferenceIdeal.main_arg1) = m ((c.tc : Thread Cert.AdamFfReferenceIdeal.nD Cert.AdamFfReferenceIdeal.τ).loc Cert.AdamFfReferenceIdeal.main_arg1)
      ∧ r.2.mem ((c.tc : Thread Cert.AdamFfReferenceIdeal.nD Cert.AdamFfReferenceIdeal.τ).loc Cert.AdamFfReferenceIdeal.main_arg2) = m ((c.tc : Thread Cert.AdamFfReferenceIdeal.nD Cert.AdamFfReferenceIdeal.τ).loc Cert.AdamFfReferenceIdeal.main_arg2)
      ∧ r.2.mem ((c.tc : Thread Cert.AdamFfReferenceIdeal.nD Cert.AdamFfReferenceIdeal.τ).loc Cert.AdamFfReferenceIdeal.main_arg3) = m ((c.tc : Thread Cert.AdamFfReferenceIdeal.nD Cert.AdamFfReferenceIdeal.τ).loc Cert.AdamFfReferenceIdeal.main_arg3)
      ∧ r.2.mem ((c.tc : Thread Cert.AdamFfReferenceIdeal.nD Cert.AdamFfReferenceIdeal.τ).loc Cert.AdamFfReferenceIdeal.main_arg4) = m ((c.tc : Thread Cert.AdamFfReferenceIdeal.nD Cert.AdamFfReferenceIdeal.τ).loc Cert.AdamFfReferenceIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3)
      ∧ r.2.mem ((c.tc : Thread Cert.AdamMix.nD Cert.AdamMix.τ).loc Cert.AdamMix.main_arg4) = m ((c.tc : Thread Cert.AdamMix.nD Cert.AdamMix.τ).loc Cert.AdamMix.main_arg4))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3)
      ∧ r.2.mem ((c.tc : Thread Cert.AdamMixIdeal.nD Cert.AdamMixIdeal.τ).loc Cert.AdamMixIdeal.main_arg4) = m ((c.tc : Thread Cert.AdamMixIdeal.nD Cert.AdamMixIdeal.τ).loc Cert.AdamMixIdeal.main_arg4))
      ∧ r.2.sem = fun _ => 0)

def quiescent_AdamMixReferenceIdeal [hAdamMixReferenceIdeal : Cert.AdamMixReferenceIdeal.Facts] : Prop :=
  ∀ (m : (ℓ : Loc Cert.AdamMixReferenceIdeal.nD Cert.AdamMixReferenceIdeal.τ Cert.AdamMixReferenceIdeal.sig) → Buf (Elt Ideal) ℓ) (g : Dev Cert.AdamMixReferenceIdeal.nD → PrngReg), Pre_AdamMixReferenceIdeal m →
    θ_run (Cert.AdamMixReferenceIdeal.defs (F := Ideal)) (onTc (τ := Cert.AdamMixReferenceIdeal.τ) (Cert.AdamMixReferenceIdeal.main (F := Ideal))) ⟨m, fun _ => 0, g⟩ (fun r => (∀ c : Dev Cert.AdamMixReferenceIdeal.nD,
      r.2.mem ((c.tc : Thread Cert.AdamMixReferenceIdeal.nD Cert.AdamMixReferenceIdeal.τ).loc Cert.AdamMixReferenceIdeal.main_arg0) = m ((c.tc : Thread Cert.AdamMixReferenceIdeal.nD Cert.AdamMixReferenceIdeal.τ).loc Cert.AdamMixReferenceIdeal.main_arg0)
      ∧ r.2.mem ((c.tc : Thread Cert.AdamMixReferenceIdeal.nD Cert.AdamMixReferenceIdeal.τ).loc Cert.AdamMixReferenceIdeal.main_arg1) = m ((c.tc : Thread Cert.AdamMixReferenceIdeal.nD Cert.AdamMixReferenceIdeal.τ).loc Cert.AdamMixReferenceIdeal.main_arg1)
      ∧ r.2.mem ((c.tc : Thread Cert.AdamMixReferenceIdeal.nD Cert.AdamMixReferenceIdeal.τ).loc Cert.AdamMixReferenceIdeal.main_arg2) = m ((c.tc : Thread Cert.AdamMixReferenceIdeal.nD Cert.AdamMixReferenceIdeal.τ).loc Cert.AdamMixReferenceIdeal.main_arg2)
      ∧ r.2.mem ((c.tc : Thread Cert.AdamMixReferenceIdeal.nD Cert.AdamMixReferenceIdeal.τ).loc Cert.AdamMixReferenceIdeal.main_arg3) = m ((c.tc : Thread Cert.AdamMixReferenceIdeal.nD Cert.AdamMixReferenceIdeal.τ).loc Cert.AdamMixReferenceIdeal.main_arg3)
      ∧ r.2.mem ((c.tc : Thread Cert.AdamMixReferenceIdeal.nD Cert.AdamMixReferenceIdeal.τ).loc Cert.AdamMixReferenceIdeal.main_arg4) = m ((c.tc : Thread Cert.AdamMixReferenceIdeal.nD Cert.AdamMixReferenceIdeal.τ).loc Cert.AdamMixReferenceIdeal.main_arg4))
      ∧ r.2.sem = fun _ => 0)

def quiescent_AdamEmbed [hAdamEmbed : Cert.AdamEmbed.Facts] : Prop :=
  ∀ (m : (ℓ : Loc Cert.AdamEmbed.nD Cert.AdamEmbed.τ Cert.AdamEmbed.sig) → Buf (Elt Bits) ℓ) (g : Dev Cert.AdamEmbed.nD → PrngReg), Pre_AdamEmbed m →
    θ_run (Cert.AdamEmbed.defs (F := Bits)) (onTc (τ := Cert.AdamEmbed.τ) (Cert.AdamEmbed.main (F := Bits))) ⟨m, fun _ => 0, g⟩ (fun r => (∀ c : Dev Cert.AdamEmbed.nD,
      r.2.mem ((c.tc : Thread Cert.AdamEmbed.nD Cert.AdamEmbed.τ).loc Cert.AdamEmbed.main_arg0) = m ((c.tc : Thread Cert.AdamEmbed.nD Cert.AdamEmbed.τ).loc Cert.AdamEmbed.main_arg0)
      ∧ r.2.mem ((c.tc : Thread Cert.AdamEmbed.nD Cert.AdamEmbed.τ).loc Cert.AdamEmbed.main_arg1) = m ((c.tc : Thread Cert.AdamEmbed.nD Cert.AdamEmbed.τ).loc Cert.AdamEmbed.main_arg1)
      ∧ r.2.mem ((c.tc : Thread Cert.AdamEmbed.nD Cert.AdamEmbed.τ).loc Cert.AdamEmbed.main_arg2) = m ((c.tc : Thread Cert.AdamEmbed.nD Cert.AdamEmbed.τ).loc Cert.AdamEmbed.main_arg2)
      ∧ r.2.mem ((c.tc : Thread Cert.AdamEmbed.nD Cert.AdamEmbed.τ).loc Cert.AdamEmbed.main_arg3) = m ((c.tc : Thread Cert.AdamEmbed.nD Cert.AdamEmbed.τ).loc Cert.AdamEmbed.main_arg3)
      ∧ r.2.mem ((c.tc : Thread Cert.AdamEmbed.nD Cert.AdamEmbed.τ).loc Cert.AdamEmbed.main_arg4) = m ((c.tc : Thread Cert.AdamEmbed.nD Cert.AdamEmbed.τ).loc Cert.AdamEmbed.main_arg4))
      ∧ r.2.sem = fun _ => 0)

def quiescent_AdamEmbedIdeal [hAdamEmbedIdeal : Cert.AdamEmbedIdeal.Facts] : Prop :=
  ∀ (m : (ℓ : Loc Cert.AdamEmbedIdeal.nD Cert.AdamEmbedIdeal.τ Cert.AdamEmbedIdeal.sig) → Buf (Elt Ideal) ℓ) (g : Dev Cert.AdamEmbedIdeal.nD → PrngReg), Pre_AdamEmbedIdeal m →
    θ_run (Cert.AdamEmbedIdeal.defs (F := Ideal)) (onTc (τ := Cert.AdamEmbedIdeal.τ) (Cert.AdamEmbedIdeal.main (F := Ideal))) ⟨m, fun _ => 0, g⟩ (fun r => (∀ c : Dev Cert.AdamEmbedIdeal.nD,
      r.2.mem ((c.tc : Thread Cert.AdamEmbedIdeal.nD Cert.AdamEmbedIdeal.τ).loc Cert.AdamEmbedIdeal.main_arg0) = m ((c.tc : Thread Cert.AdamEmbedIdeal.nD Cert.AdamEmbedIdeal.τ).loc Cert.AdamEmbedIdeal.main_arg0)
      ∧ r.2.mem ((c.tc : Thread Cert.AdamEmbedIdeal.nD Cert.AdamEmbedIdeal.τ).loc Cert.AdamEmbedIdeal.main_arg1) = m ((c.tc : Thread Cert.AdamEmbedIdeal.nD Cert.AdamEmbedIdeal.τ).loc Cert.AdamEmbedIdeal.main_arg1)
      ∧ r.2.mem ((c.tc : Thread Cert.AdamEmbedIdeal.nD Cert.AdamEmbedIdeal.τ).loc Cert.AdamEmbedIdeal.main_arg2) = m ((c.tc : Thread Cert.AdamEmbedIdeal.nD Cert.AdamEmbedIdeal.τ).loc Cert.AdamEmbedIdeal.main_arg2)
      ∧ r.2.mem ((c.tc : Thread Cert.AdamEmbedIdeal.nD Cert.AdamEmbedIdeal.τ).loc Cert.AdamEmbedIdeal.main_arg3) = m ((c.tc : Thread Cert.AdamEmbedIdeal.nD Cert.AdamEmbedIdeal.τ).loc Cert.AdamEmbedIdeal.main_arg3)
      ∧ r.2.mem ((c.tc : Thread Cert.AdamEmbedIdeal.nD Cert.AdamEmbedIdeal.τ).loc Cert.AdamEmbedIdeal.main_arg4) = m ((c.tc : Thread Cert.AdamEmbedIdeal.nD Cert.AdamEmbedIdeal.τ).loc Cert.AdamEmbedIdeal.main_arg4))
      ∧ r.2.sem = fun _ => 0)

def quiescent_AdamEmbedReferenceIdeal [hAdamEmbedReferenceIdeal : Cert.AdamEmbedReferenceIdeal.Facts] : Prop :=
  ∀ (m : (ℓ : Loc Cert.AdamEmbedReferenceIdeal.nD Cert.AdamEmbedReferenceIdeal.τ Cert.AdamEmbedReferenceIdeal.sig) → Buf (Elt Ideal) ℓ) (g : Dev Cert.AdamEmbedReferenceIdeal.nD → PrngReg), Pre_AdamEmbedReferenceIdeal m →
    θ_run (Cert.AdamEmbedReferenceIdeal.defs (F := Ideal)) (onTc (τ := Cert.AdamEmbedReferenceIdeal.τ) (Cert.AdamEmbedReferenceIdeal.main (F := Ideal))) ⟨m, fun _ => 0, g⟩ (fun r => (∀ c : Dev Cert.AdamEmbedReferenceIdeal.nD,
      r.2.mem ((c.tc : Thread Cert.AdamEmbedReferenceIdeal.nD Cert.AdamEmbedReferenceIdeal.τ).loc Cert.AdamEmbedReferenceIdeal.main_arg0) = m ((c.tc : Thread Cert.AdamEmbedReferenceIdeal.nD Cert.AdamEmbedReferenceIdeal.τ).loc Cert.AdamEmbedReferenceIdeal.main_arg0)
      ∧ r.2.mem ((c.tc : Thread Cert.AdamEmbedReferenceIdeal.nD Cert.AdamEmbedReferenceIdeal.τ).loc Cert.AdamEmbedReferenceIdeal.main_arg1) = m ((c.tc : Thread Cert.AdamEmbedReferenceIdeal.nD Cert.AdamEmbedReferenceIdeal.τ).loc Cert.AdamEmbedReferenceIdeal.main_arg1)
      ∧ r.2.mem ((c.tc : Thread Cert.AdamEmbedReferenceIdeal.nD Cert.AdamEmbedReferenceIdeal.τ).loc Cert.AdamEmbedReferenceIdeal.main_arg2) = m ((c.tc : Thread Cert.AdamEmbedReferenceIdeal.nD Cert.AdamEmbedReferenceIdeal.τ).loc Cert.AdamEmbedReferenceIdeal.main_arg2)
      ∧ r.2.mem ((c.tc : Thread Cert.AdamEmbedReferenceIdeal.nD Cert.AdamEmbedReferenceIdeal.τ).loc Cert.AdamEmbedReferenceIdeal.main_arg3) = m ((c.tc : Thread Cert.AdamEmbedReferenceIdeal.nD Cert.AdamEmbedReferenceIdeal.τ).loc Cert.AdamEmbedReferenceIdeal.main_arg3)
      ∧ r.2.mem ((c.tc : Thread Cert.AdamEmbedReferenceIdeal.nD Cert.AdamEmbedReferenceIdeal.τ).loc Cert.AdamEmbedReferenceIdeal.main_arg4) = m ((c.tc : Thread Cert.AdamEmbedReferenceIdeal.nD Cert.AdamEmbedReferenceIdeal.τ).loc Cert.AdamEmbedReferenceIdeal.main_arg4))
      ∧ r.2.sem = fun _ => 0)

def quiescent_WindowForward [hWindowForward : Cert.WindowForward.Facts] : Prop :=
  ∀ (m : (ℓ : Loc Cert.WindowForward.nD Cert.WindowForward.τ Cert.WindowForward.sig) → Buf (Elt Bits) ℓ) (g : Dev Cert.WindowForward.nD → PrngReg), Pre_WindowForward m →
    θ_run (Cert.WindowForward.defs (F := Bits)) (onTc (τ := Cert.WindowForward.τ) (Cert.WindowForward.main (F := Bits))) ⟨m, fun _ => 0, g⟩ (fun r => (∀ c : Dev Cert.WindowForward.nD,
      r.2.mem ((c.tc : Thread Cert.WindowForward.nD Cert.WindowForward.τ).loc Cert.WindowForward.main_arg0) = m ((c.tc : Thread Cert.WindowForward.nD Cert.WindowForward.τ).loc Cert.WindowForward.main_arg0)
      ∧ r.2.mem ((c.tc : Thread Cert.WindowForward.nD Cert.WindowForward.τ).loc Cert.WindowForward.main_arg1) = m ((c.tc : Thread Cert.WindowForward.nD Cert.WindowForward.τ).loc Cert.WindowForward.main_arg1)
      ∧ r.2.mem ((c.tc : Thread Cert.WindowForward.nD Cert.WindowForward.τ).loc Cert.WindowForward.main_arg2) = m ((c.tc : Thread Cert.WindowForward.nD Cert.WindowForward.τ).loc Cert.WindowForward.main_arg2))
      ∧ r.2.sem = fun _ => 0)

def quiescent_WindowForwardIdeal [hWindowForwardIdeal : Cert.WindowForwardIdeal.Facts] : Prop :=
  ∀ (m : (ℓ : Loc Cert.WindowForwardIdeal.nD Cert.WindowForwardIdeal.τ Cert.WindowForwardIdeal.sig) → Buf (Elt Ideal) ℓ) (g : Dev Cert.WindowForwardIdeal.nD → PrngReg), Pre_WindowForwardIdeal m →
    θ_run (Cert.WindowForwardIdeal.defs (F := Ideal)) (onTc (τ := Cert.WindowForwardIdeal.τ) (Cert.WindowForwardIdeal.main (F := Ideal))) ⟨m, fun _ => 0, g⟩ (fun r => (∀ c : Dev Cert.WindowForwardIdeal.nD,
      r.2.mem ((c.tc : Thread Cert.WindowForwardIdeal.nD Cert.WindowForwardIdeal.τ).loc Cert.WindowForwardIdeal.main_arg0) = m ((c.tc : Thread Cert.WindowForwardIdeal.nD Cert.WindowForwardIdeal.τ).loc Cert.WindowForwardIdeal.main_arg0)
      ∧ r.2.mem ((c.tc : Thread Cert.WindowForwardIdeal.nD Cert.WindowForwardIdeal.τ).loc Cert.WindowForwardIdeal.main_arg1) = m ((c.tc : Thread Cert.WindowForwardIdeal.nD Cert.WindowForwardIdeal.τ).loc Cert.WindowForwardIdeal.main_arg1)
      ∧ r.2.mem ((c.tc : Thread Cert.WindowForwardIdeal.nD Cert.WindowForwardIdeal.τ).loc Cert.WindowForwardIdeal.main_arg2) = m ((c.tc : Thread Cert.WindowForwardIdeal.nD Cert.WindowForwardIdeal.τ).loc Cert.WindowForwardIdeal.main_arg2))
      ∧ r.2.sem = fun _ => 0)

def quiescent_WindowForwardReferenceIdeal [hWindowForwardReferenceIdeal : Cert.WindowForwardReferenceIdeal.Facts] : Prop :=
  ∀ (m : (ℓ : Loc Cert.WindowForwardReferenceIdeal.nD Cert.WindowForwardReferenceIdeal.τ Cert.WindowForwardReferenceIdeal.sig) → Buf (Elt Ideal) ℓ) (g : Dev Cert.WindowForwardReferenceIdeal.nD → PrngReg), Pre_WindowForwardReferenceIdeal m →
    θ_run (Cert.WindowForwardReferenceIdeal.defs (F := Ideal)) (onTc (τ := Cert.WindowForwardReferenceIdeal.τ) (Cert.WindowForwardReferenceIdeal.main (F := Ideal))) ⟨m, fun _ => 0, g⟩ (fun r => (∀ c : Dev Cert.WindowForwardReferenceIdeal.nD,
      r.2.mem ((c.tc : Thread Cert.WindowForwardReferenceIdeal.nD Cert.WindowForwardReferenceIdeal.τ).loc Cert.WindowForwardReferenceIdeal.main_arg0) = m ((c.tc : Thread Cert.WindowForwardReferenceIdeal.nD Cert.WindowForwardReferenceIdeal.τ).loc Cert.WindowForwardReferenceIdeal.main_arg0)
      ∧ r.2.mem ((c.tc : Thread Cert.WindowForwardReferenceIdeal.nD Cert.WindowForwardReferenceIdeal.τ).loc Cert.WindowForwardReferenceIdeal.main_arg1) = m ((c.tc : Thread Cert.WindowForwardReferenceIdeal.nD Cert.WindowForwardReferenceIdeal.τ).loc Cert.WindowForwardReferenceIdeal.main_arg1)
      ∧ r.2.mem ((c.tc : Thread Cert.WindowForwardReferenceIdeal.nD Cert.WindowForwardReferenceIdeal.τ).loc Cert.WindowForwardReferenceIdeal.main_arg2) = m ((c.tc : Thread Cert.WindowForwardReferenceIdeal.nD Cert.WindowForwardReferenceIdeal.τ).loc Cert.WindowForwardReferenceIdeal.main_arg2))
      ∧ r.2.sem = fun _ => 0)

def preserves_FfOut_FfOutIdeal : Prop :=
  True

def algebraic_FfOutIdeal_FfOutReferenceIdeal [hFfOutIdeal : Cert.FfOutIdeal.Facts] [hFfOutReferenceIdeal : Cert.FfOutReferenceIdeal.Facts] : Prop :=
  ∀ (m : (ℓ : Loc Cert.FfOutIdeal.nD Cert.FfOutIdeal.τ Cert.FfOutIdeal.sig) → Buf (Elt Ideal) ℓ) (g : Dev Cert.FfOutIdeal.nD → PrngReg)
    (m' : (ℓ : Loc Cert.FfOutReferenceIdeal.nD Cert.FfOutReferenceIdeal.τ Cert.FfOutReferenceIdeal.sig) → Buf (Elt Ideal) ℓ) (g' : Dev Cert.FfOutReferenceIdeal.nD → PrngReg), Pre_FfOutIdeal m →
    (∀ c : Dev Cert.FfOutIdeal.nD,
      m' ((c.tc : Thread Cert.FfOutReferenceIdeal.nD Cert.FfOutReferenceIdeal.τ).loc Cert.FfOutReferenceIdeal.main_arg0) = m ((c.tc : Thread Cert.FfOutIdeal.nD Cert.FfOutIdeal.τ).loc Cert.FfOutIdeal.main_arg0)
      ∧ m' ((c.tc : Thread Cert.FfOutReferenceIdeal.nD Cert.FfOutReferenceIdeal.τ).loc Cert.FfOutReferenceIdeal.main_arg1) = m ((c.tc : Thread Cert.FfOutIdeal.nD Cert.FfOutIdeal.τ).loc Cert.FfOutIdeal.main_arg1)
      ∧ m' ((c.tc : Thread Cert.FfOutReferenceIdeal.nD Cert.FfOutReferenceIdeal.τ).loc Cert.FfOutReferenceIdeal.main_arg2) = m ((c.tc : Thread Cert.FfOutIdeal.nD Cert.FfOutIdeal.τ).loc Cert.FfOutIdeal.main_arg2)
      ∧ m' ((c.tc : Thread Cert.FfOutReferenceIdeal.nD Cert.FfOutReferenceIdeal.τ).loc Cert.FfOutReferenceIdeal.main_arg3) = m ((c.tc : Thread Cert.FfOutIdeal.nD Cert.FfOutIdeal.τ).loc Cert.FfOutIdeal.main_arg3)) →
    ∃ (v0 : (c : Dev Cert.FfOutIdeal.nD) → Buf (Elt Ideal) ((c.tc : Thread Cert.FfOutIdeal.nD Cert.FfOutIdeal.τ).loc Cert.FfOutIdeal.main_v4_0)) (v1 : (c : Dev Cert.FfOutIdeal.nD) → Buf (Elt Ideal) ((c.tc : Thread Cert.FfOutIdeal.nD Cert.FfOutIdeal.τ).loc Cert.FfOutIdeal.main_v4_1)),
      θ_run (Cert.FfOutIdeal.defs (F := Ideal)) (onTc (τ := Cert.FfOutIdeal.τ) (Cert.FfOutIdeal.main (F := Ideal))) ⟨m, fun _ => 0, g⟩ (fun r => ∀ c : Dev Cert.FfOutIdeal.nD,
          r.2.mem ((c.tc : Thread Cert.FfOutIdeal.nD Cert.FfOutIdeal.τ).loc Cert.FfOutIdeal.main_v4_0) = v0 c
          ∧ r.2.mem ((c.tc : Thread Cert.FfOutIdeal.nD Cert.FfOutIdeal.τ).loc Cert.FfOutIdeal.main_v4_1) = v1 c
          ∧ r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
          ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
          ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2)
          ∧ r.2.mem ((c.tc : Thread Cert.FfOutIdeal.nD Cert.FfOutIdeal.τ).loc Cert.FfOutIdeal.main_arg3) = m ((c.tc : Thread Cert.FfOutIdeal.nD Cert.FfOutIdeal.τ).loc Cert.FfOutIdeal.main_arg3))
      ∧ θ_run (Cert.FfOutReferenceIdeal.defs (F := Ideal)) (onTc (τ := Cert.FfOutReferenceIdeal.τ) (Cert.FfOutReferenceIdeal.main (F := Ideal))) ⟨m', fun _ => 0, g'⟩ (fun r => ∀ c : Dev Cert.FfOutReferenceIdeal.nD,
          r.2.mem ((c.tc : Thread Cert.FfOutReferenceIdeal.nD Cert.FfOutReferenceIdeal.τ).loc Cert.FfOutReferenceIdeal.main_v13) = v0 c
          ∧ r.2.mem ((c.tc : Thread Cert.FfOutReferenceIdeal.nD Cert.FfOutReferenceIdeal.τ).loc Cert.FfOutReferenceIdeal.main_v14) = v1 c
          ∧ r.2.mem ((c.tc : Thread Cert.FfOutReferenceIdeal.nD Cert.FfOutReferenceIdeal.τ).loc Cert.FfOutReferenceIdeal.main_arg0) = m' ((c.tc : Thread Cert.FfOutReferenceIdeal.nD Cert.FfOutReferenceIdeal.τ).loc Cert.FfOutReferenceIdeal.main_arg0)
          ∧ r.2.mem ((c.tc : Thread Cert.FfOutReferenceIdeal.nD Cert.FfOutReferenceIdeal.τ).loc Cert.FfOutReferenceIdeal.main_arg1) = m' ((c.tc : Thread Cert.FfOutReferenceIdeal.nD Cert.FfOutReferenceIdeal.τ).loc Cert.FfOutReferenceIdeal.main_arg1)
          ∧ r.2.mem ((c.tc : Thread Cert.FfOutReferenceIdeal.nD Cert.FfOutReferenceIdeal.τ).loc Cert.FfOutReferenceIdeal.main_arg2) = m' ((c.tc : Thread Cert.FfOutReferenceIdeal.nD Cert.FfOutReferenceIdeal.τ).loc Cert.FfOutReferenceIdeal.main_arg2)
          ∧ r.2.mem ((c.tc : Thread Cert.FfOutReferenceIdeal.nD Cert.FfOutReferenceIdeal.τ).loc Cert.FfOutReferenceIdeal.main_arg3) = m' ((c.tc : Thread Cert.FfOutReferenceIdeal.nD Cert.FfOutReferenceIdeal.τ).loc Cert.FfOutReferenceIdeal.main_arg3))

def preserves_FfOutWeight_FfOutWeightIdeal : Prop :=
  True

def algebraic_FfOutWeightIdeal_FfOutWeightReferenceIdeal [hFfOutWeightIdeal : Cert.FfOutWeightIdeal.Facts] [hFfOutWeightReferenceIdeal : Cert.FfOutWeightReferenceIdeal.Facts] : Prop :=
  ∀ (m : (ℓ : Loc Cert.FfOutWeightIdeal.nD Cert.FfOutWeightIdeal.τ Cert.FfOutWeightIdeal.sig) → Buf (Elt Ideal) ℓ) (g : Dev Cert.FfOutWeightIdeal.nD → PrngReg)
    (m' : (ℓ : Loc Cert.FfOutWeightReferenceIdeal.nD Cert.FfOutWeightReferenceIdeal.τ Cert.FfOutWeightReferenceIdeal.sig) → Buf (Elt Ideal) ℓ) (g' : Dev Cert.FfOutWeightReferenceIdeal.nD → PrngReg), Pre_FfOutWeightIdeal m →
    (∀ c : Dev Cert.FfOutWeightIdeal.nD,
      m' ((c.tc : Thread Cert.FfOutWeightReferenceIdeal.nD Cert.FfOutWeightReferenceIdeal.τ).loc Cert.FfOutWeightReferenceIdeal.main_arg0) = m ((c.tc : Thread Cert.FfOutWeightIdeal.nD Cert.FfOutWeightIdeal.τ).loc Cert.FfOutWeightIdeal.main_arg0)
      ∧ m' ((c.tc : Thread Cert.FfOutWeightReferenceIdeal.nD Cert.FfOutWeightReferenceIdeal.τ).loc Cert.FfOutWeightReferenceIdeal.main_arg1) = m ((c.tc : Thread Cert.FfOutWeightIdeal.nD Cert.FfOutWeightIdeal.τ).loc Cert.FfOutWeightIdeal.main_arg1)
      ∧ m' ((c.tc : Thread Cert.FfOutWeightReferenceIdeal.nD Cert.FfOutWeightReferenceIdeal.τ).loc Cert.FfOutWeightReferenceIdeal.main_arg2) = m ((c.tc : Thread Cert.FfOutWeightIdeal.nD Cert.FfOutWeightIdeal.τ).loc Cert.FfOutWeightIdeal.main_arg2)) →
    ∃ (v0 : (c : Dev Cert.FfOutWeightIdeal.nD) → Buf (Elt Ideal) ((c.tc : Thread Cert.FfOutWeightIdeal.nD Cert.FfOutWeightIdeal.τ).loc Cert.FfOutWeightIdeal.main_v5)),
      θ_run (Cert.FfOutWeightIdeal.defs (F := Ideal)) (onTc (τ := Cert.FfOutWeightIdeal.τ) (Cert.FfOutWeightIdeal.main (F := Ideal))) ⟨m, fun _ => 0, g⟩ (fun r => ∀ c : Dev Cert.FfOutWeightIdeal.nD,
          r.2.mem ((c.tc : Thread Cert.FfOutWeightIdeal.nD Cert.FfOutWeightIdeal.τ).loc Cert.FfOutWeightIdeal.main_v5) = v0 c
          ∧ r.2.mem ((c.tc : Thread Cert.FfOutWeightIdeal.nD Cert.FfOutWeightIdeal.τ).loc Cert.FfOutWeightIdeal.main_arg0) = m ((c.tc : Thread Cert.FfOutWeightIdeal.nD Cert.FfOutWeightIdeal.τ).loc Cert.FfOutWeightIdeal.main_arg0)
          ∧ r.2.mem ((c.tc : Thread Cert.FfOutWeightIdeal.nD Cert.FfOutWeightIdeal.τ).loc Cert.FfOutWeightIdeal.main_arg1) = m ((c.tc : Thread Cert.FfOutWeightIdeal.nD Cert.FfOutWeightIdeal.τ).loc Cert.FfOutWeightIdeal.main_arg1)
          ∧ r.2.mem ((c.tc : Thread Cert.FfOutWeightIdeal.nD Cert.FfOutWeightIdeal.τ).loc Cert.FfOutWeightIdeal.main_arg2) = m ((c.tc : Thread Cert.FfOutWeightIdeal.nD Cert.FfOutWeightIdeal.τ).loc Cert.FfOutWeightIdeal.main_arg2))
      ∧ θ_run (Cert.FfOutWeightReferenceIdeal.defs (F := Ideal)) (onTc (τ := Cert.FfOutWeightReferenceIdeal.τ) (Cert.FfOutWeightReferenceIdeal.main (F := Ideal))) ⟨m', fun _ => 0, g'⟩ (fun r => ∀ c : Dev Cert.FfOutWeightReferenceIdeal.nD,
          r.2.mem ((c.tc : Thread Cert.FfOutWeightReferenceIdeal.nD Cert.FfOutWeightReferenceIdeal.τ).loc Cert.FfOutWeightReferenceIdeal.main_v7) = v0 c
          ∧ r.2.mem ((c.tc : Thread Cert.FfOutWeightReferenceIdeal.nD Cert.FfOutWeightReferenceIdeal.τ).loc Cert.FfOutWeightReferenceIdeal.main_arg0) = m' ((c.tc : Thread Cert.FfOutWeightReferenceIdeal.nD Cert.FfOutWeightReferenceIdeal.τ).loc Cert.FfOutWeightReferenceIdeal.main_arg0)
          ∧ r.2.mem ((c.tc : Thread Cert.FfOutWeightReferenceIdeal.nD Cert.FfOutWeightReferenceIdeal.τ).loc Cert.FfOutWeightReferenceIdeal.main_arg1) = m' ((c.tc : Thread Cert.FfOutWeightReferenceIdeal.nD Cert.FfOutWeightReferenceIdeal.τ).loc Cert.FfOutWeightReferenceIdeal.main_arg1)
          ∧ r.2.mem ((c.tc : Thread Cert.FfOutWeightReferenceIdeal.nD Cert.FfOutWeightReferenceIdeal.τ).loc Cert.FfOutWeightReferenceIdeal.main_arg2) = m' ((c.tc : Thread Cert.FfOutWeightReferenceIdeal.nD Cert.FfOutWeightReferenceIdeal.τ).loc Cert.FfOutWeightReferenceIdeal.main_arg2))

def preserves_FfInWeight_FfInWeightIdeal : Prop :=
  True

def algebraic_FfInWeightIdeal_FfInWeightReferenceIdeal [hFfInWeightIdeal : Cert.FfInWeightIdeal.Facts] [hFfInWeightReferenceIdeal : Cert.FfInWeightReferenceIdeal.Facts] : Prop :=
  ∀ (m : (ℓ : Loc Cert.FfInWeightIdeal.nD Cert.FfInWeightIdeal.τ Cert.FfInWeightIdeal.sig) → Buf (Elt Ideal) ℓ) (g : Dev Cert.FfInWeightIdeal.nD → PrngReg)
    (m' : (ℓ : Loc Cert.FfInWeightReferenceIdeal.nD Cert.FfInWeightReferenceIdeal.τ Cert.FfInWeightReferenceIdeal.sig) → Buf (Elt Ideal) ℓ) (g' : Dev Cert.FfInWeightReferenceIdeal.nD → PrngReg), Pre_FfInWeightIdeal m →
    (∀ c : Dev Cert.FfInWeightIdeal.nD,
      m' ((c.tc : Thread Cert.FfInWeightReferenceIdeal.nD Cert.FfInWeightReferenceIdeal.τ).loc Cert.FfInWeightReferenceIdeal.main_arg0) = m ((c.tc : Thread Cert.FfInWeightIdeal.nD Cert.FfInWeightIdeal.τ).loc Cert.FfInWeightIdeal.main_arg0)
      ∧ m' ((c.tc : Thread Cert.FfInWeightReferenceIdeal.nD Cert.FfInWeightReferenceIdeal.τ).loc Cert.FfInWeightReferenceIdeal.main_arg1) = m ((c.tc : Thread Cert.FfInWeightIdeal.nD Cert.FfInWeightIdeal.τ).loc Cert.FfInWeightIdeal.main_arg1)
      ∧ m' ((c.tc : Thread Cert.FfInWeightReferenceIdeal.nD Cert.FfInWeightReferenceIdeal.τ).loc Cert.FfInWeightReferenceIdeal.main_arg2) = m ((c.tc : Thread Cert.FfInWeightIdeal.nD Cert.FfInWeightIdeal.τ).loc Cert.FfInWeightIdeal.main_arg2)
      ∧ m' ((c.tc : Thread Cert.FfInWeightReferenceIdeal.nD Cert.FfInWeightReferenceIdeal.τ).loc Cert.FfInWeightReferenceIdeal.main_arg3) = m ((c.tc : Thread Cert.FfInWeightIdeal.nD Cert.FfInWeightIdeal.τ).loc Cert.FfInWeightIdeal.main_arg3)) →
    ∃ (v0 : (c : Dev Cert.FfInWeightIdeal.nD) → Buf (Elt Ideal) ((c.tc : Thread Cert.FfInWeightIdeal.nD Cert.FfInWeightIdeal.τ).loc Cert.FfInWeightIdeal.main_v9)),
      θ_run (Cert.FfInWeightIdeal.defs (F := Ideal)) (onTc (τ := Cert.FfInWeightIdeal.τ) (Cert.FfInWeightIdeal.main (F := Ideal))) ⟨m, fun _ => 0, g⟩ (fun r => ∀ c : Dev Cert.FfInWeightIdeal.nD,
          r.2.mem ((c.tc : Thread Cert.FfInWeightIdeal.nD Cert.FfInWeightIdeal.τ).loc Cert.FfInWeightIdeal.main_v9) = v0 c
          ∧ r.2.mem ((c.tc : Thread Cert.FfInWeightIdeal.nD Cert.FfInWeightIdeal.τ).loc Cert.FfInWeightIdeal.main_arg0) = m ((c.tc : Thread Cert.FfInWeightIdeal.nD Cert.FfInWeightIdeal.τ).loc Cert.FfInWeightIdeal.main_arg0)
          ∧ r.2.mem ((c.tc : Thread Cert.FfInWeightIdeal.nD Cert.FfInWeightIdeal.τ).loc Cert.FfInWeightIdeal.main_arg1) = m ((c.tc : Thread Cert.FfInWeightIdeal.nD Cert.FfInWeightIdeal.τ).loc Cert.FfInWeightIdeal.main_arg1)
          ∧ r.2.mem ((c.tc : Thread Cert.FfInWeightIdeal.nD Cert.FfInWeightIdeal.τ).loc Cert.FfInWeightIdeal.main_arg2) = m ((c.tc : Thread Cert.FfInWeightIdeal.nD Cert.FfInWeightIdeal.τ).loc Cert.FfInWeightIdeal.main_arg2)
          ∧ r.2.mem ((c.tc : Thread Cert.FfInWeightIdeal.nD Cert.FfInWeightIdeal.τ).loc Cert.FfInWeightIdeal.main_arg3) = m ((c.tc : Thread Cert.FfInWeightIdeal.nD Cert.FfInWeightIdeal.τ).loc Cert.FfInWeightIdeal.main_arg3))
      ∧ θ_run (Cert.FfInWeightReferenceIdeal.defs (F := Ideal)) (onTc (τ := Cert.FfInWeightReferenceIdeal.τ) (Cert.FfInWeightReferenceIdeal.main (F := Ideal))) ⟨m', fun _ => 0, g'⟩ (fun r => ∀ c : Dev Cert.FfInWeightReferenceIdeal.nD,
          r.2.mem ((c.tc : Thread Cert.FfInWeightReferenceIdeal.nD Cert.FfInWeightReferenceIdeal.τ).loc Cert.FfInWeightReferenceIdeal.main_v16) = v0 c
          ∧ r.2.mem ((c.tc : Thread Cert.FfInWeightReferenceIdeal.nD Cert.FfInWeightReferenceIdeal.τ).loc Cert.FfInWeightReferenceIdeal.main_arg0) = m' ((c.tc : Thread Cert.FfInWeightReferenceIdeal.nD Cert.FfInWeightReferenceIdeal.τ).loc Cert.FfInWeightReferenceIdeal.main_arg0)
          ∧ r.2.mem ((c.tc : Thread Cert.FfInWeightReferenceIdeal.nD Cert.FfInWeightReferenceIdeal.τ).loc Cert.FfInWeightReferenceIdeal.main_arg1) = m' ((c.tc : Thread Cert.FfInWeightReferenceIdeal.nD Cert.FfInWeightReferenceIdeal.τ).loc Cert.FfInWeightReferenceIdeal.main_arg1)
          ∧ r.2.mem ((c.tc : Thread Cert.FfInWeightReferenceIdeal.nD Cert.FfInWeightReferenceIdeal.τ).loc Cert.FfInWeightReferenceIdeal.main_arg2) = m' ((c.tc : Thread Cert.FfInWeightReferenceIdeal.nD Cert.FfInWeightReferenceIdeal.τ).loc Cert.FfInWeightReferenceIdeal.main_arg2)
          ∧ r.2.mem ((c.tc : Thread Cert.FfInWeightReferenceIdeal.nD Cert.FfInWeightReferenceIdeal.τ).loc Cert.FfInWeightReferenceIdeal.main_arg3) = m' ((c.tc : Thread Cert.FfInWeightReferenceIdeal.nD Cert.FfInWeightReferenceIdeal.τ).loc Cert.FfInWeightReferenceIdeal.main_arg3))

def preserves_GateWeight_GateWeightIdeal : Prop :=
  True

def algebraic_GateWeightIdeal_GateWeightReferenceIdeal [hGateWeightIdeal : Cert.GateWeightIdeal.Facts] [hGateWeightReferenceIdeal : Cert.GateWeightReferenceIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightReferenceIdeal.nD Cert.GateWeightReferenceIdeal.τ Cert.GateWeightReferenceIdeal.sig) → Buf (Elt Ideal) ℓ) (g' : Dev Cert.GateWeightReferenceIdeal.nD → PrngReg), Pre_GateWeightIdeal m →
    (∀ c : Dev Cert.GateWeightIdeal.nD,
      m' ((c.tc : Thread Cert.GateWeightReferenceIdeal.nD Cert.GateWeightReferenceIdeal.τ).loc Cert.GateWeightReferenceIdeal.main_arg0) = m ((c.tc : Thread Cert.GateWeightIdeal.nD Cert.GateWeightIdeal.τ).loc Cert.GateWeightIdeal.main_arg0)
      ∧ m' ((c.tc : Thread Cert.GateWeightReferenceIdeal.nD Cert.GateWeightReferenceIdeal.τ).loc Cert.GateWeightReferenceIdeal.main_arg1) = m ((c.tc : Thread Cert.GateWeightIdeal.nD Cert.GateWeightIdeal.τ).loc Cert.GateWeightIdeal.main_arg1)
      ∧ m' ((c.tc : Thread Cert.GateWeightReferenceIdeal.nD Cert.GateWeightReferenceIdeal.τ).loc Cert.GateWeightReferenceIdeal.main_arg2) = m ((c.tc : Thread Cert.GateWeightIdeal.nD Cert.GateWeightIdeal.τ).loc Cert.GateWeightIdeal.main_arg2)
      ∧ m' ((c.tc : Thread Cert.GateWeightReferenceIdeal.nD Cert.GateWeightReferenceIdeal.τ).loc Cert.GateWeightReferenceIdeal.main_arg3) = m ((c.tc : Thread Cert.GateWeightIdeal.nD Cert.GateWeightIdeal.τ).loc Cert.GateWeightIdeal.main_arg3)) →
    ∃ (v0 : (c : Dev Cert.GateWeightIdeal.nD) → Buf (Elt Ideal) ((c.tc : Thread Cert.GateWeightIdeal.nD Cert.GateWeightIdeal.τ).loc Cert.GateWeightIdeal.main_v14)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v14) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1)
          ∧ r.2.mem ((c.tc : Thread Cert.GateWeightIdeal.nD Cert.GateWeightIdeal.τ).loc Cert.GateWeightIdeal.main_arg2) = m ((c.tc : Thread Cert.GateWeightIdeal.nD Cert.GateWeightIdeal.τ).loc Cert.GateWeightIdeal.main_arg2)
          ∧ r.2.mem ((c.tc : Thread Cert.GateWeightIdeal.nD Cert.GateWeightIdeal.τ).loc Cert.GateWeightIdeal.main_arg3) = m ((c.tc : Thread Cert.GateWeightIdeal.nD Cert.GateWeightIdeal.τ).loc Cert.GateWeightIdeal.main_arg3))
      ∧ θ_run (Cert.GateWeightReferenceIdeal.defs (F := Ideal)) (onTc (τ := Cert.GateWeightReferenceIdeal.τ) (Cert.GateWeightReferenceIdeal.main (F := Ideal))) ⟨m', fun _ => 0, g'⟩ (fun r => ∀ c : Dev Cert.GateWeightReferenceIdeal.nD,
          r.2.mem ((c.tc : Thread Cert.GateWeightReferenceIdeal.nD Cert.GateWeightReferenceIdeal.τ).loc Cert.GateWeightReferenceIdeal.main_v15) = v0 c
          ∧ r.2.mem ((c.tc : Thread Cert.GateWeightReferenceIdeal.nD Cert.GateWeightReferenceIdeal.τ).loc Cert.GateWeightReferenceIdeal.main_arg0) = m' ((c.tc : Thread Cert.GateWeightReferenceIdeal.nD Cert.GateWeightReferenceIdeal.τ).loc Cert.GateWeightReferenceIdeal.main_arg0)
          ∧ r.2.mem ((c.tc : Thread Cert.GateWeightReferenceIdeal.nD Cert.GateWeightReferenceIdeal.τ).loc Cert.GateWeightReferenceIdeal.main_arg1) = m' ((c.tc : Thread Cert.GateWeightReferenceIdeal.nD Cert.GateWeightReferenceIdeal.τ).loc Cert.GateWeightReferenceIdeal.main_arg1)
          ∧ r.2.mem ((c.tc : Thread Cert.GateWeightReferenceIdeal.nD Cert.GateWeightReferenceIdeal.τ).loc Cert.GateWeightReferenceIdeal.main_arg2) = m' ((c.tc : Thread Cert.GateWeightReferenceIdeal.nD Cert.GateWeightReferenceIdeal.τ).loc Cert.GateWeightReferenceIdeal.main_arg2)
          ∧ r.2.mem ((c.tc : Thread Cert.GateWeightReferenceIdeal.nD Cert.GateWeightReferenceIdeal.τ).loc Cert.GateWeightReferenceIdeal.main_arg3) = m' ((c.tc : Thread Cert.GateWeightReferenceIdeal.nD Cert.GateWeightReferenceIdeal.τ).loc Cert.GateWeightReferenceIdeal.main_arg3))

def preserves_EmbedWeight_EmbedWeightIdeal : Prop :=
  True

def algebraic_EmbedWeightIdeal_EmbedWeightReferenceIdeal [hEmbedWeightIdeal : Cert.EmbedWeightIdeal.Facts] [hEmbedWeightReferenceIdeal : Cert.EmbedWeightReferenceIdeal.Facts] : Prop :=
  ∀ (m : (ℓ : Loc Cert.EmbedWeightIdeal.nD Cert.EmbedWeightIdeal.τ Cert.EmbedWeightIdeal.sig) → Buf (Elt Ideal) ℓ) (g : Dev Cert.EmbedWeightIdeal.nD → PrngReg)
    (m' : (ℓ : Loc Cert.EmbedWeightReferenceIdeal.nD Cert.EmbedWeightReferenceIdeal.τ Cert.EmbedWeightReferenceIdeal.sig) → Buf (Elt Ideal) ℓ) (g' : Dev Cert.EmbedWeightReferenceIdeal.nD → PrngReg), Pre_EmbedWeightIdeal m →
    (∀ c : Dev Cert.EmbedWeightIdeal.nD,
      m' ((c.tc : Thread Cert.EmbedWeightReferenceIdeal.nD Cert.EmbedWeightReferenceIdeal.τ).loc Cert.EmbedWeightReferenceIdeal.main_arg0) = m ((c.tc : Thread Cert.EmbedWeightIdeal.nD Cert.EmbedWeightIdeal.τ).loc Cert.EmbedWeightIdeal.main_arg0)
      ∧ m' ((c.tc : Thread Cert.EmbedWeightReferenceIdeal.nD Cert.EmbedWeightReferenceIdeal.τ).loc Cert.EmbedWeightReferenceIdeal.main_arg1) = m ((c.tc : Thread Cert.EmbedWeightIdeal.nD Cert.EmbedWeightIdeal.τ).loc Cert.EmbedWeightIdeal.main_arg1)
      ∧ m' ((c.tc : Thread Cert.EmbedWeightReferenceIdeal.nD Cert.EmbedWeightReferenceIdeal.τ).loc Cert.EmbedWeightReferenceIdeal.main_arg2) = m ((c.tc : Thread Cert.EmbedWeightIdeal.nD Cert.EmbedWeightIdeal.τ).loc Cert.EmbedWeightIdeal.main_arg2)) →
    ∃ (v0 : (c : Dev Cert.EmbedWeightIdeal.nD) → Buf (Elt Ideal) ((c.tc : Thread Cert.EmbedWeightIdeal.nD Cert.EmbedWeightIdeal.τ).loc Cert.EmbedWeightIdeal.main_v9)),
      θ_run (Cert.EmbedWeightIdeal.defs (F := Ideal)) (onTc (τ := Cert.EmbedWeightIdeal.τ) (Cert.EmbedWeightIdeal.main (F := Ideal))) ⟨m, fun _ => 0, g⟩ (fun r => ∀ c : Dev Cert.EmbedWeightIdeal.nD,
          r.2.mem ((c.tc : Thread Cert.EmbedWeightIdeal.nD Cert.EmbedWeightIdeal.τ).loc Cert.EmbedWeightIdeal.main_v9) = v0 c
          ∧ r.2.mem ((c.tc : Thread Cert.EmbedWeightIdeal.nD Cert.EmbedWeightIdeal.τ).loc Cert.EmbedWeightIdeal.main_arg0) = m ((c.tc : Thread Cert.EmbedWeightIdeal.nD Cert.EmbedWeightIdeal.τ).loc Cert.EmbedWeightIdeal.main_arg0)
          ∧ r.2.mem ((c.tc : Thread Cert.EmbedWeightIdeal.nD Cert.EmbedWeightIdeal.τ).loc Cert.EmbedWeightIdeal.main_arg1) = m ((c.tc : Thread Cert.EmbedWeightIdeal.nD Cert.EmbedWeightIdeal.τ).loc Cert.EmbedWeightIdeal.main_arg1)
          ∧ r.2.mem ((c.tc : Thread Cert.EmbedWeightIdeal.nD Cert.EmbedWeightIdeal.τ).loc Cert.EmbedWeightIdeal.main_arg2) = m ((c.tc : Thread Cert.EmbedWeightIdeal.nD Cert.EmbedWeightIdeal.τ).loc Cert.EmbedWeightIdeal.main_arg2))
      ∧ θ_run (Cert.EmbedWeightReferenceIdeal.defs (F := Ideal)) (onTc (τ := Cert.EmbedWeightReferenceIdeal.τ) (Cert.EmbedWeightReferenceIdeal.main (F := Ideal))) ⟨m', fun _ => 0, g'⟩ (fun r => ∀ c : Dev Cert.EmbedWeightReferenceIdeal.nD,
          r.2.mem ((c.tc : Thread Cert.EmbedWeightReferenceIdeal.nD Cert.EmbedWeightReferenceIdeal.τ).loc Cert.EmbedWeightReferenceIdeal.main_v13) = v0 c
          ∧ r.2.mem ((c.tc : Thread Cert.EmbedWeightReferenceIdeal.nD Cert.EmbedWeightReferenceIdeal.τ).loc Cert.EmbedWeightReferenceIdeal.main_arg0) = m' ((c.tc : Thread Cert.EmbedWeightReferenceIdeal.nD Cert.EmbedWeightReferenceIdeal.τ).loc Cert.EmbedWeightReferenceIdeal.main_arg0)
          ∧ r.2.mem ((c.tc : Thread Cert.EmbedWeightReferenceIdeal.nD Cert.EmbedWeightReferenceIdeal.τ).loc Cert.EmbedWeightReferenceIdeal.main_arg1) = m' ((c.tc : Thread Cert.EmbedWeightReferenceIdeal.nD Cert.EmbedWeightReferenceIdeal.τ).loc Cert.EmbedWeightReferenceIdeal.main_arg1)
          ∧ r.2.mem ((c.tc : Thread Cert.EmbedWeightReferenceIdeal.nD Cert.EmbedWeightReferenceIdeal.τ).loc Cert.EmbedWeightReferenceIdeal.main_arg2) = m' ((c.tc : Thread Cert.EmbedWeightReferenceIdeal.nD Cert.EmbedWeightReferenceIdeal.τ).loc Cert.EmbedWeightReferenceIdeal.main_arg2))

def preserves_MixWeight_MixWeightIdeal : Prop :=
  True

def algebraic_MixWeightIdeal_MixWeightReferenceIdeal [hMixWeightIdeal : Cert.MixWeightIdeal.Facts] [hMixWeightReferenceIdeal : Cert.MixWeightReferenceIdeal.Facts] : Prop :=
  ∀ (m : (ℓ : Loc Cert.MixWeightIdeal.nD Cert.MixWeightIdeal.τ Cert.MixWeightIdeal.sig) → Buf (Elt Ideal) ℓ) (g : Dev Cert.MixWeightIdeal.nD → PrngReg)
    (m' : (ℓ : Loc Cert.MixWeightReferenceIdeal.nD Cert.MixWeightReferenceIdeal.τ Cert.MixWeightReferenceIdeal.sig) → Buf (Elt Ideal) ℓ) (g' : Dev Cert.MixWeightReferenceIdeal.nD → PrngReg), Pre_MixWeightIdeal m →
    (∀ c : Dev Cert.MixWeightIdeal.nD,
      m' ((c.tc : Thread Cert.MixWeightReferenceIdeal.nD Cert.MixWeightReferenceIdeal.τ).loc Cert.MixWeightReferenceIdeal.main_arg0) = m ((c.tc : Thread Cert.MixWeightIdeal.nD Cert.MixWeightIdeal.τ).loc Cert.MixWeightIdeal.main_arg0)
      ∧ m' ((c.tc : Thread Cert.MixWeightReferenceIdeal.nD Cert.MixWeightReferenceIdeal.τ).loc Cert.MixWeightReferenceIdeal.main_arg1) = m ((c.tc : Thread Cert.MixWeightIdeal.nD Cert.MixWeightIdeal.τ).loc Cert.MixWeightIdeal.main_arg1)
      ∧ m' ((c.tc : Thread Cert.MixWeightReferenceIdeal.nD Cert.MixWeightReferenceIdeal.τ).loc Cert.MixWeightReferenceIdeal.main_arg2) = m ((c.tc : Thread Cert.MixWeightIdeal.nD Cert.MixWeightIdeal.τ).loc Cert.MixWeightIdeal.main_arg2)
      ∧ m' ((c.tc : Thread Cert.MixWeightReferenceIdeal.nD Cert.MixWeightReferenceIdeal.τ).loc Cert.MixWeightReferenceIdeal.main_arg3) = m ((c.tc : Thread Cert.MixWeightIdeal.nD Cert.MixWeightIdeal.τ).loc Cert.MixWeightIdeal.main_arg3)) →
    ∃ (v0 : (c : Dev Cert.MixWeightIdeal.nD) → Buf (Elt Ideal) ((c.tc : Thread Cert.MixWeightIdeal.nD Cert.MixWeightIdeal.τ).loc Cert.MixWeightIdeal.main_v19)),
      θ_run (Cert.MixWeightIdeal.defs (F := Ideal)) (onTc (τ := Cert.MixWeightIdeal.τ) (Cert.MixWeightIdeal.main (F := Ideal))) ⟨m, fun _ => 0, g⟩ (fun r => ∀ c : Dev Cert.MixWeightIdeal.nD,
          r.2.mem ((c.tc : Thread Cert.MixWeightIdeal.nD Cert.MixWeightIdeal.τ).loc Cert.MixWeightIdeal.main_v19) = v0 c
          ∧ r.2.mem ((c.tc : Thread Cert.MixWeightIdeal.nD Cert.MixWeightIdeal.τ).loc Cert.MixWeightIdeal.main_arg0) = m ((c.tc : Thread Cert.MixWeightIdeal.nD Cert.MixWeightIdeal.τ).loc Cert.MixWeightIdeal.main_arg0)
          ∧ r.2.mem ((c.tc : Thread Cert.MixWeightIdeal.nD Cert.MixWeightIdeal.τ).loc Cert.MixWeightIdeal.main_arg1) = m ((c.tc : Thread Cert.MixWeightIdeal.nD Cert.MixWeightIdeal.τ).loc Cert.MixWeightIdeal.main_arg1)
          ∧ r.2.mem ((c.tc : Thread Cert.MixWeightIdeal.nD Cert.MixWeightIdeal.τ).loc Cert.MixWeightIdeal.main_arg2) = m ((c.tc : Thread Cert.MixWeightIdeal.nD Cert.MixWeightIdeal.τ).loc Cert.MixWeightIdeal.main_arg2)
          ∧ r.2.mem ((c.tc : Thread Cert.MixWeightIdeal.nD Cert.MixWeightIdeal.τ).loc Cert.MixWeightIdeal.main_arg3) = m ((c.tc : Thread Cert.MixWeightIdeal.nD Cert.MixWeightIdeal.τ).loc Cert.MixWeightIdeal.main_arg3))
      ∧ θ_run (Cert.MixWeightReferenceIdeal.defs (F := Ideal)) (onTc (τ := Cert.MixWeightReferenceIdeal.τ) (Cert.MixWeightReferenceIdeal.main (F := Ideal))) ⟨m', fun _ => 0, g'⟩ (fun r => ∀ c : Dev Cert.MixWeightReferenceIdeal.nD,
          r.2.mem ((c.tc : Thread Cert.MixWeightReferenceIdeal.nD Cert.MixWeightReferenceIdeal.τ).loc Cert.MixWeightReferenceIdeal.main_v21) = v0 c
          ∧ r.2.mem ((c.tc : Thread Cert.MixWeightReferenceIdeal.nD Cert.MixWeightReferenceIdeal.τ).loc Cert.MixWeightReferenceIdeal.main_arg0) = m' ((c.tc : Thread Cert.MixWeightReferenceIdeal.nD Cert.MixWeightReferenceIdeal.τ).loc Cert.MixWeightReferenceIdeal.main_arg0)
          ∧ r.2.mem ((c.tc : Thread Cert.MixWeightReferenceIdeal.nD Cert.MixWeightReferenceIdeal.τ).loc Cert.MixWeightReferenceIdeal.main_arg1) = m' ((c.tc : Thread Cert.MixWeightReferenceIdeal.nD Cert.MixWeightReferenceIdeal.τ).loc Cert.MixWeightReferenceIdeal.main_arg1)
          ∧ r.2.mem ((c.tc : Thread Cert.MixWeightReferenceIdeal.nD Cert.MixWeightReferenceIdeal.τ).loc Cert.MixWeightReferenceIdeal.main_arg2) = m' ((c.tc : Thread Cert.MixWeightReferenceIdeal.nD Cert.MixWeightReferenceIdeal.τ).loc Cert.MixWeightReferenceIdeal.main_arg2)
          ∧ r.2.mem ((c.tc : Thread Cert.MixWeightReferenceIdeal.nD Cert.MixWeightReferenceIdeal.τ).loc Cert.MixWeightReferenceIdeal.main_arg3) = m' ((c.tc : Thread Cert.MixWeightReferenceIdeal.nD Cert.MixWeightReferenceIdeal.τ).loc Cert.MixWeightReferenceIdeal.main_arg3))

def preserves_UpWeight_UpWeightIdeal : Prop :=
  True

def algebraic_UpWeightIdeal_UpWeightReferenceIdeal [hUpWeightIdeal : Cert.UpWeightIdeal.Facts] [hUpWeightReferenceIdeal : Cert.UpWeightReferenceIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightReferenceIdeal.nD Cert.UpWeightReferenceIdeal.τ Cert.UpWeightReferenceIdeal.sig) → Buf (Elt Ideal) ℓ) (g' : Dev Cert.UpWeightReferenceIdeal.nD → PrngReg), Pre_UpWeightIdeal m →
    (∀ c : Dev Cert.UpWeightIdeal.nD,
      m' ((c.tc : Thread Cert.UpWeightReferenceIdeal.nD Cert.UpWeightReferenceIdeal.τ).loc Cert.UpWeightReferenceIdeal.main_arg0) = m ((c.tc : Thread Cert.UpWeightIdeal.nD Cert.UpWeightIdeal.τ).loc Cert.UpWeightIdeal.main_arg0)
      ∧ m' ((c.tc : Thread Cert.UpWeightReferenceIdeal.nD Cert.UpWeightReferenceIdeal.τ).loc Cert.UpWeightReferenceIdeal.main_arg1) = m ((c.tc : Thread Cert.UpWeightIdeal.nD Cert.UpWeightIdeal.τ).loc Cert.UpWeightIdeal.main_arg1)
      ∧ m' ((c.tc : Thread Cert.UpWeightReferenceIdeal.nD Cert.UpWeightReferenceIdeal.τ).loc Cert.UpWeightReferenceIdeal.main_arg2) = m ((c.tc : Thread Cert.UpWeightIdeal.nD Cert.UpWeightIdeal.τ).loc Cert.UpWeightIdeal.main_arg2)
      ∧ m' ((c.tc : Thread Cert.UpWeightReferenceIdeal.nD Cert.UpWeightReferenceIdeal.τ).loc Cert.UpWeightReferenceIdeal.main_arg3) = m ((c.tc : Thread Cert.UpWeightIdeal.nD Cert.UpWeightIdeal.τ).loc Cert.UpWeightIdeal.main_arg3)) →
    ∃ (v0 : (c : Dev Cert.UpWeightIdeal.nD) → Buf (Elt Ideal) ((c.tc : Thread Cert.UpWeightIdeal.nD Cert.UpWeightIdeal.τ).loc Cert.UpWeightIdeal.main_v11)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v11) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1)
          ∧ r.2.mem ((c.tc : Thread Cert.UpWeightIdeal.nD Cert.UpWeightIdeal.τ).loc Cert.UpWeightIdeal.main_arg2) = m ((c.tc : Thread Cert.UpWeightIdeal.nD Cert.UpWeightIdeal.τ).loc Cert.UpWeightIdeal.main_arg2)
          ∧ r.2.mem ((c.tc : Thread Cert.UpWeightIdeal.nD Cert.UpWeightIdeal.τ).loc Cert.UpWeightIdeal.main_arg3) = m ((c.tc : Thread Cert.UpWeightIdeal.nD Cert.UpWeightIdeal.τ).loc Cert.UpWeightIdeal.main_arg3))
      ∧ θ_run (Cert.UpWeightReferenceIdeal.defs (F := Ideal)) (onTc (τ := Cert.UpWeightReferenceIdeal.τ) (Cert.UpWeightReferenceIdeal.main (F := Ideal))) ⟨m', fun _ => 0, g'⟩ (fun r => ∀ c : Dev Cert.UpWeightReferenceIdeal.nD,
          r.2.mem ((c.tc : Thread Cert.UpWeightReferenceIdeal.nD Cert.UpWeightReferenceIdeal.τ).loc Cert.UpWeightReferenceIdeal.main_v15) = v0 c
          ∧ r.2.mem ((c.tc : Thread Cert.UpWeightReferenceIdeal.nD Cert.UpWeightReferenceIdeal.τ).loc Cert.UpWeightReferenceIdeal.main_arg0) = m' ((c.tc : Thread Cert.UpWeightReferenceIdeal.nD Cert.UpWeightReferenceIdeal.τ).loc Cert.UpWeightReferenceIdeal.main_arg0)
          ∧ r.2.mem ((c.tc : Thread Cert.UpWeightReferenceIdeal.nD Cert.UpWeightReferenceIdeal.τ).loc Cert.UpWeightReferenceIdeal.main_arg1) = m' ((c.tc : Thread Cert.UpWeightReferenceIdeal.nD Cert.UpWeightReferenceIdeal.τ).loc Cert.UpWeightReferenceIdeal.main_arg1)
          ∧ r.2.mem ((c.tc : Thread Cert.UpWeightReferenceIdeal.nD Cert.UpWeightReferenceIdeal.τ).loc Cert.UpWeightReferenceIdeal.main_arg2) = m' ((c.tc : Thread Cert.UpWeightReferenceIdeal.nD Cert.UpWeightReferenceIdeal.τ).loc Cert.UpWeightReferenceIdeal.main_arg2)
          ∧ r.2.mem ((c.tc : Thread Cert.UpWeightReferenceIdeal.nD Cert.UpWeightReferenceIdeal.τ).loc Cert.UpWeightReferenceIdeal.main_arg3) = m' ((c.tc : Thread Cert.UpWeightReferenceIdeal.nD Cert.UpWeightReferenceIdeal.τ).loc Cert.UpWeightReferenceIdeal.main_arg3))

def preserves_InWeight_InWeightIdeal : Prop :=
  True

def algebraic_InWeightIdeal_InWeightReferenceIdeal [hInWeightIdeal : Cert.InWeightIdeal.Facts] [hInWeightReferenceIdeal : Cert.InWeightReferenceIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightIdeal m →
    (∀ c : Dev Cert.InWeightIdeal.nD,
      m' ((c.tc : Thread Cert.InWeightReferenceIdeal.nD Cert.InWeightReferenceIdeal.τ).loc Cert.InWeightReferenceIdeal.main_arg0) = m ((c.tc : Thread Cert.InWeightIdeal.nD Cert.InWeightIdeal.τ).loc Cert.InWeightIdeal.main_arg0)
      ∧ m' ((c.tc : Thread Cert.InWeightReferenceIdeal.nD Cert.InWeightReferenceIdeal.τ).loc Cert.InWeightReferenceIdeal.main_arg1) = m ((c.tc : Thread Cert.InWeightIdeal.nD Cert.InWeightIdeal.τ).loc Cert.InWeightIdeal.main_arg1)
      ∧ m' ((c.tc : Thread Cert.InWeightReferenceIdeal.nD Cert.InWeightReferenceIdeal.τ).loc Cert.InWeightReferenceIdeal.main_arg2) = m ((c.tc : Thread Cert.InWeightIdeal.nD Cert.InWeightIdeal.τ).loc Cert.InWeightIdeal.main_arg2)) →
    ∃ (v0 : (c : Dev Cert.InWeightIdeal.nD) → Buf (Elt Ideal) ((c.tc : Thread Cert.InWeightIdeal.nD Cert.InWeightIdeal.τ).loc Cert.InWeightIdeal.main_v26)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v26) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
          ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v17) = v0 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1)
          ∧ r.2.mem ((c.tc : Thread Cert.InWeightReferenceIdeal.nD Cert.InWeightReferenceIdeal.τ).loc Cert.InWeightReferenceIdeal.main_arg2) = m' ((c.tc : Thread Cert.InWeightReferenceIdeal.nD Cert.InWeightReferenceIdeal.τ).loc Cert.InWeightReferenceIdeal.main_arg2))

def preserves_FfIn_FfInIdeal : Prop :=
  True

def algebraic_FfInIdeal_FfInReferenceIdeal [hFfInIdeal : Cert.FfInIdeal.Facts] [hFfInReferenceIdeal : Cert.FfInReferenceIdeal.Facts] : Prop :=
  ∀ (m : (ℓ : Loc Cert.FfInIdeal.nD Cert.FfInIdeal.τ Cert.FfInIdeal.sig) → Buf (Elt Ideal) ℓ) (g : Dev Cert.FfInIdeal.nD → PrngReg)
    (m' : (ℓ : Loc Cert.FfInReferenceIdeal.nD Cert.FfInReferenceIdeal.τ Cert.FfInReferenceIdeal.sig) → Buf (Elt Ideal) ℓ) (g' : Dev Cert.FfInReferenceIdeal.nD → PrngReg), Pre_FfInIdeal m →
    (∀ c : Dev Cert.FfInIdeal.nD,
      m' ((c.tc : Thread Cert.FfInReferenceIdeal.nD Cert.FfInReferenceIdeal.τ).loc Cert.FfInReferenceIdeal.main_arg0) = m ((c.tc : Thread Cert.FfInIdeal.nD Cert.FfInIdeal.τ).loc Cert.FfInIdeal.main_arg0)
      ∧ m' ((c.tc : Thread Cert.FfInReferenceIdeal.nD Cert.FfInReferenceIdeal.τ).loc Cert.FfInReferenceIdeal.main_arg1) = m ((c.tc : Thread Cert.FfInIdeal.nD Cert.FfInIdeal.τ).loc Cert.FfInIdeal.main_arg1)
      ∧ m' ((c.tc : Thread Cert.FfInReferenceIdeal.nD Cert.FfInReferenceIdeal.τ).loc Cert.FfInReferenceIdeal.main_arg2) = m ((c.tc : Thread Cert.FfInIdeal.nD Cert.FfInIdeal.τ).loc Cert.FfInIdeal.main_arg2)
      ∧ m' ((c.tc : Thread Cert.FfInReferenceIdeal.nD Cert.FfInReferenceIdeal.τ).loc Cert.FfInReferenceIdeal.main_arg3) = m ((c.tc : Thread Cert.FfInIdeal.nD Cert.FfInIdeal.τ).loc Cert.FfInIdeal.main_arg3)
      ∧ m' ((c.tc : Thread Cert.FfInReferenceIdeal.nD Cert.FfInReferenceIdeal.τ).loc Cert.FfInReferenceIdeal.main_arg4) = m ((c.tc : Thread Cert.FfInIdeal.nD Cert.FfInIdeal.τ).loc Cert.FfInIdeal.main_arg4)) →
    ∃ (v0 : (c : Dev Cert.FfInIdeal.nD) → Buf (Elt Ideal) ((c.tc : Thread Cert.FfInIdeal.nD Cert.FfInIdeal.τ).loc Cert.FfInIdeal.main_v25_0)) (v1 : (c : Dev Cert.FfInIdeal.nD) → Buf (Elt Ideal) ((c.tc : Thread Cert.FfInIdeal.nD Cert.FfInIdeal.τ).loc Cert.FfInIdeal.main_v25_1)) (v2 : (c : Dev Cert.FfInIdeal.nD) → Buf (Elt Ideal) ((c.tc : Thread Cert.FfInIdeal.nD Cert.FfInIdeal.τ).loc Cert.FfInIdeal.main_v25_2)),
      θ_run (Cert.FfInIdeal.defs (F := Ideal)) (onTc (τ := Cert.FfInIdeal.τ) (Cert.FfInIdeal.main (F := Ideal))) ⟨m, fun _ => 0, g⟩ (fun r => ∀ c : Dev Cert.FfInIdeal.nD,
          r.2.mem ((c.tc : Thread Cert.FfInIdeal.nD Cert.FfInIdeal.τ).loc Cert.FfInIdeal.main_v25_0) = v0 c
          ∧ r.2.mem ((c.tc : Thread Cert.FfInIdeal.nD Cert.FfInIdeal.τ).loc Cert.FfInIdeal.main_v25_1) = v1 c
          ∧ r.2.mem ((c.tc : Thread Cert.FfInIdeal.nD Cert.FfInIdeal.τ).loc Cert.FfInIdeal.main_v25_2) = v2 c
          ∧ r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
          ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1)
          ∧ r.2.mem ((c.tc : Thread Cert.FfInIdeal.nD Cert.FfInIdeal.τ).loc Cert.FfInIdeal.main_arg2) = m ((c.tc : Thread Cert.FfInIdeal.nD Cert.FfInIdeal.τ).loc Cert.FfInIdeal.main_arg2)
          ∧ r.2.mem ((c.tc : Thread Cert.FfInIdeal.nD Cert.FfInIdeal.τ).loc Cert.FfInIdeal.main_arg3) = m ((c.tc : Thread Cert.FfInIdeal.nD Cert.FfInIdeal.τ).loc Cert.FfInIdeal.main_arg3)
          ∧ r.2.mem ((c.tc : Thread Cert.FfInIdeal.nD Cert.FfInIdeal.τ).loc Cert.FfInIdeal.main_arg4) = m ((c.tc : Thread Cert.FfInIdeal.nD Cert.FfInIdeal.τ).loc Cert.FfInIdeal.main_arg4))
      ∧ θ_run (Cert.FfInReferenceIdeal.defs (F := Ideal)) (onTc (τ := Cert.FfInReferenceIdeal.τ) (Cert.FfInReferenceIdeal.main (F := Ideal))) ⟨m', fun _ => 0, g'⟩ (fun r => ∀ c : Dev Cert.FfInReferenceIdeal.nD,
          r.2.mem ((c.tc : Thread Cert.FfInReferenceIdeal.nD Cert.FfInReferenceIdeal.τ).loc Cert.FfInReferenceIdeal.main_v52) = v0 c
          ∧ r.2.mem ((c.tc : Thread Cert.FfInReferenceIdeal.nD Cert.FfInReferenceIdeal.τ).loc Cert.FfInReferenceIdeal.main_v53) = v1 c
          ∧ r.2.mem ((c.tc : Thread Cert.FfInReferenceIdeal.nD Cert.FfInReferenceIdeal.τ).loc Cert.FfInReferenceIdeal.main_v54) = v2 c
          ∧ r.2.mem ((c.tc : Thread Cert.FfInReferenceIdeal.nD Cert.FfInReferenceIdeal.τ).loc Cert.FfInReferenceIdeal.main_arg0) = m' ((c.tc : Thread Cert.FfInReferenceIdeal.nD Cert.FfInReferenceIdeal.τ).loc Cert.FfInReferenceIdeal.main_arg0)
          ∧ r.2.mem ((c.tc : Thread Cert.FfInReferenceIdeal.nD Cert.FfInReferenceIdeal.τ).loc Cert.FfInReferenceIdeal.main_arg1) = m' ((c.tc : Thread Cert.FfInReferenceIdeal.nD Cert.FfInReferenceIdeal.τ).loc Cert.FfInReferenceIdeal.main_arg1)
          ∧ r.2.mem ((c.tc : Thread Cert.FfInReferenceIdeal.nD Cert.FfInReferenceIdeal.τ).loc Cert.FfInReferenceIdeal.main_arg2) = m' ((c.tc : Thread Cert.FfInReferenceIdeal.nD Cert.FfInReferenceIdeal.τ).loc Cert.FfInReferenceIdeal.main_arg2)
          ∧ r.2.mem ((c.tc : Thread Cert.FfInReferenceIdeal.nD Cert.FfInReferenceIdeal.τ).loc Cert.FfInReferenceIdeal.main_arg3) = m' ((c.tc : Thread Cert.FfInReferenceIdeal.nD Cert.FfInReferenceIdeal.τ).loc Cert.FfInReferenceIdeal.main_arg3)
          ∧ r.2.mem ((c.tc : Thread Cert.FfInReferenceIdeal.nD Cert.FfInReferenceIdeal.τ).loc Cert.FfInReferenceIdeal.main_arg4) = m' ((c.tc : Thread Cert.FfInReferenceIdeal.nD Cert.FfInReferenceIdeal.τ).loc Cert.FfInReferenceIdeal.main_arg4))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v16_0)) (v1 : (c : Dev Cert.GateIdeal.nD) → Buf (Elt Ideal) ((c.tc : Thread Cert.GateIdeal.nD Cert.GateIdeal.τ).loc Cert.GateIdeal.main_v16_1)) (v2 : (c : Dev Cert.GateIdeal.nD) → Buf (Elt Ideal) ((c.tc : Thread Cert.GateIdeal.nD Cert.GateIdeal.τ).loc Cert.GateIdeal.main_v16_2)) (v3 : (c : Dev Cert.GateIdeal.nD) → Buf (Elt Ideal) ((c.tc : Thread Cert.GateIdeal.nD Cert.GateIdeal.τ).loc Cert.GateIdeal.main_v16_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v16_0) = v0 c
          ∧ r.2.mem ((c.tc : Thread Cert.GateIdeal.nD Cert.GateIdeal.τ).loc Cert.GateIdeal.main_v16_1) = v1 c
          ∧ r.2.mem ((c.tc : Thread Cert.GateIdeal.nD Cert.GateIdeal.τ).loc Cert.GateIdeal.main_v16_2) = v2 c
          ∧ r.2.mem ((c.tc : Thread Cert.GateIdeal.nD Cert.GateIdeal.τ).loc Cert.GateIdeal.main_v16_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v81) = v0 c
          ∧ r.2.mem ((c.tc : Thread Cert.GateReferenceIdeal.nD Cert.GateReferenceIdeal.τ).loc Cert.GateReferenceIdeal.main_v82) = v1 c
          ∧ r.2.mem ((c.tc : Thread Cert.GateReferenceIdeal.nD Cert.GateReferenceIdeal.τ).loc Cert.GateReferenceIdeal.main_v80) = v2 c
          ∧ r.2.mem ((c.tc : Thread Cert.GateReferenceIdeal.nD Cert.GateReferenceIdeal.τ).loc Cert.GateReferenceIdeal.main_v83) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v50) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_InForward_InForwardIdeal : Prop :=
  True

def algebraic_InForwardIdeal_InForwardReferenceIdeal [hInForwardIdeal : Cert.InForwardIdeal.Facts] [hInForwardReferenceIdeal : Cert.InForwardReferenceIdeal.Facts] : Prop :=
  ∀ (m : (ℓ : Loc Cert.InForwardIdeal.nD Cert.InForwardIdeal.τ Cert.InForwardIdeal.sig) → Buf (Elt Ideal) ℓ) (g : Dev Cert.InForwardIdeal.nD → PrngReg)
    (m' : (ℓ : Loc Cert.InForwardReferenceIdeal.nD Cert.InForwardReferenceIdeal.τ Cert.InForwardReferenceIdeal.sig) → Buf (Elt Ideal) ℓ) (g' : Dev Cert.InForwardReferenceIdeal.nD → PrngReg), Pre_InForwardIdeal m →
    (∀ c : Dev Cert.InForwardIdeal.nD,
      m' ((c.tc : Thread Cert.InForwardReferenceIdeal.nD Cert.InForwardReferenceIdeal.τ).loc Cert.InForwardReferenceIdeal.main_arg0) = m ((c.tc : Thread Cert.InForwardIdeal.nD Cert.InForwardIdeal.τ).loc Cert.InForwardIdeal.main_arg0)
      ∧ m' ((c.tc : Thread Cert.InForwardReferenceIdeal.nD Cert.InForwardReferenceIdeal.τ).loc Cert.InForwardReferenceIdeal.main_arg1) = m ((c.tc : Thread Cert.InForwardIdeal.nD Cert.InForwardIdeal.τ).loc Cert.InForwardIdeal.main_arg1)
      ∧ m' ((c.tc : Thread Cert.InForwardReferenceIdeal.nD Cert.InForwardReferenceIdeal.τ).loc Cert.InForwardReferenceIdeal.main_arg2) = m ((c.tc : Thread Cert.InForwardIdeal.nD Cert.InForwardIdeal.τ).loc Cert.InForwardIdeal.main_arg2)) →
    ∃ (v0 : (c : Dev Cert.InForwardIdeal.nD) → Buf (Elt Ideal) ((c.tc : Thread Cert.InForwardIdeal.nD Cert.InForwardIdeal.τ).loc Cert.InForwardIdeal.main_v3_0)) (v1 : (c : Dev Cert.InForwardIdeal.nD) → Buf (Elt Ideal) ((c.tc : Thread Cert.InForwardIdeal.nD Cert.InForwardIdeal.τ).loc Cert.InForwardIdeal.main_v3_1)) (v2 : (c : Dev Cert.InForwardIdeal.nD) → Buf (Elt Ideal) ((c.tc : Thread Cert.InForwardIdeal.nD Cert.InForwardIdeal.τ).loc Cert.InForwardIdeal.main_v3_2)),
      θ_run (Cert.InForwardIdeal.defs (F := Ideal)) (onTc (τ := Cert.InForwardIdeal.τ) (Cert.InForwardIdeal.main (F := Ideal))) ⟨m, fun _ => 0, g⟩ (fun r => ∀ c : Dev Cert.InForwardIdeal.nD,
          r.2.mem ((c.tc : Thread Cert.InForwardIdeal.nD Cert.InForwardIdeal.τ).loc Cert.InForwardIdeal.main_v3_0) = v0 c
          ∧ r.2.mem ((c.tc : Thread Cert.InForwardIdeal.nD Cert.InForwardIdeal.τ).loc Cert.InForwardIdeal.main_v3_1) = v1 c
          ∧ r.2.mem ((c.tc : Thread Cert.InForwardIdeal.nD Cert.InForwardIdeal.τ).loc Cert.InForwardIdeal.main_v3_2) = v2 c
          ∧ r.2.mem ((c.tc : Thread Cert.InForwardIdeal.nD Cert.InForwardIdeal.τ).loc Cert.InForwardIdeal.main_arg0) = m ((c.tc : Thread Cert.InForwardIdeal.nD Cert.InForwardIdeal.τ).loc Cert.InForwardIdeal.main_arg0)
          ∧ r.2.mem ((c.tc : Thread Cert.InForwardIdeal.nD Cert.InForwardIdeal.τ).loc Cert.InForwardIdeal.main_arg1) = m ((c.tc : Thread Cert.InForwardIdeal.nD Cert.InForwardIdeal.τ).loc Cert.InForwardIdeal.main_arg1)
          ∧ r.2.mem ((c.tc : Thread Cert.InForwardIdeal.nD Cert.InForwardIdeal.τ).loc Cert.InForwardIdeal.main_arg2) = m ((c.tc : Thread Cert.InForwardIdeal.nD Cert.InForwardIdeal.τ).loc Cert.InForwardIdeal.main_arg2))
      ∧ θ_run (Cert.InForwardReferenceIdeal.defs (F := Ideal)) (onTc (τ := Cert.InForwardReferenceIdeal.τ) (Cert.InForwardReferenceIdeal.main (F := Ideal))) ⟨m', fun _ => 0, g'⟩ (fun r => ∀ c : Dev Cert.InForwardReferenceIdeal.nD,
          r.2.mem ((c.tc : Thread Cert.InForwardReferenceIdeal.nD Cert.InForwardReferenceIdeal.τ).loc Cert.InForwardReferenceIdeal.main_v14) = v0 c
          ∧ r.2.mem ((c.tc : Thread Cert.InForwardReferenceIdeal.nD Cert.InForwardReferenceIdeal.τ).loc Cert.InForwardReferenceIdeal.main_v16) = v1 c
          ∧ r.2.mem ((c.tc : Thread Cert.InForwardReferenceIdeal.nD Cert.InForwardReferenceIdeal.τ).loc Cert.InForwardReferenceIdeal.main_v17) = v2 c
          ∧ r.2.mem ((c.tc : Thread Cert.InForwardReferenceIdeal.nD Cert.InForwardReferenceIdeal.τ).loc Cert.InForwardReferenceIdeal.main_arg0) = m' ((c.tc : Thread Cert.InForwardReferenceIdeal.nD Cert.InForwardReferenceIdeal.τ).loc Cert.InForwardReferenceIdeal.main_arg0)
          ∧ r.2.mem ((c.tc : Thread Cert.InForwardReferenceIdeal.nD Cert.InForwardReferenceIdeal.τ).loc Cert.InForwardReferenceIdeal.main_arg1) = m' ((c.tc : Thread Cert.InForwardReferenceIdeal.nD Cert.InForwardReferenceIdeal.τ).loc Cert.InForwardReferenceIdeal.main_arg1)
          ∧ r.2.mem ((c.tc : Thread Cert.InForwardReferenceIdeal.nD Cert.InForwardReferenceIdeal.τ).loc Cert.InForwardReferenceIdeal.main_arg2) = m' ((c.tc : Thread Cert.InForwardReferenceIdeal.nD Cert.InForwardReferenceIdeal.τ).loc Cert.InForwardReferenceIdeal.main_arg2))

def preserves_MixForward_MixForwardIdeal : Prop :=
  True

def algebraic_MixForwardIdeal_MixForwardReferenceIdeal [hMixForwardIdeal : Cert.MixForwardIdeal.Facts] [hMixForwardReferenceIdeal : Cert.MixForwardReferenceIdeal.Facts] : Prop :=
  ∀ (m : (ℓ : Loc Cert.MixForwardIdeal.nD Cert.MixForwardIdeal.τ Cert.MixForwardIdeal.sig) → Buf (Elt Ideal) ℓ) (g : Dev Cert.MixForwardIdeal.nD → PrngReg)
    (m' : (ℓ : Loc Cert.MixForwardReferenceIdeal.nD Cert.MixForwardReferenceIdeal.τ Cert.MixForwardReferenceIdeal.sig) → Buf (Elt Ideal) ℓ) (g' : Dev Cert.MixForwardReferenceIdeal.nD → PrngReg), Pre_MixForwardIdeal m →
    (∀ c : Dev Cert.MixForwardIdeal.nD,
      m' ((c.tc : Thread Cert.MixForwardReferenceIdeal.nD Cert.MixForwardReferenceIdeal.τ).loc Cert.MixForwardReferenceIdeal.main_arg0) = m ((c.tc : Thread Cert.MixForwardIdeal.nD Cert.MixForwardIdeal.τ).loc Cert.MixForwardIdeal.main_arg0)
      ∧ m' ((c.tc : Thread Cert.MixForwardReferenceIdeal.nD Cert.MixForwardReferenceIdeal.τ).loc Cert.MixForwardReferenceIdeal.main_arg1) = m ((c.tc : Thread Cert.MixForwardIdeal.nD Cert.MixForwardIdeal.τ).loc Cert.MixForwardIdeal.main_arg1)
      ∧ m' ((c.tc : Thread Cert.MixForwardReferenceIdeal.nD Cert.MixForwardReferenceIdeal.τ).loc Cert.MixForwardReferenceIdeal.main_arg2) = m ((c.tc : Thread Cert.MixForwardIdeal.nD Cert.MixForwardIdeal.τ).loc Cert.MixForwardIdeal.main_arg2)
      ∧ m' ((c.tc : Thread Cert.MixForwardReferenceIdeal.nD Cert.MixForwardReferenceIdeal.τ).loc Cert.MixForwardReferenceIdeal.main_arg3) = m ((c.tc : Thread Cert.MixForwardIdeal.nD Cert.MixForwardIdeal.τ).loc Cert.MixForwardIdeal.main_arg3)
      ∧ m' ((c.tc : Thread Cert.MixForwardReferenceIdeal.nD Cert.MixForwardReferenceIdeal.τ).loc Cert.MixForwardReferenceIdeal.main_arg4) = m ((c.tc : Thread Cert.MixForwardIdeal.nD Cert.MixForwardIdeal.τ).loc Cert.MixForwardIdeal.main_arg4)
      ∧ m' ((c.tc : Thread Cert.MixForwardReferenceIdeal.nD Cert.MixForwardReferenceIdeal.τ).loc Cert.MixForwardReferenceIdeal.main_arg5) = m ((c.tc : Thread Cert.MixForwardIdeal.nD Cert.MixForwardIdeal.τ).loc Cert.MixForwardIdeal.main_arg5)
      ∧ m' ((c.tc : Thread Cert.MixForwardReferenceIdeal.nD Cert.MixForwardReferenceIdeal.τ).loc Cert.MixForwardReferenceIdeal.main_arg6) = m ((c.tc : Thread Cert.MixForwardIdeal.nD Cert.MixForwardIdeal.τ).loc Cert.MixForwardIdeal.main_arg6)) →
    ∃ (v0 : (c : Dev Cert.MixForwardIdeal.nD) → Buf (Elt Ideal) ((c.tc : Thread Cert.MixForwardIdeal.nD Cert.MixForwardIdeal.τ).loc Cert.MixForwardIdeal.main_v9_0)) (v1 : (c : Dev Cert.MixForwardIdeal.nD) → Buf (Elt Ideal) ((c.tc : Thread Cert.MixForwardIdeal.nD Cert.MixForwardIdeal.τ).loc Cert.MixForwardIdeal.main_v9_1)),
      θ_run (Cert.MixForwardIdeal.defs (F := Ideal)) (onTc (τ := Cert.MixForwardIdeal.τ) (Cert.MixForwardIdeal.main (F := Ideal))) ⟨m, fun _ => 0, g⟩ (fun r => ∀ c : Dev Cert.MixForwardIdeal.nD,
          r.2.mem ((c.tc : Thread Cert.MixForwardIdeal.nD Cert.MixForwardIdeal.τ).loc Cert.MixForwardIdeal.main_v9_0) = v0 c
          ∧ r.2.mem ((c.tc : Thread Cert.MixForwardIdeal.nD Cert.MixForwardIdeal.τ).loc Cert.MixForwardIdeal.main_v9_1) = v1 c
          ∧ r.2.mem ((c.tc : Thread Cert.MixForwardIdeal.nD Cert.MixForwardIdeal.τ).loc Cert.MixForwardIdeal.main_arg0) = m ((c.tc : Thread Cert.MixForwardIdeal.nD Cert.MixForwardIdeal.τ).loc Cert.MixForwardIdeal.main_arg0)
          ∧ r.2.mem ((c.tc : Thread Cert.MixForwardIdeal.nD Cert.MixForwardIdeal.τ).loc Cert.MixForwardIdeal.main_arg1) = m ((c.tc : Thread Cert.MixForwardIdeal.nD Cert.MixForwardIdeal.τ).loc Cert.MixForwardIdeal.main_arg1)
          ∧ r.2.mem ((c.tc : Thread Cert.MixForwardIdeal.nD Cert.MixForwardIdeal.τ).loc Cert.MixForwardIdeal.main_arg2) = m ((c.tc : Thread Cert.MixForwardIdeal.nD Cert.MixForwardIdeal.τ).loc Cert.MixForwardIdeal.main_arg2)
          ∧ r.2.mem ((c.tc : Thread Cert.MixForwardIdeal.nD Cert.MixForwardIdeal.τ).loc Cert.MixForwardIdeal.main_arg3) = m ((c.tc : Thread Cert.MixForwardIdeal.nD Cert.MixForwardIdeal.τ).loc Cert.MixForwardIdeal.main_arg3)
          ∧ r.2.mem ((c.tc : Thread Cert.MixForwardIdeal.nD Cert.MixForwardIdeal.τ).loc Cert.MixForwardIdeal.main_arg4) = m ((c.tc : Thread Cert.MixForwardIdeal.nD Cert.MixForwardIdeal.τ).loc Cert.MixForwardIdeal.main_arg4)
          ∧ r.2.mem ((c.tc : Thread Cert.MixForwardIdeal.nD Cert.MixForwardIdeal.τ).loc Cert.MixForwardIdeal.main_arg5) = m ((c.tc : Thread Cert.MixForwardIdeal.nD Cert.MixForwardIdeal.τ).loc Cert.MixForwardIdeal.main_arg5)
          ∧ r.2.mem ((c.tc : Thread Cert.MixForwardIdeal.nD Cert.MixForwardIdeal.τ).loc Cert.MixForwardIdeal.main_arg6) = m ((c.tc : Thread Cert.MixForwardIdeal.nD Cert.MixForwardIdeal.τ).loc Cert.MixForwardIdeal.main_arg6))
      ∧ θ_run (Cert.MixForwardReferenceIdeal.defs (F := Ideal)) (onTc (τ := Cert.MixForwardReferenceIdeal.τ) (Cert.MixForwardReferenceIdeal.main (F := Ideal))) ⟨m', fun _ => 0, g'⟩ (fun r => ∀ c : Dev Cert.MixForwardReferenceIdeal.nD,
          r.2.mem ((c.tc : Thread Cert.MixForwardReferenceIdeal.nD Cert.MixForwardReferenceIdeal.τ).loc Cert.MixForwardReferenceIdeal.main_v19) = v0 c
          ∧ r.2.mem ((c.tc : Thread Cert.MixForwardReferenceIdeal.nD Cert.MixForwardReferenceIdeal.τ).loc Cert.MixForwardReferenceIdeal.main_v21) = v1 c
          ∧ r.2.mem ((c.tc : Thread Cert.MixForwardReferenceIdeal.nD Cert.MixForwardReferenceIdeal.τ).loc Cert.MixForwardReferenceIdeal.main_arg0) = m' ((c.tc : Thread Cert.MixForwardReferenceIdeal.nD Cert.MixForwardReferenceIdeal.τ).loc Cert.MixForwardReferenceIdeal.main_arg0)
          ∧ r.2.mem ((c.tc : Thread Cert.MixForwardReferenceIdeal.nD Cert.MixForwardReferenceIdeal.τ).loc Cert.MixForwardReferenceIdeal.main_arg1) = m' ((c.tc : Thread Cert.MixForwardReferenceIdeal.nD Cert.MixForwardReferenceIdeal.τ).loc Cert.MixForwardReferenceIdeal.main_arg1)
          ∧ r.2.mem ((c.tc : Thread Cert.MixForwardReferenceIdeal.nD Cert.MixForwardReferenceIdeal.τ).loc Cert.MixForwardReferenceIdeal.main_arg2) = m' ((c.tc : Thread Cert.MixForwardReferenceIdeal.nD Cert.MixForwardReferenceIdeal.τ).loc Cert.MixForwardReferenceIdeal.main_arg2)
          ∧ r.2.mem ((c.tc : Thread Cert.MixForwardReferenceIdeal.nD Cert.MixForwardReferenceIdeal.τ).loc Cert.MixForwardReferenceIdeal.main_arg3) = m' ((c.tc : Thread Cert.MixForwardReferenceIdeal.nD Cert.MixForwardReferenceIdeal.τ).loc Cert.MixForwardReferenceIdeal.main_arg3)
          ∧ r.2.mem ((c.tc : Thread Cert.MixForwardReferenceIdeal.nD Cert.MixForwardReferenceIdeal.τ).loc Cert.MixForwardReferenceIdeal.main_arg4) = m' ((c.tc : Thread Cert.MixForwardReferenceIdeal.nD Cert.MixForwardReferenceIdeal.τ).loc Cert.MixForwardReferenceIdeal.main_arg4)
          ∧ r.2.mem ((c.tc : Thread Cert.MixForwardReferenceIdeal.nD Cert.MixForwardReferenceIdeal.τ).loc Cert.MixForwardReferenceIdeal.main_arg5) = m' ((c.tc : Thread Cert.MixForwardReferenceIdeal.nD Cert.MixForwardReferenceIdeal.τ).loc Cert.MixForwardReferenceIdeal.main_arg5)
          ∧ r.2.mem ((c.tc : Thread Cert.MixForwardReferenceIdeal.nD Cert.MixForwardReferenceIdeal.τ).loc Cert.MixForwardReferenceIdeal.main_arg6) = m' ((c.tc : Thread Cert.MixForwardReferenceIdeal.nD Cert.MixForwardReferenceIdeal.τ).loc Cert.MixForwardReferenceIdeal.main_arg6))

def preserves_FfInForward_FfInForwardIdeal : Prop :=
  True

def algebraic_FfInForwardIdeal_FfInForwardReferenceIdeal [hFfInForwardIdeal : Cert.FfInForwardIdeal.Facts] [hFfInForwardReferenceIdeal : Cert.FfInForwardReferenceIdeal.Facts] : Prop :=
  ∀ (m : (ℓ : Loc Cert.FfInForwardIdeal.nD Cert.FfInForwardIdeal.τ Cert.FfInForwardIdeal.sig) → Buf (Elt Ideal) ℓ) (g : Dev Cert.FfInForwardIdeal.nD → PrngReg)
    (m' : (ℓ : Loc Cert.FfInForwardReferenceIdeal.nD Cert.FfInForwardReferenceIdeal.τ Cert.FfInForwardReferenceIdeal.sig) → Buf (Elt Ideal) ℓ) (g' : Dev Cert.FfInForwardReferenceIdeal.nD → PrngReg), Pre_FfInForwardIdeal m →
    (∀ c : Dev Cert.FfInForwardIdeal.nD,
      m' ((c.tc : Thread Cert.FfInForwardReferenceIdeal.nD Cert.FfInForwardReferenceIdeal.τ).loc Cert.FfInForwardReferenceIdeal.main_arg0) = m ((c.tc : Thread Cert.FfInForwardIdeal.nD Cert.FfInForwardIdeal.τ).loc Cert.FfInForwardIdeal.main_arg0)
      ∧ m' ((c.tc : Thread Cert.FfInForwardReferenceIdeal.nD Cert.FfInForwardReferenceIdeal.τ).loc Cert.FfInForwardReferenceIdeal.main_arg1) = m ((c.tc : Thread Cert.FfInForwardIdeal.nD Cert.FfInForwardIdeal.τ).loc Cert.FfInForwardIdeal.main_arg1)
      ∧ m' ((c.tc : Thread Cert.FfInForwardReferenceIdeal.nD Cert.FfInForwardReferenceIdeal.τ).loc Cert.FfInForwardReferenceIdeal.main_arg2) = m ((c.tc : Thread Cert.FfInForwardIdeal.nD Cert.FfInForwardIdeal.τ).loc Cert.FfInForwardIdeal.main_arg2)) →
    ∃ (v0 : (c : Dev Cert.FfInForwardIdeal.nD) → Buf (Elt Ideal) ((c.tc : Thread Cert.FfInForwardIdeal.nD Cert.FfInForwardIdeal.τ).loc Cert.FfInForwardIdeal.main_v4_0)) (v1 : (c : Dev Cert.FfInForwardIdeal.nD) → Buf (Elt Ideal) ((c.tc : Thread Cert.FfInForwardIdeal.nD Cert.FfInForwardIdeal.τ).loc Cert.FfInForwardIdeal.main_v4_1)) (v2 : (c : Dev Cert.FfInForwardIdeal.nD) → Buf (Elt Ideal) ((c.tc : Thread Cert.FfInForwardIdeal.nD Cert.FfInForwardIdeal.τ).loc Cert.FfInForwardIdeal.main_v4_2)),
      θ_run (Cert.FfInForwardIdeal.defs (F := Ideal)) (onTc (τ := Cert.FfInForwardIdeal.τ) (Cert.FfInForwardIdeal.main (F := Ideal))) ⟨m, fun _ => 0, g⟩ (fun r => ∀ c : Dev Cert.FfInForwardIdeal.nD,
          r.2.mem ((c.tc : Thread Cert.FfInForwardIdeal.nD Cert.FfInForwardIdeal.τ).loc Cert.FfInForwardIdeal.main_v4_0) = v0 c
          ∧ r.2.mem ((c.tc : Thread Cert.FfInForwardIdeal.nD Cert.FfInForwardIdeal.τ).loc Cert.FfInForwardIdeal.main_v4_1) = v1 c
          ∧ r.2.mem ((c.tc : Thread Cert.FfInForwardIdeal.nD Cert.FfInForwardIdeal.τ).loc Cert.FfInForwardIdeal.main_v4_2) = v2 c
          ∧ r.2.mem ((c.tc : Thread Cert.FfInForwardIdeal.nD Cert.FfInForwardIdeal.τ).loc Cert.FfInForwardIdeal.main_arg0) = m ((c.tc : Thread Cert.FfInForwardIdeal.nD Cert.FfInForwardIdeal.τ).loc Cert.FfInForwardIdeal.main_arg0)
          ∧ r.2.mem ((c.tc : Thread Cert.FfInForwardIdeal.nD Cert.FfInForwardIdeal.τ).loc Cert.FfInForwardIdeal.main_arg1) = m ((c.tc : Thread Cert.FfInForwardIdeal.nD Cert.FfInForwardIdeal.τ).loc Cert.FfInForwardIdeal.main_arg1)
          ∧ r.2.mem ((c.tc : Thread Cert.FfInForwardIdeal.nD Cert.FfInForwardIdeal.τ).loc Cert.FfInForwardIdeal.main_arg2) = m ((c.tc : Thread Cert.FfInForwardIdeal.nD Cert.FfInForwardIdeal.τ).loc Cert.FfInForwardIdeal.main_arg2))
      ∧ θ_run (Cert.FfInForwardReferenceIdeal.defs (F := Ideal)) (onTc (τ := Cert.FfInForwardReferenceIdeal.τ) (Cert.FfInForwardReferenceIdeal.main (F := Ideal))) ⟨m', fun _ => 0, g'⟩ (fun r => ∀ c : Dev Cert.FfInForwardReferenceIdeal.nD,
          r.2.mem ((c.tc : Thread Cert.FfInForwardReferenceIdeal.nD Cert.FfInForwardReferenceIdeal.τ).loc Cert.FfInForwardReferenceIdeal.main_v15) = v0 c
          ∧ r.2.mem ((c.tc : Thread Cert.FfInForwardReferenceIdeal.nD Cert.FfInForwardReferenceIdeal.τ).loc Cert.FfInForwardReferenceIdeal.main_v16) = v1 c
          ∧ r.2.mem ((c.tc : Thread Cert.FfInForwardReferenceIdeal.nD Cert.FfInForwardReferenceIdeal.τ).loc Cert.FfInForwardReferenceIdeal.main_v18) = v2 c
          ∧ r.2.mem ((c.tc : Thread Cert.FfInForwardReferenceIdeal.nD Cert.FfInForwardReferenceIdeal.τ).loc Cert.FfInForwardReferenceIdeal.main_arg0) = m' ((c.tc : Thread Cert.FfInForwardReferenceIdeal.nD Cert.FfInForwardReferenceIdeal.τ).loc Cert.FfInForwardReferenceIdeal.main_arg0)
          ∧ r.2.mem ((c.tc : Thread Cert.FfInForwardReferenceIdeal.nD Cert.FfInForwardReferenceIdeal.τ).loc Cert.FfInForwardReferenceIdeal.main_arg1) = m' ((c.tc : Thread Cert.FfInForwardReferenceIdeal.nD Cert.FfInForwardReferenceIdeal.τ).loc Cert.FfInForwardReferenceIdeal.main_arg1)
          ∧ r.2.mem ((c.tc : Thread Cert.FfInForwardReferenceIdeal.nD Cert.FfInForwardReferenceIdeal.τ).loc Cert.FfInForwardReferenceIdeal.main_arg2) = m' ((c.tc : Thread Cert.FfInForwardReferenceIdeal.nD Cert.FfInForwardReferenceIdeal.τ).loc Cert.FfInForwardReferenceIdeal.main_arg2))

def preserves_FfOutForward_FfOutForwardIdeal : Prop :=
  True

def algebraic_FfOutForwardIdeal_FfOutForwardReferenceIdeal [hFfOutForwardIdeal : Cert.FfOutForwardIdeal.Facts] [hFfOutForwardReferenceIdeal : Cert.FfOutForwardReferenceIdeal.Facts] : Prop :=
  ∀ (m : (ℓ : Loc Cert.FfOutForwardIdeal.nD Cert.FfOutForwardIdeal.τ Cert.FfOutForwardIdeal.sig) → Buf (Elt Ideal) ℓ) (g : Dev Cert.FfOutForwardIdeal.nD → PrngReg)
    (m' : (ℓ : Loc Cert.FfOutForwardReferenceIdeal.nD Cert.FfOutForwardReferenceIdeal.τ Cert.FfOutForwardReferenceIdeal.sig) → Buf (Elt Ideal) ℓ) (g' : Dev Cert.FfOutForwardReferenceIdeal.nD → PrngReg), Pre_FfOutForwardIdeal m →
    (∀ c : Dev Cert.FfOutForwardIdeal.nD,
      m' ((c.tc : Thread Cert.FfOutForwardReferenceIdeal.nD Cert.FfOutForwardReferenceIdeal.τ).loc Cert.FfOutForwardReferenceIdeal.main_arg0) = m ((c.tc : Thread Cert.FfOutForwardIdeal.nD Cert.FfOutForwardIdeal.τ).loc Cert.FfOutForwardIdeal.main_arg0)
      ∧ m' ((c.tc : Thread Cert.FfOutForwardReferenceIdeal.nD Cert.FfOutForwardReferenceIdeal.τ).loc Cert.FfOutForwardReferenceIdeal.main_arg1) = m ((c.tc : Thread Cert.FfOutForwardIdeal.nD Cert.FfOutForwardIdeal.τ).loc Cert.FfOutForwardIdeal.main_arg1)
      ∧ m' ((c.tc : Thread Cert.FfOutForwardReferenceIdeal.nD Cert.FfOutForwardReferenceIdeal.τ).loc Cert.FfOutForwardReferenceIdeal.main_arg2) = m ((c.tc : Thread Cert.FfOutForwardIdeal.nD Cert.FfOutForwardIdeal.τ).loc Cert.FfOutForwardIdeal.main_arg2)) →
    ∃ (v0 : (c : Dev Cert.FfOutForwardIdeal.nD) → Buf (Elt Ideal) ((c.tc : Thread Cert.FfOutForwardIdeal.nD Cert.FfOutForwardIdeal.τ).loc Cert.FfOutForwardIdeal.main_v4)),
      θ_run (Cert.FfOutForwardIdeal.defs (F := Ideal)) (onTc (τ := Cert.FfOutForwardIdeal.τ) (Cert.FfOutForwardIdeal.main (F := Ideal))) ⟨m, fun _ => 0, g⟩ (fun r => ∀ c : Dev Cert.FfOutForwardIdeal.nD,
          r.2.mem ((c.tc : Thread Cert.FfOutForwardIdeal.nD Cert.FfOutForwardIdeal.τ).loc Cert.FfOutForwardIdeal.main_v4) = v0 c
          ∧ r.2.mem ((c.tc : Thread Cert.FfOutForwardIdeal.nD Cert.FfOutForwardIdeal.τ).loc Cert.FfOutForwardIdeal.main_arg0) = m ((c.tc : Thread Cert.FfOutForwardIdeal.nD Cert.FfOutForwardIdeal.τ).loc Cert.FfOutForwardIdeal.main_arg0)
          ∧ r.2.mem ((c.tc : Thread Cert.FfOutForwardIdeal.nD Cert.FfOutForwardIdeal.τ).loc Cert.FfOutForwardIdeal.main_arg1) = m ((c.tc : Thread Cert.FfOutForwardIdeal.nD Cert.FfOutForwardIdeal.τ).loc Cert.FfOutForwardIdeal.main_arg1)
          ∧ r.2.mem ((c.tc : Thread Cert.FfOutForwardIdeal.nD Cert.FfOutForwardIdeal.τ).loc Cert.FfOutForwardIdeal.main_arg2) = m ((c.tc : Thread Cert.FfOutForwardIdeal.nD Cert.FfOutForwardIdeal.τ).loc Cert.FfOutForwardIdeal.main_arg2))
      ∧ θ_run (Cert.FfOutForwardReferenceIdeal.defs (F := Ideal)) (onTc (τ := Cert.FfOutForwardReferenceIdeal.τ) (Cert.FfOutForwardReferenceIdeal.main (F := Ideal))) ⟨m', fun _ => 0, g'⟩ (fun r => ∀ c : Dev Cert.FfOutForwardReferenceIdeal.nD,
          r.2.mem ((c.tc : Thread Cert.FfOutForwardReferenceIdeal.nD Cert.FfOutForwardReferenceIdeal.τ).loc Cert.FfOutForwardReferenceIdeal.main_v3) = v0 c
          ∧ r.2.mem ((c.tc : Thread Cert.FfOutForwardReferenceIdeal.nD Cert.FfOutForwardReferenceIdeal.τ).loc Cert.FfOutForwardReferenceIdeal.main_arg0) = m' ((c.tc : Thread Cert.FfOutForwardReferenceIdeal.nD Cert.FfOutForwardReferenceIdeal.τ).loc Cert.FfOutForwardReferenceIdeal.main_arg0)
          ∧ r.2.mem ((c.tc : Thread Cert.FfOutForwardReferenceIdeal.nD Cert.FfOutForwardReferenceIdeal.τ).loc Cert.FfOutForwardReferenceIdeal.main_arg1) = m' ((c.tc : Thread Cert.FfOutForwardReferenceIdeal.nD Cert.FfOutForwardReferenceIdeal.τ).loc Cert.FfOutForwardReferenceIdeal.main_arg1)
          ∧ r.2.mem ((c.tc : Thread Cert.FfOutForwardReferenceIdeal.nD Cert.FfOutForwardReferenceIdeal.τ).loc Cert.FfOutForwardReferenceIdeal.main_arg2) = m' ((c.tc : Thread Cert.FfOutForwardReferenceIdeal.nD Cert.FfOutForwardReferenceIdeal.τ).loc Cert.FfOutForwardReferenceIdeal.main_arg2))

def preserves_EmbedForward_EmbedForwardIdeal : Prop :=
  True

def algebraic_EmbedForwardIdeal_EmbedForwardReferenceIdeal [hEmbedForwardIdeal : Cert.EmbedForwardIdeal.Facts] [hEmbedForwardReferenceIdeal : Cert.EmbedForwardReferenceIdeal.Facts] : Prop :=
  ∀ (m : (ℓ : Loc Cert.EmbedForwardIdeal.nD Cert.EmbedForwardIdeal.τ Cert.EmbedForwardIdeal.sig) → Buf (Elt Ideal) ℓ) (g : Dev Cert.EmbedForwardIdeal.nD → PrngReg)
    (m' : (ℓ : Loc Cert.EmbedForwardReferenceIdeal.nD Cert.EmbedForwardReferenceIdeal.τ Cert.EmbedForwardReferenceIdeal.sig) → Buf (Elt Ideal) ℓ) (g' : Dev Cert.EmbedForwardReferenceIdeal.nD → PrngReg), Pre_EmbedForwardIdeal m →
    (∀ c : Dev Cert.EmbedForwardIdeal.nD,
      m' ((c.tc : Thread Cert.EmbedForwardReferenceIdeal.nD Cert.EmbedForwardReferenceIdeal.τ).loc Cert.EmbedForwardReferenceIdeal.main_arg0) = m ((c.tc : Thread Cert.EmbedForwardIdeal.nD Cert.EmbedForwardIdeal.τ).loc Cert.EmbedForwardIdeal.main_arg0)
      ∧ m' ((c.tc : Thread Cert.EmbedForwardReferenceIdeal.nD Cert.EmbedForwardReferenceIdeal.τ).loc Cert.EmbedForwardReferenceIdeal.main_arg1) = m ((c.tc : Thread Cert.EmbedForwardIdeal.nD Cert.EmbedForwardIdeal.τ).loc Cert.EmbedForwardIdeal.main_arg1)
      ∧ m' ((c.tc : Thread Cert.EmbedForwardReferenceIdeal.nD Cert.EmbedForwardReferenceIdeal.τ).loc Cert.EmbedForwardReferenceIdeal.main_arg2) = m ((c.tc : Thread Cert.EmbedForwardIdeal.nD Cert.EmbedForwardIdeal.τ).loc Cert.EmbedForwardIdeal.main_arg2)
      ∧ m' ((c.tc : Thread Cert.EmbedForwardReferenceIdeal.nD Cert.EmbedForwardReferenceIdeal.τ).loc Cert.EmbedForwardReferenceIdeal.main_arg3) = m ((c.tc : Thread Cert.EmbedForwardIdeal.nD Cert.EmbedForwardIdeal.τ).loc Cert.EmbedForwardIdeal.main_arg3)
      ∧ m' ((c.tc : Thread Cert.EmbedForwardReferenceIdeal.nD Cert.EmbedForwardReferenceIdeal.τ).loc Cert.EmbedForwardReferenceIdeal.main_arg4) = m ((c.tc : Thread Cert.EmbedForwardIdeal.nD Cert.EmbedForwardIdeal.τ).loc Cert.EmbedForwardIdeal.main_arg4)) →
    ∃ (v0 : (c : Dev Cert.EmbedForwardIdeal.nD) → Buf (Elt Ideal) ((c.tc : Thread Cert.EmbedForwardIdeal.nD Cert.EmbedForwardIdeal.τ).loc Cert.EmbedForwardIdeal.main_v5_0)) (v1 : (c : Dev Cert.EmbedForwardIdeal.nD) → Buf (Elt Ideal) ((c.tc : Thread Cert.EmbedForwardIdeal.nD Cert.EmbedForwardIdeal.τ).loc Cert.EmbedForwardIdeal.main_v5_1)) (v2 : (c : Dev Cert.EmbedForwardIdeal.nD) → Buf (Elt Ideal) ((c.tc : Thread Cert.EmbedForwardIdeal.nD Cert.EmbedForwardIdeal.τ).loc Cert.EmbedForwardIdeal.main_v5_2)) (v3 : (c : Dev Cert.EmbedForwardIdeal.nD) → Buf (Elt Ideal) ((c.tc : Thread Cert.EmbedForwardIdeal.nD Cert.EmbedForwardIdeal.τ).loc Cert.EmbedForwardIdeal.main_v5_3)) (v4 : (c : Dev Cert.EmbedForwardIdeal.nD) → Buf (Elt Ideal) ((c.tc : Thread Cert.EmbedForwardIdeal.nD Cert.EmbedForwardIdeal.τ).loc Cert.EmbedForwardIdeal.main_v5_4)),
      θ_run (Cert.EmbedForwardIdeal.defs (F := Ideal)) (onTc (τ := Cert.EmbedForwardIdeal.τ) (Cert.EmbedForwardIdeal.main (F := Ideal))) ⟨m, fun _ => 0, g⟩ (fun r => ∀ c : Dev Cert.EmbedForwardIdeal.nD,
          r.2.mem ((c.tc : Thread Cert.EmbedForwardIdeal.nD Cert.EmbedForwardIdeal.τ).loc Cert.EmbedForwardIdeal.main_v5_0) = v0 c
          ∧ r.2.mem ((c.tc : Thread Cert.EmbedForwardIdeal.nD Cert.EmbedForwardIdeal.τ).loc Cert.EmbedForwardIdeal.main_v5_1) = v1 c
          ∧ r.2.mem ((c.tc : Thread Cert.EmbedForwardIdeal.nD Cert.EmbedForwardIdeal.τ).loc Cert.EmbedForwardIdeal.main_v5_2) = v2 c
          ∧ r.2.mem ((c.tc : Thread Cert.EmbedForwardIdeal.nD Cert.EmbedForwardIdeal.τ).loc Cert.EmbedForwardIdeal.main_v5_3) = v3 c
          ∧ r.2.mem ((c.tc : Thread Cert.EmbedForwardIdeal.nD Cert.EmbedForwardIdeal.τ).loc Cert.EmbedForwardIdeal.main_v5_4) = v4 c
          ∧ r.2.mem ((c.tc : Thread Cert.EmbedForwardIdeal.nD Cert.EmbedForwardIdeal.τ).loc Cert.EmbedForwardIdeal.main_arg0) = m ((c.tc : Thread Cert.EmbedForwardIdeal.nD Cert.EmbedForwardIdeal.τ).loc Cert.EmbedForwardIdeal.main_arg0)
          ∧ r.2.mem ((c.tc : Thread Cert.EmbedForwardIdeal.nD Cert.EmbedForwardIdeal.τ).loc Cert.EmbedForwardIdeal.main_arg1) = m ((c.tc : Thread Cert.EmbedForwardIdeal.nD Cert.EmbedForwardIdeal.τ).loc Cert.EmbedForwardIdeal.main_arg1)
          ∧ r.2.mem ((c.tc : Thread Cert.EmbedForwardIdeal.nD Cert.EmbedForwardIdeal.τ).loc Cert.EmbedForwardIdeal.main_arg2) = m ((c.tc : Thread Cert.EmbedForwardIdeal.nD Cert.EmbedForwardIdeal.τ).loc Cert.EmbedForwardIdeal.main_arg2)
          ∧ r.2.mem ((c.tc : Thread Cert.EmbedForwardIdeal.nD Cert.EmbedForwardIdeal.τ).loc Cert.EmbedForwardIdeal.main_arg3) = m ((c.tc : Thread Cert.EmbedForwardIdeal.nD Cert.EmbedForwardIdeal.τ).loc Cert.EmbedForwardIdeal.main_arg3)
          ∧ r.2.mem ((c.tc : Thread Cert.EmbedForwardIdeal.nD Cert.EmbedForwardIdeal.τ).loc Cert.EmbedForwardIdeal.main_arg4) = m ((c.tc : Thread Cert.EmbedForwardIdeal.nD Cert.EmbedForwardIdeal.τ).loc Cert.EmbedForwardIdeal.main_arg4))
      ∧ θ_run (Cert.EmbedForwardReferenceIdeal.defs (F := Ideal)) (onTc (τ := Cert.EmbedForwardReferenceIdeal.τ) (Cert.EmbedForwardReferenceIdeal.main (F := Ideal))) ⟨m', fun _ => 0, g'⟩ (fun r => ∀ c : Dev Cert.EmbedForwardReferenceIdeal.nD,
          r.2.mem ((c.tc : Thread Cert.EmbedForwardReferenceIdeal.nD Cert.EmbedForwardReferenceIdeal.τ).loc Cert.EmbedForwardReferenceIdeal.main_v15) = v0 c
          ∧ r.2.mem ((c.tc : Thread Cert.EmbedForwardReferenceIdeal.nD Cert.EmbedForwardReferenceIdeal.τ).loc Cert.EmbedForwardReferenceIdeal.main_v16) = v1 c
          ∧ r.2.mem ((c.tc : Thread Cert.EmbedForwardReferenceIdeal.nD Cert.EmbedForwardReferenceIdeal.τ).loc Cert.EmbedForwardReferenceIdeal.main_v0) = v2 c
          ∧ r.2.mem ((c.tc : Thread Cert.EmbedForwardReferenceIdeal.nD Cert.EmbedForwardReferenceIdeal.τ).loc Cert.EmbedForwardReferenceIdeal.main_v14) = v3 c
          ∧ r.2.mem ((c.tc : Thread Cert.EmbedForwardReferenceIdeal.nD Cert.EmbedForwardReferenceIdeal.τ).loc Cert.EmbedForwardReferenceIdeal.main_v24) = v4 c
          ∧ r.2.mem ((c.tc : Thread Cert.EmbedForwardReferenceIdeal.nD Cert.EmbedForwardReferenceIdeal.τ).loc Cert.EmbedForwardReferenceIdeal.main_arg0) = m' ((c.tc : Thread Cert.EmbedForwardReferenceIdeal.nD Cert.EmbedForwardReferenceIdeal.τ).loc Cert.EmbedForwardReferenceIdeal.main_arg0)
          ∧ r.2.mem ((c.tc : Thread Cert.EmbedForwardReferenceIdeal.nD Cert.EmbedForwardReferenceIdeal.τ).loc Cert.EmbedForwardReferenceIdeal.main_arg1) = m' ((c.tc : Thread Cert.EmbedForwardReferenceIdeal.nD Cert.EmbedForwardReferenceIdeal.τ).loc Cert.EmbedForwardReferenceIdeal.main_arg1)
          ∧ r.2.mem ((c.tc : Thread Cert.EmbedForwardReferenceIdeal.nD Cert.EmbedForwardReferenceIdeal.τ).loc Cert.EmbedForwardReferenceIdeal.main_arg2) = m' ((c.tc : Thread Cert.EmbedForwardReferenceIdeal.nD Cert.EmbedForwardReferenceIdeal.τ).loc Cert.EmbedForwardReferenceIdeal.main_arg2)
          ∧ r.2.mem ((c.tc : Thread Cert.EmbedForwardReferenceIdeal.nD Cert.EmbedForwardReferenceIdeal.τ).loc Cert.EmbedForwardReferenceIdeal.main_arg3) = m' ((c.tc : Thread Cert.EmbedForwardReferenceIdeal.nD Cert.EmbedForwardReferenceIdeal.τ).loc Cert.EmbedForwardReferenceIdeal.main_arg3)
          ∧ r.2.mem ((c.tc : Thread Cert.EmbedForwardReferenceIdeal.nD Cert.EmbedForwardReferenceIdeal.τ).loc Cert.EmbedForwardReferenceIdeal.main_arg4) = m' ((c.tc : Thread Cert.EmbedForwardReferenceIdeal.nD Cert.EmbedForwardReferenceIdeal.τ).loc Cert.EmbedForwardReferenceIdeal.main_arg4))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v2) = v0 c
          ∧ r.2.mem ((c.tc : Thread Cert.AdamInReferenceIdeal.nD Cert.AdamInReferenceIdeal.τ).loc Cert.AdamInReferenceIdeal.main_v26) = v1 c
          ∧ r.2.mem ((c.tc : Thread Cert.AdamInReferenceIdeal.nD Cert.AdamInReferenceIdeal.τ).loc Cert.AdamInReferenceIdeal.main_v7) = v2 c
          ∧ r.2.mem ((c.tc : Thread Cert.AdamInReferenceIdeal.nD Cert.AdamInReferenceIdeal.τ).loc Cert.AdamInReferenceIdeal.main_v13) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamFf_AdamFfIdeal : Prop :=
  True

def algebraic_AdamFfIdeal_AdamFfReferenceIdeal [hAdamFfIdeal : Cert.AdamFfIdeal.Facts] [hAdamFfReferenceIdeal : Cert.AdamFfReferenceIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg)
    (m' : (ℓ : Loc Cert.AdamFfReferenceIdeal.nD Cert.AdamFfReferenceIdeal.τ Cert.AdamFfReferenceIdeal.sig) → Buf (Elt Ideal) ℓ) (g' : Dev Cert.AdamFfReferenceIdeal.nD → PrngReg), Pre_AdamFfIdeal m →
    (∀ c : Dev Cert.AdamFfIdeal.nD,
      m' ((c.tc : Thread Cert.AdamFfReferenceIdeal.nD Cert.AdamFfReferenceIdeal.τ).loc Cert.AdamFfReferenceIdeal.main_arg0) = m ((c.tc : Thread Cert.AdamFfIdeal.nD Cert.AdamFfIdeal.τ).loc Cert.AdamFfIdeal.main_arg0)
      ∧ m' ((c.tc : Thread Cert.AdamFfReferenceIdeal.nD Cert.AdamFfReferenceIdeal.τ).loc Cert.AdamFfReferenceIdeal.main_arg1) = m ((c.tc : Thread Cert.AdamFfIdeal.nD Cert.AdamFfIdeal.τ).loc Cert.AdamFfIdeal.main_arg1)
      ∧ m' ((c.tc : Thread Cert.AdamFfReferenceIdeal.nD Cert.AdamFfReferenceIdeal.τ).loc Cert.AdamFfReferenceIdeal.main_arg2) = m ((c.tc : Thread Cert.AdamFfIdeal.nD Cert.AdamFfIdeal.τ).loc Cert.AdamFfIdeal.main_arg2)
      ∧ m' ((c.tc : Thread Cert.AdamFfReferenceIdeal.nD Cert.AdamFfReferenceIdeal.τ).loc Cert.AdamFfReferenceIdeal.main_arg3) = m ((c.tc : Thread Cert.AdamFfIdeal.nD Cert.AdamFfIdeal.τ).loc Cert.AdamFfIdeal.main_arg3)
      ∧ m' ((c.tc : Thread Cert.AdamFfReferenceIdeal.nD Cert.AdamFfReferenceIdeal.τ).loc Cert.AdamFfReferenceIdeal.main_arg4) = m ((c.tc : Thread Cert.AdamFfIdeal.nD Cert.AdamFfIdeal.τ).loc Cert.AdamFfIdeal.main_arg4)) →
    ∃ (v0 : (c : Dev Cert.AdamFfIdeal.nD) → Buf (Elt Ideal) ((c.tc : Thread Cert.AdamFfIdeal.nD Cert.AdamFfIdeal.τ).loc Cert.AdamFfIdeal.main_v0_0)) (v1 : (c : Dev Cert.AdamFfIdeal.nD) → Buf (Elt Ideal) ((c.tc : Thread Cert.AdamFfIdeal.nD Cert.AdamFfIdeal.τ).loc Cert.AdamFfIdeal.main_v0_1)) (v2 : (c : Dev Cert.AdamFfIdeal.nD) → Buf (Elt Ideal) ((c.tc : Thread Cert.AdamFfIdeal.nD Cert.AdamFfIdeal.τ).loc Cert.AdamFfIdeal.main_v0_2)) (v3 : (c : Dev Cert.AdamFfIdeal.nD) → Buf (Elt Ideal) ((c.tc : Thread Cert.AdamFfIdeal.nD Cert.AdamFfIdeal.τ).loc Cert.AdamFfIdeal.main_v0_3)),
      θ_run (Cert.AdamFfIdeal.defs (F := Ideal)) (onTc (τ := Cert.AdamFfIdeal.τ) (Cert.AdamFfIdeal.main (F := Ideal))) ⟨m, fun _ => 0, g⟩ (fun r => ∀ c : Dev Cert.AdamFfIdeal.nD,
          r.2.mem ((c.tc : Thread Cert.AdamFfIdeal.nD Cert.AdamFfIdeal.τ).loc Cert.AdamFfIdeal.main_v0_0) = v0 c
          ∧ r.2.mem ((c.tc : Thread Cert.AdamFfIdeal.nD Cert.AdamFfIdeal.τ).loc Cert.AdamFfIdeal.main_v0_1) = v1 c
          ∧ r.2.mem ((c.tc : Thread Cert.AdamFfIdeal.nD Cert.AdamFfIdeal.τ).loc Cert.AdamFfIdeal.main_v0_2) = v2 c
          ∧ r.2.mem ((c.tc : Thread Cert.AdamFfIdeal.nD Cert.AdamFfIdeal.τ).loc Cert.AdamFfIdeal.main_v0_3) = v3 c
          ∧ r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
          ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
          ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
          ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
          ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4))
      ∧ θ_run (Cert.AdamFfReferenceIdeal.defs (F := Ideal)) (onTc (τ := Cert.AdamFfReferenceIdeal.τ) (Cert.AdamFfReferenceIdeal.main (F := Ideal))) ⟨m', fun _ => 0, g'⟩ (fun r => ∀ c : Dev Cert.AdamFfReferenceIdeal.nD,
          r.2.mem ((c.tc : Thread Cert.AdamFfReferenceIdeal.nD Cert.AdamFfReferenceIdeal.τ).loc Cert.AdamFfReferenceIdeal.main_v2) = v0 c
          ∧ r.2.mem ((c.tc : Thread Cert.AdamFfReferenceIdeal.nD Cert.AdamFfReferenceIdeal.τ).loc Cert.AdamFfReferenceIdeal.main_v26) = v1 c
          ∧ r.2.mem ((c.tc : Thread Cert.AdamFfReferenceIdeal.nD Cert.AdamFfReferenceIdeal.τ).loc Cert.AdamFfReferenceIdeal.main_v7) = v2 c
          ∧ r.2.mem ((c.tc : Thread Cert.AdamFfReferenceIdeal.nD Cert.AdamFfReferenceIdeal.τ).loc Cert.AdamFfReferenceIdeal.main_v13) = v3 c
          ∧ r.2.mem ((c.tc : Thread Cert.AdamFfReferenceIdeal.nD Cert.AdamFfReferenceIdeal.τ).loc Cert.AdamFfReferenceIdeal.main_arg0) = m' ((c.tc : Thread Cert.AdamFfReferenceIdeal.nD Cert.AdamFfReferenceIdeal.τ).loc Cert.AdamFfReferenceIdeal.main_arg0)
          ∧ r.2.mem ((c.tc : Thread Cert.AdamFfReferenceIdeal.nD Cert.AdamFfReferenceIdeal.τ).loc Cert.AdamFfReferenceIdeal.main_arg1) = m' ((c.tc : Thread Cert.AdamFfReferenceIdeal.nD Cert.AdamFfReferenceIdeal.τ).loc Cert.AdamFfReferenceIdeal.main_arg1)
          ∧ r.2.mem ((c.tc : Thread Cert.AdamFfReferenceIdeal.nD Cert.AdamFfReferenceIdeal.τ).loc Cert.AdamFfReferenceIdeal.main_arg2) = m' ((c.tc : Thread Cert.AdamFfReferenceIdeal.nD Cert.AdamFfReferenceIdeal.τ).loc Cert.AdamFfReferenceIdeal.main_arg2)
          ∧ r.2.mem ((c.tc : Thread Cert.AdamFfReferenceIdeal.nD Cert.AdamFfReferenceIdeal.τ).loc Cert.AdamFfReferenceIdeal.main_arg3) = m' ((c.tc : Thread Cert.AdamFfReferenceIdeal.nD Cert.AdamFfReferenceIdeal.τ).loc Cert.AdamFfReferenceIdeal.main_arg3)
          ∧ r.2.mem ((c.tc : Thread Cert.AdamFfReferenceIdeal.nD Cert.AdamFfReferenceIdeal.τ).loc Cert.AdamFfReferenceIdeal.main_arg4) = m' ((c.tc : Thread Cert.AdamFfReferenceIdeal.nD Cert.AdamFfReferenceIdeal.τ).loc Cert.AdamFfReferenceIdeal.main_arg4))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v2) = v0 c
          ∧ r.2.mem ((c.tc : Thread Cert.AdamUpReferenceIdeal.nD Cert.AdamUpReferenceIdeal.τ).loc Cert.AdamUpReferenceIdeal.main_v26) = v1 c
          ∧ r.2.mem ((c.tc : Thread Cert.AdamUpReferenceIdeal.nD Cert.AdamUpReferenceIdeal.τ).loc Cert.AdamUpReferenceIdeal.main_v7) = v2 c
          ∧ r.2.mem ((c.tc : Thread Cert.AdamUpReferenceIdeal.nD Cert.AdamUpReferenceIdeal.τ).loc Cert.AdamUpReferenceIdeal.main_v13) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4))

def preserves_AdamMix_AdamMixIdeal : Prop :=
  True

def algebraic_AdamMixIdeal_AdamMixReferenceIdeal [hAdamMixIdeal : Cert.AdamMixIdeal.Facts] [hAdamMixReferenceIdeal : Cert.AdamMixReferenceIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixReferenceIdeal.nD Cert.AdamMixReferenceIdeal.τ Cert.AdamMixReferenceIdeal.sig) → Buf (Elt Ideal) ℓ) (g' : Dev Cert.AdamMixReferenceIdeal.nD → PrngReg), Pre_AdamMixIdeal m →
    (∀ c : Dev Cert.AdamMixIdeal.nD,
      m' ((c.tc : Thread Cert.AdamMixReferenceIdeal.nD Cert.AdamMixReferenceIdeal.τ).loc Cert.AdamMixReferenceIdeal.main_arg0) = m ((c.tc : Thread Cert.AdamMixIdeal.nD Cert.AdamMixIdeal.τ).loc Cert.AdamMixIdeal.main_arg0)
      ∧ m' ((c.tc : Thread Cert.AdamMixReferenceIdeal.nD Cert.AdamMixReferenceIdeal.τ).loc Cert.AdamMixReferenceIdeal.main_arg1) = m ((c.tc : Thread Cert.AdamMixIdeal.nD Cert.AdamMixIdeal.τ).loc Cert.AdamMixIdeal.main_arg1)
      ∧ m' ((c.tc : Thread Cert.AdamMixReferenceIdeal.nD Cert.AdamMixReferenceIdeal.τ).loc Cert.AdamMixReferenceIdeal.main_arg2) = m ((c.tc : Thread Cert.AdamMixIdeal.nD Cert.AdamMixIdeal.τ).loc Cert.AdamMixIdeal.main_arg2)
      ∧ m' ((c.tc : Thread Cert.AdamMixReferenceIdeal.nD Cert.AdamMixReferenceIdeal.τ).loc Cert.AdamMixReferenceIdeal.main_arg3) = m ((c.tc : Thread Cert.AdamMixIdeal.nD Cert.AdamMixIdeal.τ).loc Cert.AdamMixIdeal.main_arg3)
      ∧ m' ((c.tc : Thread Cert.AdamMixReferenceIdeal.nD Cert.AdamMixReferenceIdeal.τ).loc Cert.AdamMixReferenceIdeal.main_arg4) = m ((c.tc : Thread Cert.AdamMixIdeal.nD Cert.AdamMixIdeal.τ).loc Cert.AdamMixIdeal.main_arg4)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)) (v3 : (c : Dev Cert.AdamMixIdeal.nD) → Buf (Elt Ideal) ((c.tc : Thread Cert.AdamMixIdeal.nD Cert.AdamMixIdeal.τ).loc Cert.AdamMixIdeal.main_v0_3)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_v0_3) = v3 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3)
          ∧ r.2.mem ((c.tc : Thread Cert.AdamMixIdeal.nD Cert.AdamMixIdeal.τ).loc Cert.AdamMixIdeal.main_arg4) = m ((c.tc : Thread Cert.AdamMixIdeal.nD Cert.AdamMixIdeal.τ).loc Cert.AdamMixIdeal.main_arg4))
      ∧ θ_run (Cert.AdamMixReferenceIdeal.defs (F := Ideal)) (onTc (τ := Cert.AdamMixReferenceIdeal.τ) (Cert.AdamMixReferenceIdeal.main (F := Ideal))) ⟨m', fun _ => 0, g'⟩ (fun r => ∀ c : Dev Cert.AdamMixReferenceIdeal.nD,
          r.2.mem ((c.tc : Thread Cert.AdamMixReferenceIdeal.nD Cert.AdamMixReferenceIdeal.τ).loc Cert.AdamMixReferenceIdeal.main_v2) = v0 c
          ∧ r.2.mem ((c.tc : Thread Cert.AdamMixReferenceIdeal.nD Cert.AdamMixReferenceIdeal.τ).loc Cert.AdamMixReferenceIdeal.main_v26) = v1 c
          ∧ r.2.mem ((c.tc : Thread Cert.AdamMixReferenceIdeal.nD Cert.AdamMixReferenceIdeal.τ).loc Cert.AdamMixReferenceIdeal.main_v7) = v2 c
          ∧ r.2.mem ((c.tc : Thread Cert.AdamMixReferenceIdeal.nD Cert.AdamMixReferenceIdeal.τ).loc Cert.AdamMixReferenceIdeal.main_v13) = v3 c
          ∧ r.2.mem ((c.tc : Thread Cert.AdamMixReferenceIdeal.nD Cert.AdamMixReferenceIdeal.τ).loc Cert.AdamMixReferenceIdeal.main_arg0) = m' ((c.tc : Thread Cert.AdamMixReferenceIdeal.nD Cert.AdamMixReferenceIdeal.τ).loc Cert.AdamMixReferenceIdeal.main_arg0)
          ∧ r.2.mem ((c.tc : Thread Cert.AdamMixReferenceIdeal.nD Cert.AdamMixReferenceIdeal.τ).loc Cert.AdamMixReferenceIdeal.main_arg1) = m' ((c.tc : Thread Cert.AdamMixReferenceIdeal.nD Cert.AdamMixReferenceIdeal.τ).loc Cert.AdamMixReferenceIdeal.main_arg1)
          ∧ r.2.mem ((c.tc : Thread Cert.AdamMixReferenceIdeal.nD Cert.AdamMixReferenceIdeal.τ).loc Cert.AdamMixReferenceIdeal.main_arg2) = m' ((c.tc : Thread Cert.AdamMixReferenceIdeal.nD Cert.AdamMixReferenceIdeal.τ).loc Cert.AdamMixReferenceIdeal.main_arg2)
          ∧ r.2.mem ((c.tc : Thread Cert.AdamMixReferenceIdeal.nD Cert.AdamMixReferenceIdeal.τ).loc Cert.AdamMixReferenceIdeal.main_arg3) = m' ((c.tc : Thread Cert.AdamMixReferenceIdeal.nD Cert.AdamMixReferenceIdeal.τ).loc Cert.AdamMixReferenceIdeal.main_arg3)
          ∧ r.2.mem ((c.tc : Thread Cert.AdamMixReferenceIdeal.nD Cert.AdamMixReferenceIdeal.τ).loc Cert.AdamMixReferenceIdeal.main_arg4) = m' ((c.tc : Thread Cert.AdamMixReferenceIdeal.nD Cert.AdamMixReferenceIdeal.τ).loc Cert.AdamMixReferenceIdeal.main_arg4))

def preserves_AdamEmbed_AdamEmbedIdeal : Prop :=
  True

def algebraic_AdamEmbedIdeal_AdamEmbedReferenceIdeal [hAdamEmbedIdeal : Cert.AdamEmbedIdeal.Facts] [hAdamEmbedReferenceIdeal : Cert.AdamEmbedReferenceIdeal.Facts] : Prop :=
  ∀ (m : (ℓ : Loc Cert.AdamEmbedIdeal.nD Cert.AdamEmbedIdeal.τ Cert.AdamEmbedIdeal.sig) → Buf (Elt Ideal) ℓ) (g : Dev Cert.AdamEmbedIdeal.nD → PrngReg)
    (m' : (ℓ : Loc Cert.AdamEmbedReferenceIdeal.nD Cert.AdamEmbedReferenceIdeal.τ Cert.AdamEmbedReferenceIdeal.sig) → Buf (Elt Ideal) ℓ) (g' : Dev Cert.AdamEmbedReferenceIdeal.nD → PrngReg), Pre_AdamEmbedIdeal m →
    (∀ c : Dev Cert.AdamEmbedIdeal.nD,
      m' ((c.tc : Thread Cert.AdamEmbedReferenceIdeal.nD Cert.AdamEmbedReferenceIdeal.τ).loc Cert.AdamEmbedReferenceIdeal.main_arg0) = m ((c.tc : Thread Cert.AdamEmbedIdeal.nD Cert.AdamEmbedIdeal.τ).loc Cert.AdamEmbedIdeal.main_arg0)
      ∧ m' ((c.tc : Thread Cert.AdamEmbedReferenceIdeal.nD Cert.AdamEmbedReferenceIdeal.τ).loc Cert.AdamEmbedReferenceIdeal.main_arg1) = m ((c.tc : Thread Cert.AdamEmbedIdeal.nD Cert.AdamEmbedIdeal.τ).loc Cert.AdamEmbedIdeal.main_arg1)
      ∧ m' ((c.tc : Thread Cert.AdamEmbedReferenceIdeal.nD Cert.AdamEmbedReferenceIdeal.τ).loc Cert.AdamEmbedReferenceIdeal.main_arg2) = m ((c.tc : Thread Cert.AdamEmbedIdeal.nD Cert.AdamEmbedIdeal.τ).loc Cert.AdamEmbedIdeal.main_arg2)
      ∧ m' ((c.tc : Thread Cert.AdamEmbedReferenceIdeal.nD Cert.AdamEmbedReferenceIdeal.τ).loc Cert.AdamEmbedReferenceIdeal.main_arg3) = m ((c.tc : Thread Cert.AdamEmbedIdeal.nD Cert.AdamEmbedIdeal.τ).loc Cert.AdamEmbedIdeal.main_arg3)
      ∧ m' ((c.tc : Thread Cert.AdamEmbedReferenceIdeal.nD Cert.AdamEmbedReferenceIdeal.τ).loc Cert.AdamEmbedReferenceIdeal.main_arg4) = m ((c.tc : Thread Cert.AdamEmbedIdeal.nD Cert.AdamEmbedIdeal.τ).loc Cert.AdamEmbedIdeal.main_arg4)) →
    ∃ (v0 : (c : Dev Cert.AdamEmbedIdeal.nD) → Buf (Elt Ideal) ((c.tc : Thread Cert.AdamEmbedIdeal.nD Cert.AdamEmbedIdeal.τ).loc Cert.AdamEmbedIdeal.main_v0_0)) (v1 : (c : Dev Cert.AdamEmbedIdeal.nD) → Buf (Elt Ideal) ((c.tc : Thread Cert.AdamEmbedIdeal.nD Cert.AdamEmbedIdeal.τ).loc Cert.AdamEmbedIdeal.main_v0_1)) (v2 : (c : Dev Cert.AdamEmbedIdeal.nD) → Buf (Elt Ideal) ((c.tc : Thread Cert.AdamEmbedIdeal.nD Cert.AdamEmbedIdeal.τ).loc Cert.AdamEmbedIdeal.main_v0_2)) (v3 : (c : Dev Cert.AdamEmbedIdeal.nD) → Buf (Elt Ideal) ((c.tc : Thread Cert.AdamEmbedIdeal.nD Cert.AdamEmbedIdeal.τ).loc Cert.AdamEmbedIdeal.main_v0_3)),
      θ_run (Cert.AdamEmbedIdeal.defs (F := Ideal)) (onTc (τ := Cert.AdamEmbedIdeal.τ) (Cert.AdamEmbedIdeal.main (F := Ideal))) ⟨m, fun _ => 0, g⟩ (fun r => ∀ c : Dev Cert.AdamEmbedIdeal.nD,
          r.2.mem ((c.tc : Thread Cert.AdamEmbedIdeal.nD Cert.AdamEmbedIdeal.τ).loc Cert.AdamEmbedIdeal.main_v0_0) = v0 c
          ∧ r.2.mem ((c.tc : Thread Cert.AdamEmbedIdeal.nD Cert.AdamEmbedIdeal.τ).loc Cert.AdamEmbedIdeal.main_v0_1) = v1 c
          ∧ r.2.mem ((c.tc : Thread Cert.AdamEmbedIdeal.nD Cert.AdamEmbedIdeal.τ).loc Cert.AdamEmbedIdeal.main_v0_2) = v2 c
          ∧ r.2.mem ((c.tc : Thread Cert.AdamEmbedIdeal.nD Cert.AdamEmbedIdeal.τ).loc Cert.AdamEmbedIdeal.main_v0_3) = v3 c
          ∧ r.2.mem ((c.tc : Thread Cert.AdamEmbedIdeal.nD Cert.AdamEmbedIdeal.τ).loc Cert.AdamEmbedIdeal.main_arg0) = m ((c.tc : Thread Cert.AdamEmbedIdeal.nD Cert.AdamEmbedIdeal.τ).loc Cert.AdamEmbedIdeal.main_arg0)
          ∧ r.2.mem ((c.tc : Thread Cert.AdamEmbedIdeal.nD Cert.AdamEmbedIdeal.τ).loc Cert.AdamEmbedIdeal.main_arg1) = m ((c.tc : Thread Cert.AdamEmbedIdeal.nD Cert.AdamEmbedIdeal.τ).loc Cert.AdamEmbedIdeal.main_arg1)
          ∧ r.2.mem ((c.tc : Thread Cert.AdamEmbedIdeal.nD Cert.AdamEmbedIdeal.τ).loc Cert.AdamEmbedIdeal.main_arg2) = m ((c.tc : Thread Cert.AdamEmbedIdeal.nD Cert.AdamEmbedIdeal.τ).loc Cert.AdamEmbedIdeal.main_arg2)
          ∧ r.2.mem ((c.tc : Thread Cert.AdamEmbedIdeal.nD Cert.AdamEmbedIdeal.τ).loc Cert.AdamEmbedIdeal.main_arg3) = m ((c.tc : Thread Cert.AdamEmbedIdeal.nD Cert.AdamEmbedIdeal.τ).loc Cert.AdamEmbedIdeal.main_arg3)
          ∧ r.2.mem ((c.tc : Thread Cert.AdamEmbedIdeal.nD Cert.AdamEmbedIdeal.τ).loc Cert.AdamEmbedIdeal.main_arg4) = m ((c.tc : Thread Cert.AdamEmbedIdeal.nD Cert.AdamEmbedIdeal.τ).loc Cert.AdamEmbedIdeal.main_arg4))
      ∧ θ_run (Cert.AdamEmbedReferenceIdeal.defs (F := Ideal)) (onTc (τ := Cert.AdamEmbedReferenceIdeal.τ) (Cert.AdamEmbedReferenceIdeal.main (F := Ideal))) ⟨m', fun _ => 0, g'⟩ (fun r => ∀ c : Dev Cert.AdamEmbedReferenceIdeal.nD,
          r.2.mem ((c.tc : Thread Cert.AdamEmbedReferenceIdeal.nD Cert.AdamEmbedReferenceIdeal.τ).loc Cert.AdamEmbedReferenceIdeal.main_v2) = v0 c
          ∧ r.2.mem ((c.tc : Thread Cert.AdamEmbedReferenceIdeal.nD Cert.AdamEmbedReferenceIdeal.τ).loc Cert.AdamEmbedReferenceIdeal.main_v26) = v1 c
          ∧ r.2.mem ((c.tc : Thread Cert.AdamEmbedReferenceIdeal.nD Cert.AdamEmbedReferenceIdeal.τ).loc Cert.AdamEmbedReferenceIdeal.main_v7) = v2 c
          ∧ r.2.mem ((c.tc : Thread Cert.AdamEmbedReferenceIdeal.nD Cert.AdamEmbedReferenceIdeal.τ).loc Cert.AdamEmbedReferenceIdeal.main_v13) = v3 c
          ∧ r.2.mem ((c.tc : Thread Cert.AdamEmbedReferenceIdeal.nD Cert.AdamEmbedReferenceIdeal.τ).loc Cert.AdamEmbedReferenceIdeal.main_arg0) = m' ((c.tc : Thread Cert.AdamEmbedReferenceIdeal.nD Cert.AdamEmbedReferenceIdeal.τ).loc Cert.AdamEmbedReferenceIdeal.main_arg0)
          ∧ r.2.mem ((c.tc : Thread Cert.AdamEmbedReferenceIdeal.nD Cert.AdamEmbedReferenceIdeal.τ).loc Cert.AdamEmbedReferenceIdeal.main_arg1) = m' ((c.tc : Thread Cert.AdamEmbedReferenceIdeal.nD Cert.AdamEmbedReferenceIdeal.τ).loc Cert.AdamEmbedReferenceIdeal.main_arg1)
          ∧ r.2.mem ((c.tc : Thread Cert.AdamEmbedReferenceIdeal.nD Cert.AdamEmbedReferenceIdeal.τ).loc Cert.AdamEmbedReferenceIdeal.main_arg2) = m' ((c.tc : Thread Cert.AdamEmbedReferenceIdeal.nD Cert.AdamEmbedReferenceIdeal.τ).loc Cert.AdamEmbedReferenceIdeal.main_arg2)
          ∧ r.2.mem ((c.tc : Thread Cert.AdamEmbedReferenceIdeal.nD Cert.AdamEmbedReferenceIdeal.τ).loc Cert.AdamEmbedReferenceIdeal.main_arg3) = m' ((c.tc : Thread Cert.AdamEmbedReferenceIdeal.nD Cert.AdamEmbedReferenceIdeal.τ).loc Cert.AdamEmbedReferenceIdeal.main_arg3)
          ∧ r.2.mem ((c.tc : Thread Cert.AdamEmbedReferenceIdeal.nD Cert.AdamEmbedReferenceIdeal.τ).loc Cert.AdamEmbedReferenceIdeal.main_arg4) = m' ((c.tc : Thread Cert.AdamEmbedReferenceIdeal.nD Cert.AdamEmbedReferenceIdeal.τ).loc Cert.AdamEmbedReferenceIdeal.main_arg4))

def preserves_WindowForward_WindowForwardIdeal : Prop :=
  IdealRules.named_const.Statement Cert.WindowForwardIdeal.κ "mask" .f32 0xF149F2CA#32 ⊥

def algebraic_WindowForwardIdeal_WindowForwardReferenceIdeal [hWindowForwardIdeal : Cert.WindowForwardIdeal.Facts] [hWindowForwardReferenceIdeal : Cert.WindowForwardReferenceIdeal.Facts] : Prop :=
  ∀ (m : (ℓ : Loc Cert.WindowForwardIdeal.nD Cert.WindowForwardIdeal.τ Cert.WindowForwardIdeal.sig) → Buf (Elt Ideal) ℓ) (g : Dev Cert.WindowForwardIdeal.nD → PrngReg)
    (m' : (ℓ : Loc Cert.WindowForwardReferenceIdeal.nD Cert.WindowForwardReferenceIdeal.τ Cert.WindowForwardReferenceIdeal.sig) → Buf (Elt Ideal) ℓ) (g' : Dev Cert.WindowForwardReferenceIdeal.nD → PrngReg), Pre_WindowForwardIdeal m →
    (∀ c : Dev Cert.WindowForwardIdeal.nD,
      m' ((c.tc : Thread Cert.WindowForwardReferenceIdeal.nD Cert.WindowForwardReferenceIdeal.τ).loc Cert.WindowForwardReferenceIdeal.main_arg0) = m ((c.tc : Thread Cert.WindowForwardIdeal.nD Cert.WindowForwardIdeal.τ).loc Cert.WindowForwardIdeal.main_arg0)
      ∧ m' ((c.tc : Thread Cert.WindowForwardReferenceIdeal.nD Cert.WindowForwardReferenceIdeal.τ).loc Cert.WindowForwardReferenceIdeal.main_arg1) = m ((c.tc : Thread Cert.WindowForwardIdeal.nD Cert.WindowForwardIdeal.τ).loc Cert.WindowForwardIdeal.main_arg1)
      ∧ m' ((c.tc : Thread Cert.WindowForwardReferenceIdeal.nD Cert.WindowForwardReferenceIdeal.τ).loc Cert.WindowForwardReferenceIdeal.main_arg2) = m ((c.tc : Thread Cert.WindowForwardIdeal.nD Cert.WindowForwardIdeal.τ).loc Cert.WindowForwardIdeal.main_arg2)) →
    ∃ (v0 : (c : Dev Cert.WindowForwardIdeal.nD) → Buf (Elt Ideal) ((c.tc : Thread Cert.WindowForwardIdeal.nD Cert.WindowForwardIdeal.τ).loc Cert.WindowForwardIdeal.main_v69)),
      θ_run (Cert.WindowForwardIdeal.defs (F := Ideal)) (onTc (τ := Cert.WindowForwardIdeal.τ) (Cert.WindowForwardIdeal.main (F := Ideal))) ⟨m, fun _ => 0, g⟩ (fun r => ∀ c : Dev Cert.WindowForwardIdeal.nD,
          r.2.mem ((c.tc : Thread Cert.WindowForwardIdeal.nD Cert.WindowForwardIdeal.τ).loc Cert.WindowForwardIdeal.main_v69) = v0 c
          ∧ r.2.mem ((c.tc : Thread Cert.WindowForwardIdeal.nD Cert.WindowForwardIdeal.τ).loc Cert.WindowForwardIdeal.main_arg0) = m ((c.tc : Thread Cert.WindowForwardIdeal.nD Cert.WindowForwardIdeal.τ).loc Cert.WindowForwardIdeal.main_arg0)
          ∧ r.2.mem ((c.tc : Thread Cert.WindowForwardIdeal.nD Cert.WindowForwardIdeal.τ).loc Cert.WindowForwardIdeal.main_arg1) = m ((c.tc : Thread Cert.WindowForwardIdeal.nD Cert.WindowForwardIdeal.τ).loc Cert.WindowForwardIdeal.main_arg1)
          ∧ r.2.mem ((c.tc : Thread Cert.WindowForwardIdeal.nD Cert.WindowForwardIdeal.τ).loc Cert.WindowForwardIdeal.main_arg2) = m ((c.tc : Thread Cert.WindowForwardIdeal.nD Cert.WindowForwardIdeal.τ).loc Cert.WindowForwardIdeal.main_arg2))
      ∧ θ_run (Cert.WindowForwardReferenceIdeal.defs (F := Ideal)) (onTc (τ := Cert.WindowForwardReferenceIdeal.τ) (Cert.WindowForwardReferenceIdeal.main (F := Ideal))) ⟨m', fun _ => 0, g'⟩ (fun r => ∀ c : Dev Cert.WindowForwardReferenceIdeal.nD,
          r.2.mem ((c.tc : Thread Cert.WindowForwardReferenceIdeal.nD Cert.WindowForwardReferenceIdeal.τ).loc Cert.WindowForwardReferenceIdeal.main_v163) = v0 c
          ∧ r.2.mem ((c.tc : Thread Cert.WindowForwardReferenceIdeal.nD Cert.WindowForwardReferenceIdeal.τ).loc Cert.WindowForwardReferenceIdeal.main_arg0) = m' ((c.tc : Thread Cert.WindowForwardReferenceIdeal.nD Cert.WindowForwardReferenceIdeal.τ).loc Cert.WindowForwardReferenceIdeal.main_arg0)
          ∧ r.2.mem ((c.tc : Thread Cert.WindowForwardReferenceIdeal.nD Cert.WindowForwardReferenceIdeal.τ).loc Cert.WindowForwardReferenceIdeal.main_arg1) = m' ((c.tc : Thread Cert.WindowForwardReferenceIdeal.nD Cert.WindowForwardReferenceIdeal.τ).loc Cert.WindowForwardReferenceIdeal.main_arg1)
          ∧ r.2.mem ((c.tc : Thread Cert.WindowForwardReferenceIdeal.nD Cert.WindowForwardReferenceIdeal.τ).loc Cert.WindowForwardReferenceIdeal.main_arg2) = m' ((c.tc : Thread Cert.WindowForwardReferenceIdeal.nD Cert.WindowForwardReferenceIdeal.τ).loc Cert.WindowForwardReferenceIdeal.main_arg2))

def Claim : Prop :=
  ∃ (hFfOut : Cert.FfOut.Facts) (hFfOutIdeal : Cert.FfOutIdeal.Facts) (hFfOutReferenceIdeal : Cert.FfOutReferenceIdeal.Facts) (hFfOutWeight : Cert.FfOutWeight.Facts) (hFfOutWeightIdeal : Cert.FfOutWeightIdeal.Facts) (hFfOutWeightReferenceIdeal : Cert.FfOutWeightReferenceIdeal.Facts) (hFfInWeight : Cert.FfInWeight.Facts) (hFfInWeightIdeal : Cert.FfInWeightIdeal.Facts) (hFfInWeightReferenceIdeal : Cert.FfInWeightReferenceIdeal.Facts) (hGateWeight : Cert.GateWeight.Facts) (hGateWeightIdeal : Cert.GateWeightIdeal.Facts) (hGateWeightReferenceIdeal : Cert.GateWeightReferenceIdeal.Facts) (hEmbedWeight : Cert.EmbedWeight.Facts) (hEmbedWeightIdeal : Cert.EmbedWeightIdeal.Facts) (hEmbedWeightReferenceIdeal : Cert.EmbedWeightReferenceIdeal.Facts) (hMixWeight : Cert.MixWeight.Facts) (hMixWeightIdeal : Cert.MixWeightIdeal.Facts) (hMixWeightReferenceIdeal : Cert.MixWeightReferenceIdeal.Facts) (hUpWeight : Cert.UpWeight.Facts) (hUpWeightIdeal : Cert.UpWeightIdeal.Facts) (hUpWeightReferenceIdeal : Cert.UpWeightReferenceIdeal.Facts) (hInWeight : Cert.InWeight.Facts) (hInWeightIdeal : Cert.InWeightIdeal.Facts) (hInWeightReferenceIdeal : Cert.InWeightReferenceIdeal.Facts) (hFfIn : Cert.FfIn.Facts) (hFfInIdeal : Cert.FfInIdeal.Facts) (hFfInReferenceIdeal : Cert.FfInReferenceIdeal.Facts) (hGate : Cert.Gate.Facts) (hGateIdeal : Cert.GateIdeal.Facts) (hGateReferenceIdeal : Cert.GateReferenceIdeal.Facts) (hLoss : Cert.Loss.Facts) (hLossIdeal : Cert.LossIdeal.Facts) (hLossReferenceIdeal : Cert.LossReferenceIdeal.Facts) (hInForward : Cert.InForward.Facts) (hInForwardIdeal : Cert.InForwardIdeal.Facts) (hInForwardReferenceIdeal : Cert.InForwardReferenceIdeal.Facts) (hMixForward : Cert.MixForward.Facts) (hMixForwardIdeal : Cert.MixForwardIdeal.Facts) (hMixForwardReferenceIdeal : Cert.MixForwardReferenceIdeal.Facts) (hFfInForward : Cert.FfInForward.Facts) (hFfInForwardIdeal : Cert.FfInForwardIdeal.Facts) (hFfInForwardReferenceIdeal : Cert.FfInForwardReferenceIdeal.Facts) (hFfOutForward : Cert.FfOutForward.Facts) (hFfOutForwardIdeal : Cert.FfOutForwardIdeal.Facts) (hFfOutForwardReferenceIdeal : Cert.FfOutForwardReferenceIdeal.Facts) (hEmbedForward : Cert.EmbedForward.Facts) (hEmbedForwardIdeal : Cert.EmbedForwardIdeal.Facts) (hEmbedForwardReferenceIdeal : Cert.EmbedForwardReferenceIdeal.Facts) (hAdamIn : Cert.AdamIn.Facts) (hAdamInIdeal : Cert.AdamInIdeal.Facts) (hAdamInReferenceIdeal : Cert.AdamInReferenceIdeal.Facts) (hAdamFf : Cert.AdamFf.Facts) (hAdamFfIdeal : Cert.AdamFfIdeal.Facts) (hAdamFfReferenceIdeal : Cert.AdamFfReferenceIdeal.Facts) (hAdamUp : Cert.AdamUp.Facts) (hAdamUpIdeal : Cert.AdamUpIdeal.Facts) (hAdamUpReferenceIdeal : Cert.AdamUpReferenceIdeal.Facts) (hAdamMix : Cert.AdamMix.Facts) (hAdamMixIdeal : Cert.AdamMixIdeal.Facts) (hAdamMixReferenceIdeal : Cert.AdamMixReferenceIdeal.Facts) (hAdamEmbed : Cert.AdamEmbed.Facts) (hAdamEmbedIdeal : Cert.AdamEmbedIdeal.Facts) (hAdamEmbedReferenceIdeal : Cert.AdamEmbedReferenceIdeal.Facts) (hWindowForward : Cert.WindowForward.Facts) (hWindowForwardIdeal : Cert.WindowForwardIdeal.Facts) (hWindowForwardReferenceIdeal : Cert.WindowForwardReferenceIdeal.Facts),
    quiescent_FfOut (hFfOut := hFfOut)
    ∧ quiescent_FfOutIdeal (hFfOutIdeal := hFfOutIdeal)
    ∧ quiescent_FfOutReferenceIdeal (hFfOutReferenceIdeal := hFfOutReferenceIdeal)
    ∧ quiescent_FfOutWeight (hFfOutWeight := hFfOutWeight)
    ∧ quiescent_FfOutWeightIdeal (hFfOutWeightIdeal := hFfOutWeightIdeal)
    ∧ quiescent_FfOutWeightReferenceIdeal (hFfOutWeightReferenceIdeal := hFfOutWeightReferenceIdeal)
    ∧ quiescent_FfInWeight (hFfInWeight := hFfInWeight)
    ∧ quiescent_FfInWeightIdeal (hFfInWeightIdeal := hFfInWeightIdeal)
    ∧ quiescent_FfInWeightReferenceIdeal (hFfInWeightReferenceIdeal := hFfInWeightReferenceIdeal)
    ∧ quiescent_GateWeight (hGateWeight := hGateWeight)
    ∧ quiescent_GateWeightIdeal (hGateWeightIdeal := hGateWeightIdeal)
    ∧ quiescent_GateWeightReferenceIdeal (hGateWeightReferenceIdeal := hGateWeightReferenceIdeal)
    ∧ quiescent_EmbedWeight (hEmbedWeight := hEmbedWeight)
    ∧ quiescent_EmbedWeightIdeal (hEmbedWeightIdeal := hEmbedWeightIdeal)
    ∧ quiescent_EmbedWeightReferenceIdeal (hEmbedWeightReferenceIdeal := hEmbedWeightReferenceIdeal)
    ∧ quiescent_MixWeight (hMixWeight := hMixWeight)
    ∧ quiescent_MixWeightIdeal (hMixWeightIdeal := hMixWeightIdeal)
    ∧ quiescent_MixWeightReferenceIdeal (hMixWeightReferenceIdeal := hMixWeightReferenceIdeal)
    ∧ quiescent_UpWeight (hUpWeight := hUpWeight)
    ∧ quiescent_UpWeightIdeal (hUpWeightIdeal := hUpWeightIdeal)
    ∧ quiescent_UpWeightReferenceIdeal (hUpWeightReferenceIdeal := hUpWeightReferenceIdeal)
    ∧ quiescent_InWeight (hInWeight := hInWeight)
    ∧ quiescent_InWeightIdeal (hInWeightIdeal := hInWeightIdeal)
    ∧ quiescent_InWeightReferenceIdeal (hInWeightReferenceIdeal := hInWeightReferenceIdeal)
    ∧ quiescent_FfIn (hFfIn := hFfIn)
    ∧ quiescent_FfInIdeal (hFfInIdeal := hFfInIdeal)
    ∧ quiescent_FfInReferenceIdeal (hFfInReferenceIdeal := hFfInReferenceIdeal)
    ∧ quiescent_Gate (hGate := hGate)
    ∧ quiescent_GateIdeal (hGateIdeal := hGateIdeal)
    ∧ quiescent_GateReferenceIdeal (hGateReferenceIdeal := hGateReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_InForward (hInForward := hInForward)
    ∧ quiescent_InForwardIdeal (hInForwardIdeal := hInForwardIdeal)
    ∧ quiescent_InForwardReferenceIdeal (hInForwardReferenceIdeal := hInForwardReferenceIdeal)
    ∧ quiescent_MixForward (hMixForward := hMixForward)
    ∧ quiescent_MixForwardIdeal (hMixForwardIdeal := hMixForwardIdeal)
    ∧ quiescent_MixForwardReferenceIdeal (hMixForwardReferenceIdeal := hMixForwardReferenceIdeal)
    ∧ quiescent_FfInForward (hFfInForward := hFfInForward)
    ∧ quiescent_FfInForwardIdeal (hFfInForwardIdeal := hFfInForwardIdeal)
    ∧ quiescent_FfInForwardReferenceIdeal (hFfInForwardReferenceIdeal := hFfInForwardReferenceIdeal)
    ∧ quiescent_FfOutForward (hFfOutForward := hFfOutForward)
    ∧ quiescent_FfOutForwardIdeal (hFfOutForwardIdeal := hFfOutForwardIdeal)
    ∧ quiescent_FfOutForwardReferenceIdeal (hFfOutForwardReferenceIdeal := hFfOutForwardReferenceIdeal)
    ∧ quiescent_EmbedForward (hEmbedForward := hEmbedForward)
    ∧ quiescent_EmbedForwardIdeal (hEmbedForwardIdeal := hEmbedForwardIdeal)
    ∧ quiescent_EmbedForwardReferenceIdeal (hEmbedForwardReferenceIdeal := hEmbedForwardReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamFf (hAdamFf := hAdamFf)
    ∧ quiescent_AdamFfIdeal (hAdamFfIdeal := hAdamFfIdeal)
    ∧ quiescent_AdamFfReferenceIdeal (hAdamFfReferenceIdeal := hAdamFfReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamMix (hAdamMix := hAdamMix)
    ∧ quiescent_AdamMixIdeal (hAdamMixIdeal := hAdamMixIdeal)
    ∧ quiescent_AdamMixReferenceIdeal (hAdamMixReferenceIdeal := hAdamMixReferenceIdeal)
    ∧ quiescent_AdamEmbed (hAdamEmbed := hAdamEmbed)
    ∧ quiescent_AdamEmbedIdeal (hAdamEmbedIdeal := hAdamEmbedIdeal)
    ∧ quiescent_AdamEmbedReferenceIdeal (hAdamEmbedReferenceIdeal := hAdamEmbedReferenceIdeal)
    ∧ quiescent_WindowForward (hWindowForward := hWindowForward)
    ∧ quiescent_WindowForwardIdeal (hWindowForwardIdeal := hWindowForwardIdeal)
    ∧ quiescent_WindowForwardReferenceIdeal (hWindowForwardReferenceIdeal := hWindowForwardReferenceIdeal)
    ∧ preserves_FfOut_FfOutIdeal
    ∧ algebraic_FfOutIdeal_FfOutReferenceIdeal (hFfOutIdeal := hFfOutIdeal) (hFfOutReferenceIdeal := hFfOutReferenceIdeal)
    ∧ preserves_FfOutWeight_FfOutWeightIdeal
    ∧ algebraic_FfOutWeightIdeal_FfOutWeightReferenceIdeal (hFfOutWeightIdeal := hFfOutWeightIdeal) (hFfOutWeightReferenceIdeal := hFfOutWeightReferenceIdeal)
    ∧ preserves_FfInWeight_FfInWeightIdeal
    ∧ algebraic_FfInWeightIdeal_FfInWeightReferenceIdeal (hFfInWeightIdeal := hFfInWeightIdeal) (hFfInWeightReferenceIdeal := hFfInWeightReferenceIdeal)
    ∧ preserves_GateWeight_GateWeightIdeal
    ∧ algebraic_GateWeightIdeal_GateWeightReferenceIdeal (hGateWeightIdeal := hGateWeightIdeal) (hGateWeightReferenceIdeal := hGateWeightReferenceIdeal)
    ∧ preserves_EmbedWeight_EmbedWeightIdeal
    ∧ algebraic_EmbedWeightIdeal_EmbedWeightReferenceIdeal (hEmbedWeightIdeal := hEmbedWeightIdeal) (hEmbedWeightReferenceIdeal := hEmbedWeightReferenceIdeal)
    ∧ preserves_MixWeight_MixWeightIdeal
    ∧ algebraic_MixWeightIdeal_MixWeightReferenceIdeal (hMixWeightIdeal := hMixWeightIdeal) (hMixWeightReferenceIdeal := hMixWeightReferenceIdeal)
    ∧ preserves_UpWeight_UpWeightIdeal
    ∧ algebraic_UpWeightIdeal_UpWeightReferenceIdeal (hUpWeightIdeal := hUpWeightIdeal) (hUpWeightReferenceIdeal := hUpWeightReferenceIdeal)
    ∧ preserves_InWeight_InWeightIdeal
    ∧ algebraic_InWeightIdeal_InWeightReferenceIdeal (hInWeightIdeal := hInWeightIdeal) (hInWeightReferenceIdeal := hInWeightReferenceIdeal)
    ∧ preserves_FfIn_FfInIdeal
    ∧ algebraic_FfInIdeal_FfInReferenceIdeal (hFfInIdeal := hFfInIdeal) (hFfInReferenceIdeal := hFfInReferenceIdeal)
    ∧ preserves_Gate_GateIdeal
    ∧ algebraic_GateIdeal_GateReferenceIdeal (hGateIdeal := hGateIdeal) (hGateReferenceIdeal := hGateReferenceIdeal)
    ∧ preserves_Loss_LossIdeal
    ∧ algebraic_LossIdeal_LossReferenceIdeal (hLossIdeal := hLossIdeal) (hLossReferenceIdeal := hLossReferenceIdeal)
    ∧ preserves_InForward_InForwardIdeal
    ∧ algebraic_InForwardIdeal_InForwardReferenceIdeal (hInForwardIdeal := hInForwardIdeal) (hInForwardReferenceIdeal := hInForwardReferenceIdeal)
    ∧ preserves_MixForward_MixForwardIdeal
    ∧ algebraic_MixForwardIdeal_MixForwardReferenceIdeal (hMixForwardIdeal := hMixForwardIdeal) (hMixForwardReferenceIdeal := hMixForwardReferenceIdeal)
    ∧ preserves_FfInForward_FfInForwardIdeal
    ∧ algebraic_FfInForwardIdeal_FfInForwardReferenceIdeal (hFfInForwardIdeal := hFfInForwardIdeal) (hFfInForwardReferenceIdeal := hFfInForwardReferenceIdeal)
    ∧ preserves_FfOutForward_FfOutForwardIdeal
    ∧ algebraic_FfOutForwardIdeal_FfOutForwardReferenceIdeal (hFfOutForwardIdeal := hFfOutForwardIdeal) (hFfOutForwardReferenceIdeal := hFfOutForwardReferenceIdeal)
    ∧ preserves_EmbedForward_EmbedForwardIdeal
    ∧ algebraic_EmbedForwardIdeal_EmbedForwardReferenceIdeal (hEmbedForwardIdeal := hEmbedForwardIdeal) (hEmbedForwardReferenceIdeal := hEmbedForwardReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamFf_AdamFfIdeal
    ∧ algebraic_AdamFfIdeal_AdamFfReferenceIdeal (hAdamFfIdeal := hAdamFfIdeal) (hAdamFfReferenceIdeal := hAdamFfReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamMix_AdamMixIdeal
    ∧ algebraic_AdamMixIdeal_AdamMixReferenceIdeal (hAdamMixIdeal := hAdamMixIdeal) (hAdamMixReferenceIdeal := hAdamMixReferenceIdeal)
    ∧ preserves_AdamEmbed_AdamEmbedIdeal
    ∧ algebraic_AdamEmbedIdeal_AdamEmbedReferenceIdeal (hAdamEmbedIdeal := hAdamEmbedIdeal) (hAdamEmbedReferenceIdeal := hAdamEmbedReferenceIdeal)
    ∧ preserves_WindowForward_WindowForwardIdeal
    ∧ algebraic_WindowForwardIdeal_WindowForwardReferenceIdeal (hWindowForwardIdeal := hWindowForwardIdeal) (hWindowForwardReferenceIdeal := hWindowForwardReferenceIdeal)
-- ==== FfOut.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S512x1024 : Shape := ⟨2, ![512, 1024]⟩
abbrev S512x4096 : Shape := ⟨2, ![512, 4096]⟩

abbrev nBuf : Space → Nat
  | .hbm => 12
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S4096x4096, .bf16⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfOutReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== FfOutWeight.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1x4096x1024 : Shape := ⟨3, ![1, 4096, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S1x4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfOutWeightReferenceIdeal.lean ====
abbrev S4096x1024 : Shape := ⟨2, ![4096, 1024]⟩
abbrev S1024x4096 : Shape := ⟨2, ![1024, 4096]⟩
abbrev S_ : Shape := ⟨0, ![]⟩
abbrev S4096x4096 : Shape := ⟨2, ![4096, 4096]⟩
abbrev S1x4096x1024 : Shape := ⟨3, ![1, 4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S1x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== FfInWeight.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4x1024x1024 : Shape := ⟨3, ![4, 1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 17
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x1024, .bf16⟩
  | .hbm, ⟨15, _⟩ => ⟨S4096x4096, .bf16⟩
  | .hbm, ⟨16, _⟩ => ⟨S4x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfInWeightReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x4x1024 : Shape := ⟨3, ![1024, 4, 1024]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x1024, .f32⟩
  | .hbm, ⟨24, _⟩ => ⟨S1024x4096, .f32⟩
  | .hbm, ⟨25, _⟩ => ⟨S1024x4x1024, .f32⟩
  | .hbm, ⟨26, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== GateWeight.lean ====
abbrev S4096x1024 : Shape := ⟨2, ![4096, 1024]⟩
abbrev S1024x1024 : Shape := ⟨2, ![1024, 1024]⟩
abbrev S_ : Shape := ⟨0, ![]⟩
abbrev S1x1024x1024 : Shape := ⟨3, ![1, 1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateWeightReferenceIdeal.lean ====
abbrev S4096x1024 : Shape := ⟨2, ![4096, 1024]⟩
abbrev S1024x1024 : Shape := ⟨2, ![1024, 1024]⟩
abbrev S_ : Shape := ⟨0, ![]⟩
abbrev S1x1024x1024 : Shape := ⟨3, ![1, 1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x1024, .f32⟩
  | .hbm, ⟨21, _⟩ => ⟨S1024x1024, .f32⟩
  | .hbm, ⟨22, _⟩ => ⟨S1x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== EmbedWeight.lean ====
abbrev S4096x1024 : Shape := ⟨2, ![4096, 1024]⟩
abbrev S4096x256 : Shape := ⟨2, ![4096, 256]⟩
abbrev S_ : Shape := ⟨0, ![]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 15
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S4096x256, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4x256x256, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S1x256x256, .f32⟩
  | .local _ .vmem, ⟨4, _⟩ => ⟨S1x256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EmbedWeightReferenceIdeal.lean ====
abbrev S4096x1024 : Shape := ⟨2, ![4096, 1024]⟩
abbrev S4096x256 : Shape := ⟨2, ![4096, 256]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S_, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1024x256, .f32⟩
  | .hbm, ⟨17, _⟩ => ⟨S256x1024, .f32⟩
  | .hbm, ⟨18, _⟩ => ⟨S256x4x256, .f32⟩
  | .hbm, ⟨19, _⟩ => ⟨S4x256x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MixWeight.lean ====
abbrev S4096x1024 : Shape := ⟨2, ![4096, 1024]⟩
abbrev S4096x2048 : Shape := ⟨2, ![4096, 2048]⟩
abbrev S_ : Shape := ⟨0, ![]⟩
abbrev S1x1024x1024 : Shape := ⟨3, ![1, 1024, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 28
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x1024, .bf16⟩
  | .hbm, ⟨27, _⟩ => ⟨S1x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixWeightReferenceIdeal.lean ====
abbrev S4096x1024 : Shape := ⟨2, ![4096, 1024]⟩
abbrev S4096x2048 : Shape := ⟨2, ![4096, 2048]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x1024, .f32⟩
  | .hbm, ⟨29, _⟩ => ⟨S1024x1024, .f32⟩
  | .hbm, ⟨30, _⟩ => ⟨S1x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== UpWeight.lean ====
abbrev S4096x1024 : Shape := ⟨2, ![4096, 1024]⟩
abbrev S4096x512 : Shape := ⟨2, ![4096, 512]⟩
abbrev S1024x1024 : Shape := ⟨2, ![1024, 1024]⟩
abbrev S_ : Shape := ⟨0, ![]⟩
abbrev S4x512x256 : Shape := ⟨3, ![4, 512, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 18
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x512, .bf16⟩
  | .hbm, ⟨16, _⟩ => ⟨S4096x1024, .bf16⟩
  | .hbm, ⟨17, _⟩ => ⟨S4x512x256, .f32⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S1x512x256, .f32⟩
  | .local _ .vmem, ⟨4, _⟩ => ⟨S1x512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpWeightReferenceIdeal.lean ====
abbrev S4096x1024 : Shape := ⟨2, ![4096, 1024]⟩
abbrev S4096x512 : Shape := ⟨2, ![4096, 512]⟩
abbrev S1024x1024 : Shape := ⟨2, ![1024, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x512, .f32⟩
  | .hbm, ⟨20, _⟩ => ⟨S512x1024, .f32⟩
  | .hbm, ⟨21, _⟩ => ⟨S512x4x256, .f32⟩
  | .hbm, ⟨22, _⟩ => ⟨S4x512x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== InWeight.lean ====
abbrev S4096x4352 : Shape := ⟨2, ![4096, 4352]⟩
abbrev S4096x1024 : Shape := ⟨2, ![4096, 1024]⟩
abbrev S1024 : Shape := ⟨1, ![1024]⟩
abbrev S4096x512 : Shape := ⟨2, ![4096, 512]⟩
abbrev S4096x256 : Shape := ⟨2, ![4096, 256]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4352x1024 : Shape := ⟨2, ![4352, 1024]⟩
abbrev S256x1024 : Shape := ⟨2, ![256, 1024]⟩

abbrev nBuf : Space → Nat
  | .hbm => 33
  | .vmem => 15
  | .smem => 0
  | _ => 0

abbrev bufTy : (tb : Table) → Fin (tcTables nBuf tb) → BufTy
  | .hbm, ⟨0, _⟩ => ⟨S4096x4352, .f32⟩
  | .hbm, ⟨1, _⟩ => ⟨S4096x1024, .f32⟩
  | .hbm, ⟨2, _⟩ => ⟨S1024, .f32⟩
  | .hbm, ⟨3, _⟩ => ⟨S4096x512, .f32⟩
  | .hbm, ⟨4, _⟩ => ⟨S4096x512, .bf16⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x256, .f32⟩
  | .hbm, ⟨12, _⟩ => ⟨S4096x256, .bf16⟩
  | .hbm, ⟨13, _⟩ => ⟨S4096x2048, .f32⟩
  | .hbm, ⟨14, _⟩ => ⟨S4096x2048, .bf16⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4352x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x1024, .bf16⟩
  | .local _ .vmem, ⟨13, _⟩ => ⟨S256x1024, .f32⟩
  | .local _ .vmem, ⟨14, _⟩ => ⟨S256x1024, .f32⟩
  | _, _ => ⟨S4096x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 17], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c4_i32_3 : BitVec 32 := 4#32
  let v10 : BitVec 1 := Scalar.cmpi .sge arg1 c4_i32_3
  let c6_i32 : BitVec 32 := 6#32
  let v11 : BitVec 1 := Scalar.cmpi .slt arg1 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c6_i32_5 : BitVec 32 := 6#32
  let v15 : BitVec 1 := Scalar.cmpi .sge arg1 c6_i32_5
  let c8_i32 : BitVec 32 := 8#32
  let v16 : BitVec 1 := Scalar.cmpi .slt arg1 c8_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c8_i32_7 : BitVec 32 := 8#32
  let v20 : BitVec 1 := Scalar.cmpi .sge arg1 c8_i32_7
  let c9_i32 : BitVec 32 := 9#32
  let v21 : BitVec 1 := Scalar.cmpi .slt arg1 c9_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg1 : BitVec 32 := BitVec.ofNat 32 (i 1).val
  let c9_i32_9 : BitVec 32 := 9#32
  let v25 : BitVec 1 := Scalar.cmpi .sge arg1 c9_i32_9
  let c17_i32 : BitVec 32 := 17#32
  let v26 : BitVec 1 := Scalar.cmpi .slt arg1 c17_i32
  let v27 : BitVec 1 := Scalar.andi v25 v26
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InWeightReferenceIdeal.lean ====
abbrev S4096x4352 : Shape := ⟨2, ![4096, 4352]⟩
abbrev S4096x1024 : Shape := ⟨2, ![4096, 1024]⟩
abbrev S1024 : Shape := ⟨1, ![1024]⟩
abbrev S_ : Shape := ⟨0, ![]⟩
abbrev S1024x4352 : Shape := ⟨2, ![1024, 4352]⟩
abbrev S4096 : Shape := ⟨1, ![4096]⟩
abbrev S4096x1 : Shape := ⟨2, ![4096, 1]⟩
abbrev S1x1024 : Shape := ⟨2, ![1, 1024]⟩
abbrev S4352x1024 : Shape := ⟨2, ![4352, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x4352, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024x4352, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4352, .f32⟩
  | .hbm, ⟨22, _⟩ => ⟨S4352x1024, .f32⟩
  | .hbm, ⟨23, _⟩ => ⟨S1024x4352, .f32⟩
  | .hbm, ⟨24, _⟩ => ⟨S4352x1024, .f32⟩
  | _, _ => ⟨S4096x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FfIn.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4x1024 : Shape := ⟨3, ![1024, 4, 1024]⟩
abbrev S4x1024x1024 : Shape := ⟨3, ![4, 1024, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 39
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .bf16⟩
  | .hbm, ⟨32, _⟩ => ⟨S1x1024, .f32⟩
  | .hbm, ⟨33, _⟩ => ⟨S1024x4x1024, .f32⟩
  | .hbm, ⟨34, _⟩ => ⟨S4x1024x1024, .f32⟩
  | .hbm, ⟨35, _⟩ => ⟨S4x1024x1024, .bf16⟩
  | .hbm, ⟨36, _⟩ => ⟨S4096x1024, .f32⟩
  | .hbm, ⟨37, _⟩ => ⟨S4096x1024, .bf16⟩
  | .hbm, ⟨38, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfInReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | .hbm, ⟨74, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Gate.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 28
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024x1024, .bf16⟩
  | .hbm, ⟨24, _⟩ => ⟨S4096x1024, .bf16⟩
  | .hbm, ⟨25, _⟩ => ⟨S4096x1024, .bf16⟩
  | .hbm, ⟨26, _⟩ => ⟨S4096x1024, .f32⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GateReferenceIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .bf16⟩
  | .hbm, ⟨105, _⟩ => ⟨S4096x1024, .bf16⟩
  | .hbm, ⟨106, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_cst_16 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== InForward.lean ====
abbrev S4096x1024 : Shape := ⟨2, ![4096, 1024]⟩
abbrev S1024 : Shape := ⟨1, ![1024]⟩
abbrev S1024x4352 : Shape := ⟨2, ![1024, 4352]⟩
abbrev S1x1024 : Shape := ⟨2, ![1, 1024]⟩
abbrev S4352x1024 : Shape := ⟨2, ![4352, 1024]⟩
abbrev S4096x2304 : Shape := ⟨2, ![4096, 2304]⟩
abbrev S4096x2048 : Shape := ⟨2, ![4096, 2048]⟩
abbrev S512x1024 : Shape := ⟨2, ![512, 1024]⟩
abbrev S512x2304 : Shape := ⟨2, ![512, 2304]⟩
abbrev S512x2048 : Shape := ⟨2, ![512, 2048]⟩
abbrev S512 : Shape := ⟨1, ![512]⟩
abbrev S512x1 : Shape := ⟨2, ![512, 1]⟩
abbrev S2304x1024 : Shape := ⟨2, ![2304, 1024]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S1x1024, .f32⟩
  | .hbm, ⟨4, _⟩ => ⟨S4352x1024, .f32⟩
  | .hbm, ⟨5, _⟩ => ⟨S4352x1024, .bf16⟩
  | .hbm, ⟨6, _⟩ => ⟨S4096x1024, .bf16⟩
  | .hbm, ⟨7, _⟩ => ⟨S4096x2304, .bf16⟩
  | .hbm, ⟨8, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2304, .bf16⟩
  | .local _ .vmem, ⟨7, _⟩ => ⟨S512x2304, .bf16⟩
  | .local _ .vmem, ⟨8, _⟩ => ⟨S512x2048, .f32⟩
  | .local _ .vmem, ⟨9, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InForwardReferenceIdeal.lean ====
abbrev S4096x1024 : Shape := ⟨2, ![4096, 1024]⟩
abbrev S1024 : Shape := ⟨1, ![1024]⟩
abbrev S1024x4352 : Shape := ⟨2, ![1024, 4352]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4352 : Shape := ⟨2, ![4096, 4352]⟩
abbrev S4096x2304 : Shape := ⟨2, ![4096, 2304]⟩
abbrev S4096x2048 : Shape := ⟨2, ![4096, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4352, .f32⟩
  | .hbm, ⟨20, _⟩ => ⟨S4096x1024, .bf16⟩
  | .hbm, ⟨21, _⟩ => ⟨S4096x2304, .f32⟩
  | .hbm, ⟨22, _⟩ => ⟨S4096x2304, .bf16⟩
  | .hbm, ⟨23, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== MixForward.lean ====
abbrev S4096x512 : Shape := ⟨2, ![4096, 512]⟩
abbrev S4096x2048 : Shape := ⟨2, ![4096, 2048]⟩
abbrev S4096x1024 : Shape := ⟨2, ![4096, 1024]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩

abbrev nBuf : Space → Nat
  | .hbm => 18
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x512, .bf16⟩
  | .hbm, ⟨8, _⟩ => ⟨S4096x512, .bf16⟩
  | .hbm, ⟨9, _⟩ => ⟨S512x4x256, .f32⟩
  | .hbm, ⟨10, _⟩ => ⟨S4x512x256, .f32⟩
  | .hbm, ⟨11, _⟩ => ⟨S4x512x256, .bf16⟩
  | .hbm, ⟨12, _⟩ => ⟨S512x4x256, .f32⟩
  | .hbm, ⟨13, _⟩ => ⟨S4x512x256, .f32⟩
  | .hbm, ⟨14, _⟩ => ⟨S4x512x256, .bf16⟩
  | .hbm, ⟨15, _⟩ => ⟨S1024x1024, .bf16⟩
  | .hbm, ⟨16, _⟩ => ⟨S4096x1024, .bf16⟩
  | .hbm, ⟨17, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S4x512x256, .bf16⟩
  | .local _ .vmem, ⟨9, _⟩ => ⟨S4x512x256, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixForwardReferenceIdeal.lean ====
abbrev S4096x512 : Shape := ⟨2, ![4096, 512]⟩
abbrev S4096x2048 : Shape := ⟨2, ![4096, 2048]⟩
abbrev S4096x1024 : Shape := ⟨2, ![4096, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .f32⟩
  | .hbm, ⟨32, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== FfInForward.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S4096x1024, .bf16⟩
  | .hbm, ⟨8, _⟩ => ⟨S4096x4096, .bf16⟩
  | .hbm, ⟨9, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfInForwardReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x1024, .bf16⟩
  | .hbm, ⟨24, _⟩ => ⟨S4096x4096, .bf16⟩
  | .hbm, ⟨25, _⟩ => ⟨S4096x4096, .f32⟩
  | .hbm, ⟨26, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FfOutForward.lean ====
abbrev S4096x4096 : Shape := ⟨2, ![4096, 4096]⟩
abbrev S4096x1024 : Shape := ⟨2, ![4096, 1024]⟩
abbrev S_ : Shape := ⟨0, ![]⟩
abbrev S512x4096 : Shape := ⟨2, ![512, 4096]⟩
abbrev S512x1024 : Shape := ⟨2, ![512, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfOutForwardReferenceIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== EmbedForward.lean ====
abbrev S4096x256 : Shape := ⟨2, ![4096, 256]⟩
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S256x4x256 : Shape := ⟨3, ![256, 4, 256]⟩
abbrev S4x256x256 : Shape := ⟨3, ![4, 256, 256]⟩
abbrev S512x256 : Shape := ⟨2, ![512, 256]⟩
abbrev S512x1024 : Shape := ⟨2, ![512, 1024]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1x1024, .f32⟩
  | .hbm, ⟨6, _⟩ => ⟨S256x4x256, .f32⟩
  | .hbm, ⟨7, _⟩ => ⟨S4x256x256, .f32⟩
  | .hbm, ⟨8, _⟩ => ⟨S4x256x256, .bf16⟩
  | .hbm, ⟨9, _⟩ => ⟨S1024x1024, .bf16⟩
  | .hbm, ⟨10, _⟩ => ⟨S4096x256, .bf16⟩
  | .hbm, ⟨11, _⟩ => ⟨S4096x1024, .bf16⟩
  | .hbm, ⟨12, _⟩ => ⟨S4096x1024, .f32⟩
  | .hbm, ⟨13, _⟩ => ⟨S4096x1024, .f32⟩
  | .hbm, ⟨14, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x256x256, .bf16⟩
  | .local _ .vmem, ⟨6, _⟩ => ⟨S1024x1024, .bf16⟩
  | .local _ .vmem, ⟨7, _⟩ => ⟨S512x256, .bf16⟩
  | .local _ .vmem, ⟨8, _⟩ => ⟨S512x256, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== EmbedForwardReferenceIdeal.lean ====
abbrev S4096x256 : Shape := ⟨2, ![4096, 256]⟩
abbrev S4096x1024 : Shape := ⟨2, ![4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x256, .bf16⟩
  | .hbm, ⟨24, _⟩ => ⟨S4096x1024, .bf16⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== AdamIn.lean ====
abbrev S2x1088x1024 : Shape := ⟨3, ![2, 1088, 1024]⟩
abbrev S1088x1024 : Shape := ⟨2, ![1088, 1024]⟩
abbrev S1x544x1024 : Shape := ⟨3, ![1, 544, 1024]⟩
abbrev S544x1024 : Shape := ⟨2, ![544, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1088x1024, .f32⟩
  | .hbm, ⟨1, _⟩ => ⟨S2x1088x1024, .f32⟩
  | .hbm, ⟨2, _⟩ => ⟨S2x1088x1024, .f32⟩
  | .hbm, ⟨3, _⟩ => ⟨S1088x1024, .f32⟩
  | .hbm, ⟨4, _⟩ => ⟨S1088x1024, .f32⟩
  | .hbm, ⟨5, _⟩ => ⟨S2x1088x1024, .f32⟩
  | .hbm, ⟨6, _⟩ => ⟨S2x1088x1024, .f32⟩
  | .hbm, ⟨7, _⟩ => ⟨S2x1088x1024, .f32⟩
  | .hbm, ⟨8, _⟩ => ⟨S2x1088x1024, .f32⟩
  | .local _ .vmem, ⟨0, _⟩ => ⟨S1x544x1024, .f32⟩
  | .local _ .vmem, ⟨1, _⟩ => ⟨S1x544x1024, .f32⟩
  | .local _ .vmem, ⟨2, _⟩ => ⟨S1x544x1024, .f32⟩
  | .local _ .vmem, ⟨3, _⟩ => ⟨S1x544x1024, .f32⟩
  | .local _ .vmem, ⟨4, _⟩ => ⟨S1x544x1024, .f32⟩
  | .local _ .vmem, ⟨5, _⟩ => ⟨S1x544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S1x544x1024, .f32⟩
  | .local _ .vmem, ⟨11, _⟩ => ⟨S1x544x1024, .f32⟩
  | .local _ .vmem, ⟨12, _⟩ => ⟨S1x544x1024, .f32⟩
  | .local _ .vmem, ⟨13, _⟩ => ⟨S1x544x1024, .f32⟩
  | .local _ .vmem, ⟨14, _⟩ => ⟨S1x544x1024, .f32⟩
  | .local _ .vmem, ⟨15, _⟩ => ⟨S1x544x1024, .f32⟩
  | .local _ .vmem, ⟨16, _⟩ => ⟨S1x544x1024, .f32⟩
  | .local _ .vmem, ⟨17, _⟩ => ⟨S1x544x1024, .f32⟩
  | _, _ => ⟨S2x1088x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInIdeal.lean ====
abbrev S2x1088x1024 : Shape := ⟨3, ![2, 1088, 1024]⟩
abbrev S1088x1024 : Shape := ⟨2, ![1088, 1024]⟩
abbrev S1x544x1024 : Shape := ⟨3, ![1, 544, 1024]⟩
abbrev S544x1024 : Shape := ⟨2, ![544, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1088x1024, .f32⟩
  | .hbm, ⟨1, _⟩ => ⟨S2x1088x1024, .f32⟩
  | .hbm, ⟨2, _⟩ => ⟨S2x1088x1024, .f32⟩
  | .hbm, ⟨3, _⟩ => ⟨S1088x1024, .f32⟩
  | .hbm, ⟨4, _⟩ => ⟨S1088x1024, .f32⟩
  | .hbm, ⟨5, _⟩ => ⟨S2x1088x1024, .f32⟩
  | .hbm, ⟨6, _⟩ => ⟨S2x1088x1024, .f32⟩
  | .hbm, ⟨7, _⟩ => ⟨S2x1088x1024, .f32⟩
  | .hbm, ⟨8, _⟩ => ⟨S2x1088x1024, .f32⟩
  | .local _ .vmem, ⟨0, _⟩ => ⟨S1x544x1024, .f32⟩
  | .local _ .vmem, ⟨1, _⟩ => ⟨S1x544x1024, .f32⟩
  | .local _ .vmem, ⟨2, _⟩ => ⟨S1x544x1024, .f32⟩
  | .local _ .vmem, ⟨3, _⟩ => ⟨S1x544x1024, .f32⟩
  | .local _ .vmem, ⟨4, _⟩ => ⟨S1x544x1024, .f32⟩
  | .local _ .vmem, ⟨5, _⟩ => ⟨S1x544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S1x544x1024, .f32⟩
  | .local _ .vmem, ⟨11, _⟩ => ⟨S1x544x1024, .f32⟩
  | .local _ .vmem, ⟨12, _⟩ => ⟨S1x544x1024, .f32⟩
  | .local _ .vmem, ⟨13, _⟩ => ⟨S1x544x1024, .f32⟩
  | .local _ .vmem, ⟨14, _⟩ => ⟨S1x544x1024, .f32⟩
  | .local _ .vmem, ⟨15, _⟩ => ⟨S1x544x1024, .f32⟩
  | .local _ .vmem, ⟨16, _⟩ => ⟨S1x544x1024, .f32⟩
  | .local _ .vmem, ⟨17, _⟩ => ⟨S1x544x1024, .f32⟩
  | _, _ => ⟨S2x1088x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInReferenceIdeal.lean ====
abbrev S2x1088x1024 : Shape := ⟨3, ![2, 1088, 1024]⟩
abbrev S1088x1024 : Shape := ⟨2, ![1088, 1024]⟩
abbrev S1x1088x1024 : Shape := ⟨3, ![1, 1088, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1088x1024, .f32⟩
  | .hbm, ⟨1, _⟩ => ⟨S2x1088x1024, .f32⟩
  | .hbm, ⟨2, _⟩ => ⟨S2x1088x1024, .f32⟩
  | .hbm, ⟨3, _⟩ => ⟨S1088x1024, .f32⟩
  | .hbm, ⟨4, _⟩ => ⟨S1088x1024, .f32⟩
  | .hbm, ⟨5, _⟩ => ⟨S1x1088x1024, .f32⟩
  | .hbm, ⟨6, _⟩ => ⟨S1x1088x1024, .f32⟩
  | .hbm, ⟨7, _⟩ => ⟨S2x1088x1024, .f32⟩
  | .hbm, ⟨8, _⟩ => ⟨S_, .f32⟩
  | .hbm, ⟨9, _⟩ => ⟨S2x1088x1024, .f32⟩
  | .hbm, ⟨10, _⟩ => ⟨S2x1088x1024, .f32⟩
  | .hbm, ⟨11, _⟩ => ⟨S_, .f32⟩
  | .hbm, ⟨12, _⟩ => ⟨S2x1088x1024, .f32⟩
  | .hbm, ⟨13, _⟩ => ⟨S2x1088x1024, .f32⟩
  | .hbm, ⟨14, _⟩ => ⟨S2x1088x1024, .f32⟩
  | .hbm, ⟨15, _⟩ => ⟨S_, .f32⟩
  | .hbm, ⟨16, _⟩ => ⟨S2x1088x1024, .f32⟩
  | .hbm, ⟨17, _⟩ => ⟨S2x1088x1024, .f32⟩
  | .hbm, ⟨18, _⟩ => ⟨S2x1088x1024, .f32⟩
  | .hbm, ⟨19, _⟩ => ⟨S_, .f32⟩
  | .hbm, ⟨20, _⟩ => ⟨S2x1088x1024, .f32⟩
  | .hbm, ⟨21, _⟩ => ⟨S2x1088x1024, .f32⟩
  | .hbm, ⟨22, _⟩ => ⟨S2x1088x1024, .f32⟩
  | .hbm, ⟨23, _⟩ => ⟨S_, .f32⟩
  | .hbm, ⟨24, _⟩ => ⟨S2x1088x1024, .f32⟩
  | .hbm, ⟨25, _⟩ => ⟨S2x1088x1024, .f32⟩
  | .hbm, ⟨26, _⟩ => ⟨S_, .f32⟩
  | .hbm, ⟨27, _⟩ => ⟨S2x1088x1024, .f32⟩
  | .hbm, ⟨28, _⟩ => ⟨S2x1088x1024, .f32⟩
  | .hbm, ⟨29, _⟩ => ⟨S2x1088x1024, .f32⟩
  | .hbm, ⟨30, _⟩ => ⟨S_, .f32⟩
  | .hbm, ⟨31, _⟩ => ⟨S2x1088x1024, .f32⟩
  | .hbm, ⟨32, _⟩ => ⟨S2x1088x1024, .f32⟩
  | .hbm, ⟨33, _⟩ => ⟨S2x1088x1024, .f32⟩
  | .hbm, ⟨34, _⟩ => ⟨S_, .f32⟩
  | .hbm, ⟨35, _⟩ => ⟨S2x1088x1024, .f32⟩
  | .hbm, ⟨36, _⟩ => ⟨S2x1088x1024, .f32⟩
  | .hbm, ⟨37, _⟩ => ⟨S2x1088x1024, .f32⟩
  | .hbm, ⟨38, _⟩ => ⟨S_, .f32⟩
  | .hbm, ⟨39, _⟩ => ⟨S2x1088x1024, .f32⟩
  | .hbm, ⟨40, _⟩ => ⟨S2x1088x1024, .f32⟩
  | _, _ => ⟨S2x1088x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamFf.lean ====
abbrev S2x1024x1024 : Shape := ⟨3, ![2, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfIdeal.lean ====
abbrev S2x1024x1024 : Shape := ⟨3, ![2, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfReferenceIdeal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1x1024x1024, .f32⟩
  | .hbm, ⟨6, _⟩ => ⟨S1x1024x1024, .f32⟩
  | .hbm, ⟨7, _⟩ => ⟨S2x1024x1024, .f32⟩
  | .hbm, ⟨8, _⟩ => ⟨S_, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamUp.lean ====
abbrev S2x512x256 : Shape := ⟨3, ![2, 512, 256]⟩
abbrev S512x256 : Shape := ⟨2, ![512, 256]⟩
abbrev S1x512x256 : Shape := ⟨3, ![1, 512, 256]⟩

abbrev nBuf : Space → Nat
  | .hbm => 9
  | .vmem => 18
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S512x256, .f32⟩
  | .hbm, ⟨4, _⟩ => ⟨S512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpIdeal.lean ====
abbrev S2x512x256 : Shape := ⟨3, ![2, 512, 256]⟩
abbrev S512x256 : Shape := ⟨2, ![512, 256]⟩
abbrev S1x512x256 : Shape := ⟨3, ![1, 512, 256]⟩

abbrev nBuf : Space → Nat
  | .hbm => 9
  | .vmem => 18
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S512x256, .f32⟩
  | .hbm, ⟨4, _⟩ => ⟨S512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpReferenceIdeal.lean ====
abbrev S2x512x256 : Shape := ⟨3, ![2, 512, 256]⟩
abbrev S512x256 : Shape := ⟨2, ![512, 256]⟩
abbrev S1x512x256 : Shape := ⟨3, ![1, 512, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S512x256, .f32⟩
  | .hbm, ⟨4, _⟩ => ⟨S512x256, .f32⟩
  | .hbm, ⟨5, _⟩ => ⟨S1x512x256, .f32⟩
  | .hbm, ⟨6, _⟩ => ⟨S1x512x256, .f32⟩
  | .hbm, ⟨7, _⟩ => ⟨S2x512x256, .f32⟩
  | .hbm, ⟨8, _⟩ => ⟨S_, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S2x512x256, .f32⟩
  | .hbm, ⟨23, _⟩ => ⟨S_, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S2x512x256, .f32⟩
  | .hbm, ⟨38, _⟩ => ⟨S_, .f32⟩
  | .hbm, ⟨39, _⟩ => ⟨S2x512x256, .f32⟩
  | .hbm, ⟨40, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamMix.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMixIdeal.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMixReferenceIdeal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamEmbed.lean ====
abbrev S2x256x256 : Shape := ⟨3, ![2, 256, 256]⟩
abbrev S256x256 : Shape := ⟨2, ![256, 256]⟩
abbrev S1x256x256 : Shape := ⟨3, ![1, 256, 256]⟩

abbrev nBuf : Space → Nat
  | .hbm => 9
  | .vmem => 18
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S256x256, .f32⟩
  | .hbm, ⟨4, _⟩ => ⟨S256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamEmbedReferenceIdeal.lean ====
abbrev S2x256x256 : Shape := ⟨3, ![2, 256, 256]⟩
abbrev S256x256 : Shape := ⟨2, ![256, 256]⟩
abbrev S1x256x256 : Shape := ⟨3, ![1, 256, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S256x256, .f32⟩
  | .hbm, ⟨4, _⟩ => ⟨S256x256, .f32⟩
  | .hbm, ⟨5, _⟩ => ⟨S1x256x256, .f32⟩
  | .hbm, ⟨6, _⟩ => ⟨S1x256x256, .f32⟩
  | .hbm, ⟨7, _⟩ => ⟨S2x256x256, .f32⟩
  | .hbm, ⟨8, _⟩ => ⟨S_, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S2x256x256, .f32⟩
  | .hbm, ⟨23, _⟩ => ⟨S_, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S2x256x256, .f32⟩
  | .hbm, ⟨38, _⟩ => ⟨S_, .f32⟩
  | .hbm, ⟨39, _⟩ => ⟨S2x256x256, .f32⟩
  | .hbm, ⟨40, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== WindowForward.lean ====
abbrev S4096x2304 : Shape := ⟨2, ![4096, 2304]⟩
abbrev S8 : Shape := ⟨1, ![8]⟩
abbrev S32x8 : Shape := ⟨2, ![32, 8]⟩
abbrev S128x256 : Shape := ⟨2, ![128, 256]⟩
abbrev S_ : Shape := ⟨0, ![]⟩
abbrev S4096x512 : Shape := ⟨2, ![4096, 512]⟩
abbrev S512x128 : Shape := ⟨2, ![512, 128]⟩
abbrev S4096x128 : Shape := ⟨2, ![4096, 128]⟩
abbrev S256x256 : Shape := ⟨2, ![256, 256]⟩
abbrev S128x128 : Shape := ⟨2, ![128, 128]⟩
abbrev S1x1 : Shape := ⟨2, ![1, 1]⟩
abbrev S256x128 : Shape := ⟨2, ![256, 128]⟩
abbrev S256x1 : Shape := ⟨2, ![256, 1]⟩
abbrev S1 : Shape := ⟨1, ![1]⟩
abbrev S256 : Shape := ⟨1, ![256]⟩

abbrev nBuf : Space → Nat
  | .hbm => 91
  | .vmem => 8
  | .smem => 2
  | _ => 0

abbrev bufTy : (tb : Table) → Fin (tcTables nBuf tb) → BufTy
  | .hbm, ⟨0, _⟩ => ⟨S4096x2304, .bf16⟩
  | .hbm, ⟨1, _⟩ => ⟨S8, .f32⟩
  | .hbm, ⟨2, _⟩ => ⟨S32x8, .f32⟩
  | .hbm, ⟨3, _⟩ => ⟨S128x256, .i32⟩
  | .hbm, ⟨4, _⟩ => ⟨S128x256, .i32⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S_, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S128x256, .i32⟩
  | .hbm, ⟨19, _⟩ => ⟨S128x256, .i32⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S128x256, .i32⟩
  | .hbm, ⟨24, _⟩ => ⟨S128x256, .i32⟩
  | .hbm, ⟨25, _⟩ => ⟨S_, .i32⟩
  | .hbm, ⟨26, _⟩ => ⟨S128x256, .i32⟩
  | .hbm, ⟨27, _⟩ => ⟨S128x256, .i1⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i32⟩
  | .hbm, ⟨49, _⟩ => ⟨S128x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i32⟩
  | .hbm, ⟨54, _⟩ => ⟨S128x256, .i32⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S128x256, .i32⟩
  | .hbm, ⟨59, _⟩ => ⟨S128x256, .i32⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S128x256, .i32⟩
  | .hbm, ⟨64, _⟩ => ⟨S128x256, .i32⟩
  | .hbm, ⟨65, _⟩ => ⟨S_, .i32⟩
  | .hbm, ⟨66, _⟩ => ⟨S128x256, .i32⟩
  | .hbm, ⟨67, _⟩ => ⟨S128x256, .i1⟩
  | .hbm, ⟨68, _⟩ => ⟨S128x256, .i32⟩
  | .hbm, ⟨69, _⟩ => ⟨S128x256, .i32⟩
  | .hbm, ⟨70, _⟩ => ⟨S_, .i32⟩
  | .hbm, ⟨71, _⟩ => ⟨S128x256, .i32⟩
  | .hbm, ⟨72, _⟩ => ⟨S128x256, .i1⟩
  | .hbm, ⟨73, _⟩ => ⟨S128x256, .i32⟩
  | .hbm, ⟨74, _⟩ => ⟨S128x256, .i32⟩
  | .hbm, ⟨75, _⟩ => ⟨S_, .i32⟩
  | .hbm, ⟨76, _⟩ => ⟨S128x256, .i32⟩
  | .hbm, ⟨77, _⟩ => ⟨S128x256, .i1⟩
  | .hbm, ⟨78, _⟩ => ⟨S128x256, .i32⟩
  | .hbm, ⟨79, _⟩ => ⟨S128x256, .i32⟩
  | .hbm, ⟨80, _⟩ => ⟨S_, .i32⟩
  | .hbm, ⟨81, _⟩ => ⟨S128x256, .i32⟩
  | .hbm, ⟨82, _⟩ => ⟨S128x256, .i1⟩
  | .hbm, ⟨83, _⟩ => ⟨S128x256, .i32⟩
  | .hbm, ⟨84, _⟩ => ⟨S128x256, .i32⟩
  | .hbm, ⟨85, _⟩ => ⟨S_, .i32⟩
  | .hbm, ⟨86, _⟩ => ⟨S128x256, .i32⟩
  | .hbm, ⟨87, _⟩ => ⟨S128x256, .i1⟩
  | .hbm, ⟨88, _⟩ => ⟨S128x256, .i32⟩
  | .hbm, ⟨89, _⟩ => ⟨S128x256, .i32⟩
  | .hbm, ⟨90, _⟩ => ⟨S4096x512, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S128x256, .i32⟩
  | .local _ .vmem, ⟨5, _⟩ => ⟨S512x128, .bf16⟩
  | .local _ .vmem, ⟨6, _⟩ => ⟨S512x128, .bf16⟩
  | .local _ .vmem, ⟨7, _⟩ => ⟨S256x256, .f32⟩
  | .local _ .smem, ⟨0, _⟩ => ⟨S8, .f32⟩
  | .local _ .smem, ⟨1, _⟩ => ⟨S32x8, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_12 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_13 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_14 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_15 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_16 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_scratch0 : Ref sig .tc := ⟨.vmem, 7, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_4 : BitVec 32 := 0#32
  let v18 : BitVec 1 := Scalar.cmpi .eq arg1 c0_i32_4
  let v19 : BitVec 32 := Scalar.extui v18
  let c0_i32_5 : BitVec 32 := 0#32
  let v20 : BitVec 1 := Scalar.cmpi .ne v19 c0_i32_5
  v20

@[reducible] def k0_t1_loop : Scf.Loop 32 :=
  let c0_i32_182 : BitVec 32 := 0#32
  let c32_i32 : BitVec 32 := 32#32
  let v423 : BitVec 32 := Scalar.addi c0_i32_182 c32_i32
  let c1_i32_183 : BitVec 32 := 1#32
  ⟨c0_i32_182, v423, c1_i32_183⟩
def k0_off1 (i : grid0.Coords) (k0_t1 : Fin k0_t1_loop.trips) : Fin 2 → Nat :=
  let c0_i32_182 : BitVec 32 := 0#32
  let c1_i32_183 : BitVec 32 := 1#32
  let arg10 : BitVec 32 := Scf.iv c0_i32_182 c1_i32_183 k0_t1
  let v444 : Index := Scalar.indexCast arg10
  let c2_i32_198 : BitVec 32 := 2#32
  let arg0 : BitVec 32 := BitVec.ofNat 32 (i 0).val
  let v442 : BitVec 32 := Scalar.muli c2_i32_198 arg0
  let c0_i32_199 : BitVec 32 := 0#32
  let v443 : BitVec 32 := Scalar.addi v442 c0_i32_199
  let v445 : Index := Scalar.indexCast v443
  ![v444.toNat, v445.toNat]
@[reducible] def k0_t2_loop : Scf.Loop 32 :=
  let c0_i32_189 : BitVec 32 := 0#32
  let c32_i32_190 : BitVec 32 := 32#32
  let v431 : BitVec 32 := Scalar.addi c0_i32_189 c32_i32_190
  let c1_i32_191 : BitVec 32 := 1#32
  ⟨c0_i32_189, v431, c1_i32_191⟩
def k0_off2 (i : grid0.Coords) (k0_t2 : Fin k0_t2_loop.trips) : Fin 2 → Nat :=
  let c0_i32_189 : BitVec 32 := 0#32
  let c1_i32_191 : BitVec 32 := 1#32
  let arg10 : BitVec 32 := Scf.iv c0_i32_189 c1_i32_191 k0_t2
  let v444 : Index := Scalar.indexCast arg10
  let c2_i32_198 : BitVec 32 := 2#32
  let arg0 : BitVec 32 := BitVec.ofNat 32 (i 0).val
  let v442 : BitVec 32 := Scalar.muli c2_i32_198 arg0
  let c1_i32_199 : BitVec 32 := 1#32
  let v443 : BitVec 32 := Scalar.addi v442 c1_i32_199
  let v445 : Index := Scalar.indexCast v443
  ![v444.toNat, v445.toNat]
def k0_mult1 (i : grid0.Coords) : BitVec 32 :=
  let arg1 : BitVec 32 := BitVec.ofNat 32 (i 1).val
  let c4_i32 : BitVec 32 := 4#32
  let v24 : BitVec 32 := Scalar.muli arg1 c4_i32
  let c0_i32_6 : BitVec 32 := 0#32
  let v25 : BitVec 32 := Scalar.addi v24 c0_i32_6
  let c1_i32_15 : BitVec 32 := 1#32
  let v48 : BitVec 32 := Scalar.subi v25 c1_i32_15
  let c0_i32_16 : BitVec 32 := 0#32
  let v49 : BitVec 32 := Scalar.maxsi v48 c0_i32_16
  let c128_i32_17 : BitVec 32 := 128#32
  let v50 : BitVec 32 := Scalar.muli v49 c128_i32_17
  v50
def k0_mult2 (i : grid0.Coords) : BitVec 32 :=
  let arg1 : BitVec 32 := BitVec.ofNat 32 (i 1).val
  let c4_i32 : BitVec 32 := 4#32
  let v24 : BitVec 32 := Scalar.muli arg1 c4_i32
  let c0_i32_6 : BitVec 32 := 0#32
  let v25 : BitVec 32 := Scalar.addi v24 c0_i32_6
  let c128_i32_18 : BitVec 32 := 128#32
  let v52 : BitVec 32 := Scalar.muli v25 c128_i32_18
  v52
def k0_off3 (i : grid0.Coords) (c0_i32_6 : BitVec 32) : Fin 2 → Nat :=
  let arg1 : BitVec 32 := BitVec.ofNat 32 (i 1).val
  let c4_i32 : BitVec 32 := 4#32
  let v24 : BitVec 32 := Scalar.muli arg1 c4_i32
  let v25 : BitVec 32 := Scalar.addi v24 c0_i32_6
  let c1_i32_15 : BitVec 32 := 1#32
  let v48 : BitVec 32 := Scalar.subi v25 c1_i32_15
  let c0_i32_16 : BitVec 32 := 0#32
  let v49 : BitVec 32 := Scalar.maxsi v48 c0_i32_16
  let c128_i32_17 : BitVec 32 := 128#32
  let v50 : BitVec 32 := Scalar.muli v49 c128_i32_17
  let v51 : BitVec 32 := v50
  let v54 : Index := Scalar.indexCast v51
  let c0_19 : Index := 0#32
  ![v54.toNat, 0]
def k0_off4 (i : grid0.Coords) (c0_i32_6 : BitVec 32) : Fin 2 → Nat :=
  let arg1 : BitVec 32 := BitVec.ofNat 32 (i 1).val
  let c4_i32 : BitVec 32 := 4#32
  let v24 : BitVec 32 := Scalar.muli arg1 c4_i32
  let v25 : BitVec 32 := Scalar.addi v24 c0_i32_6
  let c128_i32_18 : BitVec 32 := 128#32
  let v52 : BitVec 32 := Scalar.muli v25 c128_i32_18
  let v53 : BitVec 32 := v52
  let v56 : Index := Scalar.indexCast v53
  let c0_20 : Index := 0#32
  ![v56.toNat, 0]
def k0_mult3 (i : grid0.Coords) : BitVec 32 :=
  let arg1 : BitVec 32 := BitVec.ofNat 32 (i 1).val
  let c4_i32 : BitVec 32 := 4#32
  let v24 : BitVec 32 := Scalar.muli arg1 c4_i32
  let c0_i32_6 : BitVec 32 := 0#32
  let v25 : BitVec 32 := Scalar.addi v24 c0_i32_6
  let c1_i32_21 : BitVec 32 := 1#32
  let v59 : BitVec 32 := Scalar.subi v25 c1_i32_21
  let c0_i32_22 : BitVec 32 := 0#32
  let v60 : BitVec 32 := Scalar.maxsi v59 c0_i32_22
  let c128_i32_23 : BitVec 32 := 128#32
  let v61 : BitVec 32 := Scalar.muli v60 c128_i32_23
  v61
def k0_mult4 (i : grid0.Coords) : BitVec 32 :=
  let arg1 : BitVec 32 := BitVec.ofNat 32 (i 1).val
  let c4_i32 : BitVec 32 := 4#32
  let v24 : BitVec 32 := Scalar.muli arg1 c4_i32
  let c0_i32_6 : BitVec 32 := 0#32
  let v25 : BitVec 32 := Scalar.addi v24 c0_i32_6
  let c128_i32_24 : BitVec 32 := 128#32
  let v63 : BitVec 32 := Scalar.muli v25 c128_i32_24
  v63
def k0_off5 (i : grid0.Coords) : Fin 1 → Nat :=
  let c2_i32_33 : BitVec 32 := 2#32
  let arg0 : BitVec 32 := BitVec.ofNat 32 (i 0).val
  let v81 : BitVec 32 := Scalar.muli c2_i32_33 arg0
  let v82 : Index := Scalar.indexCast v81
  ![v82.toNat]
def k0_off6 (i : grid0.Coords) : Fin 1 → Nat :=
  let c2_i32_34 : BitVec 32 := 2#32
  let arg0 : BitVec 32 := BitVec.ofNat 32 (i 0).val
  let v84 : BitVec 32 := Scalar.muli c2_i32_34 arg0
  let c1_i32_35 : BitVec 32 := 1#32
  let v85 : BitVec 32 := Scalar.addi v84 c1_i32_35
  let v86 : Index := Scalar.indexCast v85
  ![v86.toNat]
def k0_mult5 (i : grid0.Coords) : BitVec 32 :=
  let arg1 : BitVec 32 := BitVec.ofNat 32 (i 1).val
  let c4_i32_47 : BitVec 32 := 4#32
  let v121 : BitVec 32 := Scalar.muli arg1 c4_i32_47
  let c1_i32_48 : BitVec 32 := 1#32
  let v122 : BitVec 32 := Scalar.addi v121 c1_i32_48
  let c1_i32_59 : BitVec 32 := 1#32
  let v145 : BitVec 32 := Scalar.subi v122 c1_i32_59
  let c0_i32_60 : BitVec 32 := 0#32
  let v146 : BitVec 32 := Scalar.maxsi v145 c0_i32_60
  let c128_i32_61 : BitVec 32 := 128#32
  let v147 : BitVec 32 := Scalar.muli v146 c128_i32_61
  v147
def k0_mult6 (i : grid0.Coords) : BitVec 32 :=
  let arg1 : BitVec 32 := BitVec.ofNat 32 (i 1).val
  let c4_i32_47 : BitVec 32 := 4#32
  let v121 : BitVec 32 := Scalar.muli arg1 c4_i32_47
  let c1_i32_48 : BitVec 32 := 1#32
  let v122 : BitVec 32 := Scalar.addi v121 c1_i32_48
  let c128_i32_62 : BitVec 32 := 128#32
  let v149 : BitVec 32 := Scalar.muli v122 c128_i32_62
  v149
def k0_mult7 (i : grid0.Coords) : BitVec 32 :=
  let arg1 : BitVec 32 := BitVec.ofNat 32 (i 1).val
  let c4_i32_47 : BitVec 32 := 4#32
  let v121 : BitVec 32 := Scalar.muli arg1 c4_i32_47
  let c1_i32_48 : BitVec 32 := 1#32
  let v122 : BitVec 32 := Scalar.addi v121 c1_i32_48
  let c1_i32_65 : BitVec 32 := 1#32
  let v156 : BitVec 32 := Scalar.subi v122 c1_i32_65
  let c0_i32_66 : BitVec 32 := 0#32
  let v157 : BitVec 32 := Scalar.maxsi v156 c0_i32_66
  let c128_i32_67 : BitVec 32 := 128#32
  let v158 : BitVec 32 := Scalar.muli v157 c128_i32_67
  v158
def k0_mult8 (i : grid0.Coords) : BitVec 32 :=
  let arg1 : BitVec 32 := BitVec.ofNat 32 (i 1).val
  let c4_i32_47 : BitVec 32 := 4#32
  let v121 : BitVec 32 := Scalar.muli arg1 c4_i32_47
  let c1_i32_48 : BitVec 32 := 1#32
  let v122 : BitVec 32 := Scalar.addi v121 c1_i32_48
  let c128_i32_68 : BitVec 32 := 128#32
  let v160 : BitVec 32 := Scalar.muli v122 c128_i32_68
  v160
def k0_mult9 (i : grid0.Coords) : BitVec 32 :=
  let arg1 : BitVec 32 := BitVec.ofNat 32 (i 1).val
  let c4_i32_91 : BitVec 32 := 4#32
  let v218 : BitVec 32 := Scalar.muli arg1 c4_i32_91
  let c2_i32_92 : BitVec 32 := 2#32
  let v219 : BitVec 32 := Scalar.addi v218 c2_i32_92
  let c1_i32_103 : BitVec 32 := 1#32
  let v242 : BitVec 32 := Scalar.subi v219 c1_i32_103
  let c0_i32_104 : BitVec 32 := 0#32
  let v243 : BitVec 32 := Scalar.maxsi v242 c0_i32_104
  let c128_i32_105 : BitVec 32 := 128#32
  let v244 : BitVec 32 := Scalar.muli v243 c128_i32_105
  v244
def k0_mult10 (i : grid0.Coords) : BitVec 32 :=
  let arg1 : BitVec 32 := BitVec.ofNat 32 (i 1).val
  let c4_i32_91 : BitVec 32 := 4#32
  let v218 : BitVec 32 := Scalar.muli arg1 c4_i32_91
  let c2_i32_92 : BitVec 32 := 2#32
  let v219 : BitVec 32 := Scalar.addi v218 c2_i32_92
  let c128_i32_106 : BitVec 32 := 128#32
  let v246 : BitVec 32 := Scalar.muli v219 c128_i32_106
  v246
def k0_mult11 (i : grid0.Coords) : BitVec 32 :=
  let arg1 : BitVec 32 := BitVec.ofNat 32 (i 1).val
  let c4_i32_91 : BitVec 32 := 4#32
  let v218 : BitVec 32 := Scalar.muli arg1 c4_i32_91
  let c2_i32_92 : BitVec 32 := 2#32
  let v219 : BitVec 32 := Scalar.addi v218 c2_i32_92
  let c1_i32_109 : BitVec 32 := 1#32
  let v253 : BitVec 32 := Scalar.subi v219 c1_i32_109
  let c0_i32_110 : BitVec 32 := 0#32
  let v254 : BitVec 32 := Scalar.maxsi v253 c0_i32_110
  let c128_i32_111 : BitVec 32 := 128#32
  let v255 : BitVec 32 := Scalar.muli v254 c128_i32_111
  v255
def k0_mult12 (i : grid0.Coords) : BitVec 32 :=
  let arg1 : BitVec 32 := BitVec.ofNat 32 (i 1).val
  let c4_i32_91 : BitVec 32 := 4#32
  let v218 : BitVec 32 := Scalar.muli arg1 c4_i32_91
  let c2_i32_92 : BitVec 32 := 2#32
  let v219 : BitVec 32 := Scalar.addi v218 c2_i32_92
  let c128_i32_112 : BitVec 32 := 128#32
  let v257 : BitVec 32 := Scalar.muli v219 c128_i32_112
  v257
def k0_mult13 (i : grid0.Coords) : BitVec 32 :=
  let arg1 : BitVec 32 := BitVec.ofNat 32 (i 1).val
  let c4_i32_135 : BitVec 32 := 4#32
  let v315 : BitVec 32 := Scalar.muli arg1 c4_i32_135
  let c3_i32 : BitVec 32 := 3#32
  let v316 : BitVec 32 := Scalar.addi v315 c3_i32
  let c1_i32_146 : BitVec 32 := 1#32
  let v339 : BitVec 32 := Scalar.subi v316 c1_i32_146
  let c0_i32_147 : BitVec 32 := 0#32
  let v340 : BitVec 32 := Scalar.maxsi v339 c0_i32_147
  let c128_i32_148 : BitVec 32 := 128#32
  let v341 : BitVec 32 := Scalar.muli v340 c128_i32_148
  v341
def k0_mult14 (i : grid0.Coords) : BitVec 32 :=
  let arg1 : BitVec 32 := BitVec.ofNat 32 (i 1).val
  let c4_i32_135 : BitVec 32 := 4#32
  let v315 : BitVec 32 := Scalar.muli arg1 c4_i32_135
  let c3_i32 : BitVec 32 := 3#32
  let v316 : BitVec 32 := Scalar.addi v315 c3_i32
  let c128_i32_149 : BitVec 32 := 128#32
  let v343 : BitVec 32 := Scalar.muli v316 c128_i32_149
  v343
def k0_mult15 (i : grid0.Coords) : BitVec 32 :=
  let arg1 : BitVec 32 := BitVec.ofNat 32 (i 1).val
  let c4_i32_135 : BitVec 32 := 4#32
  let v315 : BitVec 32 := Scalar.muli arg1 c4_i32_135
  let c3_i32 : BitVec 32 := 3#32
  let v316 : BitVec 32 := Scalar.addi v315 c3_i32
  let c1_i32_152 : BitVec 32 := 1#32
  let v350 : BitVec 32 := Scalar.subi v316 c1_i32_152
  let c0_i32_153 : BitVec 32 := 0#32
  let v351 : BitVec 32 := Scalar.maxsi v350 c0_i32_153
  let c128_i32_154 : BitVec 32 := 128#32
  let v352 : BitVec 32 := Scalar.muli v351 c128_i32_154
  v352
def k0_mult16 (i : grid0.Coords) : BitVec 32 :=
  let arg1 : BitVec 32 := BitVec.ofNat 32 (i 1).val
  let c4_i32_135 : BitVec 32 := 4#32
  let v315 : BitVec 32 := Scalar.muli arg1 c4_i32_135
  let c3_i32 : BitVec 32 := 3#32
  let v316 : BitVec 32 := Scalar.addi v315 c3_i32
  let c128_i32_155 : BitVec 32 := 128#32
  let v354 : BitVec 32 := Scalar.muli v316 c128_i32_155
  v354
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  ![c0_i32.toNat, c16_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c17_i32 : BitVec 32 := 17#32
  let c0_i32_0 : BitVec 32 := 0#32
  ![c0_i32.toNat, c17_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WindowForwardIdeal.lean ====
variable {F : FTy → Type} [FloatOps F] [Named F]
def κ : String → Option EReal := fun
  | "mask" => some ⊥
  | _ => none
-- ==== WindowForwardReferenceIdeal.lean ====
abbrev S4096x2304 : Shape := ⟨2, ![4096, 2304]⟩
abbrev S8 : Shape := ⟨1, ![8]⟩
abbrev S32x8 : Shape := ⟨2, ![32, 8]⟩
abbrev S4096x512 : Shape := ⟨2, ![4096, 512]⟩
abbrev S4096x128 : Shape := ⟨2, ![4096, 128]⟩
abbrev S1x4096x8x64 : Shape := ⟨4, ![1, 4096, 8, 64]⟩
abbrev S1x4096x2x64 : Shape := ⟨4, ![1, 4096, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S1x32x128x2x4x64 : Shape := ⟨6, ![1, 32, 128, 2, 4, 64]⟩
abbrev S1x128x2x64 : Shape := ⟨4, ![1, 128, 2, 64]⟩
abbrev S1x4224x2x64 : Shape := ⟨4, ![1, 4224, 2, 64]⟩
abbrev S1x33x128x2x64 : Shape := ⟨5, ![1, 33, 128, 2, 64]⟩
abbrev S1x32x128x2x64 : Shape := ⟨5, ![1, 32, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S1x1x2x4x128x256 : Shape := ⟨6, ![1, 1, 2, 4, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x4096x512 : Shape := ⟨3, ![1, 4096, 512]⟩

abbrev nBuf : Space → Nat
  | .hbm => 202
  | .vmem => 0
  | .smem => 0
  | _ => 0

abbrev hbmTy0_0 (i : Nat) : BufTy := match i % 128 with
  | 0 => ⟨S4096x2304, .bf16⟩
  | 1 => ⟨S8, .f32⟩
  | 2 => ⟨S32x8, .f32⟩
  | 3 => ⟨S4096x2304, .f32⟩
  | 4 => ⟨S4096x512, .f32⟩
  | 5 => ⟨S4096x128, .f32⟩
  | 6 => ⟨S4096x128, .f32⟩
  | 7 => ⟨S1x4096x8x64, .f32⟩
  | 8 => ⟨S1x4096x2x64, .f32⟩
  | 9 => ⟨S1x4096x2x64, .f32⟩
  | 10 => ⟨S128, .i32⟩
  | 11 => ⟨S128x1, .i32⟩
  | 12 => ⟨S256, .i32⟩
  | 13 => ⟨S1x256, .i32⟩
  | 14 => ⟨S_, .i32⟩
  | 15 => ⟨S128x1, .i32⟩
  | 16 => ⟨S128x1, .i32⟩
  | 17 => ⟨S128x256, .i32⟩
  | 18 => ⟨S128x256, .i32⟩
  | 19 => ⟨S128x256, .i32⟩
  | 20 => ⟨S_, .i32⟩
  | 21 => ⟨S128x256, .i32⟩
  | 22 => ⟨S128x256, .i32⟩
  | 23 => ⟨S_, .i32⟩
  | 24 => ⟨S128x256, .i32⟩
  | 25 => ⟨S128x256, .i32⟩
  | 26 => ⟨S_, .i32⟩
  | 27 => ⟨S128x256, .i32⟩
  | 28 => ⟨S128x256, .i1⟩
  | 29 => ⟨S128x256, .i32⟩
  | 30 => ⟨S128x256, .i32⟩
  | 31 => ⟨S_, .i32⟩
  | 32 => ⟨S128x256, .i32⟩
  | 33 => ⟨S128x256, .i1⟩
  | 34 => ⟨S128x256, .i32⟩
  | 35 => ⟨S128x256, .i32⟩
  | 36 => ⟨S_, .i32⟩
  | 37 => ⟨S128x256, .i32⟩
  | 38 => ⟨S128x256, .i1⟩
  | 39 => ⟨S128x256, .i32⟩
  | 40 => ⟨S128x256, .i32⟩
  | 41 => ⟨S_, .i32⟩
  | 42 => ⟨S128x256, .i32⟩
  | 43 => ⟨S128x256, .i1⟩
  | 44 => ⟨S128x256, .i32⟩
  | 45 => ⟨S128x256, .i32⟩
  | 46 => ⟨S_, .i32⟩
  | 47 => ⟨S128x256, .i32⟩
  | 48 => ⟨S128x256, .i1⟩
  | 49 => ⟨S128x256, .i32⟩
  | 50 => ⟨S128x256, .i32⟩
  | 51 => ⟨S_, .i32⟩
  | 52 => ⟨S128x256, .i32⟩
  | 53 => ⟨S128x256, .i1⟩
  | 54 => ⟨S128x256, .i32⟩
  | 55 => ⟨S128x256, .i32⟩
  | 56 => ⟨S_, .i32⟩
  | 57 => ⟨S128x256, .i32⟩
  | 58 => ⟨S128x256, .i1⟩
  | 59 => ⟨S128x256, .i32⟩
  | 60 => ⟨S128x256, .i32⟩
  | 61 => ⟨S_, .i32⟩
  | 62 => ⟨S128x256, .i32⟩
  | 63 => ⟨S128x256, .i1⟩
  | 64 => ⟨S128x256, .i32⟩
  | 65 => ⟨S128x256, .i32⟩
  | 66 => ⟨S_, .i32⟩
  | 67 => ⟨S128x256, .i32⟩
  | 68 => ⟨S128x256, .i1⟩
  | 69 => ⟨S128x256, .i32⟩
  | 70 => ⟨S128x256, .i32⟩
  | 71 => ⟨S_, .i32⟩
  | 72 => ⟨S128x256, .i32⟩
  | 73 => ⟨S128x256, .i1⟩
  | 74 => ⟨S128x256, .i32⟩
  | 75 => ⟨S128x256, .i32⟩
  | 76 => ⟨S_, .i32⟩
  | 77 => ⟨S128x256, .i32⟩
  | 78 => ⟨S128x256, .i1⟩
  | 79 => ⟨S128x256, .i32⟩
  | 80 => ⟨S128x256, .i32⟩
  | 81 => ⟨S_, .i32⟩
  | 82 => ⟨S128x256, .i32⟩
  | 83 => ⟨S128x256, .i1⟩
  | 84 => ⟨S128x256, .i32⟩
  | 85 => ⟨S128x256, .i32⟩
  | 86 => ⟨S_, .i32⟩
  | 87 => ⟨S128x256, .i32⟩
  | 88 => ⟨S128x256, .i1⟩
  | 89 => ⟨S128x256, .i32⟩
  | 90 => ⟨S128x256, .i32⟩
  | 91 => ⟨S_, .i32⟩
  | 92 => ⟨S128x256, .i32⟩
  | 93 => ⟨S128x256, .i1⟩
  | 94 => ⟨S128x256, .i32⟩
  | 95 => ⟨S128x256, .i32⟩
  | 96 => ⟨S_, .i32⟩
  | 97 => ⟨S128x256, .i32⟩
  | 98 => ⟨S128x256, .i1⟩
  | 99 => ⟨S128x256, .i32⟩
  | 100 => ⟨S128x256, .i32⟩
  | 101 => ⟨S_, .i32⟩
  | 102 => ⟨S128x256, .i32⟩
  | 103 => ⟨S128x256, .i1⟩
  | 104 => ⟨S_, .i32⟩
  | 105 => ⟨S128x256, .i32⟩
  | 106 => ⟨S128x256, .i32⟩
  | 107 => ⟨S128x256, .i32⟩
  | 108 => ⟨S128x256x1, .i32⟩
  | 109 => ⟨S128x256x8, .f32⟩
  | 110 => ⟨S8x128x256, .f32⟩
  | 111 => ⟨S2x4x128x256, .f32⟩
  | 112 => ⟨S1x32x128x2x4x64, .f32⟩
  | 113 => ⟨S_, .f32⟩
  | 114 => ⟨S1x128x2x64, .f32⟩
  | 115 => ⟨S1x4224x2x64, .f32⟩
  | 116 => ⟨S1x33x128x2x64, .f32⟩
  | 117 => ⟨S1x4224x2x64, .f32⟩
  | 118 => ⟨S1x33x128x2x64, .f32⟩
  | 119 => ⟨S1x32x128x2x64, .f32⟩
  | 120 => ⟨S1x32x128x2x64, .f32⟩
  | 121 => ⟨S1x32x256x2x64, .f32⟩
  | 122 => ⟨S1x32x128x2x64, .f32⟩
  | 123 => ⟨S1x32x128x2x64, .f32⟩
  | 124 => ⟨S1x32x256x2x64, .f32⟩
  | 125 => ⟨S1x32x2x256x128x4, .f32⟩
  | 126 => ⟨S1x32x2x4x128x256, .f32⟩
  | 127 => ⟨S_, .f32⟩
  | _ => ⟨S4096x2304, .bf16⟩

abbrev hbmTy0_1 (i : Nat) : BufTy := match i % 128 with
  | 0 => ⟨S1x32x2x4x128x256, .f32⟩
  | 1 => ⟨S1x32x2x4x128x256, .f32⟩
  | 2 => ⟨S1x1x2x4x128x256, .f32⟩
  | 3 => ⟨S1x32x2x4x128x256, .f32⟩
  | 4 => ⟨S1x32x2x4x128x256, .f32⟩
  | 5 => ⟨S128, .i32⟩
  | 6 => ⟨S128x1, .i32⟩
  | 7 => ⟨S256, .i32⟩
  | 8 => ⟨S1x256, .i32⟩
  | 9 => ⟨S_, .i32⟩
  | 10 => ⟨S128x1, .i32⟩
  | 11 => ⟨S128x1, .i32⟩
  | 12 => ⟨S128x256, .i32⟩
  | 13 => ⟨S128x256, .i32⟩
  | 14 => ⟨S128x256, .i32⟩
  | 15 => ⟨S_, .i32⟩
  | 16 => ⟨S128x256, .i32⟩
  | 17 => ⟨S128x256, .i1⟩
  | 18 => ⟨S_, .i32⟩
  | 19 => ⟨S128x256, .i32⟩
  | 20 => ⟨S128x256, .i1⟩
  | 21 => ⟨S128x256, .i1⟩
  | 22 => ⟨S32, .i32⟩
  | 23 => ⟨S32x1x1, .i32⟩
  | 24 => ⟨S_, .i32⟩
  | 25 => ⟨S32x1x1, .i32⟩
  | 26 => ⟨S32x1x1, .i32⟩
  | 27 => ⟨S_, .i32⟩
  | 28 => ⟨S32x1x1, .i32⟩
  | 29 => ⟨S32x1x1, .i32⟩
  | 30 => ⟨S1x1x256, .i32⟩
  | 31 => ⟨S32x1x256, .i32⟩
  | 32 => ⟨S32x1x256, .i32⟩
  | 33 => ⟨S32x1x256, .i32⟩
  | 34 => ⟨S1x128x256, .i1⟩
  | 35 => ⟨S_, .i32⟩
  | 36 => ⟨S32x1x256, .i32⟩
  | 37 => ⟨S32x1x256, .i1⟩
  | 38 => ⟨S32x128x256, .i1⟩
  | 39 => ⟨S32x128x256, .i1⟩
  | 40 => ⟨S32x128x256, .i1⟩
  | 41 => ⟨S1x32x1x1x128x256, .i1⟩
  | 42 => ⟨S_, .f32⟩
  | 43 => ⟨S_, .f32⟩
  | 44 => ⟨S1x32x2x4x128x256, .i1⟩
  | 45 => ⟨S1x32x2x4x128x256, .f32⟩
  | 46 => ⟨S1x32x2x4x128x256, .f32⟩
  | 47 => ⟨S2x4, .f32⟩
  | 48 => ⟨S1x1x2x4x1x1, .f32⟩
  | 49 => ⟨S_, .f32⟩
  | 50 => ⟨S1x32x2x4x128, .f32⟩
  | 51 => ⟨S1x32x2x4x128x1, .f32⟩
  | 52 => ⟨S1x32x2x4x128x1, .f32⟩
  | 53 => ⟨S1x32x2x4x128x1, .f32⟩
  | 54 => ⟨S1x32x2x4x128x256, .f32⟩
  | 55 => ⟨S1x32x2x4x128x256, .f32⟩
  | 56 => ⟨S1x32x2x4x128x256, .f32⟩
  | 57 => ⟨S_, .f32⟩
  | 58 => ⟨S1x32x2x4x128, .f32⟩
  | 59 => ⟨S1x32x2x4x128x1, .f32⟩
  | 60 => ⟨S1x32x2x4x128x1, .f32⟩
  | 61 => ⟨S1x32x2x4x128x1, .f32⟩
  | 62 => ⟨S1x32x2x4x128x1, .f32⟩
  | 63 => ⟨S1x32x2x4x128x1, .f32⟩
  | 64 => ⟨S_, .f32⟩
  | 65 => ⟨S1x32x2x4x128x1, .f32⟩
  | 66 => ⟨S1x32x2x4x128x1, .f32⟩
  | 67 => ⟨S1x32x2x4x128x256, .f32⟩
  | 68 => ⟨S1x32x2x4x128x256, .f32⟩
  | 69 => ⟨S1x32x2x64x4x128, .f32⟩
  | 70 => ⟨S1x32x128x2x4x64, .f32⟩
  | 71 => ⟨S1x4096x512, .f32⟩
  | 72 => ⟨S4096x512, .f32⟩
  | 73 => ⟨S4096x512, .bf16⟩
  | _ => ⟨S4096x2304, .bf16⟩

abbrev hbmTy (i : Nat) : BufTy := match i / 128 with
  | 0 => hbmTy0_0 i
  | 1 => hbmTy0_1 i
  | _ => ⟨S4096x2304, .bf16⟩

abbrev bufTy : (tb : Table) → Fin (tcTables nBuf tb) → BufTy
  | .hbm, ⟨i, _⟩ => hbmTy i
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_9 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_15 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_16 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_c_17 : Ref sig .tc := ⟨.hbm, 101, rfl⟩
abbrev main_v80 : Ref sig .tc := ⟨.hbm, 102, rfl⟩
abbrev main_v81 : Ref sig .tc := ⟨.hbm, 103, rfl⟩
abbrev main_c_18 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_19 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_c_20 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_c_21 : Ref sig .tc := ⟨.hbm, 143, rfl⟩
abbrev main_v117 : Ref sig .tc := ⟨.hbm, 144, rfl⟩
abbrev main_v118 : Ref sig .tc := ⟨.hbm, 145, rfl⟩
abbrev main_c_22 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_c_23 : Ref sig .tc := ⟨.hbm, 152, rfl⟩
abbrev main_v124 : Ref sig .tc := ⟨.hbm, 153, rfl⟩
abbrev main_v125 : Ref sig .tc := ⟨.hbm, 154, rfl⟩
abbrev main_c_24 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_c_25 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_26 : Ref sig .tc := ⟨.hbm, 170, rfl⟩
abbrev main_call0_v0 : Ref sig .tc := ⟨.hbm, 171, rfl⟩
abbrev main_call0_v1 : Ref sig .tc := ⟨.hbm, 172, rfl⟩
abbrev main_call0_v2 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_27 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_cst_28 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_29 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩

abbrev nD : Nat := 1
abbrev τ : Topo := Topo.v7x

variable {F : FTy → Type} [FloatOps F]
-- ==== Proof.FfOutArray.lean ====
/- The two arrays that the gradient of the MLP's second product returns, at the extended reals, as functions of the
   arguments: `du = (dx2 · w2ᵀ) · (2 · relu (h · w1))` and the cotangent itself. One grid point computes 512 rows; the
   blocks of the eight points tile each array. -/
module

public import proofs.«01_k».proof.Proof.Gen.FfOutIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.FfOutIdeal.Array

open Idealize.ShloMosaic.StableHlo Cert.FfOutIdeal Cert.FfOutIdeal.Gen Cert.FfOutIdeal.Value

variable (m : (ℓ : Loc nD τ sig) → Buf (Elt Ideal) ℓ)

/-- The activation: what is positive of the first product. -/
def relu (h : FVec Ideal S4096x1024 .f32) (w1 : FVec Ideal S1024x4096 .f32) : FVec Ideal S4096x4096 .bf16 := fun i =>
  max (∑ k : Fin 1024, h (ix2 (i 0) k) * w1 (ix2 k (i 1)) : EReal) 0

/-- The gradient before the activation, element by element. -/
def du (g h : FVec Ideal S4096x1024 .f32) (w1 : FVec Ideal S1024x4096 .f32) (w2 : FVec Ideal S4096x1024 .f32) :
    FVec Ideal S4096x4096 .bf16 := fun i =>
  (∑ k : Fin 1024, g (ix2 (i 0) k) * w2 (ix2 (i 1) k) : EReal)
    * (Ideal.ofBits .f32 0x40000000#32 * relu h w1 i)

theorem relu_eq (h : FVec Ideal S4096x1024 .f32) (w1 : FVec Ideal S1024x4096 .f32) :
    truncf (F := Ideal) .bf16 (maximumf (Host.dotGeneral dot_S4096x1024_S1024x4096_S4096x4096_1_0_0_1_n_n none h w1)
      (broadcastInDim S4096x4096 ![] bcast_S_S4096x4096 (constant (F := Ideal) S_ .f32 0#32))) bitsLt_bf16_f32 = relu h w1 := by
  funext i
  pointwise [relu]

theorem V_relu (c : Dev nD) :
    V m c main_v2 = relu (m ((c : Thread nD τ).loc main_arg1)) (m ((c : Thread nD τ).loc main_arg2)) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results
  exact relu_eq _ _

theorem V_w2 (c : Dev nD) : V m c main_v3 = m ((c : Thread nD τ).loc main_arg3) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results
  rfl

theorem rows : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

theorem read_relu (c : Dev nD) (t : Fin cfg0.N) (y : S512x4096.Idx) : iblk m c 1 t y
    = relu (m ((c : Thread nD τ).loc main_arg1)) (m ((c : Thread nD τ).loc main_arg2)) (((cfg0.win 1).blk t).view.emb y) :=
  congrFun (V_relu m c) _

theorem final3 (c : Dev nD) : (dats m 0 c).arrAt 3 cfg0.N
    = du (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  frame_out
  unfold k0_pay2 k0_pay1 du
  pointwise
  rw [read_relu]
  blk_point [iblk, V_w2, V_main_arg0, rows t]

theorem final4 (c : Dev nD) : (dats m 0 c).arrAt 4 cfg0.N = m ((c : Thread nD τ).loc main_arg0) := by
  refine (dats m 0 c).arrAt_eq_of_covers 4 _ (by decide +kernel) fun t hf y => ?_
  blk_simp
  rw [after0_4]
  frame_out
  unfold k0_pay1
  pointwise
  blk_point [iblk, V_main_arg0, rows t]

end Cert.FfOutIdeal.Array

end
-- ==== Proof.FfOutEquation.lean ====
/- The reference's two results at the extended reals are the kernel's two arrays. The derivative of `relu` is a selection
   by the sign; where the sign is not positive the kernel multiplies by `relu = 0`. -/
module

public import proofs.«01_k».proof.Defs
public import proofs.«01_k».proof.Proof.FfOutArray
public import proofs.«01_k».proof.Proof.Gen.FfOutReferenceIdeal.Read
public import proofs.«01_k».proof.Proof.Gen.FfOutReferenceIdeal.Run

@[expose] public section

set_option maxRecDepth 16384

noncomputable section

open Idealize.ShloMosaic Idealize.ShloMosaic.TcCoe Idealize.SL.Sem

namespace Cert.FfOutReferenceIdeal.Equation

open Cert.FfOutReferenceIdeal Cert.FfOutReferenceIdeal.Read

/-- A product of which one factor is the positive part, cut off where that part vanishes. -/
theorem select_positive (a b u : EReal) : (if 0 < u then a * (b * max u 0) else 0) = a * (b * max u 0) := by
  split
  · rfl
  · rw [max_eq_right (not_lt.mp ‹_›), mul_zero, mul_zero]

/-- The reference's gradient is the kernel's array. -/
theorem du_eq (g h : FVec Ideal S4096x1024 .f32) (w1 : FVec Ideal S1024x4096 .f32) (w2 : FVec Ideal S4096x1024 .f32) :
    val_main_v13 (F := Ideal) g h w1 w2 = Cert.FfOutIdeal.Array.du g h w1 w2 := by
  funext i
  pointwise [val_main_v13, val_main_v12, val_main_v11, val_main_v10, val_main_v9, val_main_v7, val_main_v6, val_main_v5,
    val_main_v4, val_main_v3, val_main_v2, val_main_v1, val_main_v0, val_main_call0_v0, val_main_call0_cst,
    val_main_cst, val_main_cst_0, val_main_cst_1, val_main_cst_2, Cert.FfOutIdeal.Array.du, Cert.FfOutIdeal.Array.relu]
  exact select_positive _ _ _

end Cert.FfOutReferenceIdeal.Equation

namespace Cert.Proof

theorem ffOut_algebraic : Cert.algebraic_FfOutIdeal_FfOutReferenceIdeal := by
  pair_intro
  · run_from Cert.FfOutIdeal.Value.run_blocks m g
  · run_from Cert.FfOutReferenceIdeal.Value.run m' g'
    · rw [Cert.FfOutIdeal.Array.final3]
      exact (Cert.FfOutReferenceIdeal.Read.val_main_v13_eq _ _ _ _).trans (Cert.FfOutReferenceIdeal.Equation.du_eq _ _ _ _)
    · rw [Cert.FfOutIdeal.Array.final4]
      rfl

theorem ffOut_reference_frame : Cert.quiescent_FfOutReferenceIdeal := fun m ρ _ =>
  (θ_run Cert.FfOutReferenceIdeal.defs _ _).mono (fun r h => ⟨fun c => (h c).2.2,
      Idealize.ShloMosaic.sem_eq_zero_of_no_sems (by decide) r.2⟩)
    (Cert.FfOutReferenceIdeal.Value.run (F := Ideal) m ρ)

end Cert.Proof

end
-- ==== Proof.FfOutWeightArray.lean ====
/- The array that the gradient of the MLP's second weight returns, at the extended reals, as a function of the arguments:
   the transposed activation times the cotangent. One grid point computes 512 rows. -/
module

public import proofs.«01_k».proof.Proof.Gen.FfOutWeightIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.FfOutWeightIdeal.Array

open Idealize.ShloMosaic.StableHlo Cert.FfOutWeightIdeal Cert.FfOutWeightIdeal.Gen Cert.FfOutWeightIdeal.Value

variable (m : (ℓ : Loc nD τ sig) → Buf (Elt Ideal) ℓ)

/-- The squared activation. -/
def act (h : FVec Ideal S4096x1024 .f32) (w1 : FVec Ideal S1024x4096 .f32) : FVec Ideal S4096x4096 .bf16 := fun i =>
  max (∑ k : Fin 1024, h (ix2 (i 0) k) * w1 (ix2 k (i 1)) : EReal) 0
    * max (∑ k : Fin 1024, h (ix2 (i 0) k) * w1 (ix2 k (i 1)) : EReal) 0

/-- The weight's gradient, element by element. -/
def dw (g h : FVec Ideal S4096x1024 .f32) (w1 : FVec Ideal S1024x4096 .f32) : FVec Ideal S1x4096x1024 .f32 := fun i =>
  (∑ k : Fin 4096, act h w1 (ix2 k (i 1)) * g (ix2 k (i 2)) : EReal)

theorem act_eq (h : FVec Ideal S4096x1024 .f32) (w1 : FVec Ideal S1024x4096 .f32) :
    truncf (F := Ideal) .bf16 (mulf (maximumf (Host.dotGeneral dot_S4096x1024_S1024x4096_S4096x4096_1_0_0_1_n_n none h w1)
      (broadcastInDim S4096x4096 ![] bcast_S_S4096x4096 (constant (F := Ideal) S_ .f32 0#32)))
      (maximumf (Host.dotGeneral dot_S4096x1024_S1024x4096_S4096x4096_1_0_0_1_n_n none h w1)
      (broadcastInDim S4096x4096 ![] bcast_S_S4096x4096 (constant (F := Ideal) S_ .f32 0#32)))) bitsLt_bf16_f32 = act h w1 := by
  funext i
  pointwise [act]

theorem V_act (c : Dev nD) :
    V m c main_v3 = act (m ((c : Thread nD τ).loc main_arg1)) (m ((c : Thread nD τ).loc main_arg2)) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results
  exact act_eq _ _

theorem V_g (c : Dev nD) : V m c main_v4 = m ((c : Thread nD τ).loc main_arg0) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results
  rfl

theorem rows : ∀ t : Fin cfg0.N, win0_0.index t = ![0, t.val] ∧ win0_1.index t = ![0, 0] ∧ win0_2.index t = ![0, t.val, 0] :=
  (by decide +kernel : ∀ t : Fin grid0.N, _)

theorem read_act (c : Dev nD) (t : Fin cfg0.N) (y : S4096x512.Idx) : iblk m c 0 t y
    = act (m ((c : Thread nD τ).loc main_arg1)) (m ((c : Thread nD τ).loc main_arg2)) (((cfg0.win 0).blk t).view.emb y) :=
  congrFun (V_act m c) _

theorem final2 (c : Dev nD) : (dats m 0 c).arrAt 2 cfg0.N
    = dw (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  unfold k0_pay1 dw
  pointwise
  simp only [read_act]
  blk_point [iblk, V_g, rows t]

end Cert.FfOutWeightIdeal.Array

end
-- ==== Proof.FfOutWeightEquation.lean ====
/- The reference's result at the extended reals is the kernel's array. The reference multiplies the factors of each
   term in another order. -/
module

public import proofs.«01_k».proof.Defs
public import proofs.«01_k».proof.Proof.FfOutWeightArray
public import proofs.«01_k».proof.Proof.Gen.FfOutWeightReferenceIdeal.Read
public import proofs.«01_k».proof.Proof.Gen.FfOutWeightReferenceIdeal.Run

@[expose] public section

set_option maxRecDepth 16384

noncomputable section

open Idealize.ShloMosaic Idealize.ShloMosaic.TcCoe Idealize.SL.Sem

namespace Cert.FfOutWeightReferenceIdeal.Equation

open Cert.FfOutWeightReferenceIdeal Cert.FfOutWeightReferenceIdeal.Read

/-- The reference's gradient is the kernel's array. -/
theorem dw_eq (g h : FVec Ideal S4096x1024 .f32) (w1 : FVec Ideal S1024x4096 .f32) :
    val_main_v7 (F := Ideal) g h w1 = Cert.FfOutWeightIdeal.Array.dw g h w1 := by
  funext i
  pointwise [
    val_main_cst, val_main_v0, val_main_v1, val_main_call0_cst, val_main_call0_v0, val_main_v2, val_main_v3,
    val_main_v4, val_main_v5, val_main_v6, val_main_v7, Cert.FfOutWeightIdeal.Array.dw,
    Cert.FfOutWeightIdeal.Array.act]
  exact Finset.sum_congr rfl fun x _ => mul_comm _ _

end Cert.FfOutWeightReferenceIdeal.Equation

namespace Cert.Proof

theorem ffOutWeight_algebraic : Cert.algebraic_FfOutWeightIdeal_FfOutWeightReferenceIdeal := by
  pair_intro
  · run_from Cert.FfOutWeightIdeal.Value.run_blocks m g
  · run_from Cert.FfOutWeightReferenceIdeal.Value.run m' g'
    rw [Cert.FfOutWeightIdeal.Array.final2]
    exact (Cert.FfOutWeightReferenceIdeal.Read.val_main_v7_eq _ _ _).trans (Cert.FfOutWeightReferenceIdeal.Equation.dw_eq _ _ _)

theorem ffOutWeight_reference_frame : Cert.quiescent_FfOutWeightReferenceIdeal := fun m ρ _ =>
  (θ_run Cert.FfOutWeightReferenceIdeal.defs _ _).mono (fun r h => ⟨fun c => (h c).2,
      Idealize.ShloMosaic.sem_eq_zero_of_no_sems (by decide) r.2⟩)
    (Cert.FfOutWeightReferenceIdeal.Value.run (F := Ideal) m ρ)

end Cert.Proof

end
-- ==== Proof.FfInWeightArray.lean ====
/- The array that the gradient of the MLP's first weight returns, at the extended reals, as a function of the
   arguments: the transposed input times the gradient before the activation, in four column shards. One grid point
   computes 512 rows of a shard. -/
module

public import proofs.«01_k».proof.Proof.Gen.FfInWeightIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.FfInWeightIdeal.Array

open Idealize.ShloMosaic.StableHlo Cert.FfInWeightIdeal Cert.FfInWeightIdeal.Gen Cert.FfInWeightIdeal.Value

variable (m : (ℓ : Loc nD τ sig) → Buf (Elt Ideal) ℓ)

/-- The column of the whole weight at which column `j` of shard `s` stands. -/
def col (s : Fin 4) (j : Fin 1024) : Fin 4096 := ⟨s.val * 1024 + j.val, by omega⟩

/-- The gradient before the activation, element by element. -/
def du (g h : FVec Ideal S4096x1024 .f32) (w1 : FVec Ideal S1024x4096 .f32) (w2 : FVec Ideal S4096x1024 .f32) :
    FVec Ideal S4096x4096 .bf16 := fun i =>
  ((∑ k : Fin 1024, g (ix2 (i 0) k) * w2 (ix2 (i 1) k))
    * (Ideal.ofBits .f32 0x40000000#32 * max (∑ k : Fin 1024, h (ix2 (i 0) k) * w1 (ix2 k (i 1))) 0) : EReal)

/-- The weight's gradient, element by element. -/
def dw (g h : FVec Ideal S4096x1024 .f32) (w1 : FVec Ideal S1024x4096 .f32) (w2 : FVec Ideal S4096x1024 .f32) :
    FVec Ideal S4x1024x1024 .f32 := fun i =>
  (∑ k : Fin 4096, h (ix2 k (i 1)) * du g h w1 w2 (ix2 k (col (i 0) (i 2))) : EReal)

theorem V_du (c : Dev nD) : V m c main_v8
    = du (m ((c : Thread nD τ).loc main_arg0)) (m ((c : Thread nD τ).loc main_arg1)) (m ((c : Thread nD τ).loc main_arg2)) (m ((c : Thread nD τ).loc main_arg3)) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results
  refine funext fun (i : S4096x4096.Idx) => ?_
  pointwise [du]

theorem V_h (c : Dev nD) : V m c main_v7
    = m ((c : Thread nD τ).loc main_arg1) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results
  rfl

theorem rows : ∀ t : Fin cfg0.N, win0_0.index t = ![0, t.val % 2] ∧ win0_1.index t = ![0, t.val / 2] ∧ win0_2.index t = ![t.val / 2, t.val % 2, 0] :=
  (by decide +kernel : ∀ t : Fin grid0.N, _)

theorem read_du (c : Dev nD) (t : Fin cfg0.N) (y : S4096x1024.Idx) : iblk m c 1 t y
    = du (m ((c : Thread nD τ).loc main_arg0)) (m ((c : Thread nD τ).loc main_arg1)) (m ((c : Thread nD τ).loc main_arg2)) (m ((c : Thread nD τ).loc main_arg3)) (((cfg0.win 1).blk t).view.emb y) :=
  congrFun (V_du m c) _

theorem final2 (c : Dev nD) : (dats m 0 c).arrAt 2 cfg0.N
    = dw (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp
  rw [after0_2]
  frame_out
  unfold k0_pay1 dw
  pointwise
  simp only [read_du]
  blk_point [iblk, V_h, rows t, col]

end Cert.FfInWeightIdeal.Array

end
-- ==== Proof.FfInWeightEquation.lean ====
/- The reference's result at the extended reals is the kernel's array. The reference multiplies the factors of each
   term in another order. -/
module

public import proofs.«01_k».proof.Defs
public import proofs.«01_k».proof.Proof.FfInWeightArray
public import proofs.«01_k».proof.Proof.Gen.FfInWeightReferenceIdeal.Read
public import proofs.«01_k».proof.Proof.Gen.FfInWeightReferenceIdeal.Run

@[expose] public section

set_option maxRecDepth 16384

noncomputable section

open Idealize.ShloMosaic Idealize.ShloMosaic.TcCoe Idealize.SL.Sem

namespace Cert.FfInWeightReferenceIdeal.Equation

open Cert.FfInWeightReferenceIdeal Cert.FfInWeightReferenceIdeal.Read

/-- A product of which one factor is the positive part, cut off where that part vanishes. -/
theorem select_positive (a b u : EReal) : (if 0 < u then a * (b * max u 0) else 0) = a * (b * max u 0) := by
  split
  · rfl
  · rw [max_eq_right (not_lt.mp ‹_›), mul_zero, mul_zero]

/-- The reference's gradient is the kernel's array. -/
theorem dw_eq (g h : FVec Ideal S4096x1024 .f32) (w1 : FVec Ideal S1024x4096 .f32) (w2 : FVec Ideal S4096x1024 .f32) :
    val_main_v16 (F := Ideal) g h w1 w2 = Cert.FfInWeightIdeal.Array.dw g h w1 w2 := by
  funext i
  pointwise [
    val_main_v0, val_main_call0_cst, val_main_call0_v0, val_main_v1, val_main_cst, val_main_v2, val_main_v3,
    val_main_cst_0, val_main_v4, val_main_v5, val_main_cst_1, val_main_v6, val_main_v7, val_main_v8, val_main_v9,
    val_main_v10, val_main_cst_2, val_main_v11, val_main_v12, val_main_v13, val_main_v14, val_main_v15, val_main_v16,
    Cert.FfInWeightIdeal.Array.dw, Cert.FfInWeightIdeal.Array.du, Cert.FfInWeightIdeal.Array.col]
  refine Finset.sum_congr rfl fun x _ => ?_
  rw [select_positive, mul_comm]

end Cert.FfInWeightReferenceIdeal.Equation

namespace Cert.Proof

theorem ffInWeight_algebraic : Cert.algebraic_FfInWeightIdeal_FfInWeightReferenceIdeal := by
  pair_intro
  · run_from Cert.FfInWeightIdeal.Value.run_blocks m g
  · run_from Cert.FfInWeightReferenceIdeal.Value.run m' g'
    rw [Cert.FfInWeightIdeal.Array.final2]
    exact (Cert.FfInWeightReferenceIdeal.Read.val_main_v16_eq _ _ _ _).trans (Cert.FfInWeightReferenceIdeal.Equation.dw_eq _ _ _ _)

theorem ffInWeight_reference_frame : Cert.quiescent_FfInWeightReferenceIdeal := fun m ρ _ =>
  (θ_run Cert.FfInWeightReferenceIdeal.defs _ _).mono (fun r h => ⟨fun c => (h c).2,
      Idealize.ShloMosaic.sem_eq_zero_of_no_sems (by decide) r.2⟩)
    (Cert.FfInWeightReferenceIdeal.Value.run (F := Ideal) m ρ)

end Cert.Proof

end
-- ==== Proof.GateWeightArray.lean ====
/- The array that the gradient of the embedding's gate weight returns, at the extended reals, as a function of the
   arguments: the transposed activation times the gate's gradient. One grid point computes 512 rows. -/
module

public import proofs.«01_k».proof.Proof.Gen.GateWeightIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.GateWeightIdeal.Array

open Idealize.ShloMosaic.StableHlo Cert.GateWeightIdeal Cert.GateWeightIdeal.Gen Cert.GateWeightIdeal.Value

variable (m : (ℓ : Loc nD τ sig) → Buf (Elt Ideal) ℓ)

/-- The logistic function as the host computes it. -/
def sigm (x : EReal) : EReal := Ideal.div 1 (1 + Ideal.exp (-x))

/-- The gate before the logistic function. -/
def gate (h : FVec Ideal S4096x1024 .f32) (w : FVec Ideal S1024x1024 .f32) : FVec Ideal S4096x1024 .f32 := fun i =>
  (∑ k : Fin 1024, h (ix2 (i 0) k) * w (ix2 k (i 1)) : EReal)

/-- The gate's gradient. -/
def dgate (g pe h : FVec Ideal S4096x1024 .f32) (w : FVec Ideal S1024x1024 .f32) : FVec Ideal S4096x1024 .bf16 := fun i =>
  (g i * pe i * sigm (gate h w i) * (1 - sigm (gate h w i)) : EReal)

/-- The weight's gradient, element by element. -/
def dw (g pe h : FVec Ideal S4096x1024 .f32) (w : FVec Ideal S1024x1024 .f32) : FVec Ideal S1x1024x1024 .f32 := fun i =>
  (∑ k : Fin 4096, h (ix2 k (i 1)) * dgate g pe h w (ix2 k (i 2)) : EReal)

theorem V_dgate (c : Dev nD) : V m c main_v13
    = dgate (m ((c : Thread nD τ).loc main_arg0)) (m ((c : Thread nD τ).loc main_arg1)) (m ((c : Thread nD τ).loc main_arg2)) (m ((c : Thread nD τ).loc main_arg3)) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x1024.Idx) => ?_
  pointwise [dgate, sigm, gate]

theorem V_h (c : Dev nD) : V m c main_v7
    = m ((c : Thread nD τ).loc main_arg2) := by
  unfold V
  simp only [hostOps0, List.flatten_cons, List.flatten_nil, List.append_nil, List.cons_append,
    List.nil_append, TRef.binary, TRef.nullary, TRef.unary, TRef.toBuf, TRef.ofBuf, cast_eq]
  after_results
  rfl

theorem rows : ∀ t : Fin cfg0.N, win0_0.index t = ![0, t.val] ∧ win0_1.index t = ![0, 0] ∧ win0_2.index t = ![0, t.val, 0] :=
  (by decide +kernel : ∀ t : Fin grid0.N, _)

theorem read_dgate (c : Dev nD) (t : Fin cfg0.N) (y : S4096x1024.Idx) : iblk m c 1 t y
    = dgate (m ((c : Thread nD τ).loc main_arg0)) (m ((c : Thread nD τ).loc main_arg1)) (m ((c : Thread nD τ).loc main_arg2)) (m ((c : Thread nD τ).loc main_arg3)) (((cfg0.win 1).blk t).view.emb y) :=
  congrFun (V_dgate m c) _

theorem final2 (c : Dev nD) : (dats m 0 c).arrAt 2 cfg0.N
    = dw (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp
  rw [after0_2]
  frame_out
  unfold k0_pay1 dw
  pointwise
  simp only [read_dgate]
  blk_point [iblk, V_h, rows t]

end Cert.GateWeightIdeal.Array

end
-- ==== Proof.GateWeightEquation.lean ====
/- The reference's result at the extended reals is the kernel's array. The reference multiplies the factors of each
   term in another order. -/
module

public import proofs.«01_k».proof.Defs
public import proofs.«01_k».proof.Proof.GateWeightArray
public import proofs.«01_k».proof.Proof.Gen.GateWeightReferenceIdeal.Read
public import proofs.«01_k».proof.Proof.Gen.GateWeightReferenceIdeal.Run

@[expose] public section

set_option maxRecDepth 16384

noncomputable section

open Idealize.ShloMosaic Idealize.ShloMosaic.TcCoe Idealize.SL.Sem

namespace Cert.GateWeightReferenceIdeal.Equation

open Cert.GateWeightReferenceIdeal Cert.GateWeightReferenceIdeal.Read

/-- The reference's gradient is the kernel's array. -/
theorem dw_eq (g pe h : FVec Ideal S4096x1024 .f32) (w : FVec Ideal S1024x1024 .f32) :
    val_main_v15 (F := Ideal) g pe h w = Cert.GateWeightIdeal.Array.dw g pe h w := by
  funext i
  pointwise [
    val_main_v0, val_main_v1, val_main_v2, val_main_cst, val_main_v3, val_main_v4, val_main_cst_0, val_main_v5,
    val_main_v6, val_main_cst_1, val_main_v7, val_main_v8, val_main_v9, val_main_v10, val_main_v11, val_main_v12,
    val_main_v13, val_main_v14, val_main_v15, Cert.GateWeightIdeal.Array.dw, Cert.GateWeightIdeal.Array.dgate,
    Cert.GateWeightIdeal.Array.gate, Cert.GateWeightIdeal.Array.sigm]
  refine Finset.sum_congr rfl fun x _ => ?_
  ac_rfl

end Cert.GateWeightReferenceIdeal.Equation

namespace Cert.Proof

theorem gateWeight_algebraic : Cert.algebraic_GateWeightIdeal_GateWeightReferenceIdeal := by
  pair_intro
  · run_from Cert.GateWeightIdeal.Value.run_blocks m g
  · run_from Cert.GateWeightReferenceIdeal.Value.run m' g'
    rw [Cert.GateWeightIdeal.Array.final2]
    exact (Cert.GateWeightReferenceIdeal.Read.val_main_v15_eq _ _ _ _).trans (Cert.GateWeightReferenceIdeal.Equation.dw_eq _ _ _ _)

theorem gateWeight_reference_frame : Cert.quiescent_GateWeightReferenceIdeal := fun m ρ _ =>
  (θ_run Cert.GateWeightReferenceIdeal.defs _ _).mono (fun r h => ⟨fun c => (h c).2,
      Idealize.ShloMosaic.sem_eq_zero_of_no_sems (by decide) r.2⟩)
    (Cert.GateWeightReferenceIdeal.Value.run (F := Ideal) m ρ)

end Cert.Proof

end
-- ==== Proof.EmbedWeightArray.lean ====
/- The array that the gradient of the embedding's weight returns, at the extended reals, as a function of the
   arguments: the transposed embedding times the gated cotangent, in four column shards. One grid point computes a
   shard. -/
module

public import proofs.«01_k».proof.Proof.Gen.EmbedWeightIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.EmbedWeightIdeal.Array

open Idealize.ShloMosaic.StableHlo Cert.EmbedWeightIdeal Cert.EmbedWeightIdeal.Gen Cert.EmbedWeightIdeal.Value

variable (m : (ℓ : Loc nD τ sig) → Buf (Elt Ideal) ℓ)

/-- The logistic function as the host computes it. -/
def sigm (x : EReal) : EReal := Ideal.div 1 (1 + Ideal.exp (-x))

/-- The column of the whole weight at which column `j` of shard `s` stands. -/
def col (s : Fin 4) (j : Fin 256) : Fin 1024 := ⟨s.val * 256 + j.val, by omega⟩

/-- The gated cotangent. -/
def gated (g gt : FVec Ideal S4096x1024 .f32) : FVec Ideal S4096x1024 .bf16 := fun i => (g i * sigm (gt i) : EReal)

/-- The weight's gradient, element by element. -/
def dw (g gt : FVec Ideal S4096x1024 .f32) (p : FVec Ideal S4096x256 .f32) : FVec Ideal S4x256x256 .f32 := fun i =>
  (∑ k : Fin 4096, p (ix2 k (i 1)) * gated g gt (ix2 k (col (i 0) (i 2))) : EReal)

theorem V_gated (c : Dev nD) : V m c main_v8
    = gated (m ((c : Thread nD τ).loc main_arg0)) (m ((c : Thread nD τ).loc main_arg1)) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x1024.Idx) => ?_
  pointwise [gated, sigm]

theorem V_p (c : Dev nD) : V m c main_v0
    = m ((c : Thread nD τ).loc main_arg2) := by
  unfold V
  simp only [hostOps0, List.flatten_cons, List.flatten_nil, List.append_nil, List.cons_append,
    List.nil_append, TRef.binary, TRef.nullary, TRef.unary, TRef.toBuf, TRef.ofBuf, cast_eq]
  after_results
  rfl

theorem rows : ∀ t : Fin cfg0.N, win0_0.index t = ![0, 0] ∧ win0_1.index t = ![0, t.val] ∧ win0_2.index t = ![t.val, 0, 0] :=
  (by decide +kernel : ∀ t : Fin grid0.N, _)

theorem read_gated (c : Dev nD) (t : Fin cfg0.N) (y : S4096x256.Idx) : iblk m c 1 t y
    = gated (m ((c : Thread nD τ).loc main_arg0)) (m ((c : Thread nD τ).loc main_arg1)) (((cfg0.win 1).blk t).view.emb y) :=
  congrFun (V_gated m c) _

theorem final2 (c : Dev nD) : (dats m 0 c).arrAt 2 cfg0.N
    = dw (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  unfold k0_pay1 dw
  pointwise
  simp only [read_gated]
  blk_point [iblk, V_p, rows t, col]

end Cert.EmbedWeightIdeal.Array

end
-- ==== Proof.EmbedWeightEquation.lean ====
/- The reference's result at the extended reals is the kernel's array. The reference multiplies the factors of each
   term in another order. -/
module

public import proofs.«01_k».proof.Defs
public import proofs.«01_k».proof.Proof.EmbedWeightArray
public import proofs.«01_k».proof.Proof.Gen.EmbedWeightReferenceIdeal.Read
public import proofs.«01_k».proof.Proof.Gen.EmbedWeightReferenceIdeal.Run

@[expose] public section

set_option maxRecDepth 16384

noncomputable section

open Idealize.ShloMosaic Idealize.ShloMosaic.TcCoe Idealize.SL.Sem

namespace Cert.EmbedWeightReferenceIdeal.Equation

open Cert.EmbedWeightReferenceIdeal Cert.EmbedWeightReferenceIdeal.Read

/-- The reference's gradient is the kernel's array. -/
theorem dw_eq (g gt : FVec Ideal S4096x1024 .f32) (p : FVec Ideal S4096x256 .f32) :
    val_main_v13 (F := Ideal) g gt p = Cert.EmbedWeightIdeal.Array.dw g gt p := by
  funext i
  pointwise [
    val_main_cst, val_main_v0, val_main_v1, val_main_v2, val_main_v3, val_main_cst_0, val_main_v4, val_main_v5,
    val_main_cst_1, val_main_v6, val_main_v7, val_main_v8, val_main_v9, val_main_v10, val_main_v11, val_main_v12,
    val_main_v13, Cert.EmbedWeightIdeal.Array.dw, Cert.EmbedWeightIdeal.Array.gated, Cert.EmbedWeightIdeal.Array.sigm,
    Cert.EmbedWeightIdeal.Array.col]
  exact Finset.sum_congr rfl fun x _ => mul_comm _ _

end Cert.EmbedWeightReferenceIdeal.Equation

namespace Cert.Proof

theorem embedWeight_algebraic : Cert.algebraic_EmbedWeightIdeal_EmbedWeightReferenceIdeal := by
  pair_intro
  · run_from Cert.EmbedWeightIdeal.Value.run_blocks m g
  · run_from Cert.EmbedWeightReferenceIdeal.Value.run m' g'
    rw [Cert.EmbedWeightIdeal.Array.final2]
    exact (Cert.EmbedWeightReferenceIdeal.Read.val_main_v13_eq _ _ _).trans (Cert.EmbedWeightReferenceIdeal.Equation.dw_eq _ _ _)

theorem embedWeight_reference_frame : Cert.quiescent_EmbedWeightReferenceIdeal := fun m ρ _ =>
  (θ_run Cert.EmbedWeightReferenceIdeal.defs _ _).mono (fun r h => ⟨fun c => (h c).2,
      Idealize.ShloMosaic.sem_eq_zero_of_no_sems (by decide) r.2⟩)
    (Cert.EmbedWeightReferenceIdeal.Value.run (F := Ideal) m ρ)

end Cert.Proof

end
-- ==== Proof.MixWeightArray.lean ====
/- The array that the gradient of the mixer's output weight returns, at the extended reals, as a function of the
   arguments: the transposed mixture times the cotangent. One grid point computes 512 rows. -/
module

public import proofs.«01_k».proof.Proof.Gen.MixWeightIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.MixWeightIdeal.Array

open Idealize.ShloMosaic.StableHlo Cert.MixWeightIdeal Cert.MixWeightIdeal.Gen Cert.MixWeightIdeal.Value

variable (m : (ℓ : Loc nD τ sig) → Buf (Elt Ideal) ℓ)

/-- The logistic function as the host computes it. -/
def sigm (x : EReal) : EReal := Ideal.div 1 (1 + Ideal.exp (-x))

/-- A column of the first, and of the second, half of the gates. -/
def lower (j : Fin 1024) : Fin 2048 := ⟨j.val, by omega⟩
def upper (j : Fin 1024) : Fin 2048 := ⟨1024 + j.val, by omega⟩

/-- The mixture of the two streams. -/
def mix (gates : FVec Ideal S4096x2048 .f32) (ya yb : FVec Ideal S4096x1024 .f32) : FVec Ideal S4096x1024 .bf16 := fun i =>
  (sigm (gates (ix2 (i 0) (lower (i 1)))) * ya i + sigm (gates (ix2 (i 0) (upper (i 1)))) * yb i : EReal)

/-- The weight's gradient, element by element. -/
def dw (g : FVec Ideal S4096x1024 .f32) (gates : FVec Ideal S4096x2048 .f32) (ya yb : FVec Ideal S4096x1024 .f32) :
    FVec Ideal S1x1024x1024 .f32 := fun i =>
  (∑ k : Fin 4096, mix gates ya yb (ix2 k (i 1)) * g (ix2 k (i 2)) : EReal)

theorem V_mix (c : Dev nD) : V m c main_v17
    = mix (m ((c : Thread nD τ).loc main_arg1)) (m ((c : Thread nD τ).loc main_arg2)) (m ((c : Thread nD τ).loc main_arg3)) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x1024.Idx) => ?_
  pointwise [mix, sigm]
  rfl

theorem V_g (c : Dev nD) : V m c main_v18 = m ((c : Thread nD τ).loc main_arg0) := by
  unfold V
  simp only [hostOps0, List.flatten_cons, List.flatten_nil, List.append_nil, List.cons_append,
    List.nil_append, TRef.binary, TRef.nullary, TRef.unary, TRef.toBuf, TRef.ofBuf, cast_eq]
  after_results
  rfl

theorem rows : ∀ t : Fin cfg0.N, win0_0.index t = ![0, t.val] ∧ win0_1.index t = ![0, 0] ∧ win0_2.index t = ![0, t.val, 0] :=
  (by decide +kernel : ∀ t : Fin grid0.N, _)

theorem read_mix (c : Dev nD) (t : Fin cfg0.N) (y : S4096x512.Idx) : iblk m c 0 t y
    = mix (m ((c : Thread nD τ).loc main_arg1)) (m ((c : Thread nD τ).loc main_arg2)) (m ((c : Thread nD τ).loc main_arg3)) (((cfg0.win 0).blk t).view.emb y) :=
  congrFun (V_mix m c) _

theorem final2 (c : Dev nD) : (dats m 0 c).arrAt 2 cfg0.N
    = dw (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp
  rw [after0_2]
  frame_out
  unfold k0_pay1 dw
  pointwise
  simp only [read_mix]
  blk_point [iblk, V_g, rows t, lower, upper]

end Cert.MixWeightIdeal.Array

end
-- ==== Proof.MixWeightEquation.lean ====
/- The reference's result at the extended reals is the kernel's array. The reference multiplies the factors of each
   term in another order. -/
module

public import proofs.«01_k».proof.Defs
public import proofs.«01_k».proof.Proof.MixWeightArray
public import proofs.«01_k».proof.Proof.Gen.MixWeightReferenceIdeal.Read
public import proofs.«01_k».proof.Proof.Gen.MixWeightReferenceIdeal.Run

@[expose] public section

set_option maxRecDepth 16384

noncomputable section

open Idealize.ShloMosaic Idealize.ShloMosaic.TcCoe Idealize.SL.Sem

namespace Cert.MixWeightReferenceIdeal.Equation

open Cert.MixWeightReferenceIdeal Cert.MixWeightReferenceIdeal.Read

/-- The reference's gradient is the kernel's array. -/
theorem dw_eq (g : FVec Ideal S4096x1024 .f32) (gates : FVec Ideal S4096x2048 .f32) (ya yb : FVec Ideal S4096x1024 .f32) :
    val_main_v21 (F := Ideal) g gates ya yb = Cert.MixWeightIdeal.Array.dw g gates ya yb := by
  funext i
  pointwise [
    val_main_cst, val_main_v0, val_main_v1, val_main_v2, val_main_v3, val_main_cst_0, val_main_v4, val_main_v5,
    val_main_cst_1, val_main_v6, val_main_v7, val_main_v8, val_main_v9, val_main_v10, val_main_v11, val_main_cst_2,
    val_main_v12, val_main_v13, val_main_cst_3, val_main_v14, val_main_v15, val_main_v16, val_main_v17, val_main_v18,
    val_main_v19, val_main_v20, val_main_v21, Cert.MixWeightIdeal.Array.dw, Cert.MixWeightIdeal.Array.mix,
    Cert.MixWeightIdeal.Array.sigm, Cert.MixWeightIdeal.Array.lower, Cert.MixWeightIdeal.Array.upper]
  exact Finset.sum_congr rfl fun x _ => mul_comm _ _

end Cert.MixWeightReferenceIdeal.Equation

namespace Cert.Proof

theorem mixWeight_algebraic : Cert.algebraic_MixWeightIdeal_MixWeightReferenceIdeal := by
  pair_intro
  · run_from Cert.MixWeightIdeal.Value.run_blocks m g
  · run_from Cert.MixWeightReferenceIdeal.Value.run m' g'
    rw [Cert.MixWeightIdeal.Array.final2]
    exact (Cert.MixWeightReferenceIdeal.Read.val_main_v21_eq _ _ _ _).trans (Cert.MixWeightReferenceIdeal.Equation.dw_eq _ _ _ _)

theorem mixWeight_reference_frame : Cert.quiescent_MixWeightReferenceIdeal := fun m ρ _ =>
  (θ_run Cert.MixWeightReferenceIdeal.defs _ _).mono (fun r h => ⟨fun c => (h c).2,
      Idealize.ShloMosaic.sem_eq_zero_of_no_sems (by decide) r.2⟩)
    (Cert.MixWeightReferenceIdeal.Value.run (F := Ideal) m ρ)

end Cert.Proof

end
-- ==== Proof.UpWeightArray.lean ====
/- The array that the gradient of a mixer's up projection returns, at the extended reals, as a function of the
   arguments: the transposed stream times the gated gradient of the mixture, in four column shards. One grid point
   computes a shard. -/
module

public import proofs.«01_k».proof.Proof.Gen.UpWeightIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.UpWeightIdeal.Array

open Idealize.ShloMosaic.StableHlo Cert.UpWeightIdeal Cert.UpWeightIdeal.Gen Cert.UpWeightIdeal.Value

variable (m : (ℓ : Loc nD τ sig) → Buf (Elt Ideal) ℓ)

/-- The logistic function as the host computes it. -/
def sigm (x : EReal) : EReal := Ideal.div 1 (1 + Ideal.exp (-x))

/-- The column of the whole weight at which column `j` of shard `s` stands. -/
def col (s : Fin 4) (j : Fin 256) : Fin 1024 := ⟨s.val * 256 + j.val, by omega⟩

/-- The gated gradient of the mixture. -/
def gated (g gate : FVec Ideal S4096x1024 .f32) (w : FVec Ideal S1024x1024 .f32) : FVec Ideal S4096x1024 .bf16 := fun i =>
  ((∑ k : Fin 1024, g (ix2 (i 0) k) * w (ix2 (i 1) k)) * sigm (gate i) : EReal)

/-- The weight's gradient, element by element. -/
def dw (g : FVec Ideal S4096x1024 .f32) (o : FVec Ideal S4096x512 .f32) (gate : FVec Ideal S4096x1024 .f32)
    (w : FVec Ideal S1024x1024 .f32) : FVec Ideal S4x512x256 .f32 := fun i =>
  (∑ k : Fin 4096, o (ix2 k (i 1)) * gated g gate w (ix2 k (col (i 0) (i 2))) : EReal)

theorem V_gated (c : Dev nD) : V m c main_v10
    = gated (m ((c : Thread nD τ).loc main_arg0)) (m ((c : Thread nD τ).loc main_arg2)) (m ((c : Thread nD τ).loc main_arg3)) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x1024.Idx) => ?_
  pointwise [gated, sigm]

theorem V_o (c : Dev nD) : V m c main_v9
    = m ((c : Thread nD τ).loc main_arg1) := by
  unfold V
  simp only [hostOps0, List.flatten_cons, List.flatten_nil, List.append_nil, List.cons_append,
    List.nil_append, TRef.binary, TRef.nullary, TRef.unary, TRef.toBuf, TRef.ofBuf, cast_eq]
  after_results
  rfl

theorem rows : ∀ t : Fin cfg0.N, win0_0.index t = ![0, 0] ∧ win0_1.index t = ![0, t.val] ∧ win0_2.index t = ![t.val, 0, 0] :=
  (by decide +kernel : ∀ t : Fin grid0.N, _)

theorem read_gated (c : Dev nD) (t : Fin cfg0.N) (y : S4096x256.Idx) : iblk m c 1 t y
    = gated (m ((c : Thread nD τ).loc main_arg0)) (m ((c : Thread nD τ).loc main_arg2)) (m ((c : Thread nD τ).loc main_arg3)) (((cfg0.win 1).blk t).view.emb y) :=
  congrFun (V_gated m c) _

theorem final2 (c : Dev nD) : (dats m 0 c).arrAt 2 cfg0.N
    = dw (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp
  rw [after0_2]
  frame_out
  unfold k0_pay1 dw
  pointwise
  simp only [read_gated]
  blk_point [iblk, V_o, rows t, col]

end Cert.UpWeightIdeal.Array

end
-- ==== Proof.UpWeightEquation.lean ====
/- The reference's result at the extended reals is the kernel's array. The reference multiplies the factors of each
   term in another order. -/
module

public import proofs.«01_k».proof.Defs
public import proofs.«01_k».proof.Proof.UpWeightArray
public import proofs.«01_k».proof.Proof.Gen.UpWeightReferenceIdeal.Read
public import proofs.«01_k».proof.Proof.Gen.UpWeightReferenceIdeal.Run

@[expose] public section

set_option maxRecDepth 16384

noncomputable section

open Idealize.ShloMosaic Idealize.ShloMosaic.TcCoe Idealize.SL.Sem

namespace Cert.UpWeightReferenceIdeal.Equation

open Cert.UpWeightReferenceIdeal Cert.UpWeightReferenceIdeal.Read

/-- The reference's gradient is the kernel's array. -/
theorem dw_eq (g : FVec Ideal S4096x1024 .f32) (o : FVec Ideal S4096x512 .f32) (gate : FVec Ideal S4096x1024 .f32) (w : FVec Ideal S1024x1024 .f32) :
    val_main_v15 (F := Ideal) g o gate w = Cert.UpWeightIdeal.Array.dw g o gate w := by
  funext i
  pointwise [
    val_main_cst, val_main_v0, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_v15, Cert.UpWeightIdeal.Array.dw, Cert.UpWeightIdeal.Array.gated,
    Cert.UpWeightIdeal.Array.sigm, Cert.UpWeightIdeal.Array.col]
  refine Finset.sum_congr rfl fun x _ => ?_
  ac_rfl

end Cert.UpWeightReferenceIdeal.Equation

namespace Cert.Proof

theorem upWeight_algebraic : Cert.algebraic_UpWeightIdeal_UpWeightReferenceIdeal := by
  pair_intro
  · run_from Cert.UpWeightIdeal.Value.run_blocks m g
  · run_from Cert.UpWeightReferenceIdeal.Value.run m' g'
    rw [Cert.UpWeightIdeal.Array.final2]
    exact (Cert.UpWeightReferenceIdeal.Read.val_main_v15_eq _ _ _ _).trans (Cert.UpWeightReferenceIdeal.Equation.dw_eq _ _ _ _)

theorem upWeight_reference_frame : Cert.quiescent_UpWeightReferenceIdeal := fun m ρ _ =>
  (θ_run Cert.UpWeightReferenceIdeal.defs _ _).mono (fun r h => ⟨fun c => (h c).2,
      Idealize.ShloMosaic.sem_eq_zero_of_no_sems (by decide) r.2⟩)
    (Cert.UpWeightReferenceIdeal.Value.run (F := Ideal) m ρ)

end Cert.Proof

end
-- ==== Proof.InWeightArray.lean ====
/- The array that the gradient of the input projection's weight returns, at the extended reals, as a function of the
   arguments: the transposed cotangent times the normalised input. The cotangent comes in six pieces of columns, and the
   grid point `t` reads the piece to which the rows `256 t …` of the result belong: one lemma per piece. -/
module

public import proofs.«01_k».proof.Proof.Gen.InWeightIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.InWeightIdeal.Array

open Idealize.ShloMosaic.StableHlo Cert.InWeightIdeal Cert.InWeightIdeal.Gen Cert.InWeightIdeal.Value

variable (m : (ℓ : Loc nD τ sig) → Buf (Elt Ideal) ℓ)

/-- Column `j` of the piece that starts at column `o`. -/
def at0 (j : Fin 512) : Fin 4352 := ⟨j.val, by omega⟩
def at1 (j : Fin 512) : Fin 4352 := ⟨512 + j.val, by omega⟩
def at2 (j : Fin 512) : Fin 4352 := ⟨1024 + j.val, by omega⟩
def at3 (j : Fin 512) : Fin 4352 := ⟨1536 + j.val, by omega⟩
def at4 (j : Fin 256) : Fin 4352 := ⟨2048 + j.val, by omega⟩
def at5 (j : Fin 2048) : Fin 4352 := ⟨2304 + j.val, by omega⟩

/-- The normalised input. -/
def norm (x : FVec Ideal S4096x1024 .f32) (g : FVec Ideal S1024 .f32) : FVec Ideal S4096x1024 .bf16 := fun i =>
  (x i * Ideal.rsqrt (Ideal.div (∑ k : Fin 1024, x (ix2 (i 0) k) * x (ix2 (i 0) k)) (Ideal.ofBits .f32 0x44800000#32)
    + Ideal.ofBits .f32 0x358637BD#32) * g (ix1 (i 1)) : EReal)

/-- The weight's gradient, element by element. -/
def dw (d : FVec Ideal S4096x4352 .f32) (x : FVec Ideal S4096x1024 .f32) (g : FVec Ideal S1024 .f32) :
    FVec Ideal S4352x1024 .f32 := fun i => (∑ k : Fin 4096, d (ix2 k (i 0)) * norm x g (ix2 k (i 1)) : EReal)

theorem V_piece0 (c : Dev nD) : V m c main_v1
    = ((fun i : S4096x512.Idx => m ((c : Thread nD τ).loc main_arg0) (ix2 (i 0) (at0 (i 1)))) : FVec Ideal S4096x512 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x512.Idx) => ?_
  pointwise
  rfl

theorem V_piece1 (c : Dev nD) : V m c main_v3
    = ((fun i : S4096x512.Idx => m ((c : Thread nD τ).loc main_arg0) (ix2 (i 0) (at1 (i 1)))) : FVec Ideal S4096x512 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x512.Idx) => ?_
  pointwise
  rfl

theorem V_piece2 (c : Dev nD) : V m c main_v5
    = ((fun i : S4096x512.Idx => m ((c : Thread nD τ).loc main_arg0) (ix2 (i 0) (at2 (i 1)))) : FVec Ideal S4096x512 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x512.Idx) => ?_
  pointwise
  rfl

theorem V_piece3 (c : Dev nD) : V m c main_v7
    = ((fun i : S4096x512.Idx => m ((c : Thread nD τ).loc main_arg0) (ix2 (i 0) (at3 (i 1)))) : FVec Ideal S4096x512 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x512.Idx) => ?_
  pointwise
  rfl

theorem V_piece4 (c : Dev nD) : V m c main_v9
    = ((fun i : S4096x256.Idx => m ((c : Thread nD τ).loc main_arg0) (ix2 (i 0) (at4 (i 1)))) : FVec Ideal S4096x256 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x256.Idx) => ?_
  pointwise
  rfl

theorem V_piece5 (c : Dev nD) : V m c main_v11
    = ((fun i : S4096x2048.Idx => m ((c : Thread nD τ).loc main_arg0) (ix2 (i 0) (at5 (i 1)))) : FVec Ideal S4096x2048 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x2048.Idx) => ?_
  pointwise
  rfl

theorem V_norm (c : Dev nD) : V m c main_v25
    = norm (m ((c : Thread nD τ).loc main_arg1)) (m ((c : Thread nD τ).loc main_arg2)) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x1024.Idx) => ?_
  pointwise [norm]

theorem rows : ∀ t : Fin cfg0.N, win0_0.index t = ![0, min t.val 1] ∧ win0_1.index t = ![0, min (t.val - 2) 1] ∧ win0_2.index t = ![0, min (t.val - 4) 1] ∧ win0_3.index t = ![0, min (t.val - 6) 1] ∧ win0_4.index t = ![0, 0] ∧ win0_5.index t = ![0, min (t.val - 9) 7] ∧ win0_6.index t = ![0, 0] ∧ win0_7.index t = ![t.val, 0] :=
  (by decide +kernel : ∀ t : Fin grid0.N, _)

theorem read_piece0 (c : Dev nD) (t : Fin cfg0.N) (y : S4096x256.Idx) : iblk m c 0 t y
    = ((fun i : S4096x512.Idx => m ((c : Thread nD τ).loc main_arg0) (ix2 (i 0) (at0 (i 1)))) : FVec Ideal S4096x512 .bf16) (((cfg0.win 0).blk t).view.emb y) :=
  congrFun (V_piece0 m c) _

theorem read_piece1 (c : Dev nD) (t : Fin cfg0.N) (y : S4096x256.Idx) : iblk m c 1 t y
    = ((fun i : S4096x512.Idx => m ((c : Thread nD τ).loc main_arg0) (ix2 (i 0) (at1 (i 1)))) : FVec Ideal S4096x512 .bf16) (((cfg0.win 1).blk t).view.emb y) :=
  congrFun (V_piece1 m c) _

theorem read_piece2 (c : Dev nD) (t : Fin cfg0.N) (y : S4096x256.Idx) : iblk m c 2 t y
    = ((fun i : S4096x512.Idx => m ((c : Thread nD τ).loc main_arg0) (ix2 (i 0) (at2 (i 1)))) : FVec Ideal S4096x512 .bf16) (((cfg0.win 2).blk t).view.emb y) :=
  congrFun (V_piece2 m c) _

theorem read_piece3 (c : Dev nD) (t : Fin cfg0.N) (y : S4096x256.Idx) : iblk m c 3 t y
    = ((fun i : S4096x512.Idx => m ((c : Thread nD τ).loc main_arg0) (ix2 (i 0) (at3 (i 1)))) : FVec Ideal S4096x512 .bf16) (((cfg0.win 3).blk t).view.emb y) :=
  congrFun (V_piece3 m c) _

theorem read_piece4 (c : Dev nD) (t : Fin cfg0.N) (y : S4096x256.Idx) : iblk m c 4 t y
    = ((fun i : S4096x256.Idx => m ((c : Thread nD τ).loc main_arg0) (ix2 (i 0) (at4 (i 1)))) : FVec Ideal S4096x256 .bf16) (((cfg0.win 4).blk t).view.emb y) :=
  congrFun (V_piece4 m c) _

theorem read_piece5 (c : Dev nD) (t : Fin cfg0.N) (y : S4096x256.Idx) : iblk m c 5 t y
    = ((fun i : S4096x2048.Idx => m ((c : Thread nD τ).loc main_arg0) (ix2 (i 0) (at5 (i 1)))) : FVec Ideal S4096x2048 .bf16) (((cfg0.win 5).blk t).view.emb y) :=
  congrFun (V_piece5 m c) _

theorem read_norm (c : Dev nD) (t : Fin cfg0.N) (y : S4096x1024.Idx) : iblk m c 6 t y
    = norm (m ((c : Thread nD τ).loc main_arg1)) (m ((c : Thread nD τ).loc main_arg2)) (((cfg0.win 6).blk t).view.emb y) :=
  congrFun (V_norm m c) _

theorem piece_point0 (c : Dev nD) (t : Fin cfg0.N) (h0 : t.val < 2) (h1 : ¬(2 ≤ t.val % 17 ∧ t.val % 17 ≤ 3)) (h2 : ¬(4 ≤ t.val % 17 ∧ t.val % 17 ≤ 5)) (h3 : ¬(6 ≤ t.val % 17 ∧ t.val % 17 ≤ 7)) (h4 : ¬t.val % 17 = 8) (h5 : ¬9 ≤ t.val)
    (y : S256x1024.Idx) : outsAt0 m c t.val t.isLt y
      = dw (m ((c : Thread nD τ).loc main_arg0)) (m ((c : Thread nD τ).loc main_arg1)) (m ((c : Thread nD τ).loc main_arg2)) (((cfg0.win 7).blk t).view.emb y) := by
  rw [outsAt0_A m c t h0 h1 h2 h3 h4 h5]
  frame_out
  unfold k0_pay1 dw
  pointwise
  simp only [read_piece0, read_norm]
  blk_point [rows t, at0]

theorem piece_point1 (c : Dev nD) (t : Fin cfg0.N) (h0 : ¬t.val < 2) (h1 : (2 ≤ t.val % 17 ∧ t.val % 17 ≤ 3)) (h2 : ¬(4 ≤ t.val % 17 ∧ t.val % 17 ≤ 5)) (h3 : ¬(6 ≤ t.val % 17 ∧ t.val % 17 ≤ 7)) (h4 : ¬t.val % 17 = 8) (h5 : ¬9 ≤ t.val)
    (y : S256x1024.Idx) : outsAt0 m c t.val t.isLt y
      = dw (m ((c : Thread nD τ).loc main_arg0)) (m ((c : Thread nD τ).loc main_arg1)) (m ((c : Thread nD τ).loc main_arg2)) (((cfg0.win 7).blk t).view.emb y) := by
  rw [outsAt0_B m c t h0 h1 h2 h3 h4 h5]
  frame_out
  unfold k0_pay2 dw
  pointwise
  simp only [read_piece1, read_norm]
  blk_point [rows t, at1]

theorem piece_point2 (c : Dev nD) (t : Fin cfg0.N) (h0 : ¬t.val < 2) (h1 : ¬(2 ≤ t.val % 17 ∧ t.val % 17 ≤ 3)) (h2 : (4 ≤ t.val % 17 ∧ t.val % 17 ≤ 5)) (h3 : ¬(6 ≤ t.val % 17 ∧ t.val % 17 ≤ 7)) (h4 : ¬t.val % 17 = 8) (h5 : ¬9 ≤ t.val)
    (y : S256x1024.Idx) : outsAt0 m c t.val t.isLt y
      = dw (m ((c : Thread nD τ).loc main_arg0)) (m ((c : Thread nD τ).loc main_arg1)) (m ((c : Thread nD τ).loc main_arg2)) (((cfg0.win 7).blk t).view.emb y) := by
  rw [outsAt0_C m c t h0 h1 h2 h3 h4 h5]
  frame_out
  unfold k0_pay3 dw
  pointwise
  simp only [read_piece2, read_norm]
  blk_point [rows t, at2]

theorem piece_point3 (c : Dev nD) (t : Fin cfg0.N) (h0 : ¬t.val < 2) (h1 : ¬(2 ≤ t.val % 17 ∧ t.val % 17 ≤ 3)) (h2 : ¬(4 ≤ t.val % 17 ∧ t.val % 17 ≤ 5)) (h3 : (6 ≤ t.val % 17 ∧ t.val % 17 ≤ 7)) (h4 : ¬t.val % 17 = 8) (h5 : ¬9 ≤ t.val)
    (y : S256x1024.Idx) : outsAt0 m c t.val t.isLt y
      = dw (m ((c : Thread nD τ).loc main_arg0)) (m ((c : Thread nD τ).loc main_arg1)) (m ((c : Thread nD τ).loc main_arg2)) (((cfg0.win 7).blk t).view.emb y) := by
  rw [outsAt0_D m c t h0 h1 h2 h3 h4 h5]
  frame_out
  unfold k0_pay4 dw
  pointwise
  simp only [read_piece3, read_norm]
  blk_point [rows t, at3]

theorem piece_point4 (c : Dev nD) (t : Fin cfg0.N) (h0 : ¬t.val < 2) (h1 : ¬(2 ≤ t.val % 17 ∧ t.val % 17 ≤ 3)) (h2 : ¬(4 ≤ t.val % 17 ∧ t.val % 17 ≤ 5)) (h3 : ¬(6 ≤ t.val % 17 ∧ t.val % 17 ≤ 7)) (h4 : t.val % 17 = 8) (h5 : ¬9 ≤ t.val)
    (y : S256x1024.Idx) : outsAt0 m c t.val t.isLt y
      = dw (m ((c : Thread nD τ).loc main_arg0)) (m ((c : Thread nD τ).loc main_arg1)) (m ((c : Thread nD τ).loc main_arg2)) (((cfg0.win 7).blk t).view.emb y) := by
  rw [outsAt0_E m c t h0 h1 h2 h3 h4 h5]
  frame_out
  unfold k0_pay5 dw
  pointwise
  simp only [read_piece4, read_norm]
  blk_point [rows t, at4]

theorem piece_point5 (c : Dev nD) (t : Fin cfg0.N) (h0 : ¬t.val < 2) (h1 : ¬(2 ≤ t.val % 17 ∧ t.val % 17 ≤ 3)) (h2 : ¬(4 ≤ t.val % 17 ∧ t.val % 17 ≤ 5)) (h3 : ¬(6 ≤ t.val % 17 ∧ t.val % 17 ≤ 7)) (h4 : ¬t.val % 17 = 8) (h5 : 9 ≤ t.val)
    (y : S256x1024.Idx) : outsAt0 m c t.val t.isLt y
      = dw (m ((c : Thread nD τ).loc main_arg0)) (m ((c : Thread nD τ).loc main_arg1)) (m ((c : Thread nD τ).loc main_arg2)) (((cfg0.win 7).blk t).view.emb y) := by
  rw [outsAt0_F m c t h0 h1 h2 h3 h4 h5]
  frame_out
  unfold k0_pay6 dw
  pointwise
  simp only [read_piece5, read_norm]
  blk_point [rows t, at5]

theorem final7 (c : Dev nD) : (dats m 0 c).arrAt 7 cfg0.N
    = dw (m ((c : Thread nD τ).loc main_arg0)) (m ((c : Thread nD τ).loc main_arg1)) (m ((c : Thread nD τ).loc main_arg2)) := by
  refine (dats m 0 c).arrAt_eq_of_covers 7 _ (by decide +kernel) fun t hf y => ?_
  have hN : t.val < 17 := lt_of_lt_of_eq t.isLt N_0
  blk_simp
  rw [after0_7]
  by_cases h0 : t.val < 2
  · exact piece_point0 m c t h0 (by omega) (by omega) (by omega) (by omega) (by omega) _
  by_cases h1 : (2 ≤ t.val % 17 ∧ t.val % 17 ≤ 3)
  · exact piece_point1 m c t h0 h1 (by omega) (by omega) (by omega) (by omega) _
  by_cases h2 : (4 ≤ t.val % 17 ∧ t.val % 17 ≤ 5)
  · exact piece_point2 m c t h0 h1 h2 (by omega) (by omega) (by omega) _
  by_cases h3 : (6 ≤ t.val % 17 ∧ t.val % 17 ≤ 7)
  · exact piece_point3 m c t h0 h1 h2 h3 (by omega) (by omega) _
  by_cases h4 : t.val % 17 = 8
  · exact piece_point4 m c t h0 h1 h2 h3 h4 (by omega) _
  exact piece_point5 m c t h0 h1 h2 h3 h4 (by omega) _

end Cert.InWeightIdeal.Array

end
-- ==== Proof.InWeightEquation.lean ====
/- The reference's result at the extended reals is the kernel's array, term by term. -/
module

public import proofs.«01_k».proof.Defs
public import proofs.«01_k».proof.Proof.InWeightArray
public import proofs.«01_k».proof.Proof.Gen.InWeightReferenceIdeal.Read
public import proofs.«01_k».proof.Proof.Gen.InWeightReferenceIdeal.Run

@[expose] public section

set_option maxRecDepth 16384

noncomputable section

open Idealize.ShloMosaic Idealize.ShloMosaic.TcCoe Idealize.SL.Sem

namespace Cert.InWeightReferenceIdeal.Equation

open Cert.InWeightReferenceIdeal Cert.InWeightReferenceIdeal.Read

/-- The reference's gradient is the kernel's array. -/
theorem dw_eq (d : FVec Ideal S4096x4352 .f32) (x : FVec Ideal S4096x1024 .f32) (g : FVec Ideal S1024 .f32) :
    val_main_v17 (F := Ideal) d x g = Cert.InWeightIdeal.Array.dw d x g := by
  funext i
  pointwise [
    val_main_cst, val_main_v0, val_main_v1, val_main_cst_0, val_main_v2, val_main_v3, val_main_cst_1, val_main_v4,
    val_main_v5, val_main_cst_2, val_main_v6, val_main_v7, val_main_v8, val_main_v9, val_main_v10, val_main_v11,
    val_main_v12, val_main_v13, val_main_v14, val_main_v15, val_main_v16, val_main_v17, Cert.InWeightIdeal.Array.dw,
    Cert.InWeightIdeal.Array.norm]

end Cert.InWeightReferenceIdeal.Equation

namespace Cert.Proof

theorem inWeight_algebraic : Cert.algebraic_InWeightIdeal_InWeightReferenceIdeal := by
  pair_intro
  · run_from Cert.InWeightIdeal.Value.run_blocks m g
  · run_from Cert.InWeightReferenceIdeal.Value.run m' g'
    rw [Cert.InWeightIdeal.Array.final7]
    exact (Cert.InWeightReferenceIdeal.Read.val_main_v17_eq _ _ _).trans (Cert.InWeightReferenceIdeal.Equation.dw_eq _ _ _)

theorem inWeight_reference_frame : Cert.quiescent_InWeightReferenceIdeal := fun m ρ _ =>
  (θ_run Cert.InWeightReferenceIdeal.defs _ _).mono (fun r h => ⟨fun c => (h c).2,
      Idealize.ShloMosaic.sem_eq_zero_of_no_sems (by decide) r.2⟩)
    (Cert.InWeightReferenceIdeal.Value.run (F := Ideal) m ρ)

end Cert.Proof

end
-- ==== Proof.FfInArray.lean ====
/- The arrays that the gradient through the MLP's first product and the norm returns, at the extended reals, as functions
   of the arguments. The product is taken in four parts, one per block of the weight's columns; the gradient of the norm's
   gain is summed over the grid. -/
module

public import proofs.«01_k».proof.Proof.Gen.FfInIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.FfInIdeal.Array

open Idealize.ShloMosaic.StableHlo Cert.FfInIdeal Cert.FfInIdeal.Gen Cert.FfInIdeal.Value

variable (m : (ℓ : Loc nD τ sig) → Buf (Elt Ideal) ℓ)

/-- Column `j` of the weight's block `s`. -/
def col (s : Fin 4) (j : Fin 1024) : Fin 4096 := ⟨s.val * 1024 + j.val, by omega⟩

/-- The reciprocal root of a row's mean square. -/
def root (x : FVec Ideal S4096x1024 .f32) (i : Fin 4096) : EReal :=
  Ideal.rsqrt (Ideal.div (∑ k : Fin 1024, x (ix2 i k) * x (ix2 i k)) (Ideal.ofBits .f32 0x44800000#32)
    + Ideal.ofBits .f32 0x358637BD#32)

/-- The gradient before the activation, element by element. -/
def du (d x : FVec Ideal S4096x1024 .f32) (g : FVec Ideal S1024 .f32) (w1 : FVec Ideal S1024x4096 .f32)
    (w2 : FVec Ideal S4096x1024 .f32) : FVec Ideal S4096x4096 .bf16 := fun i =>
  ((∑ k : Fin 1024, d (ix2 (i 0) k) * w2 (ix2 (i 1) k)) * (Ideal.ofBits .f32 0x40000000#32
    * max (∑ k : Fin 1024, (x (ix2 (i 0) k) * root x (i 0) * g (ix1 k)) * w1 (ix2 k (i 1))) 0) : EReal)

/-- The weight, block by block. -/
def shards (w1 : FVec Ideal S1024x4096 .f32) : FVec Ideal S4x1024x1024 .bf16 := fun i => w1 (ix2 (i 1) (col (i 0) (i 2)))

/-- The gradient at the norm's result. -/
def dh (u : FVec Ideal S4096x4096 .bf16) (w : FVec Ideal S4x1024x1024 .bf16) (i : Fin 4096) (j : Fin 1024) : EReal :=
  (∑ k : Fin 1024, u (ix2 i (col 0 k)) * w (ix3 0 j k)) + (∑ k : Fin 1024, u (ix2 i (col 1 k)) * w (ix3 1 j k))
    + (∑ k : Fin 1024, u (ix2 i (col 2 k)) * w (ix3 2 j k)) + (∑ k : Fin 1024, u (ix2 i (col 3 k)) * w (ix3 3 j k))

/-- The gradient at the norm's argument, plus the cotangent that goes past the MLP. -/
def dx (d x : FVec Ideal S4096x1024 .f32) (g : FVec Ideal S1024 .f32) (u : FVec Ideal S4096x4096 .bf16)
    (w : FVec Ideal S4x1024x1024 .bf16) : FVec Ideal S4096x1024 .f32 := fun i =>
  (d i + root x (i 0) * (dh u w (i 0) (i 1) * g (ix1 (i 1)) - x i * root x (i 0)
    * Ideal.div (∑ k : Fin 1024, dh u w (i 0) k * g (ix1 k) * (x (ix2 (i 0) k) * root x (i 0)))
        (Ideal.ofBits .f32 0x44800000#32)) : EReal)

/-- A row's part of the gain's gradient. -/
def dgRow (x : FVec Ideal S4096x1024 .f32) (u : FVec Ideal S4096x4096 .bf16) (w : FVec Ideal S4x1024x1024 .bf16)
    (k : Fin 4096) (j : Fin 1024) : EReal := dh u w k j * (x (ix2 k j) * root x k)

/-- The gain's gradient. -/
def dg (x : FVec Ideal S4096x1024 .f32) (u : FVec Ideal S4096x4096 .bf16) (w : FVec Ideal S4x1024x1024 .bf16) :
    FVec Ideal S1x1024 .f32 := fun i =>
  (∑ k : Fin 4096, dgRow x u w k (i 1) : EReal)

theorem V_du (c : Dev nD) : V m c main_v20
    = du (m ((c : Thread nD τ).loc main_arg0)) (m ((c : Thread nD τ).loc main_arg1)) (m ((c : Thread nD τ).loc main_arg2)) (m ((c : Thread nD τ).loc main_arg3)) (m ((c : Thread nD τ).loc main_arg4)) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results
  refine funext fun (i : S4096x4096.Idx) => ?_
  pointwise [du, root]

theorem V_gain (c : Dev nD) : V m c main_v21
    = ((fun i : S1x1024.Idx => m ((c : Thread nD τ).loc main_arg2) (ix1 (i 1))) : FVec Ideal S1x1024 .f32) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results
  refine funext fun (i : S1x1024.Idx) => ?_
  pointwise

theorem V_shards (c : Dev nD) : V m c main_v24
    = shards (m ((c : Thread nD τ).loc main_arg3)) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results
  refine funext fun (i : S4x1024x1024.Idx) => ?_
  pointwise [shards, col]

theorem V_d (c : Dev nD) : V m c main_arg0
    = m ((c : Thread nD τ).loc main_arg0) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results

theorem V_x (c : Dev nD) : V m c main_arg1
    = m ((c : Thread nD τ).loc main_arg1) := by
  unfold V
  simp only [hostOps0, hostOps0_1, hostOps0_2, List.flatten_cons, List.flatten_nil, List.append_nil, List.cons_append,
    List.nil_append, TRef.binary, TRef.nullary, TRef.unary, TRef.toBuf, TRef.ofBuf, cast_eq]
  after_results

theorem rows : ∀ t : Fin cfg0.N, win0_0.index t = ![t.val, 0] ∧ win0_1.index t = ![t.val, 0] ∧ win0_2.index t = ![t.val, 0] ∧ win0_3.index t = ![0, 0] ∧ win0_4.index t = ![0, 0, 0] ∧ win0_5.index t = ![t.val, 0] ∧ win0_6.index t = ![t.val, 0] ∧ win0_7.index t = ![0, 0] :=
  (by decide +kernel : ∀ t : Fin grid0.N, _)

/-- Row `p` of the block at point `t`. -/
def row (t : Fin cfg0.N) (p : Fin 512) : Fin 4096 := ⟨t.val * 512 + p.val, by have := t.isLt; have : cfg0.N = 8 := N_0; omega⟩

theorem at_du (c : Dev nD) (t : Fin cfg0.N) (p : Fin 512) (k : Fin 4096) : iblk m c 0 t (ix2 p k)
    = (du (m ((c : Thread nD τ).loc main_arg0)) (m ((c : Thread nD τ).loc main_arg1)) (m ((c : Thread nD τ).loc main_arg2)) (m ((c : Thread nD τ).loc main_arg3)) (m ((c : Thread nD τ).loc main_arg4))) (ix2 (row t p) k) := by
  refine (congrFun (V_du m c) _).trans ?_
  blk_point [iblk, V_du, rows t, row]

theorem at_d (c : Dev nD) (t : Fin cfg0.N) (p : Fin 512) (k : Fin 1024) : iblk m c 1 t (ix2 p k)
    = (m ((c : Thread nD τ).loc main_arg0)) (ix2 (row t p) k) := by
  refine (congrFun (V_d m c) _).trans ?_
  blk_point [iblk, V_d, rows t, row]

theorem at_x (c : Dev nD) (t : Fin cfg0.N) (p : Fin 512) (k : Fin 1024) : iblk m c 2 t (ix2 p k)
    = (m ((c : Thread nD τ).loc main_arg1)) (ix2 (row t p) k) := by
  refine (congrFun (V_x m c) _).trans ?_
  blk_point [iblk, V_x, rows t, row]

theorem at_gain (c : Dev nD) (t : Fin cfg0.N) (p : Fin 1) (k : Fin 1024) : iblk m c 3 t (ix2 p k)
    = (m ((c : Thread nD τ).loc main_arg2)) (ix1 k) := by
  refine (congrFun (V_gain m c) _).trans ?_
  blk_point [iblk, V_gain, rows t, row]

theorem at_shards (c : Dev nD) (t : Fin cfg0.N) (s : Fin 4) (j k : Fin 1024) : iblk m c 4 t (ix3 s j k)
    = (shards (m ((c : Thread nD τ).loc main_arg3))) (ix3 s j k) := by
  refine (congrFun (V_shards m c) _).trans ?_
  blk_point [iblk, V_shards, rows t, row]

/-- The four products that the body adds at point `t`. -/
def dhBlk (c : Dev nD) (t : Fin cfg0.N) : FVec Ideal S512x1024 .f32 :=
  k0_pay7 (iblk m c 0 t)
    (View.ld (iblk m c 4 t) (Rect.unit ![0, 0, 0] ![1, 1024, 1024] inb_S4x1024x1024_S1x1024x1024_0_0_0))
    (View.ld (iblk m c 4 t) (Rect.unit ![1, 0, 0] ![1, 1024, 1024] inb_S4x1024x1024_S1x1024x1024_1_0_0))
    (View.ld (iblk m c 4 t) (Rect.unit ![2, 0, 0] ![1, 1024, 1024] inb_S4x1024x1024_S1x1024x1024_2_0_0))
    (View.ld (iblk m c 4 t) (Rect.unit ![3, 0, 0] ![1, 1024, 1024] inb_S4x1024x1024_S1x1024x1024_3_0_0))

theorem col_0 (k : Fin 1024) : col 0 k = ⟨k.val, by omega⟩ := Fin.ext (Nat.zero_add _)

/-- … are the gradient at the norm's result, in the block's rows. -/
theorem dhBlk_at (c : Dev nD) (t : Fin cfg0.N) (p : Fin 512) (j : Fin 1024) : dhBlk m c t (ix2 p j)
    = dh (du (m ((c : Thread nD τ).loc main_arg0)) (m ((c : Thread nD τ).loc main_arg1)) (m ((c : Thread nD τ).loc main_arg2)) (m ((c : Thread nD τ).loc main_arg3)) (m ((c : Thread nD τ).loc main_arg4))) (shards (m ((c : Thread nD τ).loc main_arg3))) (row t p) j := by
  unfold dhBlk k0_pay7 dh
  pointwise
  simp only [at_du, at_shards, col_0]
  rfl

theorem inv_at (c : Dev nD) (t : Fin cfg0.N) (p : Fin 512) (q : Fin 1) : k0_pay1 (k0_pay9 (iblk m c 2 t)) (ix2 p q)
    = root (m ((c : Thread nD τ).loc main_arg1)) (row t p) := by
  unfold k0_pay1 k0_pay9 root
  pointwise
  simp only [at_x]

/-- What the body leaves of the gradient at the norm's argument. -/
theorem dx_at (c : Dev nD) (t : Fin cfg0.N) (p : Fin 512) (j : Fin 1024) :
    k0_pay3 (dhBlk m c t) (iblk m c 2 t) (k0_pay8 (iblk m c 3 t)) (k0_pay9 (iblk m c 2 t)) (iblk m c 1 t) (ix2 p j)
      = dx (m ((c : Thread nD τ).loc main_arg0)) (m ((c : Thread nD τ).loc main_arg1)) (m ((c : Thread nD τ).loc main_arg2)) (du (m ((c : Thread nD τ).loc main_arg0)) (m ((c : Thread nD τ).loc main_arg1)) (m ((c : Thread nD τ).loc main_arg2)) (m ((c : Thread nD τ).loc main_arg3)) (m ((c : Thread nD τ).loc main_arg4))) (shards (m ((c : Thread nD τ).loc main_arg3))) (ix2 (row t p) j) := by
  unfold k0_pay3 k0_pay2 k0_pay8 dx
  pointwise
  simp only [inv_at, dhBlk_at, at_d, at_x, at_gain]

/-- What the body adds to the gain's gradient. -/
theorem dg_at (c : Dev nD) (t : Fin cfg0.N) (acc : Vec Ideal S1x1024 .f32) (q : Fin 1) (j : Fin 1024) :
    k0_pay5 (dhBlk m c t) (iblk m c 2 t) (k0_pay9 (iblk m c 2 t)) acc (ix2 q j)
      = acc (ix2 q j) + ∑ p : Fin 512, dgRow (m ((c : Thread nD τ).loc main_arg1)) (du (m ((c : Thread nD τ).loc main_arg0)) (m ((c : Thread nD τ).loc main_arg1)) (m ((c : Thread nD τ).loc main_arg2)) (m ((c : Thread nD τ).loc main_arg3)) (m ((c : Thread nD τ).loc main_arg4))) (shards (m ((c : Thread nD τ).loc main_arg3))) (row t p) j := by
  unfold k0_pay5 k0_pay2 dgRow
  pointwise
  simp only [inv_at, dhBlk_at, at_x]

theorem final5 (c : Dev nD) : (dats m 0 c).arrAt 5 cfg0.N
    = (dx (m ((c : Thread nD τ).loc main_arg0)) (m ((c : Thread nD τ).loc main_arg1)) (m ((c : Thread nD τ).loc main_arg2)) (du (m ((c : Thread nD τ).loc main_arg0)) (m ((c : Thread nD τ).loc main_arg1)) (m ((c : Thread nD τ).loc main_arg2)) (m ((c : Thread nD τ).loc main_arg3)) (m ((c : Thread nD τ).loc main_arg4))) (shards (m ((c : Thread nD τ).loc main_arg3)))) := by
  refine (dats m 0 c).arrAt_eq_of_covers 5 _ (by decide +kernel) fun t hf y => ?_
  idx_vars y
  blk_simp
  rw [after0_5]
  by_cases h : t.val % 8 = 0
  · rw [outsAt0_A m c t h]
    frame_out
    refine (dx_at m c t y0 y1).trans (congrArg _ ?_)
    blk_ext [rows t, row]
  · rw [outsAt0_B m c t h]
    frame_out
    refine (dx_at m c t y0 y1).trans (congrArg _ ?_)
    blk_ext [rows t, row]

theorem final6 (c : Dev nD) : (dats m 0 c).arrAt 6 cfg0.N
    = (dx (m ((c : Thread nD τ).loc main_arg0)) (m ((c : Thread nD τ).loc main_arg1)) (m ((c : Thread nD τ).loc main_arg2)) (du (m ((c : Thread nD τ).loc main_arg0)) (m ((c : Thread nD τ).loc main_arg1)) (m ((c : Thread nD τ).loc main_arg2)) (m ((c : Thread nD τ).loc main_arg3)) (m ((c : Thread nD τ).loc main_arg4))) (shards (m ((c : Thread nD τ).loc main_arg3)))) := by
  refine (dats m 0 c).arrAt_eq_of_covers 6 _ (by decide +kernel) fun t hf y => ?_
  idx_vars y
  blk_simp
  rw [after0_6]
  by_cases h : t.val % 8 = 0
  · rw [outsAt0_A m c t h]
    frame_out
    refine (dx_at m c t y0 y1).trans (congrArg _ ?_)
    blk_ext [rows t, row]
  · rw [outsAt0_B m c t h]
    frame_out
    refine (dx_at m c t y0 y1).trans (congrArg _ ?_)
    blk_ext [rows t, row]

theorem acc_last (c : Dev nD) (t : Fin cfg0.N) (h : t.val + 1 = cfg0.N) (q : Fin 1) (j : Fin 1024) :
    (outsAt0 m c t.val t.isLt).2.2 (ix2 q j) = dg (m ((c : Thread nD τ).loc main_arg1)) (du (m ((c : Thread nD τ).loc main_arg0)) (m ((c : Thread nD τ).loc main_arg1)) (m ((c : Thread nD τ).loc main_arg2)) (m ((c : Thread nD τ).loc main_arg3)) (m ((c : Thread nD τ).loc main_arg4))) (shards (m ((c : Thread nD τ).loc main_arg3))) (ix2 q j) := by
  rw [Pipeline.eq_sum_fin_of_reset_step_apply_last (fun n h => (outsAt0 m c n h).2.2) 8 (fun _ => 0)
    (fun t i => ∑ p : Fin 512, dgRow (m ((c : Thread nD τ).loc main_arg1)) (du (m ((c : Thread nD τ).loc main_arg0)) (m ((c : Thread nD τ).loc main_arg1)) (m ((c : Thread nD τ).loc main_arg2)) (m ((c : Thread nD τ).loc main_arg3)) (m ((c : Thread nD τ).loc main_arg4))) (shards (m ((c : Thread nD τ).loc main_arg3))) (row t p) (i 1))
    (fun t h i => by
      idx_vars i
      rw [outsAt0_A m c t h]
      frame_out
      refine (dg_at m c t _ i0 i1).trans ?_
      unfold k0_pay6
      pointwise)
    (fun t h i => by
      idx_vars i
      rw [outsAt0_B m c t h]
      frame_out
      exact dg_at m c t _ i0 i1)
    (le_of_eq N_0) t h (ix2 q j), zero_add]
  exact Fin.sum_mul_add_fin cfg0.N 512 (fun k => dgRow (m ((c : Thread nD τ).loc main_arg1)) (du (m ((c : Thread nD τ).loc main_arg0)) (m ((c : Thread nD τ).loc main_arg1)) (m ((c : Thread nD τ).loc main_arg2)) (m ((c : Thread nD τ).loc main_arg3)) (m ((c : Thread nD τ).loc main_arg4))) (shards (m ((c : Thread nD τ).loc main_arg3))) k j) (by rw [show cfg0.N = 8 from N_0])

theorem final7 (c : Dev nD) : (dats m 0 c).arrAt 7 cfg0.N
    = dg (m ((c : Thread nD τ).loc main_arg1)) (du (m ((c : Thread nD τ).loc main_arg0)) (m ((c : Thread nD τ).loc main_arg1)) (m ((c : Thread nD τ).loc main_arg2)) (m ((c : Thread nD τ).loc main_arg3)) (m ((c : Thread nD τ).loc main_arg4))) (shards (m ((c : Thread nD τ).loc main_arg3))) := by
  refine (dats m 0 c).arrAt_eq_of_covers 7 _ (by decide +kernel) fun t hf y => ?_
  have hl : t.val + 1 = cfg0.N := by
    have := (flush0_7 t).mp hf
    have := t.isLt
    have : cfg0.N = 8 := N_0
    omega
  idx_vars y
  blk_simp
  rw [after0_7]
  refine (acc_last m c t hl y0 y1).trans (congrArg _ ?_)
  blk_ext [rows t]

end Cert.FfInIdeal.Array

end
-- ==== Proof.NormGradient.lean ====
/- The gradient of the root mean square norm at the extended reals. Two ways of writing it are equal there without any
   condition on the values: the kernels subtract from the cotangent its part along the normalised row and scale by the
   reciprocal root; the reference differentiates the square, the mean and the reciprocal root one by one. -/
module

public import Idealize.ShloMosaic.Lib.Pipeline.ValueKit
public import Idealize.ShloMosaic.Lib.Claim
public import Idealize.ShloMosaic.Lib.Pointwise

@[expose] public section

noncomputable section

open Idealize.ShloMosaic

namespace Cert.Norm

/-- A real factor that is not negative goes into a sum. -/
theorem coe_mul_add {r : ℝ} (h : 0 ≤ r) (a b : EReal) : (r : EReal) * (a + b) = r * a + r * b :=
  EReal.left_distrib_of_nonneg_of_ne_top (EReal.coe_nonneg.mpr h) (EReal.coe_ne_top r) a b

/-- … into a difference. -/
theorem coe_mul_sub {r : ℝ} (h : 0 ≤ r) (a b : EReal) : (r : EReal) * (a - b) = r * a - r * b := by
  rw [sub_eq_add_neg, coe_mul_add h, mul_neg, sub_eq_add_neg]

/-- … into a sum over a finite type. -/
theorem coe_mul_sum {ι : Type} {r : ℝ} (h : 0 ≤ r) (s : Finset ι) (f : ι → EReal) :
    (r : EReal) * ∑ k ∈ s, f k = ∑ k ∈ s, (r : EReal) * f k := by
  classical
  refine Finset.induction_on s (by simp) fun a s ha ih => ?_
  rw [Finset.sum_insert ha, Finset.sum_insert ha, coe_mul_add h, ih]

/-- A square is not negative. -/
theorem mul_self_nonneg' (x : EReal) : 0 ≤ x * x := by
  induction x with
  | bot => simp
  | top => simp
  | coe r => exact_mod_cast mul_self_nonneg r

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_small : 0 < Ideal.ofBits .f32 0x358637BD#32 := by
  simp [Ideal.ofBits, Ideal.ieee, -EReal.coe_mul]

/-- The mean square plus the small constant is positive. -/
theorem mean_pos {ι : Type} (s : Finset ι) (f : ι → EReal) :
    0 < Ideal.div (∑ k ∈ s, f k * f k) (Ideal.ofBits .f32 0x44800000#32) + Ideal.ofBits .f32 0x358637BD#32 := by
  refine lt_of_lt_of_le ofBits_small (le_add_of_nonneg_left ?_)
  rw [ofBits_1024, Ideal.div_coe (by norm_num)]
  exact mul_nonneg (Finset.sum_nonneg fun k _ => mul_self_nonneg' _) (by exact_mod_cast (by norm_num : (0 : ℝ) ≤ 1 / 1024))

/-- The reciprocal root of a positive value is a real number that is not negative. -/
theorem rsqrt_real {v : EReal} (hv : 0 < v) : ∃ r : ℝ, 0 ≤ r ∧ Ideal.rsqrt v = r := by
  induction v with
  | bot => exact absurd hv (by simp)
  | top => exact ⟨0, le_rfl, by simp⟩
  | coe v =>
    have h : 0 < v := by exact_mod_cast hv
    exact ⟨(Real.sqrt v)⁻¹, by positivity, by rw [Ideal.rsqrt_coe, if_neg h.not_gt, if_neg h.ne']⟩

/-- The part of a row's cotangent along the row: the reciprocal root comes out of the sum. -/
theorem along {ι : Type} {v : EReal} (hv : 0 < v) (s : Finset ι) (a x : ι → EReal) :
    ∑ k ∈ s, a k * (x k * Ideal.rsqrt v) = Ideal.rsqrt v * ∑ k ∈ s, x k * a k := by
  obtain ⟨r, h, e⟩ := rsqrt_real hv
  rw [e, coe_mul_sum h]
  exact Finset.sum_congr rfl fun k _ => by ac_rfl

/-- The gradient of the norm, plus a further term `d`, in the kernels' and in the reference's writing. -/
theorem gradient {v : EReal} (hv : 0 < v) (d a x S : EReal) :
    d + Ideal.rsqrt v * (a - x * Ideal.rsqrt v * Ideal.div (Ideal.rsqrt v * S) (Ideal.ofBits .f32 0x44800000#32))
      = d + a * Ideal.rsqrt v
        + x * Ideal.div (S * (Ideal.ofBits .f32 0xBF000000#32 * Ideal.div (Ideal.rsqrt v) v)) (Ideal.ofBits .f32 0x44800000#32)
        + Ideal.div (S * (Ideal.ofBits .f32 0xBF000000#32 * Ideal.div (Ideal.rsqrt v) v)) (Ideal.ofBits .f32 0x44800000#32) * x := by
  rw [ofBits_1024, ofBits_neg_half, Ideal.div_coe (by norm_num), Ideal.div_coe (by norm_num)]
  induction v with
  | bot => exact absurd hv (by simp)
  | top => simp [Ideal.div]
  | coe v =>
    have h : 0 < v := by exact_mod_cast hv
    rw [Ideal.rsqrt_coe, if_neg h.not_gt, if_neg h.ne', Ideal.div_coe h.ne']
    have hr : 0 ≤ (Real.sqrt v)⁻¹ := by positivity
    have hv' : 1 / v = (Real.sqrt v)⁻¹ * (Real.sqrt v)⁻¹ := by
      rw [← mul_inv, Real.mul_self_sqrt h.le, one_div]
    rw [hv']
    generalize (Real.sqrt v)⁻¹ = r at hr
    have hq : (0 : EReal) ≤ ((r * r * r / 2048 : ℝ) : EReal) := by exact_mod_cast (by positivity)
    have e1 : (r : EReal) * (a - x * r * (r * S * ((1 / 1024 : ℝ) : EReal)))
        = a * r + (-(x * S)) * (((r * r * r / 2048 : ℝ) : EReal) + ((r * r * r / 2048 : ℝ) : EReal)) := by
      rw [coe_mul_sub hr, sub_eq_add_neg, mul_comm a]
      congr 1
      rw [neg_mul]
      congr 1
      rw [← EReal.coe_add, show r * r * r / 2048 + r * r * r / 2048 = r * r * r * (1 / 1024) by ring, EReal.coe_mul,
        EReal.coe_mul, EReal.coe_mul]
      ac_rfl
    have e2 : S * (((-(1 / 2) : ℝ) : EReal) * (r * ((r * r : ℝ) : EReal))) * ((1 / 1024 : ℝ) : EReal)
        = -(S * ((r * r * r / 2048 : ℝ) : EReal)) := by
      rw [← EReal.coe_mul, ← EReal.coe_mul, mul_assoc, ← EReal.coe_mul, ← mul_neg, ← EReal.coe_neg]
      congr 2
      ring
    have e3 : x * -(S * ((r * r * r / 2048 : ℝ) : EReal)) = -(x * S) * ((r * r * r / 2048 : ℝ) : EReal) := by
      rw [mul_neg, neg_mul, mul_assoc x S]
    rw [e1, e2, EReal.left_distrib_of_nonneg hq hq, mul_comm _ x, e3, add_assoc, add_assoc]

end Cert.Norm

end
-- ==== Proof.FfInEquation.lean ====
/- The reference's results at the extended reals are the kernel's arrays: the product's four parts make up the whole
   product, and the gradient of the norm is the kernel's by `NormGradient`. -/
module

public import proofs.«01_k».proof.Defs
public import proofs.«01_k».proof.Proof.FfInArray
public import proofs.«01_k».proof.Proof.Gen.FfInReferenceIdeal.Read
public import proofs.«01_k».proof.Proof.Gen.FfInReferenceIdeal.Run
public import proofs.«01_k».proof.Proof.NormGradient

@[expose] public section

set_option maxRecDepth 16384

noncomputable section

open Idealize.ShloMosaic Idealize.ShloMosaic.TcCoe Idealize.SL.Sem

namespace Cert.FfInReferenceIdeal.Equation

open Cert.FfInIdeal.Array (root du shards dh dx dg dgRow)
open Cert.FfInReferenceIdeal Cert.FfInReferenceIdeal.Read

/-- A product of which one factor is the positive part, cut off where that part vanishes. -/
theorem select_positive (a b u : EReal) : (if 0 < u then a * (b * max u 0) else 0) = a * (b * max u 0) := by
  split
  · rfl
  · rw [max_eq_right (not_lt.mp ‹_›), mul_zero, mul_zero]

/-- The four parts of the product are the product. -/
theorem dh_eq (u : FVec Ideal S4096x4096 .bf16) (w1 : FVec Ideal S1024x4096 .f32) (i : Fin 4096) (j : Fin 1024) :
    dh u (shards w1) i j = ∑ k : Fin 4096, u (ix2 i k) * w1 (ix2 j k) := by
  rw [← Fin.sum_mul_add_fin 4 1024 (fun k : Fin 4096 => u (ix2 i k) * w1 (ix2 j k)), Fin.sum_univ_four]
  rfl

theorem dx_ix (d x : FVec Ideal S4096x1024 .f32) (g : FVec Ideal S1024 .f32) (u : FVec Ideal S4096x4096 .bf16)
    (w : FVec Ideal Cert.FfInIdeal.S4x1024x1024 .bf16) (i : Fin 4096) (j : Fin 1024) : dx d x g u w (ix2 i j)
    = d (ix2 i j) + root x i * (dh u w i j * g (ix1 j) - x (ix2 i j) * root x i
        * Ideal.div (∑ k : Fin 1024, dh u w i k * g (ix1 k) * (x (ix2 i k) * root x i)) (Ideal.ofBits .f32 0x44800000#32)) := rfl

theorem dg_ix (x : FVec Ideal S4096x1024 .f32) (u : FVec Ideal S4096x4096 .bf16)
    (w : FVec Ideal Cert.FfInIdeal.S4x1024x1024 .bf16) (q : Fin 1) (j : Fin 1024) : dg x u w (ix2 q j)
    = ∑ k : Fin 4096, dh u w k j * (x (ix2 k j) * root x k) := rfl

/-- The gradient at the norm's argument. -/
theorem dx_eq (d x : FVec Ideal S4096x1024 .f32) (g : FVec Ideal S1024 .f32) (w1 : FVec Ideal S1024x4096 .f32) (w2 : FVec Ideal S4096x1024 .f32) :
    val_main_v52 (F := Ideal) d x g w1 w2 = dx d x g (du d x g w1 w2) (shards w1) := by
  funext i
  idx_vars i
  rw [dx_ix]
  simp only [dh_eq]
  unfold root
  rw [Norm.along (Norm.mean_pos _ _), Norm.gradient (Norm.mean_pos _ _)]
  pointwise [
    val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_call0_cst, val_main_call0_v0,
    val_main_v17, val_main_cst_3, val_main_v18, val_main_v19, val_main_cst_4, val_main_v20, val_main_v21,
    val_main_cst_5, val_main_v22, val_main_v23, val_main_v24, val_main_v25, val_main_v26, val_main_v27, val_main_v28,
    val_main_cst_6, val_main_v29, val_main_v30, val_main_v31, val_main_v32, val_main_cst_7, val_main_v33,
    val_main_v34, val_main_v35, val_main_v36, val_main_cst_8, val_main_v37, val_main_v38, val_main_cst_9,
    val_main_v39, val_main_v40, val_main_v41, val_main_v42, val_main_v43, val_main_v44, val_main_cst_10, val_main_v45,
    val_main_v46, val_main_cst_11, val_main_v47, val_main_v48, val_main_v49, val_main_v50, val_main_v51, val_main_v52,
    val_main_v53, val_main_v54, du, root]
  simp only [select_positive, Fin.sum_univ_one]

theorem dg_eq (d x : FVec Ideal S4096x1024 .f32) (g : FVec Ideal S1024 .f32) (w1 : FVec Ideal S1024x4096 .f32) (w2 : FVec Ideal S4096x1024 .f32) :
    val_main_v54 (F := Ideal) d x g w1 w2 = dg x (du d x g w1 w2) (shards w1) := by
  funext i
  idx_vars i
  rw [dg_ix]
  simp only [dh_eq]
  pointwise [
    val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_call0_cst, val_main_call0_v0,
    val_main_v17, val_main_cst_3, val_main_v18, val_main_v19, val_main_cst_4, val_main_v20, val_main_v21,
    val_main_cst_5, val_main_v22, val_main_v23, val_main_v24, val_main_v25, val_main_v26, val_main_v27, val_main_v28,
    val_main_cst_6, val_main_v29, val_main_v30, val_main_v31, val_main_v32, val_main_cst_7, val_main_v33,
    val_main_v34, val_main_v35, val_main_v36, val_main_cst_8, val_main_v37, val_main_v38, val_main_cst_9,
    val_main_v39, val_main_v40, val_main_v41, val_main_v42, val_main_v43, val_main_v44, val_main_cst_10, val_main_v45,
    val_main_v46, val_main_cst_11, val_main_v47, val_main_v48, val_main_v49, val_main_v50, val_main_v51, val_main_v52,
    val_main_v53, val_main_v54, du, root]
  simp only [select_positive]
  exact (Fin.sum_univ_one _).trans (Finset.sum_congr rfl fun k _ => mul_comm _ _)

/-- The rounded copy of the gradient holds the same numbers. -/
theorem dx_rounded_eq (d x : FVec Ideal S4096x1024 .f32) (g : FVec Ideal S1024 .f32) (w1 : FVec Ideal S1024x4096 .f32) (w2 : FVec Ideal S4096x1024 .f32) :
    val_main_v53 (F := Ideal) d x g w1 w2 = dx d x g (du d x g w1 w2) (shards w1) :=
  dx_eq d x g w1 w2

end Cert.FfInReferenceIdeal.Equation

namespace Cert.Proof

theorem ffIn_algebraic : Cert.algebraic_FfInIdeal_FfInReferenceIdeal := by
  pair_intro
  · run_from Cert.FfInIdeal.Value.run_blocks m g
  · run_from Cert.FfInReferenceIdeal.Value.run m' g'
    · rw [Cert.FfInIdeal.Array.final5]
      rw [Cert.FfInReferenceIdeal.Read.val_main_v52_eq, (hagree c).1, (hagree c).2.1,
        (hagree c).2.2.1, (hagree c).2.2.2.1, (hagree c).2.2.2.2]
      exact Cert.FfInReferenceIdeal.Equation.dx_eq _ _ _ _ _
    · rw [Cert.FfInIdeal.Array.final6]
      rw [Cert.FfInReferenceIdeal.Read.val_main_v53_eq, (hagree c).1, (hagree c).2.1,
        (hagree c).2.2.1, (hagree c).2.2.2.1, (hagree c).2.2.2.2]
      exact Cert.FfInReferenceIdeal.Equation.dx_rounded_eq _ _ _ _ _
    · rw [Cert.FfInIdeal.Array.final7]
      exact (Cert.FfInReferenceIdeal.Read.val_main_v54_eq _ _ _ _ _).trans (Cert.FfInReferenceIdeal.Equation.dg_eq _ _ _ _ _)

theorem ffIn_reference_frame : Cert.quiescent_FfInReferenceIdeal := fun m ρ _ =>
  (θ_run Cert.FfInReferenceIdeal.defs _ _).mono (fun r h => ⟨fun c => (h c).2.2.2,
      Idealize.ShloMosaic.sem_eq_zero_of_no_sems (by decide) r.2⟩)
    (Cert.FfInReferenceIdeal.Value.run (F := Ideal) m ρ)

end Cert.Proof

end
-- ==== Proof.GateArray.lean ====
/- The arrays that the gradient through the embedding's gate and its norm returns, at the extended reals, as functions of
   the arguments. The gradient of the norm's gain is summed over the grid. -/
module

public import proofs.«01_k».proof.Proof.Gen.GateIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.GateIdeal.Array

open Idealize.ShloMosaic.StableHlo Cert.GateIdeal Cert.GateIdeal.Gen Cert.GateIdeal.Value

variable (m : (ℓ : Loc nD τ sig) → Buf (Elt Ideal) ℓ)

/-- The logistic function as the kernel computes it. -/
def sigm (x : EReal) : EReal := Ideal.div 1 (1 + Ideal.exp (-x))

/-- The reciprocal root of a row's mean square. -/
def root (x : FVec Ideal S4096x1024 .f32) (i : Fin 4096) : EReal :=
  Ideal.rsqrt (Ideal.div (∑ k : Fin 1024, x (ix2 i k) * x (ix2 i k)) (Ideal.ofBits .f32 0x44800000#32)
    + Ideal.ofBits .f32 0x358637BD#32)

/-- The gate before the logistic function. -/
def gate (x : FVec Ideal S4096x1024 .f32) (g : FVec Ideal S1024 .f32) (w : FVec Ideal S1024x1024 .f32) :
    FVec Ideal S4096x1024 .f32 := fun i =>
  (∑ k : Fin 1024, (x (ix2 (i 0) k) * root x (i 0) * g (ix1 k)) * w (ix2 k (i 1)) : EReal)

/-- The gradient at the embedding. -/
def dpe (d z : FVec Ideal S4096x1024 .f32) : FVec Ideal S4096x1024 .bf16 := fun i => (d i * sigm (z i) : EReal)

/-- The gradient at the gate, before the logistic function. -/
def dgt (d e z : FVec Ideal S4096x1024 .f32) : FVec Ideal S4096x1024 .bf16 := fun i =>
  (d i * e i * sigm (z i) * (1 - sigm (z i)) : EReal)

/-- The gradient at the norm's result. -/
def dh (u : FVec Ideal S4096x1024 .bf16) (w : FVec Ideal S1024x1024 .f32) (i : Fin 4096) (j : Fin 1024) : EReal :=
  ∑ k : Fin 1024, u (ix2 i k) * w (ix2 j k)

/-- The gradient at the norm's argument, plus the cotangent that goes past the gate. -/
def dx (d x : FVec Ideal S4096x1024 .f32) (g : FVec Ideal S1024 .f32) (u : FVec Ideal S4096x1024 .bf16)
    (w : FVec Ideal S1024x1024 .f32) : FVec Ideal S4096x1024 .f32 := fun i =>
  (d i + root x (i 0) * (dh u w (i 0) (i 1) * g (ix1 (i 1)) - x i * root x (i 0)
    * Ideal.div (∑ k : Fin 1024, dh u w (i 0) k * g (ix1 k) * (x (ix2 (i 0) k) * root x (i 0)))
        (Ideal.ofBits .f32 0x44800000#32)) : EReal)

/-- A row's part of the gain's gradient. -/
def dgRow (x : FVec Ideal S4096x1024 .f32) (u : FVec Ideal S4096x1024 .bf16) (w : FVec Ideal S1024x1024 .f32)
    (k : Fin 4096) (j : Fin 1024) : EReal := dh u w k j * (x (ix2 k j) * root x k)

/-- The gain's gradient. -/
def dg (x : FVec Ideal S4096x1024 .f32) (u : FVec Ideal S4096x1024 .bf16) (w : FVec Ideal S1024x1024 .f32) :
    FVec Ideal S1x1024 .f32 := fun i =>
  (∑ k : Fin 4096, dgRow x u w k (i 1) : EReal)

theorem V_gate (c : Dev nD) : V m c main_v13
    = gate (m ((c : Thread nD τ).loc main_arg2)) (m ((c : Thread nD τ).loc main_arg3)) (m ((c : Thread nD τ).loc main_arg4)) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x1024.Idx) => ?_
  pointwise [gate, root]

theorem V_gain (c : Dev nD) : V m c main_v14
    = ((fun i : S1x1024.Idx => m ((c : Thread nD τ).loc main_arg3) (ix1 (i 1))) : FVec Ideal S1x1024 .f32) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S1x1024.Idx) => ?_
  pointwise

theorem V_w (c : Dev nD) : V m c main_v15
    = ((fun i : S1024x1024.Idx => m ((c : Thread nD τ).loc main_arg4) i) : FVec Ideal S1024x1024 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S1024x1024.Idx) => ?_
  pointwise

theorem V_d (c : Dev nD) : V m c main_arg0
    = m ((c : Thread nD τ).loc main_arg0) := by
  unfold V
  simp only [hostOps0, List.flatten_cons, List.flatten_nil, List.append_nil, List.cons_append,
    List.nil_append, TRef.binary, TRef.nullary, TRef.unary, TRef.toBuf, TRef.ofBuf, cast_eq]
  after_results

theorem V_e (c : Dev nD) : V m c main_arg1
    = m ((c : Thread nD τ).loc main_arg1) := by
  unfold V
  simp only [hostOps0, List.flatten_cons, List.flatten_nil, List.append_nil, List.cons_append,
    List.nil_append, TRef.binary, TRef.nullary, TRef.unary, TRef.toBuf, TRef.ofBuf, cast_eq]
  after_results

theorem V_x (c : Dev nD) : V m c main_arg2
    = m ((c : Thread nD τ).loc main_arg2) := by
  unfold V
  simp only [hostOps0, List.flatten_cons, List.flatten_nil, List.append_nil, List.cons_append,
    List.nil_append, TRef.binary, TRef.nullary, TRef.unary, TRef.toBuf, TRef.ofBuf, cast_eq]
  after_results

theorem rows : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![t.val, 0] ∧ win0_9.index t = ![0, 0] :=
  (by decide +kernel : ∀ t : Fin grid0.N, _)

/-- Row `p` of the block at point `t`. -/
def row (t : Fin cfg0.N) (p : Fin 512) : Fin 4096 := ⟨t.val * 512 + p.val, by have := t.isLt; have : cfg0.N = 8 := N_0; omega⟩

theorem at_d (c : Dev nD) (t : Fin cfg0.N) (p : Fin 512) (k : Fin 1024) : iblk m c 0 t (ix2 p k)
    = (m ((c : Thread nD τ).loc main_arg0)) (ix2 (row t p) k) := by
  refine (congrFun (V_d m c) _).trans ?_
  blk_point [iblk, V_d, rows t, row]

theorem at_e (c : Dev nD) (t : Fin cfg0.N) (p : Fin 512) (k : Fin 1024) : iblk m c 1 t (ix2 p k)
    = (m ((c : Thread nD τ).loc main_arg1)) (ix2 (row t p) k) := by
  refine (congrFun (V_e m c) _).trans ?_
  blk_point [iblk, V_e, rows t, row]

theorem at_gate (c : Dev nD) (t : Fin cfg0.N) (p : Fin 512) (k : Fin 1024) : iblk m c 2 t (ix2 p k)
    = (gate (m ((c : Thread nD τ).loc main_arg2)) (m ((c : Thread nD τ).loc main_arg3)) (m ((c : Thread nD τ).loc main_arg4))) (ix2 (row t p) k) := by
  refine (congrFun (V_gate m c) _).trans ?_
  blk_point [iblk, V_gate, rows t, row]

theorem at_x (c : Dev nD) (t : Fin cfg0.N) (p : Fin 512) (k : Fin 1024) : iblk m c 3 t (ix2 p k)
    = (m ((c : Thread nD τ).loc main_arg2)) (ix2 (row t p) k) := by
  refine (congrFun (V_x m c) _).trans ?_
  blk_point [iblk, V_x, rows t, row]

theorem at_gain (c : Dev nD) (t : Fin cfg0.N) (p : Fin 1) (k : Fin 1024) : iblk m c 4 t (ix2 p k)
    = (m ((c : Thread nD τ).loc main_arg3)) (ix1 k) := by
  refine (congrFun (V_gain m c) _).trans ?_
  blk_point [iblk, V_gain, rows t, row]

theorem at_w (c : Dev nD) (t : Fin cfg0.N) (j k : Fin 1024) : iblk m c 5 t (ix2 j k)
    = (m ((c : Thread nD τ).loc main_arg4)) (ix2 j k) := by
  refine (congrFun (V_w m c) _).trans ?_
  blk_point [iblk, V_w, rows t, row]

theorem sig_at (c : Dev nD) (t : Fin cfg0.N) (p : Fin 512) (j : Fin 1024) : k0_pay6 (iblk m c 2 t) (ix2 p j)
    = sigm ((gate (m ((c : Thread nD τ).loc main_arg2)) (m ((c : Thread nD τ).loc main_arg3)) (m ((c : Thread nD τ).loc main_arg4))) (ix2 (row t p) j)) := by
  unfold k0_pay6 sigm
  pointwise
  simp only [at_gate, zero_sub]

/-- What the body leaves of the gradient at the embedding. -/
theorem dpe_at (c : Dev nD) (t : Fin cfg0.N) (p : Fin 512) (j : Fin 1024) :
    k0_pay7 (iblk m c 0 t) (iblk m c 2 t) (ix2 p j) = dpe (m ((c : Thread nD τ).loc main_arg0)) (gate (m ((c : Thread nD τ).loc main_arg2)) (m ((c : Thread nD τ).loc main_arg3)) (m ((c : Thread nD τ).loc main_arg4))) (ix2 (row t p) j) := by
  unfold k0_pay7 dpe
  pointwise
  simp only [at_d, sig_at]

/-- What the body leaves of the gradient at the gate. -/
theorem dgt_at (c : Dev nD) (t : Fin cfg0.N) (p : Fin 512) (j : Fin 1024) :
    k0_pay8 (iblk m c 0 t) (iblk m c 2 t) (iblk m c 1 t) (ix2 p j) = (dgt (m ((c : Thread nD τ).loc main_arg0)) (m ((c : Thread nD τ).loc main_arg1)) (gate (m ((c : Thread nD τ).loc main_arg2)) (m ((c : Thread nD τ).loc main_arg3)) (m ((c : Thread nD τ).loc main_arg4)))) (ix2 (row t p) j) := by
  unfold k0_pay8 dgt
  pointwise
  simp only [at_d, at_e, sig_at]

/-- The body's product is the gradient at the norm's result, in the block's rows. -/
theorem dh_at (c : Dev nD) (t : Fin cfg0.N) (p : Fin 512) (j : Fin 1024) :
    k0_pay9 (iblk m c 0 t) (iblk m c 2 t) (iblk m c 1 t) (iblk m c 5 t) (ix2 p j)
      = dh (dgt (m ((c : Thread nD τ).loc main_arg0)) (m ((c : Thread nD τ).loc main_arg1)) (gate (m ((c : Thread nD τ).loc main_arg2)) (m ((c : Thread nD τ).loc main_arg3)) (m ((c : Thread nD τ).loc main_arg4)))) (m ((c : Thread nD τ).loc main_arg4)) (row t p) j := by
  unfold k0_pay9 dh
  pointwise
  simp only [dgt_at, at_w]

theorem inv_at (c : Dev nD) (t : Fin cfg0.N) (p : Fin 512) (q : Fin 1) : k0_pay1 (k0_pay11 (iblk m c 3 t)) (ix2 p q)
    = root (m ((c : Thread nD τ).loc main_arg2)) (row t p) := by
  unfold k0_pay1 k0_pay11 root
  pointwise
  simp only [at_x]

/-- What the body leaves of the gradient at the norm's argument. -/
theorem dx_at (c : Dev nD) (t : Fin cfg0.N) (p : Fin 512) (j : Fin 1024) :
    k0_pay3 (iblk m c 0 t) (k0_pay9 (iblk m c 0 t) (iblk m c 2 t) (iblk m c 1 t) (iblk m c 5 t)) (iblk m c 3 t)
        (k0_pay10 (iblk m c 4 t)) (k0_pay11 (iblk m c 3 t)) (ix2 p j)
      = dx (m ((c : Thread nD τ).loc main_arg0)) (m ((c : Thread nD τ).loc main_arg2)) (m ((c : Thread nD τ).loc main_arg3)) (dgt (m ((c : Thread nD τ).loc main_arg0)) (m ((c : Thread nD τ).loc main_arg1)) (gate (m ((c : Thread nD τ).loc main_arg2)) (m ((c : Thread nD τ).loc main_arg3)) (m ((c : Thread nD τ).loc main_arg4)))) (m ((c : Thread nD τ).loc main_arg4)) (ix2 (row t p) j) := by
  unfold k0_pay3 k0_pay2 k0_pay10 dx
  pointwise
  simp only [inv_at, dh_at, at_d, at_x, at_gain]

/-- What the body adds to the gain's gradient. -/
theorem dg_at (c : Dev nD) (t : Fin cfg0.N) (acc : Vec Ideal S1x1024 .f32) (q : Fin 1) (j : Fin 1024) :
    k0_pay4 (k0_pay9 (iblk m c 0 t) (iblk m c 2 t) (iblk m c 1 t) (iblk m c 5 t)) (iblk m c 3 t)
        (k0_pay11 (iblk m c 3 t)) acc (ix2 q j)
      = acc (ix2 q j) + ∑ p : Fin 512, dgRow (m ((c : Thread nD τ).loc main_arg2)) (dgt (m ((c : Thread nD τ).loc main_arg0)) (m ((c : Thread nD τ).loc main_arg1)) (gate (m ((c : Thread nD τ).loc main_arg2)) (m ((c : Thread nD τ).loc main_arg3)) (m ((c : Thread nD τ).loc main_arg4)))) (m ((c : Thread nD τ).loc main_arg4)) (row t p) j := by
  unfold k0_pay4 k0_pay2 dgRow
  pointwise
  simp only [inv_at, dh_at, at_x]

theorem final6 (c : Dev nD) : (dats m 0 c).arrAt 6 cfg0.N
    = dpe (m ((c : Thread nD τ).loc main_arg0)) (gate (m ((c : Thread nD τ).loc main_arg2)) (m ((c : Thread nD τ).loc main_arg3)) (m ((c : Thread nD τ).loc main_arg4))) := by
  refine (dats m 0 c).arrAt_eq_of_covers 6 _ (by decide +kernel) fun t hf y => ?_
  idx_vars y
  blk_simp
  rw [after0_6]
  by_cases h : t.val % 8 = 0
  · rw [outsAt0_A m c t h]
    frame_out
    refine (dpe_at m c t y0 y1).trans (congrArg _ ?_)
    blk_ext [rows t, row]
  · rw [outsAt0_B m c t h]
    frame_out
    refine (dpe_at m c t y0 y1).trans (congrArg _ ?_)
    blk_ext [rows t, row]

theorem final7 (c : Dev nD) : (dats m 0 c).arrAt 7 cfg0.N
    = dgt (m ((c : Thread nD τ).loc main_arg0)) (m ((c : Thread nD τ).loc main_arg1)) (gate (m ((c : Thread nD τ).loc main_arg2)) (m ((c : Thread nD τ).loc main_arg3)) (m ((c : Thread nD τ).loc main_arg4))) := by
  refine (dats m 0 c).arrAt_eq_of_covers 7 _ (by decide +kernel) fun t hf y => ?_
  idx_vars y
  blk_simp
  rw [after0_7]
  by_cases h : t.val % 8 = 0
  · rw [outsAt0_A m c t h]
    frame_out
    refine (dgt_at m c t y0 y1).trans (congrArg _ ?_)
    blk_ext [rows t, row]
  · rw [outsAt0_B m c t h]
    frame_out
    refine (dgt_at m c t y0 y1).trans (congrArg _ ?_)
    blk_ext [rows t, row]

theorem final8 (c : Dev nD) : (dats m 0 c).arrAt 8 cfg0.N
    = dx (m ((c : Thread nD τ).loc main_arg0)) (m ((c : Thread nD τ).loc main_arg2)) (m ((c : Thread nD τ).loc main_arg3)) (dgt (m ((c : Thread nD τ).loc main_arg0)) (m ((c : Thread nD τ).loc main_arg1)) (gate (m ((c : Thread nD τ).loc main_arg2)) (m ((c : Thread nD τ).loc main_arg3)) (m ((c : Thread nD τ).loc main_arg4)))) (m ((c : Thread nD τ).loc main_arg4)) := by
  refine (dats m 0 c).arrAt_eq_of_covers 8 _ (by decide +kernel) fun t hf y => ?_
  idx_vars y
  blk_simp
  rw [after0_8]
  by_cases h : t.val % 8 = 0
  · rw [outsAt0_A m c t h]
    frame_out
    refine (dx_at m c t y0 y1).trans (congrArg _ ?_)
    blk_ext [rows t, row]
  · rw [outsAt0_B m c t h]
    frame_out
    refine (dx_at m c t y0 y1).trans (congrArg _ ?_)
    blk_ext [rows t, row]

theorem acc_last (c : Dev nD) (t : Fin cfg0.N) (h : t.val + 1 = cfg0.N) (q : Fin 1) (j : Fin 1024) :
    (outsAt0 m c t.val t.isLt).2.2.2 (ix2 q j) = dg (m ((c : Thread nD τ).loc main_arg2)) (dgt (m ((c : Thread nD τ).loc main_arg0)) (m ((c : Thread nD τ).loc main_arg1)) (gate (m ((c : Thread nD τ).loc main_arg2)) (m ((c : Thread nD τ).loc main_arg3)) (m ((c : Thread nD τ).loc main_arg4)))) (m ((c : Thread nD τ).loc main_arg4)) (ix2 q j) := by
  rw [Pipeline.eq_sum_fin_of_reset_step_apply_last (fun n h => (outsAt0 m c n h).2.2.2) 8 (fun _ => 0)
    (fun t i => ∑ p : Fin 512, dgRow (m ((c : Thread nD τ).loc main_arg2)) (dgt (m ((c : Thread nD τ).loc main_arg0)) (m ((c : Thread nD τ).loc main_arg1)) (gate (m ((c : Thread nD τ).loc main_arg2)) (m ((c : Thread nD τ).loc main_arg3)) (m ((c : Thread nD τ).loc main_arg4)))) (m ((c : Thread nD τ).loc main_arg4)) (row t p) (i 1))
    (fun t h i => by
      idx_vars i
      rw [outsAt0_A m c t h]
      frame_out
      refine (dg_at m c t _ i0 i1).trans ?_
      unfold k0_pay5
      pointwise)
    (fun t h i => by
      idx_vars i
      rw [outsAt0_B m c t h]
      frame_out
      exact dg_at m c t _ i0 i1)
    (le_of_eq N_0) t h (ix2 q j), zero_add]
  exact Fin.sum_mul_add_fin cfg0.N 512 (fun k => dgRow (m ((c : Thread nD τ).loc main_arg2)) (dgt (m ((c : Thread nD τ).loc main_arg0)) (m ((c : Thread nD τ).loc main_arg1)) (gate (m ((c : Thread nD τ).loc main_arg2)) (m ((c : Thread nD τ).loc main_arg3)) (m ((c : Thread nD τ).loc main_arg4)))) (m ((c : Thread nD τ).loc main_arg4)) k j) (by rw [show cfg0.N = 8 from N_0])

theorem final9 (c : Dev nD) : (dats m 0 c).arrAt 9 cfg0.N
    = dg (m ((c : Thread nD τ).loc main_arg2)) (dgt (m ((c : Thread nD τ).loc main_arg0)) (m ((c : Thread nD τ).loc main_arg1)) (gate (m ((c : Thread nD τ).loc main_arg2)) (m ((c : Thread nD τ).loc main_arg3)) (m ((c : Thread nD τ).loc main_arg4)))) (m ((c : Thread nD τ).loc main_arg4)) := by
  refine (dats m 0 c).arrAt_eq_of_covers 9 _ (by decide +kernel) fun t hf y => ?_
  have hl : t.val + 1 = cfg0.N := by
    have := (flush0_9 t).mp hf
    have := t.isLt
    have : cfg0.N = 8 := N_0
    omega
  idx_vars y
  blk_simp
  rw [after0_9]
  refine (acc_last m c t hl y0 y1).trans (congrArg _ ?_)
  blk_ext [rows t]

end Cert.GateIdeal.Array

end
-- ==== Proof.GateEquation.lean ====
/- The reference's results at the extended reals are the kernel's arrays: the logistic function's derivative is the
   product with the complement, and the gradient of the norm is the kernel's by `NormGradient`. -/
module

public import proofs.«01_k».proof.Defs
public import proofs.«01_k».proof.Proof.GateArray
public import proofs.«01_k».proof.Proof.Gen.GateReferenceIdeal.Read
public import proofs.«01_k».proof.Proof.Gen.GateReferenceIdeal.Run
public import proofs.«01_k».proof.Proof.NormGradient

@[expose] public section

set_option maxRecDepth 16384

noncomputable section

open Idealize.ShloMosaic Idealize.ShloMosaic.TcCoe Idealize.SL.Sem

namespace Cert.GateReferenceIdeal.Equation

open Cert.GateIdeal.Array (sigm root gate dpe dgt dh dx dg dgRow)
open Cert.GateReferenceIdeal Cert.GateReferenceIdeal.Read

theorem gate_ix (x : FVec Ideal S4096x1024 .f32) (g : FVec Ideal S1024 .f32) (w : FVec Ideal S1024x1024 .f32)
    (i : Fin 4096) (j : Fin 1024) : gate x g w (ix2 i j)
    = ∑ k : Fin 1024, (x (ix2 i k) * root x i * g (ix1 k)) * w (ix2 k j) := rfl

theorem dgt_ix (d e z : FVec Ideal S4096x1024 .f32) (i : Fin 4096) (j : Fin 1024) : dgt d e z (ix2 i j)
    = e (ix2 i j) * d (ix2 i j) * (sigm (z (ix2 i j)) * (1 - sigm (z (ix2 i j)))) := by
  rw [mul_comm (e _), ← mul_assoc]
  rfl

theorem dx_ix (d x : FVec Ideal S4096x1024 .f32) (g : FVec Ideal S1024 .f32) (u : FVec Ideal S4096x1024 .bf16) (w : FVec Ideal S1024x1024 .f32)
    (i : Fin 4096) (j : Fin 1024) : dx d x g u w (ix2 i j)
    = d (ix2 i j) + root x i * (dh u w i j * g (ix1 j) - x (ix2 i j) * root x i
        * Ideal.div (∑ k : Fin 1024, dh u w i k * g (ix1 k) * (x (ix2 i k) * root x i)) (Ideal.ofBits .f32 0x44800000#32)) := rfl

theorem dg_ix (x : FVec Ideal S4096x1024 .f32) (u : FVec Ideal S4096x1024 .bf16) (w : FVec Ideal S1024x1024 .f32) (q : Fin 1) (j : Fin 1024) :
    dg x u w (ix2 q j) = ∑ k : Fin 4096, dh u w k j * (x (ix2 k j) * root x k) := rfl

/-- The gradient at the embedding. -/
theorem dpe_eq (d x : FVec Ideal S4096x1024 .f32) (g : FVec Ideal S1024 .f32) (w : FVec Ideal S1024x1024 .f32) :
    val_main_v81 (F := Ideal) d x g w = dpe d (gate x g w) := by
  funext i
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_v15, val_main_cst_2, val_main_v16, val_main_v17, val_main_cst_3,
    val_main_v18, val_main_v19, val_main_cst_4, val_main_v20, val_main_v21, val_main_v22, val_main_v23, val_main_v24,
    val_main_v25, val_main_v26, val_main_v27, val_main_cst_5, val_main_v28, val_main_v29, val_main_cst_6,
    val_main_v30, val_main_v31, val_main_cst_7, val_main_v32, val_main_v33, val_main_v34, val_main_v35,
    val_main_cst_8, val_main_v36, val_main_v37, val_main_v38, val_main_v39, val_main_v40, val_main_v41, val_main_v42,
    val_main_v43, val_main_v44, val_main_v45, val_main_cst_9, val_main_v46, val_main_v47, val_main_cst_10,
    val_main_v48, val_main_v49, val_main_cst_11, val_main_v50, val_main_v51, val_main_v52, val_main_v53, val_main_v54,
    val_main_v55, val_main_v56, val_main_v57, val_main_v58, val_main_v59, val_main_v60, val_main_cst_12, val_main_v61,
    val_main_v62, val_main_v63, val_main_v64, val_main_cst_13, val_main_v65, val_main_v66, val_main_cst_14,
    val_main_v67, val_main_v68, val_main_v69, val_main_v70, val_main_v71, val_main_v72, val_main_cst_15, val_main_v73,
    val_main_v74, val_main_cst_16, val_main_v75, val_main_v76, val_main_v77, val_main_v78, val_main_v79, val_main_v80,
    val_main_v81, val_main_v82, val_main_v83, sigm, root, gate, dpe]

/-- The gradient at the gate. -/
theorem dgt_eq (d e x : FVec Ideal S4096x1024 .f32) (g : FVec Ideal S1024 .f32) (w : FVec Ideal S1024x1024 .f32) :
    val_main_v82 (F := Ideal) d e x g w = dgt d e (gate x g w) := by
  funext i
  idx_vars i
  rw [dgt_ix, gate_ix]
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_v15, val_main_cst_2, val_main_v16, val_main_v17, val_main_cst_3,
    val_main_v18, val_main_v19, val_main_cst_4, val_main_v20, val_main_v21, val_main_v22, val_main_v23, val_main_v24,
    val_main_v25, val_main_v26, val_main_v27, val_main_cst_5, val_main_v28, val_main_v29, val_main_cst_6,
    val_main_v30, val_main_v31, val_main_cst_7, val_main_v32, val_main_v33, val_main_v34, val_main_v35,
    val_main_cst_8, val_main_v36, val_main_v37, val_main_v38, val_main_v39, val_main_v40, val_main_v41, val_main_v42,
    val_main_v43, val_main_v44, val_main_v45, val_main_cst_9, val_main_v46, val_main_v47, val_main_cst_10,
    val_main_v48, val_main_v49, val_main_cst_11, val_main_v50, val_main_v51, val_main_v52, val_main_v53, val_main_v54,
    val_main_v55, val_main_v56, val_main_v57, val_main_v58, val_main_v59, val_main_v60, val_main_cst_12, val_main_v61,
    val_main_v62, val_main_v63, val_main_v64, val_main_cst_13, val_main_v65, val_main_v66, val_main_cst_14,
    val_main_v67, val_main_v68, val_main_v69, val_main_v70, val_main_v71, val_main_v72, val_main_cst_15, val_main_v73,
    val_main_v74, val_main_cst_16, val_main_v75, val_main_v76, val_main_v77, val_main_v78, val_main_v79, val_main_v80,
    val_main_v81, val_main_v82, val_main_v83, sigm, root, gate]

/-- The gradient at the norm's argument. -/
theorem dx_eq (d e x : FVec Ideal S4096x1024 .f32) (g : FVec Ideal S1024 .f32) (w : FVec Ideal S1024x1024 .f32) :
    val_main_v80 (F := Ideal) d e x g w = dx d x g (dgt d e (gate x g w)) w := by
  funext i
  idx_vars i
  rw [dx_ix]
  unfold dh
  simp only [dgt_ix, gate_ix]
  unfold root
  rw [Norm.along (Norm.mean_pos _ _), Norm.gradient (Norm.mean_pos _ _)]
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_v15, val_main_cst_2, val_main_v16, val_main_v17, val_main_cst_3,
    val_main_v18, val_main_v19, val_main_cst_4, val_main_v20, val_main_v21, val_main_v22, val_main_v23, val_main_v24,
    val_main_v25, val_main_v26, val_main_v27, val_main_cst_5, val_main_v28, val_main_v29, val_main_cst_6,
    val_main_v30, val_main_v31, val_main_cst_7, val_main_v32, val_main_v33, val_main_v34, val_main_v35,
    val_main_cst_8, val_main_v36, val_main_v37, val_main_v38, val_main_v39, val_main_v40, val_main_v41, val_main_v42,
    val_main_v43, val_main_v44, val_main_v45, val_main_cst_9, val_main_v46, val_main_v47, val_main_cst_10,
    val_main_v48, val_main_v49, val_main_cst_11, val_main_v50, val_main_v51, val_main_v52, val_main_v53, val_main_v54,
    val_main_v55, val_main_v56, val_main_v57, val_main_v58, val_main_v59, val_main_v60, val_main_cst_12, val_main_v61,
    val_main_v62, val_main_v63, val_main_v64, val_main_cst_13, val_main_v65, val_main_v66, val_main_cst_14,
    val_main_v67, val_main_v68, val_main_v69, val_main_v70, val_main_v71, val_main_v72, val_main_cst_15, val_main_v73,
    val_main_v74, val_main_cst_16, val_main_v75, val_main_v76, val_main_v77, val_main_v78, val_main_v79, val_main_v80,
    val_main_v81, val_main_v82, val_main_v83, sigm, root, gate]
  simp only [Fin.sum_univ_one]

/-- The gain's gradient. -/
theorem dg_eq (d e x : FVec Ideal S4096x1024 .f32) (g : FVec Ideal S1024 .f32) (w : FVec Ideal S1024x1024 .f32) :
    val_main_v83 (F := Ideal) d e x g w = dg x (dgt d e (gate x g w)) w := by
  funext i
  idx_vars i
  rw [dg_ix]
  unfold dh
  simp only [dgt_ix, gate_ix]
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_v15, val_main_cst_2, val_main_v16, val_main_v17, val_main_cst_3,
    val_main_v18, val_main_v19, val_main_cst_4, val_main_v20, val_main_v21, val_main_v22, val_main_v23, val_main_v24,
    val_main_v25, val_main_v26, val_main_v27, val_main_cst_5, val_main_v28, val_main_v29, val_main_cst_6,
    val_main_v30, val_main_v31, val_main_cst_7, val_main_v32, val_main_v33, val_main_v34, val_main_v35,
    val_main_cst_8, val_main_v36, val_main_v37, val_main_v38, val_main_v39, val_main_v40, val_main_v41, val_main_v42,
    val_main_v43, val_main_v44, val_main_v45, val_main_cst_9, val_main_v46, val_main_v47, val_main_cst_10,
    val_main_v48, val_main_v49, val_main_cst_11, val_main_v50, val_main_v51, val_main_v52, val_main_v53, val_main_v54,
    val_main_v55, val_main_v56, val_main_v57, val_main_v58, val_main_v59, val_main_v60, val_main_cst_12, val_main_v61,
    val_main_v62, val_main_v63, val_main_v64, val_main_cst_13, val_main_v65, val_main_v66, val_main_cst_14,
    val_main_v67, val_main_v68, val_main_v69, val_main_v70, val_main_v71, val_main_v72, val_main_cst_15, val_main_v73,
    val_main_v74, val_main_cst_16, val_main_v75, val_main_v76, val_main_v77, val_main_v78, val_main_v79, val_main_v80,
    val_main_v81, val_main_v82, val_main_v83, sigm, root, gate]
  exact (Fin.sum_univ_one _).trans (Finset.sum_congr rfl fun k _ => mul_comm _ _)

end Cert.GateReferenceIdeal.Equation

namespace Cert.Proof

theorem gate_algebraic : Cert.algebraic_GateIdeal_GateReferenceIdeal := by
  pair_intro
  · run_from Cert.GateIdeal.Value.run_blocks m g
  · run_from Cert.GateReferenceIdeal.Value.run m' g'
    · rw [Cert.GateIdeal.Array.final6]
      exact (Cert.GateReferenceIdeal.Read.val_main_v81_eq _ _ _ _).trans
        (Cert.GateReferenceIdeal.Equation.dpe_eq _ _ _ _)
    · rw [Cert.GateIdeal.Array.final7]
      exact (Cert.GateReferenceIdeal.Read.val_main_v82_eq _ _ _ _ _).trans
        (Cert.GateReferenceIdeal.Equation.dgt_eq _ _ _ _ _)
    · rw [Cert.GateIdeal.Array.final8]
      rw [Cert.GateReferenceIdeal.Read.val_main_v80_eq, (hagree c).1, (hagree c).2.1, (hagree c).2.2.1, (hagree
      c).2.2.2.1, (hagree c).2.2.2.2]
      exact Cert.GateReferenceIdeal.Equation.dx_eq _ _ _ _ _
    · rw [Cert.GateIdeal.Array.final9]
      exact (Cert.GateReferenceIdeal.Read.val_main_v83_eq _ _ _ _ _).trans
        (Cert.GateReferenceIdeal.Equation.dg_eq _ _ _ _ _)

theorem gate_reference_frame : Cert.quiescent_GateReferenceIdeal := fun m ρ _ =>
  (θ_run Cert.GateReferenceIdeal.defs _ _).mono (fun r h => ⟨fun c => (h c).2.2.2.2,
      Idealize.ShloMosaic.sem_eq_zero_of_no_sems (by decide) r.2⟩)
    (Cert.GateReferenceIdeal.Value.run (F := Ideal) m ρ)

end Cert.Proof

end
-- ==== Proof.LossArray.lean ====
/- The arrays that the loss head returns, at the extended reals, as functions of the arguments. The loss and the gradient of
   the norm's gain are summed over the grid. -/
module

public import proofs.«01_k».proof.Proof.Gen.LossIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.LossIdeal.Array

open Idealize.ShloMosaic.StableHlo Cert.LossIdeal Cert.LossIdeal.Gen Cert.LossIdeal.Value

variable (m : (ℓ : Loc nD τ sig) → Buf (Elt Ideal) ℓ)

/-- The reciprocal root of a row's mean square. -/
def root (x : FVec Ideal S4096x1024 .f32) (i : Fin 4096) : EReal :=
  Ideal.rsqrt (Ideal.div (∑ k : Fin 1024, x (ix2 i k) * x (ix2 i k)) (Ideal.ofBits .f32 0x44800000#32)
    + Ideal.ofBits .f32 0x358637BD#32)

/-- The norm's result less the target. -/
def err (x y : FVec Ideal S4096x1024 .f32) (g : FVec Ideal S1024 .f32) (i : Fin 4096) (j : Fin 1024) : EReal :=
  x (ix2 i j) * root x i * g (ix1 j) - y (ix2 i j)

/-- The gradient at the norm's result. -/
def dh (x y : FVec Ideal S4096x1024 .f32) (g : FVec Ideal S1024 .f32) (i : Fin 4096) (j : Fin 1024) : EReal :=
  err x y g i j * Ideal.ofBits .f32 0x3A800000#32

/-- The gradient at the norm's argument. -/
def dx (x y : FVec Ideal S4096x1024 .f32) (g : FVec Ideal S1024 .f32) : FVec Ideal S4096x1024 .f32 := fun i =>
  (root x (i 0) * (dh x y g (i 0) (i 1) * g (ix1 (i 1)) - x i * root x (i 0)
    * Ideal.div (∑ k : Fin 1024, dh x y g (i 0) k * g (ix1 k) * (x (ix2 (i 0) k) * root x (i 0)))
        (Ideal.ofBits .f32 0x44800000#32)) : EReal)

/-- A row's part of the gain's gradient. -/
def dgRow (x y : FVec Ideal S4096x1024 .f32) (g : FVec Ideal S1024 .f32) (k : Fin 4096) (j : Fin 1024) : EReal :=
  dh x y g k j * (x (ix2 k j) * root x k)

/-- The gain's gradient. -/
def dg (x y : FVec Ideal S4096x1024 .f32) (g : FVec Ideal S1024 .f32) : FVec Ideal S1x1024 .f32 := fun i =>
  (∑ k : Fin 4096, dgRow x y g k (i 1) : EReal)

/-- A row's mean square error. -/
def lossRow (x y : FVec Ideal S4096x1024 .f32) (g : FVec Ideal S1024 .f32) (k : Fin 4096) : EReal :=
  Ideal.div (∑ j : Fin 1024, err x y g k j * err x y g k j) (Ideal.ofBits .f32 0x44800000#32)

/-- Half of the sum of the rows' errors, in every lane; each block's sum is halved before it is added. -/
def lossArr (x y : FVec Ideal S4096x1024 .f32) (g : FVec Ideal S1024 .f32) : FVec Ideal S1x128 .f32 := fun _ =>
  (∑ t : Fin 8, Ideal.ofBits .f32 0x3F000000#32 * ∑ p : Fin 512, lossRow x y g ⟨t.val * 512 + p.val, by omega⟩ : EReal)

theorem V_gain (c : Dev nD) : V m c main_v0
    = ((fun i : S1x1024.Idx => m ((c : Thread nD τ).loc main_arg2) (ix1 (i 1))) : FVec Ideal S1x1024 .f32) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S1x1024.Idx) => ?_
  pointwise

theorem V_x (c : Dev nD) : V m c main_arg0
    = m ((c : Thread nD τ).loc main_arg0) := by
  unfold V
  simp only [hostOps0, List.flatten_cons, List.flatten_nil, List.append_nil, List.cons_append,
    List.nil_append, TRef.binary, TRef.nullary, TRef.unary, TRef.toBuf, TRef.ofBuf, cast_eq]
  after_results

theorem V_y (c : Dev nD) : V m c main_arg1
    = m ((c : Thread nD τ).loc main_arg1) := by
  unfold V
  simp only [hostOps0, List.flatten_cons, List.flatten_nil, List.append_nil, List.cons_append,
    List.nil_append, TRef.binary, TRef.nullary, TRef.unary, TRef.toBuf, TRef.ofBuf, cast_eq]
  after_results

theorem rows : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![0, 0] :=
  (by decide +kernel : ∀ t : Fin grid0.N, _)

/-- Row `p` of the block at point `t`. -/
def row (t : Fin cfg0.N) (p : Fin 512) : Fin 4096 := ⟨t.val * 512 + p.val, by have := t.isLt; have : cfg0.N = 8 := N_0; omega⟩

theorem at_x (c : Dev nD) (t : Fin cfg0.N) (p : Fin 512) (k : Fin 1024) : iblk m c 0 t (ix2 p k)
    = (m ((c : Thread nD τ).loc main_arg0)) (ix2 (row t p) k) := by
  refine (congrFun (V_x m c) _).trans ?_
  blk_point [iblk, V_x, rows t, row]

theorem at_y (c : Dev nD) (t : Fin cfg0.N) (p : Fin 512) (k : Fin 1024) : iblk m c 1 t (ix2 p k)
    = (m ((c : Thread nD τ).loc main_arg1)) (ix2 (row t p) k) := by
  refine (congrFun (V_y m c) _).trans ?_
  blk_point [iblk, V_y, rows t, row]

theorem at_gain (c : Dev nD) (t : Fin cfg0.N) (p : Fin 1) (k : Fin 1024) : iblk m c 2 t (ix2 p k)
    = (m ((c : Thread nD τ).loc main_arg2)) (ix1 k) := by
  refine (congrFun (V_gain m c) _).trans ?_
  blk_point [iblk, V_gain, rows t, row]

theorem err_at (c : Dev nD) (t : Fin cfg0.N) (p : Fin 512) (j : Fin 1024) :
    k0_pay8 (iblk m c 0 t) (iblk m c 2 t) (iblk m c 1 t) (ix2 p j) = err (m ((c : Thread nD τ).loc main_arg0)) (m ((c : Thread nD τ).loc main_arg1)) (m ((c : Thread nD τ).loc main_arg2)) (row t p) j := by
  unfold k0_pay8 k0_pay7 err root
  pointwise
  simp only [at_x, at_y, at_gain]

theorem dh_at (c : Dev nD) (t : Fin cfg0.N) (p : Fin 512) (j : Fin 1024) :
    k0_pay10 (iblk m c 0 t) (iblk m c 2 t) (iblk m c 1 t) (ix2 p j) = dh (m ((c : Thread nD τ).loc main_arg0)) (m ((c : Thread nD τ).loc main_arg1)) (m ((c : Thread nD τ).loc main_arg2)) (row t p) j := by
  unfold k0_pay10 dh
  pointwise
  simp only [err_at]

theorem inv_at (c : Dev nD) (t : Fin cfg0.N) (p : Fin 512) (q : Fin 1) : k0_pay1 (k0_pay11 (iblk m c 0 t)) (ix2 p q)
    = root (m ((c : Thread nD τ).loc main_arg0)) (row t p) := by
  unfold k0_pay1 k0_pay11 root
  pointwise
  simp only [at_x]

/-- What the body leaves of the gradient at the norm's argument. -/
theorem dx_at (c : Dev nD) (t : Fin cfg0.N) (p : Fin 512) (j : Fin 1024) :
    k0_pay3 (iblk m c 0 t) (k0_pay7 (iblk m c 2 t)) (k0_pay10 (iblk m c 0 t) (iblk m c 2 t) (iblk m c 1 t)) (k0_pay11 (iblk m c 0 t)) (ix2 p j)
      = dx (m ((c : Thread nD τ).loc main_arg0)) (m ((c : Thread nD τ).loc main_arg1)) (m ((c : Thread nD τ).loc main_arg2)) (ix2 (row t p) j) := by
  unfold k0_pay3 k0_pay2 k0_pay7 dx
  pointwise
  simp only [inv_at, dh_at, at_x, at_gain]

/-- What the body adds to the gain's gradient. -/
theorem dg_at (c : Dev nD) (t : Fin cfg0.N) (acc : Vec Ideal S1x1024 .f32) (q : Fin 1) (j : Fin 1024) :
    k0_pay4 (iblk m c 0 t) (k0_pay10 (iblk m c 0 t) (iblk m c 2 t) (iblk m c 1 t)) (k0_pay11 (iblk m c 0 t)) acc (ix2 q j)
      = acc (ix2 q j) + ∑ p : Fin 512, dgRow (m ((c : Thread nD τ).loc main_arg0)) (m ((c : Thread nD τ).loc main_arg1)) (m ((c : Thread nD τ).loc main_arg2)) (row t p) j := by
  unfold k0_pay4 k0_pay2 dgRow
  pointwise
  simp only [inv_at, dh_at, at_x]

/-- What the body adds to the loss. -/
theorem loss_at (c : Dev nD) (t : Fin cfg0.N) (acc : Vec Ideal S1x128 .f32) (q : Fin 1) (j : Fin 128) :
    k0_pay9 (iblk m c 0 t) (iblk m c 2 t) (iblk m c 1 t) acc (ix2 q j)
      = acc (ix2 q j) + Ideal.ofBits .f32 0x3F000000#32 * ∑ p : Fin 512, lossRow (m ((c : Thread nD τ).loc main_arg0)) (m ((c : Thread nD τ).loc main_arg1)) (m ((c : Thread nD τ).loc main_arg2)) (row t p) := by
  unfold k0_pay9 lossRow
  pointwise
  simp only [err_at]

theorem final3 (c : Dev nD) : (dats m 0 c).arrAt 3 cfg0.N
    = dx (m ((c : Thread nD τ).loc main_arg0)) (m ((c : Thread nD τ).loc main_arg1)) (m ((c : Thread nD τ).loc main_arg2)) := by
  refine (dats m 0 c).arrAt_eq_of_covers 3 _ (by decide +kernel) fun t hf y => ?_
  idx_vars y
  blk_simp
  rw [after0_3]
  by_cases h : t.val % 8 = 0
  · rw [outsAt0_A m c t h]
    frame_out
    refine (dx_at m c t y0 y1).trans (congrArg _ ?_)
    blk_ext [rows t, row]
  · rw [outsAt0_B m c t h]
    frame_out
    refine (dx_at m c t y0 y1).trans (congrArg _ ?_)
    blk_ext [rows t, row]

theorem acc_last (c : Dev nD) (t : Fin cfg0.N) (h : t.val + 1 = cfg0.N) (q : Fin 1) (j : Fin 1024) :
    (outsAt0 m c t.val t.isLt).2.1 (ix2 q j) = dg (m ((c : Thread nD τ).loc main_arg0)) (m ((c : Thread nD τ).loc main_arg1)) (m ((c : Thread nD τ).loc main_arg2)) (ix2 q j) := by
  rw [Pipeline.eq_sum_fin_of_reset_step_apply_last (fun n h => (outsAt0 m c n h).2.1) 8 (fun _ => 0)
    (fun t i => ∑ p : Fin 512, dgRow (m ((c : Thread nD τ).loc main_arg0)) (m ((c : Thread nD τ).loc main_arg1)) (m ((c : Thread nD τ).loc main_arg2)) (row t p) (i 1))
    (fun t h i => by
      idx_vars i
      rw [outsAt0_A m c t h]
      frame_out
      refine (dg_at m c t _ i0 i1).trans ?_
      unfold k0_pay5
      pointwise)
    (fun t h i => by
      idx_vars i
      rw [outsAt0_B m c t h]
      frame_out
      exact dg_at m c t _ i0 i1)
    (le_of_eq N_0) t h (ix2 q j), zero_add]
  exact Fin.sum_mul_add_fin cfg0.N 512 (fun k => dgRow (m ((c : Thread nD τ).loc main_arg0)) (m ((c : Thread nD τ).loc main_arg1)) (m ((c : Thread nD τ).loc main_arg2)) k j) (by rw [show cfg0.N = 8 from N_0])

theorem final4 (c : Dev nD) : (dats m 0 c).arrAt 4 cfg0.N
    = dg (m ((c : Thread nD τ).loc main_arg0)) (m ((c : Thread nD τ).loc main_arg1)) (m ((c : Thread nD τ).loc main_arg2)) := by
  refine (dats m 0 c).arrAt_eq_of_covers 4 _ (by decide +kernel) fun t hf y => ?_
  have hl : t.val + 1 = cfg0.N := by
    have := (flush0_4 t).mp hf
    have := t.isLt
    have : cfg0.N = 8 := N_0
    omega
  idx_vars y
  blk_simp
  rw [after0_4]
  refine (acc_last m c t hl y0 y1).trans (congrArg _ ?_)
  blk_ext [rows t]

theorem loss_last (c : Dev nD) (t : Fin cfg0.N) (h : t.val + 1 = cfg0.N) (q : Fin 1) (j : Fin 128) :
    (outsAt0 m c t.val t.isLt).2.2 (ix2 q j) = lossArr (m ((c : Thread nD τ).loc main_arg0)) (m ((c : Thread nD τ).loc main_arg1)) (m ((c : Thread nD τ).loc main_arg2)) (ix2 q j) := by
  rw [Pipeline.eq_sum_fin_of_reset_step_apply_last (fun n h => (outsAt0 m c n h).2.2) 8 (fun _ => 0)
    (fun t i => Ideal.ofBits .f32 0x3F000000#32 * ∑ p : Fin 512, lossRow (m ((c : Thread nD τ).loc main_arg0)) (m ((c : Thread nD τ).loc main_arg1)) (m ((c : Thread nD τ).loc main_arg2)) (row t p))
    (fun t h i => by
      idx_vars i
      rw [outsAt0_A m c t h]
      frame_out
      refine (loss_at m c t _ i0 i1).trans ?_
      unfold k0_pay6
      pointwise)
    (fun t h i => by
      idx_vars i
      rw [outsAt0_B m c t h]
      frame_out
      exact loss_at m c t _ i0 i1)
    (le_of_eq N_0) t h (ix2 q j), zero_add]
  rfl

theorem final5 (c : Dev nD) : (dats m 0 c).arrAt 5 cfg0.N
    = lossArr (m ((c : Thread nD τ).loc main_arg0)) (m ((c : Thread nD τ).loc main_arg1)) (m ((c : Thread nD τ).loc main_arg2)) := by
  refine (dats m 0 c).arrAt_eq_of_covers 5 _ (by decide +kernel) fun t hf y => ?_
  have hl : t.val + 1 = cfg0.N := by
    have := (flush0_5 t).mp hf
    have := t.isLt
    have : cfg0.N = 8 := N_0
    omega
  idx_vars y
  blk_simp
  rw [after0_5]
  refine (loss_last m c t hl y0 y1).trans (congrArg _ ?_)
  blk_ext [rows t]

end Cert.LossIdeal.Array

end
-- ==== Proof.LossEquation.lean ====
/- The reference's results at the extended reals are the kernel's arrays: the constant factors multiply to the kernel's, the
   blocks' halved sums add to half of the whole, and the gradient of the norm is the kernel's by `NormGradient`. -/
module

public import proofs.«01_k».proof.Defs
public import proofs.«01_k».proof.Proof.LossArray
public import proofs.«01_k».proof.Proof.Gen.LossReferenceIdeal.Read
public import proofs.«01_k».proof.Proof.Gen.LossReferenceIdeal.Run
public import proofs.«01_k».proof.Proof.NormGradient

@[expose] public section

set_option maxRecDepth 16384

noncomputable section

open Idealize.ShloMosaic Idealize.ShloMosaic.TcCoe Idealize.SL.Sem

namespace Cert.LossReferenceIdeal.Equation

open Cert.LossIdeal.Array (root err dh dx dg dgRow lossRow lossArr)
open Cert.LossReferenceIdeal Cert.LossReferenceIdeal.Read

theorem ofBits_half : Ideal.ofBits .f32 0x3F000000#32 = ((1 / 2 : ℝ) : EReal) := by
  simp [Ideal.ofBits, Ideal.ieee, -EReal.coe_mul]; norm_num

/-- The kernel's factor is the reference's factors' product. -/
theorem factor (e : EReal) : e * Ideal.ofBits .f32 0x3A800000#32
    = Ideal.div (Ideal.ofBits .f32 0x3F000000#32 * 1) (Ideal.ofBits .f32 0x44800000#32)
      * (Ideal.ofBits .f32 0x40000000#32 * e) := by
  have h2 : Ideal.ofBits .f32 0x40000000#32 = ((2 : ℝ) : EReal) := by
    simp [Ideal.ofBits, Ideal.ieee, -EReal.coe_mul]; norm_num
  have hk : Ideal.ofBits .f32 0x3A800000#32 = ((1 / 1024 : ℝ) : EReal) := by
    simp [Ideal.ofBits, Ideal.ieee, -EReal.coe_mul]; norm_num
  rw [Norm.ofBits_1024, Ideal.div_coe (by norm_num), ofBits_half, h2, hk, mul_one, ← mul_assoc, mul_comm e, ← EReal.coe_mul,
    ← EReal.coe_mul]
  norm_num

/-- Half of the whole sum is the sum of the blocks' halves. -/
theorem halves (f : Fin 4096 → EReal) :
    (∑ t : Fin 8, Ideal.ofBits .f32 0x3F000000#32 * ∑ p : Fin 512, f ⟨t.val * 512 + p.val, by omega⟩)
      = Ideal.ofBits .f32 0x3F000000#32 * ∑ k : Fin 4096, f k := by
  rw [ofBits_half, ← Norm.coe_mul_sum (by norm_num)]
  exact congrArg _ (Fin.sum_mul_add_fin 8 512 f rfl)

theorem dh_ix (x y : FVec Ideal S4096x1024 .f32) (g : FVec Ideal S1024 .f32) (i : Fin 4096) (j : Fin 1024) : dh x y g i j
    = Ideal.div (Ideal.ofBits .f32 0x3F000000#32 * 1) (Ideal.ofBits .f32 0x44800000#32)
      * (Ideal.ofBits .f32 0x40000000#32 * (x (ix2 i j) * root x i * g (ix1 j) - y (ix2 i j))) := factor _

theorem dx_ix (x y : FVec Ideal S4096x1024 .f32) (g : FVec Ideal S1024 .f32) (i : Fin 4096) (j : Fin 1024) : dx x y g (ix2 i j)
    = 0 + root x i * (dh x y g i j * g (ix1 j) - x (ix2 i j) * root x i
        * Ideal.div (∑ k : Fin 1024, dh x y g i k * g (ix1 k) * (x (ix2 i k) * root x i)) (Ideal.ofBits .f32 0x44800000#32)) :=
  (zero_add _).symm

theorem dg_ix (x y : FVec Ideal S4096x1024 .f32) (g : FVec Ideal S1024 .f32) (q : Fin 1) (j : Fin 1024) :
    dg x y g (ix2 q j) = ∑ k : Fin 4096, dh x y g k j * (x (ix2 k j) * root x k) := rfl

/-- The gradient at the norm's argument. -/
theorem dx_eq (x y : FVec Ideal S4096x1024 .f32) (g : FVec Ideal S1024 .f32) :
    val_main_v50 (F := Ideal) x y g = dx x y g := by
  funext i
  idx_vars i
  rw [dx_ix]
  simp only [dh_ix]
  unfold root
  rw [Norm.along (Norm.mean_pos _ _), Norm.gradient (Norm.mean_pos _ _), zero_add]
  pointwise [
    val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_v17, val_main_cst_3, val_main_v18,
    val_main_v19, val_main_cst_4, val_main_v20, val_main_cst_5, val_main_v21, val_main_v22, val_main_cst_6,
    val_main_v23, val_main_cst_7, val_main_v24, val_main_cst_8, val_main_cst_9, val_main_v25, val_main_v26,
    val_main_cst_10, val_main_v27, val_main_v28, val_main_v29, val_main_v30, val_main_v31, val_main_cst_11,
    val_main_v32, val_main_v33, val_main_v34, val_main_v35, val_main_cst_12, val_main_v36, val_main_v37,
    val_main_cst_13, val_main_v38, val_main_v39, val_main_v40, val_main_v41, val_main_v42, val_main_cst_14,
    val_main_v43, val_main_v44, val_main_cst_15, val_main_v45, val_main_v46, val_main_v47, val_main_v48, val_main_v49,
    val_main_v50, val_main_v51, val_main_v52, err, root]
  simp only [Fin.sum_univ_one]

/-- The gain's gradient. -/
theorem dg_eq (x y : FVec Ideal S4096x1024 .f32) (g : FVec Ideal S1024 .f32) :
    val_main_v51 (F := Ideal) x y g = dg x y g := by
  funext i
  idx_vars i
  rw [dg_ix]
  simp only [dh_ix]
  pointwise [
    val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_v17, val_main_cst_3, val_main_v18,
    val_main_v19, val_main_cst_4, val_main_v20, val_main_cst_5, val_main_v21, val_main_v22, val_main_cst_6,
    val_main_v23, val_main_cst_7, val_main_v24, val_main_cst_8, val_main_cst_9, val_main_v25, val_main_v26,
    val_main_cst_10, val_main_v27, val_main_v28, val_main_v29, val_main_v30, val_main_v31, val_main_cst_11,
    val_main_v32, val_main_v33, val_main_v34, val_main_v35, val_main_cst_12, val_main_v36, val_main_v37,
    val_main_cst_13, val_main_v38, val_main_v39, val_main_v40, val_main_v41, val_main_v42, val_main_cst_14,
    val_main_v43, val_main_v44, val_main_cst_15, val_main_v45, val_main_v46, val_main_v47, val_main_v48, val_main_v49,
    val_main_v50, val_main_v51, val_main_v52, err, root]
  exact (Fin.sum_univ_one _).trans (Finset.sum_congr rfl fun k _ => mul_comm _ _)

/-- The loss. -/
theorem loss_eq (x y : FVec Ideal S4096x1024 .f32) (g : FVec Ideal S1024 .f32) :
    val_main_v52 (F := Ideal) x y g = lossArr x y g := by
  funext i
  unfold lossArr
  rw [halves (lossRow x y g)]
  pointwise [
    val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_v17, val_main_cst_3, val_main_v18,
    val_main_v19, val_main_cst_4, val_main_v20, val_main_cst_5, val_main_v21, val_main_v22, val_main_cst_6,
    val_main_v23, val_main_cst_7, val_main_v24, val_main_cst_8, val_main_cst_9, val_main_v25, val_main_v26,
    val_main_cst_10, val_main_v27, val_main_v28, val_main_v29, val_main_v30, val_main_v31, val_main_cst_11,
    val_main_v32, val_main_v33, val_main_v34, val_main_v35, val_main_cst_12, val_main_v36, val_main_v37,
    val_main_cst_13, val_main_v38, val_main_v39, val_main_v40, val_main_v41, val_main_v42, val_main_cst_14,
    val_main_v43, val_main_v44, val_main_cst_15, val_main_v45, val_main_v46, val_main_v47, val_main_v48, val_main_v49,
    val_main_v50, val_main_v51, val_main_v52, err, root, lossRow]

end Cert.LossReferenceIdeal.Equation

namespace Cert.Proof

theorem loss_algebraic : Cert.algebraic_LossIdeal_LossReferenceIdeal := by
  pair_intro
  · run_from Cert.LossIdeal.Value.run_blocks m g
  · run_from Cert.LossReferenceIdeal.Value.run m' g'
    · rw [Cert.LossIdeal.Array.final3]
      rw [Cert.LossReferenceIdeal.Read.val_main_v50_eq, (hagree c).1, (hagree c).2.1, (hagree c).2.2]
      exact Cert.LossReferenceIdeal.Equation.dx_eq _ _ _
    · rw [Cert.LossIdeal.Array.final4]
      exact (Cert.LossReferenceIdeal.Read.val_main_v51_eq _ _ _).trans
        (Cert.LossReferenceIdeal.Equation.dg_eq _ _ _)
    · rw [Cert.LossIdeal.Array.final5]
      exact (Cert.LossReferenceIdeal.Read.val_main_v52_eq _ _ _).trans
        (Cert.LossReferenceIdeal.Equation.loss_eq _ _ _)

theorem loss_reference_frame : Cert.quiescent_LossReferenceIdeal := fun m ρ _ =>
  (θ_run Cert.LossReferenceIdeal.defs _ _).mono (fun r h => ⟨fun c => (h c).2.2.2,
      Idealize.ShloMosaic.sem_eq_zero_of_no_sems (by decide) r.2⟩)
    (Cert.LossReferenceIdeal.Value.run (F := Ideal) m ρ)

end Cert.Proof

end
-- ==== Proof.InForwardArray.lean ====
/- The arrays that the input projection returns, at the extended reals, as functions of the arguments. -/
module

public import proofs.«01_k».proof.Proof.Gen.InForwardIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.InForwardIdeal.Array

open Idealize.ShloMosaic.StableHlo Cert.InForwardIdeal Cert.InForwardIdeal.Gen Cert.InForwardIdeal.Value

variable (m : (ℓ : Loc nD τ sig) → Buf (Elt Ideal) ℓ)

/-- The reciprocal root of a row's mean square. -/
def root (x : FVec Ideal S4096x1024 .f32) (i : Fin 4096) : EReal :=
  Ideal.rsqrt (Ideal.div (∑ k : Fin 1024, x (ix2 i k) * x (ix2 i k)) (Ideal.ofBits .f32 0x44800000#32)
    + Ideal.ofBits .f32 0x358637BD#32)

/-- The norm's result. -/
def normed (x : FVec Ideal S4096x1024 .f32) (g : FVec Ideal S1024 .f32) : FVec Ideal S4096x1024 .bf16 := fun i =>
  (x i * root x (i 0) * g (ix1 (i 1)) : EReal)

/-- Column `j` of the attentions' projections. -/
def qcol (j : Fin 2304) : Fin 4352 := ⟨j.val, by omega⟩

/-- The columns of the attentions' projections. -/
def qkv (x : FVec Ideal S4096x1024 .f32) (g : FVec Ideal S1024 .f32) (w : FVec Ideal S1024x4352 .f32) :
    FVec Ideal S4096x2304 .bf16 := fun i =>
  (∑ k : Fin 1024, normed x g (ix2 (i 0) k) * w (ix2 k (qcol (i 1))) : EReal)

/-- Column `j` of the gates' projections. -/
def gcol (j : Fin 2048) : Fin 4352 := ⟨2304 + j.val, by omega⟩

/-- The gates. -/
def gates (x : FVec Ideal S4096x1024 .f32) (g : FVec Ideal S1024 .f32) (w : FVec Ideal S1024x4352 .f32) :
    FVec Ideal S4096x2048 .f32 := fun i => (∑ k : Fin 1024, normed x g (ix2 (i 0) k) * w (ix2 k (gcol (i 1))) : EReal)

theorem V_gain (c : Dev nD) : V m c main_v0
    = ((fun i : S1x1024.Idx => m ((c : Thread nD τ).loc main_arg1) (ix1 (i 1))) : FVec Ideal S1x1024 .f32) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S1x1024.Idx) => ?_
  pointwise

theorem V_w (c : Dev nD) : V m c main_v2
    = ((fun i : S4352x1024.Idx => m ((c : Thread nD τ).loc main_arg2) (ix2 (i 1) (i 0))) : FVec Ideal S4352x1024 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4352x1024.Idx) => ?_
  pointwise

theorem V_x (c : Dev nD) : V m c main_arg0
    = m ((c : Thread nD τ).loc main_arg0) := by
  unfold V
  simp only [hostOps0, List.flatten_cons, List.flatten_nil, List.append_nil, List.cons_append,
    List.nil_append, TRef.binary, TRef.nullary, TRef.unary, TRef.toBuf, TRef.ofBuf, cast_eq]
  after_results

theorem rows : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] :=
  (by decide +kernel : ∀ t : Fin grid0.N, _)

/-- Row `p` of the block at point `t`. -/
def row (t : Fin cfg0.N) (p : Fin 512) : Fin 4096 := ⟨t.val * 512 + p.val, by have := t.isLt; have : cfg0.N = 8 := N_0; omega⟩

theorem at_x (c : Dev nD) (t : Fin cfg0.N) (p : Fin 512) (k : Fin 1024) : iblk m c 0 t (ix2 p k)
    = (m ((c : Thread nD τ).loc main_arg0)) (ix2 (row t p) k) := by
  refine (congrFun (V_x m c) _).trans ?_
  blk_point [iblk, V_x, rows t, row]

theorem at_gain (c : Dev nD) (t : Fin cfg0.N) (p : Fin 1) (k : Fin 1024) : iblk m c 1 t (ix2 p k)
    = (m ((c : Thread nD τ).loc main_arg1)) (ix1 k) := by
  refine (congrFun (V_gain m c) _).trans ?_
  blk_point [iblk, V_gain, rows t, row]

theorem at_w (c : Dev nD) (t : Fin cfg0.N) (j : Fin 4352) (k : Fin 1024) : iblk m c 2 t (ix2 j k)
    = (m ((c : Thread nD τ).loc main_arg2)) (ix2 k j) := by
  refine (congrFun (V_w m c) _).trans ?_
  blk_point [iblk, V_w, rows t, row]

/-- What the body leaves of the norm. -/
theorem norm_at (c : Dev nD) (t : Fin cfg0.N) (p : Fin 512) (j : Fin 1024) :
    k0_pay1 (iblk m c 0 t) (iblk m c 1 t) (ix2 p j)
      = normed (m ((c : Thread nD τ).loc main_arg0)) (m ((c : Thread nD τ).loc main_arg1)) (ix2 (row t p) j) := by
  unfold k0_pay1 normed root
  pointwise
  simp only [at_x, at_gain]

/-- What the body leaves of the attentions' projections. -/
theorem qkv_at (c : Dev nD) (t : Fin cfg0.N) (p : Fin 512) (j : Fin 2304) :
    k0_pay2 (iblk m c 0 t) (iblk m c 1 t)
        (View.ld (iblk m c 2 t) (Rect.unit ![0, 0] ![2304, 1024] inb_S4352x1024_S2304x1024_0_0)) (ix2 p j)
      = qkv (m ((c : Thread nD τ).loc main_arg0)) (m ((c : Thread nD τ).loc main_arg1)) (m ((c : Thread nD τ).loc main_arg2)) (ix2 (row t p) j) := by
  unfold k0_pay2 qkv
  pointwise
  simp only [norm_at, at_w]
  rfl

/-- What the body leaves of the gates. -/
theorem gates_at (c : Dev nD) (t : Fin cfg0.N) (p : Fin 512) (j : Fin 2048) :
    k0_pay3 (iblk m c 0 t) (iblk m c 1 t)
        (View.ld (iblk m c 2 t) (Rect.unit ![2304, 0] ![2048, 1024] inb_S4352x1024_S2048x1024_2304_0)) (ix2 p j)
      = gates (m ((c : Thread nD τ).loc main_arg0)) (m ((c : Thread nD τ).loc main_arg1)) (m ((c : Thread nD τ).loc main_arg2)) (ix2 (row t p) j) := by
  unfold k0_pay3 gates
  pointwise
  simp only [norm_at, at_w]
  rfl

theorem final3 (c : Dev nD) : (dats m 0 c).arrAt 3 cfg0.N
    = normed (m ((c : Thread nD τ).loc main_arg0)) (m ((c : Thread nD τ).loc main_arg1)) := by
  refine (dats m 0 c).arrAt_eq_of_covers 3 _ (by decide +kernel) fun t hf y => ?_
  idx_vars y
  blk_simp
  rw [after0_3]
  frame_out
  refine (norm_at m c t y0 y1).trans (congrArg _ ?_)
  blk_ext [rows t, row]

theorem final4 (c : Dev nD) : (dats m 0 c).arrAt 4 cfg0.N
    = qkv (m ((c : Thread nD τ).loc main_arg0)) (m ((c : Thread nD τ).loc main_arg1)) (m ((c : Thread nD τ).loc main_arg2)) := by
  refine (dats m 0 c).arrAt_eq_of_covers 4 _ (by decide +kernel) fun t hf y => ?_
  idx_vars y
  blk_simp
  rw [after0_4]
  frame_out
  refine (qkv_at m c t y0 y1).trans (congrArg _ ?_)
  blk_ext [rows t, row]

theorem final5 (c : Dev nD) : (dats m 0 c).arrAt 5 cfg0.N
    = gates (m ((c : Thread nD τ).loc main_arg0)) (m ((c : Thread nD τ).loc main_arg1)) (m ((c : Thread nD τ).loc main_arg2)) := by
  refine (dats m 0 c).arrAt_eq_of_covers 5 _ (by decide +kernel) fun t hf y => ?_
  idx_vars y
  blk_simp
  rw [after0_5]
  frame_out
  refine (gates_at m c t y0 y1).trans (congrArg _ ?_)
  blk_ext [rows t, row]

end Cert.InForwardIdeal.Array

end
-- ==== Proof.InForwardEquation.lean ====
/- The reference's results at the extended reals are the kernel's arrays. -/
module

public import proofs.«01_k».proof.Defs
public import proofs.«01_k».proof.Proof.InForwardArray
public import proofs.«01_k».proof.Proof.Gen.InForwardReferenceIdeal.Read
public import proofs.«01_k».proof.Proof.Gen.InForwardReferenceIdeal.Run

@[expose] public section

set_option maxRecDepth 16384

noncomputable section

open Idealize.ShloMosaic Idealize.ShloMosaic.TcCoe Idealize.SL.Sem

namespace Cert.InForwardReferenceIdeal.Equation

open Cert.InForwardIdeal.Array (root normed qkv gates qcol gcol)
open Cert.InForwardReferenceIdeal Cert.InForwardReferenceIdeal.Read

/-- The norm. -/
theorem norm_eq (x : FVec Ideal S4096x1024 .f32) (g : FVec Ideal S1024 .f32) :
    val_main_v14 (F := Ideal) x g = normed x g := by
  funext i
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_v15, val_main_v16, val_main_v17, normed, root]

/-- The attentions' projections. -/
theorem qkv_eq (x : FVec Ideal S4096x1024 .f32) (g : FVec Ideal S1024 .f32) (w : FVec Ideal S1024x4352 .f32) :
    val_main_v16 (F := Ideal) x g w = qkv x g w := by
  funext i
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_v15, val_main_v16, val_main_v17, qkv, qcol, normed, root]

/-- The gates. -/
theorem gates_eq (x : FVec Ideal S4096x1024 .f32) (g : FVec Ideal S1024 .f32) (w : FVec Ideal S1024x4352 .f32) :
    val_main_v17 (F := Ideal) x g w = gates x g w := by
  funext i
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_v15, val_main_v16, val_main_v17, gates, gcol, normed, root]

end Cert.InForwardReferenceIdeal.Equation

namespace Cert.Proof

theorem inForward_algebraic : Cert.algebraic_InForwardIdeal_InForwardReferenceIdeal := by
  pair_intro
  · run_from Cert.InForwardIdeal.Value.run_blocks m g
  · run_from Cert.InForwardReferenceIdeal.Value.run m' g'
    · rw [Cert.InForwardIdeal.Array.final3]
      exact (Cert.InForwardReferenceIdeal.Read.val_main_v14_eq _ _).trans
        (Cert.InForwardReferenceIdeal.Equation.norm_eq _ _)
    · rw [Cert.InForwardIdeal.Array.final4]
      exact (Cert.InForwardReferenceIdeal.Read.val_main_v16_eq _ _ _).trans
        (Cert.InForwardReferenceIdeal.Equation.qkv_eq _ _ _)
    · rw [Cert.InForwardIdeal.Array.final5]
      exact (Cert.InForwardReferenceIdeal.Read.val_main_v17_eq _ _ _).trans
        (Cert.InForwardReferenceIdeal.Equation.gates_eq _ _ _)

theorem inForward_reference_frame : Cert.quiescent_InForwardReferenceIdeal := fun m ρ _ =>
  (θ_run Cert.InForwardReferenceIdeal.defs _ _).mono (fun r h => ⟨fun c => (h c).2.2.2,
      Idealize.ShloMosaic.sem_eq_zero_of_no_sems (by decide) r.2⟩)
    (Cert.InForwardReferenceIdeal.Value.run (F := Ideal) m ρ)

end Cert.Proof

end
-- ==== Proof.MixForwardArray.lean ====
/- The arrays that the mixers' gated merge returns, at the extended reals, as functions of the arguments. -/
module

public import proofs.«01_k».proof.Proof.Gen.MixForwardIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.MixForwardIdeal.Array

open Idealize.ShloMosaic.StableHlo Cert.MixForwardIdeal Cert.MixForwardIdeal.Gen Cert.MixForwardIdeal.Value

variable (m : (ℓ : Loc nD τ sig) → Buf (Elt Ideal) ℓ)

/-- The logistic function as the kernel computes it. -/
def sigm (x : EReal) : EReal := Ideal.div 1 (1 + Ideal.exp (-x))

/-- Column `j` of the weight's block `s`. -/
def col (s : Fin 4) (j : Fin 256) : Fin 1024 := ⟨s.val * 256 + j.val, by omega⟩

theorem col_of (s : Fin 4) (j : Fin 1024) {n : ℕ} {h : n < 256} (e : s.val * 256 + n = j.val) : col s ⟨n, h⟩ = j := Fin.ext e

/-- A value read off the column's block is the value at the column. -/
theorem ladder (F : Fin 1024 → EReal) (j : Fin 1024) :
    (if h : j.val < 256 then F (col 0 ⟨j.val, h⟩)
      else if h : j.val - 256 < 256 then F (col 1 ⟨j.val - 256, h⟩)
      else if h : j.val - 256 - 256 < 256 then F (col 2 ⟨j.val - 256 - 256, h⟩)
      else F (col 3 ⟨j.val - 256 - 256 - 256, by omega⟩)) = F j := by
  by_cases h0 : j.val < 256
  · rw [dif_pos h0, col_of 0 j]
    show 0 * 256 + j.val = j.val; omega
  by_cases h1 : j.val - 256 < 256
  · rw [dif_neg h0, dif_pos h1, col_of 1 j]
    show 1 * 256 + (j.val - 256) = j.val; omega
  by_cases h2 : j.val - 256 - 256 < 256
  · rw [dif_neg h0, dif_neg h1, dif_pos h2, col_of 2 j]
    show 2 * 256 + (j.val - 256 - 256) = j.val; omega
  rw [dif_neg h0, dif_neg h1, dif_neg h2, col_of 3 j]
  show 3 * 256 + (j.val - 256 - 256 - 256) = j.val; omega

/-- A mixer's up projection. -/
def up (o : FVec Ideal S4096x512 .f32) (w : FVec Ideal S512x1024 .f32) : FVec Ideal S4096x1024 .f32 := fun i =>
  (∑ k : Fin 512, o (ix2 (i 0) k) * w (ix2 k (i 1)) : EReal)

/-- Column `j` of the gate `s`. -/
def gcol (s : Fin 2) (j : Fin 1024) : Fin 2048 := ⟨s.val * 1024 + j.val, by omega⟩

/-- The gated sum of the two mixers. -/
def merged (a b : FVec Ideal S4096x512 .f32) (z : FVec Ideal S4096x2048 .f32) (wa wb : FVec Ideal S512x1024 .f32) :
    FVec Ideal S4096x1024 .bf16 := fun i =>
  (sigm (z (ix2 (i 0) (gcol 0 (i 1)))) * up a wa i + sigm (z (ix2 (i 0) (gcol 1 (i 1)))) * up b wb i : EReal)

/-- The argument plus the merged mixers' projection. -/
def out (a b : FVec Ideal S4096x512 .f32) (z : FVec Ideal S4096x2048 .f32) (x : FVec Ideal S4096x1024 .f32)
    (wa wb : FVec Ideal S512x1024 .f32) (w : FVec Ideal S1024x1024 .f32) : FVec Ideal S4096x1024 .f32 := fun i =>
  (x i + ∑ k : Fin 1024, merged a b z wa wb (ix2 (i 0) k) * w (ix2 k (i 1)) : EReal)

theorem V_a (c : Dev nD) : V m c main_v0
    = ((fun i : S4096x512.Idx => m ((c : Thread nD τ).loc main_arg0) i) : FVec Ideal S4096x512 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x512.Idx) => ?_
  pointwise

theorem V_b (c : Dev nD) : V m c main_v1
    = ((fun i : S4096x512.Idx => m ((c : Thread nD τ).loc main_arg1) i) : FVec Ideal S4096x512 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4096x512.Idx) => ?_
  pointwise

theorem V_wa (c : Dev nD) : V m c main_v4
    = ((fun i : S4x512x256.Idx => m ((c : Thread nD τ).loc main_arg4) (ix2 (i 1) (col (i 0) (i 2)))) : FVec Ideal S4x512x256 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4x512x256.Idx) => ?_
  pointwise [col]

theorem V_wb (c : Dev nD) : V m c main_v7
    = ((fun i : S4x512x256.Idx => m ((c : Thread nD τ).loc main_arg5) (ix2 (i 1) (col (i 0) (i 2)))) : FVec Ideal S4x512x256 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4x512x256.Idx) => ?_
  pointwise [col]

theorem V_w (c : Dev nD) : V m c main_v8
    = ((fun i : S1024x1024.Idx => m ((c : Thread nD τ).loc main_arg6) i) : FVec Ideal S1024x1024 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S1024x1024.Idx) => ?_
  pointwise

theorem V_z (c : Dev nD) : V m c main_arg2
    = m ((c : Thread nD τ).loc main_arg2) := by
  unfold V
  simp only [hostOps0, List.flatten_cons, List.flatten_nil, List.append_nil, List.cons_append,
    List.nil_append, TRef.binary, TRef.nullary, TRef.unary, TRef.toBuf, TRef.ofBuf, cast_eq]
  after_results

theorem V_x (c : Dev nD) : V m c main_arg3
    = m ((c : Thread nD τ).loc main_arg3) := by
  unfold V
  simp only [hostOps0, List.flatten_cons, List.flatten_nil, List.append_nil, List.cons_append,
    List.nil_append, TRef.binary, TRef.nullary, TRef.unary, TRef.toBuf, TRef.ofBuf, cast_eq]
  after_results

theorem rows : ∀ t : Fin cfg0.N, win0_0.index t = ![t.val, 0] ∧ win0_1.index t = ![t.val, 0] ∧ win0_2.index t = ![t.val, 0] ∧ win0_3.index t = ![t.val, 0] ∧ win0_4.index t = ![0, 0, 0] ∧ win0_5.index t = ![0, 0, 0] ∧ win0_6.index t = ![0, 0] ∧ win0_7.index t = ![t.val, 0] ∧ win0_8.index t = ![t.val, 0] :=
  (by decide +kernel : ∀ t : Fin grid0.N, _)

/-- Row `p` of the block at point `t`. -/
def row (t : Fin cfg0.N) (p : Fin 512) : Fin 4096 := ⟨t.val * 512 + p.val, by have := t.isLt; have : cfg0.N = 8 := N_0; omega⟩

theorem at_a (c : Dev nD) (t : Fin cfg0.N) (p : Fin 512) (k : Fin 512) : iblk m c 0 t (ix2 p k)
    = (m ((c : Thread nD τ).loc main_arg0)) (ix2 (row t p) k) := by
  refine (congrFun (V_a m c) _).trans ?_
  blk_point [iblk, V_a, rows t, row]

theorem at_b (c : Dev nD) (t : Fin cfg0.N) (p : Fin 512) (k : Fin 512) : iblk m c 1 t (ix2 p k)
    = (m ((c : Thread nD τ).loc main_arg1)) (ix2 (row t p) k) := by
  refine (congrFun (V_b m c) _).trans ?_
  blk_point [iblk, V_b, rows t, row]

theorem at_z (c : Dev nD) (t : Fin cfg0.N) (p : Fin 512) (k : Fin 2048) : iblk m c 2 t (ix2 p k)
    = (m ((c : Thread nD τ).loc main_arg2)) (ix2 (row t p) k) := by
  refine (congrFun (V_z m c) _).trans ?_
  blk_point [iblk, V_z, rows t, row]

theorem at_x (c : Dev nD) (t : Fin cfg0.N) (p : Fin 512) (k : Fin 1024) : iblk m c 3 t (ix2 p k)
    = (m ((c : Thread nD τ).loc main_arg3)) (ix2 (row t p) k) := by
  refine (congrFun (V_x m c) _).trans ?_
  blk_point [iblk, V_x, rows t, row]

theorem at_wa (c : Dev nD) (t : Fin cfg0.N) (s : Fin 4) (k : Fin 512) (j : Fin 256) : iblk m c 4 t (ix3 s k j)
    = (m ((c : Thread nD τ).loc main_arg4)) (ix2 k (col s j)) := by
  refine (congrFun (V_wa m c) _).trans ?_
  blk_point [iblk, V_wa, rows t, row, col]

theorem at_wb (c : Dev nD) (t : Fin cfg0.N) (s : Fin 4) (k : Fin 512) (j : Fin 256) : iblk m c 5 t (ix3 s k j)
    = (m ((c : Thread nD τ).loc main_arg5)) (ix2 k (col s j)) := by
  refine (congrFun (V_wb m c) _).trans ?_
  blk_point [iblk, V_wb, rows t, row, col]

theorem at_w (c : Dev nD) (t : Fin cfg0.N) (k j : Fin 1024) : iblk m c 6 t (ix2 k j)
    = (m ((c : Thread nD τ).loc main_arg6)) (ix2 k j) := by
  refine (congrFun (V_w m c) _).trans ?_
  blk_point [iblk, V_w, rows t, row]

/-- The body's first up projection. -/
theorem upa_at (c : Dev nD) (t : Fin cfg0.N) (p : Fin 512) (j : Fin 1024) :
    k0_pay3 (iblk m c 0 t)
        (View.ld (iblk m c 4 t) (Rect.unit ![0, 0, 0] ![1, 512, 256] inb_S4x512x256_S1x512x256_0_0_0))
        (View.ld (iblk m c 4 t) (Rect.unit ![1, 0, 0] ![1, 512, 256] inb_S4x512x256_S1x512x256_1_0_0))
        (View.ld (iblk m c 4 t) (Rect.unit ![2, 0, 0] ![1, 512, 256] inb_S4x512x256_S1x512x256_2_0_0))
        (View.ld (iblk m c 4 t) (Rect.unit ![3, 0, 0] ![1, 512, 256] inb_S4x512x256_S1x512x256_3_0_0)) (ix2 p j)
      = up (m ((c : Thread nD τ).loc main_arg0)) (m ((c : Thread nD τ).loc main_arg4)) (ix2 (row t p) j) := by
  unfold k0_pay3 up
  pointwise
  simp only [at_a, at_wa]
  exact ladder (fun q => up (m ((c : Thread nD τ).loc main_arg0)) (m ((c : Thread nD τ).loc main_arg4)) (ix2 (row t p) q)) j

/-- The second mixer, narrowed. -/
theorem bin_at (c : Dev nD) (t : Fin cfg0.N) (p : Fin 512) (j : Fin 512) :
    k0_pay4 (iblk m c 1 t) (ix2 p j)
      = (m ((c : Thread nD τ).loc main_arg1)) (ix2 (row t p) j) := by
  unfold k0_pay4
  pointwise
  simp only [at_b]

set_option maxHeartbeats 1000000 in
/-- What the body leaves of the merged mixers. -/
theorem merged_at (c : Dev nD) (t : Fin cfg0.N) (p : Fin 512) (j : Fin 1024) :
    k0_pay1 (k0_pay3 (iblk m c 0 t)
        (View.ld (iblk m c 4 t) (Rect.unit ![0, 0, 0] ![1, 512, 256] inb_S4x512x256_S1x512x256_0_0_0))
        (View.ld (iblk m c 4 t) (Rect.unit ![1, 0, 0] ![1, 512, 256] inb_S4x512x256_S1x512x256_1_0_0))
        (View.ld (iblk m c 4 t) (Rect.unit ![2, 0, 0] ![1, 512, 256] inb_S4x512x256_S1x512x256_2_0_0))
        (View.ld (iblk m c 4 t) (Rect.unit ![3, 0, 0] ![1, 512, 256] inb_S4x512x256_S1x512x256_3_0_0)))
        (k0_pay4 (iblk m c 1 t)) (k0_pay5 (iblk m c 1 t) (View.ld (iblk m c 5 t) (Rect.unit ![0, 0, 0] ![1, 512, 256] inb_S4x512x256_S1x512x256_0_0_0)))
        (k0_pay6 (iblk m c 1 t) (View.ld (iblk m c 5 t) (Rect.unit ![1, 0, 0] ![1, 512, 256] inb_S4x512x256_S1x512x256_1_0_0)))
        (k0_pay7 (iblk m c 1 t) (View.ld (iblk m c 5 t) (Rect.unit ![2, 0, 0] ![1, 512, 256] inb_S4x512x256_S1x512x256_2_0_0)))
        (View.ld (iblk m c 5 t) (Rect.unit ![3, 0, 0] ![1, 512, 256] inb_S4x512x256_S1x512x256_3_0_0))
        (View.ld (iblk m c 2 t) (Rect.unit ![0, 0] ![512, 1024] inb_S512x2048_S512x1024_0_0))
        (View.ld (iblk m c 2 t) (Rect.unit ![0, 1024] ![512, 1024] inb_S512x2048_S512x1024_0_1024)) (ix2 p j)
      = merged (m ((c : Thread nD τ).loc main_arg0)) (m ((c : Thread nD τ).loc main_arg1)) (m ((c : Thread nD τ).loc main_arg2)) (m ((c : Thread nD τ).loc main_arg4)) (m ((c : Thread nD τ).loc main_arg5)) (ix2 (row t p) j) := by
  unfold k0_pay1 k0_pay5 k0_pay6 k0_pay7 merged sigm
  pointwise
  simp only [upa_at, bin_at, at_wb, at_z, zero_sub]
  refine congrArg₂ (· + ·) ?_ (congrArg₂ (· * ·) ?_ ?_)
  · rw [show (⟨j.val, by omega⟩ : Fin 2048) = gcol 0 j from Fin.ext (by show j.val = 0 * 1024 + j.val; omega)]
  · rw [show (⟨1024 + j.val, by omega⟩ : Fin 2048) = gcol 1 j from Fin.ext (by show 1024 + j.val = 1 * 1024 + j.val; omega)]
  exact ladder (fun q => up (m ((c : Thread nD τ).loc main_arg1)) (m ((c : Thread nD τ).loc main_arg5)) (ix2 (row t p) q)) j

/-- What the body leaves of the sum. -/
theorem out_at (c : Dev nD) (t : Fin cfg0.N) (p : Fin 512) (j : Fin 1024) :
    k0_pay2 (k0_pay3 (iblk m c 0 t)
        (View.ld (iblk m c 4 t) (Rect.unit ![0, 0, 0] ![1, 512, 256] inb_S4x512x256_S1x512x256_0_0_0))
        (View.ld (iblk m c 4 t) (Rect.unit ![1, 0, 0] ![1, 512, 256] inb_S4x512x256_S1x512x256_1_0_0))
        (View.ld (iblk m c 4 t) (Rect.unit ![2, 0, 0] ![1, 512, 256] inb_S4x512x256_S1x512x256_2_0_0))
        (View.ld (iblk m c 4 t) (Rect.unit ![3, 0, 0] ![1, 512, 256] inb_S4x512x256_S1x512x256_3_0_0)))
        (k0_pay4 (iblk m c 1 t)) (k0_pay5 (iblk m c 1 t) (View.ld (iblk m c 5 t) (Rect.unit ![0, 0, 0] ![1, 512, 256] inb_S4x512x256_S1x512x256_0_0_0)))
        (k0_pay6 (iblk m c 1 t) (View.ld (iblk m c 5 t) (Rect.unit ![1, 0, 0] ![1, 512, 256] inb_S4x512x256_S1x512x256_1_0_0)))
        (k0_pay7 (iblk m c 1 t) (View.ld (iblk m c 5 t) (Rect.unit ![2, 0, 0] ![1, 512, 256] inb_S4x512x256_S1x512x256_2_0_0)))
        (View.ld (iblk m c 5 t) (Rect.unit ![3, 0, 0] ![1, 512, 256] inb_S4x512x256_S1x512x256_3_0_0))
        (View.ld (iblk m c 2 t) (Rect.unit ![0, 0] ![512, 1024] inb_S512x2048_S512x1024_0_0))
        (View.ld (iblk m c 2 t) (Rect.unit ![0, 1024] ![512, 1024] inb_S512x2048_S512x1024_0_1024))
        (iblk m c 3 t) (iblk m c 6 t) (ix2 p j)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t p) j) := by
  unfold k0_pay2 out
  pointwise
  simp only [merged_at, at_x, at_w]

theorem final7 (c : Dev nD) : (dats m 0 c).arrAt 7 cfg0.N
    = merged (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 7 _ (by decide +kernel) fun t hf y => ?_
  idx_vars y
  blk_simp
  rw [after0_7]
  unfold_out out0_7
  frame_out
  refine (merged_at m c t y0 y1).trans (congrArg _ ?_)
  blk_ext [rows t, row]

theorem final8 (c : Dev nD) : (dats m 0 c).arrAt 8 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  idx_vars y
  blk_simp
  rw [after0_8]
  unfold_out out0_8
  frame_out
  refine (out_at m c t y0 y1).trans (congrArg _ ?_)
  blk_ext [rows t, row]

end Cert.MixForwardIdeal.Array

end
-- ==== Proof.MixForwardEquation.lean ====
/- The reference's results at the extended reals are the kernel's arrays. -/
module

public import proofs.«01_k».proof.Defs
public import proofs.«01_k».proof.Proof.MixForwardArray
public import proofs.«01_k».proof.Proof.Gen.MixForwardReferenceIdeal.Read
public import proofs.«01_k».proof.Proof.Gen.MixForwardReferenceIdeal.Run

@[expose] public section

set_option maxRecDepth 16384

noncomputable section

open Idealize.ShloMosaic Idealize.ShloMosaic.TcCoe Idealize.SL.Sem

namespace Cert.MixForwardReferenceIdeal.Equation

open Cert.MixForwardIdeal.Array (sigm up gcol merged out)
open Cert.MixForwardReferenceIdeal Cert.MixForwardReferenceIdeal.Read

/-- The gated sum of the two mixers. -/
theorem merged_eq (a b : FVec Ideal S4096x512 .f32) (z : FVec Ideal S4096x2048 .f32) (wa wb : FVec Ideal S512x1024 .f32) :
    val_main_v19 (F := Ideal) a b z wa wb = merged a b z wa wb := by
  funext i
  pointwise [
    val_main_v0, val_main_v1, val_main_v2, val_main_cst, val_main_v3, val_main_v4, val_main_cst_0, val_main_v5,
    val_main_v6, val_main_v7, val_main_v8, val_main_v9, val_main_v10, val_main_v11, val_main_cst_1, val_main_v12,
    val_main_v13, val_main_cst_2, val_main_v14, val_main_v15, val_main_v16, val_main_v17, val_main_v18, val_main_v19,
    val_main_v20, val_main_v21, merged, gcol, sigm, up]

/-- The argument plus the merged mixers' projection. -/
theorem out_eq (a b : FVec Ideal S4096x512 .f32) (z : FVec Ideal S4096x2048 .f32) (x : FVec Ideal S4096x1024 .f32) (wa wb : FVec Ideal S512x1024 .f32) (w : FVec Ideal S1024x1024 .f32) :
    val_main_v21 (F := Ideal) a b z x wa wb w = out a b z x wa wb w := by
  funext i
  pointwise [
    val_main_v0, val_main_v1, val_main_v2, val_main_cst, val_main_v3, val_main_v4, val_main_cst_0, val_main_v5,
    val_main_v6, val_main_v7, val_main_v8, val_main_v9, val_main_v10, val_main_v11, val_main_cst_1, val_main_v12,
    val_main_v13, val_main_cst_2, val_main_v14, val_main_v15, val_main_v16, val_main_v17, val_main_v18, val_main_v19,
    val_main_v20, val_main_v21, out, merged, gcol, sigm, up]

end Cert.MixForwardReferenceIdeal.Equation

namespace Cert.Proof

theorem mixForward_algebraic : Cert.algebraic_MixForwardIdeal_MixForwardReferenceIdeal := by
  pair_intro
  · run_from Cert.MixForwardIdeal.Value.run_blocks m g
  · run_from Cert.MixForwardReferenceIdeal.Value.run m' g'
    · rw [Cert.MixForwardIdeal.Array.final7]
      exact (Cert.MixForwardReferenceIdeal.Read.val_main_v19_eq _ _ _ _ _).trans
        (Cert.MixForwardReferenceIdeal.Equation.merged_eq _ _ _ _ _)
    · rw [Cert.MixForwardIdeal.Array.final8]
      exact (Cert.MixForwardReferenceIdeal.Read.val_main_v21_eq _ _ _ _ _ _ _).trans
        (Cert.MixForwardReferenceIdeal.Equation.out_eq _ _ _ _ _ _ _)

theorem mixForward_reference_frame : Cert.quiescent_MixForwardReferenceIdeal := fun m ρ _ =>
  (θ_run Cert.MixForwardReferenceIdeal.defs _ _).mono (fun r h => ⟨fun c => (h c).2.2,
      Idealize.ShloMosaic.sem_eq_zero_of_no_sems (by decide) r.2⟩)
    (Cert.MixForwardReferenceIdeal.Value.run (F := Ideal) m ρ)

end Cert.Proof

end
-- ==== Proof.FfInForwardArray.lean ====
/- The arrays that the MLP's first product returns, at the extended reals, as functions of the arguments. -/
module

public import proofs.«01_k».proof.Proof.Gen.FfInForwardIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.FfInForwardIdeal.Array

open Idealize.ShloMosaic.StableHlo Cert.FfInForwardIdeal Cert.FfInForwardIdeal.Gen Cert.FfInForwardIdeal.Value

variable (m : (ℓ : Loc nD τ sig) → Buf (Elt Ideal) ℓ)

/-- Column `j` of the weight's block `s`. -/
def col (s : Fin 4) (j : Fin 1024) : Fin 4096 := ⟨s.val * 1024 + j.val, by omega⟩

theorem col_of (s : Fin 4) (j : Fin 4096) {n : ℕ} {h : n < 1024} (e : s.val * 1024 + n = j.val) : col s ⟨n, h⟩ = j := Fin.ext e

/-- A value read off the column's block is the value at the column. -/
theorem ladder (F : Fin 4096 → EReal) (j : Fin 4096) :
    (if h : j.val < 1024 then F (col 0 ⟨j.val, h⟩)
      else if h : j.val - 1024 < 1024 then F (col 1 ⟨j.val - 1024, h⟩)
      else if h : j.val - 1024 - 1024 < 1024 then F (col 2 ⟨j.val - 1024 - 1024, h⟩)
      else F (col 3 ⟨j.val - 1024 - 1024 - 1024, by omega⟩)) = F j := by
  by_cases h0 : j.val < 1024
  · rw [dif_pos h0, col_of 0 j]
    show 0 * 1024 + j.val = j.val; omega
  by_cases h1 : j.val - 1024 < 1024
  · rw [dif_neg h0, dif_pos h1, col_of 1 j]
    show 1 * 1024 + (j.val - 1024) = j.val; omega
  by_cases h2 : j.val - 1024 - 1024 < 1024
  · rw [dif_neg h0, dif_neg h1, dif_pos h2, col_of 2 j]
    show 2 * 1024 + (j.val - 1024 - 1024) = j.val; omega
  rw [dif_neg h0, dif_neg h1, dif_neg h2, col_of 3 j]
  show 3 * 1024 + (j.val - 1024 - 1024 - 1024) = j.val; omega

/-- The reciprocal root of a row's mean square. -/
def root (x : FVec Ideal S4096x1024 .f32) (i : Fin 4096) : EReal :=
  Ideal.rsqrt (Ideal.div (∑ k : Fin 1024, x (ix2 i k) * x (ix2 i k)) (Ideal.ofBits .f32 0x44800000#32)
    + Ideal.ofBits .f32 0x358637BD#32)

/-- The norm's result. -/
def normed (x : FVec Ideal S4096x1024 .f32) (g : FVec Ideal S1024 .f32) : FVec Ideal S4096x1024 .bf16 := fun i =>
  (x i * root x (i 0) * g (ix1 (i 1)) : EReal)

/-- The product's positive part. -/
def pos (x : FVec Ideal S4096x1024 .f32) (g : FVec Ideal S1024 .f32) (w : FVec Ideal S1024x4096 .f32) :
    FVec Ideal S4096x4096 .f32 := fun i => (max (∑ k : Fin 1024, normed x g (ix2 (i 0) k) * w (ix2 k (i 1))) 0 : EReal)

/-- … in the narrow format. -/
def act (x : FVec Ideal S4096x1024 .f32) (g : FVec Ideal S1024 .f32) (w : FVec Ideal S1024x4096 .f32) :
    FVec Ideal S4096x4096 .bf16 := fun i => (pos x g w i : EReal)

/-- Its square. -/
def square (x : FVec Ideal S4096x1024 .f32) (g : FVec Ideal S1024 .f32) (w : FVec Ideal S1024x4096 .f32) :
    FVec Ideal S4096x4096 .bf16 := fun i => (pos x g w i * pos x g w i : EReal)

theorem V_gain (c : Dev nD) : V m c main_v0
    = ((fun i : S1x1024.Idx => m ((c : Thread nD τ).loc main_arg1) (ix1 (i 1))) : FVec Ideal S1x1024 .f32) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S1x1024.Idx) => ?_
  pointwise

theorem V_w (c : Dev nD) : V m c main_v3
    = ((fun i : S4x1024x1024.Idx => m ((c : Thread nD τ).loc main_arg2) (ix2 (i 1) (col (i 0) (i 2)))) : FVec Ideal S4x1024x1024 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4x1024x1024.Idx) => ?_
  pointwise [col]

theorem V_x (c : Dev nD) : V m c main_arg0
    = m ((c : Thread nD τ).loc main_arg0) := by
  unfold V
  simp only [hostOps0, List.flatten_cons, List.flatten_nil, List.append_nil, List.cons_append,
    List.nil_append, TRef.binary, TRef.nullary, TRef.unary, TRef.toBuf, TRef.ofBuf, cast_eq]
  after_results

theorem rows : ∀ t : Fin cfg0.N, win0_0.index t = ![t.val, 0] ∧ win0_1.index t = ![0, 0] ∧ win0_2.index t = ![0, 0, 0] ∧ win0_3.index t = ![t.val, 0] ∧ win0_4.index t = ![t.val, 0] ∧ win0_5.index t = ![t.val, 0] :=
  (by decide +kernel : ∀ t : Fin grid0.N, _)

/-- Row `p` of the block at point `t`. -/
def row (t : Fin cfg0.N) (p : Fin 512) : Fin 4096 := ⟨t.val * 512 + p.val, by have := t.isLt; have : cfg0.N = 8 := N_0; omega⟩

theorem at_x (c : Dev nD) (t : Fin cfg0.N) (p : Fin 512) (k : Fin 1024) : iblk m c 0 t (ix2 p k)
    = (m ((c : Thread nD τ).loc main_arg0)) (ix2 (row t p) k) := by
  refine (congrFun (V_x m c) _).trans ?_
  blk_point [iblk, V_x, rows t, row]

theorem at_gain (c : Dev nD) (t : Fin cfg0.N) (p : Fin 1) (k : Fin 1024) : iblk m c 1 t (ix2 p k)
    = (m ((c : Thread nD τ).loc main_arg1)) (ix1 k) := by
  refine (congrFun (V_gain m c) _).trans ?_
  blk_point [iblk, V_gain, rows t, row]

theorem at_w (c : Dev nD) (t : Fin cfg0.N) (s : Fin 4) (k j : Fin 1024) : iblk m c 2 t (ix3 s k j)
    = (m ((c : Thread nD τ).loc main_arg2)) (ix2 k (col s j)) := by
  refine (congrFun (V_w m c) _).trans ?_
  blk_point [iblk, V_w, rows t, row, col]

/-- What the body leaves of the norm. -/
theorem norm_at (c : Dev nD) (t : Fin cfg0.N) (p : Fin 512) (j : Fin 1024) :
    k0_pay3 (iblk m c 0 t) (iblk m c 1 t) (ix2 p j)
      = normed (m ((c : Thread nD τ).loc main_arg0)) (m ((c : Thread nD τ).loc main_arg1)) (ix2 (row t p) j) := by
  unfold k0_pay3 normed root
  pointwise
  simp only [at_x, at_gain]

/-- The body's product, cut off below. -/
theorem pos_at (c : Dev nD) (t : Fin cfg0.N) (p : Fin 512) (j : Fin 4096) :
    k0_pay4 (iblk m c 0 t) (iblk m c 1 t)
        (View.ld (iblk m c 2 t) (Rect.unit ![0, 0, 0] ![1, 1024, 1024] inb_S4x1024x1024_S1x1024x1024_0_0_0))
        (View.ld (iblk m c 2 t) (Rect.unit ![1, 0, 0] ![1, 1024, 1024] inb_S4x1024x1024_S1x1024x1024_1_0_0))
        (View.ld (iblk m c 2 t) (Rect.unit ![2, 0, 0] ![1, 1024, 1024] inb_S4x1024x1024_S1x1024x1024_2_0_0))
        (View.ld (iblk m c 2 t) (Rect.unit ![3, 0, 0] ![1, 1024, 1024] inb_S4x1024x1024_S1x1024x1024_3_0_0)) (ix2 p j)
      = pos (m ((c : Thread nD τ).loc main_arg0)) (m ((c : Thread nD τ).loc main_arg1)) (m ((c : Thread nD τ).loc main_arg2)) (ix2 (row t p) j) := by
  unfold k0_pay4 pos
  pointwise
  simp only [norm_at, at_w]
  exact congrArg (max · 0) ((ladder (fun q => ∑ x, normed (m ((c : Thread nD τ).loc main_arg0)) (m ((c : Thread nD τ).loc main_arg1)) (ix2 (row t p) x) * (m ((c : Thread nD τ).loc main_arg2)) (ix2 x q)) j))

/-- What the body leaves of the positive part. -/
theorem act_at (c : Dev nD) (t : Fin cfg0.N) (p : Fin 512) (j : Fin 4096) :
    k0_pay1 (k0_pay4 (iblk m c 0 t) (iblk m c 1 t)
        (View.ld (iblk m c 2 t) (Rect.unit ![0, 0, 0] ![1, 1024, 1024] inb_S4x1024x1024_S1x1024x1024_0_0_0))
        (View.ld (iblk m c 2 t) (Rect.unit ![1, 0, 0] ![1, 1024, 1024] inb_S4x1024x1024_S1x1024x1024_1_0_0))
        (View.ld (iblk m c 2 t) (Rect.unit ![2, 0, 0] ![1, 1024, 1024] inb_S4x1024x1024_S1x1024x1024_2_0_0))
        (View.ld (iblk m c 2 t) (Rect.unit ![3, 0, 0] ![1, 1024, 1024] inb_S4x1024x1024_S1x1024x1024_3_0_0))) (ix2 p j)
      = act (m ((c : Thread nD τ).loc main_arg0)) (m ((c : Thread nD τ).loc main_arg1)) (m ((c : Thread nD τ).loc main_arg2)) (ix2 (row t p) j) := by
  unfold k0_pay1 act
  pointwise
  simp only [pos_at]

/-- What the body leaves of its square. -/
theorem sq_at (c : Dev nD) (t : Fin cfg0.N) (p : Fin 512) (j : Fin 4096) :
    k0_pay2 (k0_pay4 (iblk m c 0 t) (iblk m c 1 t)
        (View.ld (iblk m c 2 t) (Rect.unit ![0, 0, 0] ![1, 1024, 1024] inb_S4x1024x1024_S1x1024x1024_0_0_0))
        (View.ld (iblk m c 2 t) (Rect.unit ![1, 0, 0] ![1, 1024, 1024] inb_S4x1024x1024_S1x1024x1024_1_0_0))
        (View.ld (iblk m c 2 t) (Rect.unit ![2, 0, 0] ![1, 1024, 1024] inb_S4x1024x1024_S1x1024x1024_2_0_0))
        (View.ld (iblk m c 2 t) (Rect.unit ![3, 0, 0] ![1, 1024, 1024] inb_S4x1024x1024_S1x1024x1024_3_0_0))) (ix2 p j)
      = square (m ((c : Thread nD τ).loc main_arg0)) (m ((c : Thread nD τ).loc main_arg1)) (m ((c : Thread nD τ).loc main_arg2)) (ix2 (row t p) j) := by
  unfold k0_pay2 square
  pointwise
  simp only [pos_at]

theorem final3 (c : Dev nD) : (dats m 0 c).arrAt 3 cfg0.N
    = normed (m ((c : Thread nD τ).loc main_arg0)) (m ((c : Thread nD τ).loc main_arg1)) := by
  refine (dats m 0 c).arrAt_eq_of_covers 3 _ (by decide +kernel) fun t hf y => ?_
  idx_vars y
  blk_simp
  rw [after0_3]
  unfold_out out0_3
  frame_out
  refine (norm_at m c t y0 y1).trans (congrArg _ ?_)
  blk_ext [rows t, row]

theorem final4 (c : Dev nD) : (dats m 0 c).arrAt 4 cfg0.N
    = act (m ((c : Thread nD τ).loc main_arg0)) (m ((c : Thread nD τ).loc main_arg1)) (m ((c : Thread nD τ).loc main_arg2)) := by
  refine (dats m 0 c).arrAt_eq_of_covers 4 _ (by decide +kernel) fun t hf y => ?_
  idx_vars y
  blk_simp
  rw [after0_4]
  unfold_out out0_4
  frame_out
  refine (act_at m c t y0 y1).trans (congrArg _ ?_)
  blk_ext [rows t, row]

theorem final5 (c : Dev nD) : (dats m 0 c).arrAt 5 cfg0.N
    = square (m ((c : Thread nD τ).loc main_arg0)) (m ((c : Thread nD τ).loc main_arg1)) (m ((c : Thread nD τ).loc main_arg2)) := by
  refine (dats m 0 c).arrAt_eq_of_covers 5 _ (by decide +kernel) fun t hf y => ?_
  idx_vars y
  blk_simp
  rw [after0_5]
  unfold_out out0_5
  frame_out
  refine (sq_at m c t y0 y1).trans (congrArg _ ?_)
  blk_ext [rows t, row]

end Cert.FfInForwardIdeal.Array

end
-- ==== Proof.FfInForwardEquation.lean ====
/- The reference's results at the extended reals are the kernel's arrays. -/
module

public import proofs.«01_k».proof.Defs
public import proofs.«01_k».proof.Proof.FfInForwardArray
public import proofs.«01_k».proof.Proof.Gen.FfInForwardReferenceIdeal.Read
public import proofs.«01_k».proof.Proof.Gen.FfInForwardReferenceIdeal.Run

@[expose] public section

set_option maxRecDepth 16384

noncomputable section

open Idealize.ShloMosaic Idealize.ShloMosaic.TcCoe Idealize.SL.Sem

namespace Cert.FfInForwardReferenceIdeal.Equation

open Cert.FfInForwardIdeal.Array (root normed pos act square)
open Cert.FfInForwardReferenceIdeal Cert.FfInForwardReferenceIdeal.Read

/-- The norm. -/
theorem norm_eq (x : FVec Ideal S4096x1024 .f32) (g : FVec Ideal S1024 .f32) :
    val_main_v15 (F := Ideal) x g = normed x g := by
  funext i
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_call0_cst, val_main_call0_v0, val_main_v14, val_main_v15, val_main_v16, val_main_v17,
    val_main_v18, normed, root]

/-- The positive part. -/
theorem act_eq (x : FVec Ideal S4096x1024 .f32) (g : FVec Ideal S1024 .f32) (w : FVec Ideal S1024x4096 .f32) :
    val_main_v16 (F := Ideal) x g w = act x g w := by
  funext i
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_call0_cst, val_main_call0_v0, val_main_v14, val_main_v15, val_main_v16, val_main_v17,
    val_main_v18, act, pos, normed, root]

/-- Its square. -/
theorem sq_eq (x : FVec Ideal S4096x1024 .f32) (g : FVec Ideal S1024 .f32) (w : FVec Ideal S1024x4096 .f32) :
    val_main_v18 (F := Ideal) x g w = square x g w := by
  funext i
  pointwise [
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_call0_cst, val_main_call0_v0, val_main_v14, val_main_v15, val_main_v16, val_main_v17,
    val_main_v18, square, pos, normed, root]

end Cert.FfInForwardReferenceIdeal.Equation

namespace Cert.Proof

theorem ffInForward_algebraic : Cert.algebraic_FfInForwardIdeal_FfInForwardReferenceIdeal := by
  pair_intro
  · run_from Cert.FfInForwardIdeal.Value.run_blocks m g
  · run_from Cert.FfInForwardReferenceIdeal.Value.run m' g'
    · rw [Cert.FfInForwardIdeal.Array.final3]
      exact (Cert.FfInForwardReferenceIdeal.Read.val_main_v15_eq _ _).trans
        (Cert.FfInForwardReferenceIdeal.Equation.norm_eq _ _)
    · rw [Cert.FfInForwardIdeal.Array.final4]
      exact (Cert.FfInForwardReferenceIdeal.Read.val_main_v16_eq _ _ _).trans
        (Cert.FfInForwardReferenceIdeal.Equation.act_eq _ _ _)
    · rw [Cert.FfInForwardIdeal.Array.final5]
      exact (Cert.FfInForwardReferenceIdeal.Read.val_main_v18_eq _ _ _).trans
        (Cert.FfInForwardReferenceIdeal.Equation.sq_eq _ _ _)

theorem ffInForward_reference_frame : Cert.quiescent_FfInForwardReferenceIdeal := fun m ρ _ =>
  (θ_run Cert.FfInForwardReferenceIdeal.defs _ _).mono (fun r h => ⟨fun c => (h c).2.2.2,
      Idealize.ShloMosaic.sem_eq_zero_of_no_sems (by decide) r.2⟩)
    (Cert.FfInForwardReferenceIdeal.Value.run (F := Ideal) m ρ)

end Cert.Proof

end
-- ==== Proof.WindowForwardBlock.lean ====
/- One block of rows of the sliding-window attention, at the extended reals. -/
module

public import proofs.«01_k».proof.Proof.Gen.WindowForwardIdeal.Skeleton
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.WindowForwardIdeal.Block

open Idealize.ShloMosaic.StableHlo Cert.WindowForwardIdeal Cert.WindowForwardIdeal.Gen

/-- The lanes that belong to the group `w` of the key heads. -/
def lanes (w : BitVec 32) : IVec S128x128 1 :=
  xori (xori (cmpi .sge (iota .tc S128x128 32 [1] iota_S128x128_d1_w32) (broadcast S128x128 64#32))
    (broadcastTo S128x128 (broadcast S128x128 (Scalar.cmpi .eq w 1#32)) broadcasts_S128x128_S128x128)) (constantI S128x128 1 1#1)

/-- The two key or value blocks, one after the other. -/
def pair (k0 k1 : Vec Ideal S128x128 .bf16) (k : Fin 256) (c : Fin 128) : EReal :=
  if h : k.val < 128 then k0 (ix2 ⟨k.val, h⟩ c) else k1 (ix2 ⟨k.val - 128, by omega⟩ c)

theorem split (f : Fin 128 → EReal) : ∑ l : Fin 128, f l = ∑ d : Fin 64, f ⟨d.val, by omega⟩ + ∑ d : Fin 64, f ⟨64 + d.val, by omega⟩ := by
  exact Fin.sum_univ_add (a := 64) (b := 64) f

theorem low0 : ∀ n : ℕ, n < 64 → IntOp.xori (IntOp.xori (IntOp.cmpi .sge (BitVec.ofNat 32 n) 64#32) (Scalar.cmpi .eq 0#32 1#32)) 1#1 = 1#1 := by
  decide +kernel

theorem high0 : ∀ n : ℕ, n < 64 → IntOp.xori (IntOp.xori (IntOp.cmpi .sge (BitVec.ofNat 32 (64 + n)) 64#32) (Scalar.cmpi .eq 0#32 1#32)) 1#1 = 0#1 := by
  decide +kernel

theorem low1 : ∀ n : ℕ, n < 64 → IntOp.xori (IntOp.xori (IntOp.cmpi .sge (BitVec.ofNat 32 n) 64#32) (Scalar.cmpi .eq 1#32 1#32)) 1#1 = 0#1 := by
  decide +kernel

theorem high1 : ∀ n : ℕ, n < 64 → IntOp.xori (IntOp.xori (IntOp.cmpi .sge (BitVec.ofNat 32 (64 + n)) 64#32) (Scalar.cmpi .eq 1#32 1#32)) 1#1 = 1#1 := by
  decide +kernel

theorem side_one (l : Fin 128) (h : l.val < 64) : IntOp.cmpi .slt (BitVec.ofNat 32 l.val) 64#32 = 1#1 := by
  revert l; decide +kernel

theorem side_zero (l : Fin 128) (h : ¬ l.val < 64) : IntOp.cmpi .slt (BitVec.ofNat 32 l.val) 64#32 = 0#1 := by
  revert l; decide +kernel

theorem first_row (p : Fin 128) : IntOp.cmpi .slt (BitVec.ofNat 32 p.val) 128#32 = 1#1 := by
  revert p; decide +kernel

theorem second_row (p : Fin 128) : IntOp.cmpi .slt (BitVec.ofNat 32 (128 + p.val)) 128#32 = 0#1 := by
  revert p; decide +kernel

theorem pick_one {c : BitVec 1} (h : c = 1#1) (x y z : EReal) (e : x = z) : Scalar.select c x y = z := by
  subst h; exact e

theorem pick_snd {c : BitVec 1} (h : c = 0#1) (x y z : EReal) (e : y = z) : Scalar.select c x y = z := by
  subst h; exact e

theorem sel_one (x y : EReal) : Scalar.select 1#1 x y = x := rfl

theorem sel_zero (x y : EReal) : Scalar.select 0#1 x y = y := rfl

theorem word_ne0 : Scalar.cmpi .eq 0#32 1#32 = 0#1 := rfl

theorem word_ne1 : Scalar.cmpi .eq 1#32 0#32 = 0#1 := rfl

theorem pick_zero {c : BitVec 1} (h : c = 0#1) (x y : EReal) (e : y = 0 := by rfl) : Scalar.select c x y = 0 := by
  subst h; exact e

theorem scores00 (q k0 k1 : Vec Ideal S128x128 .bf16) (b : Vec Ideal S256x256 .f32) (p : Fin 128) (k : Fin 256) :
    k0_pay14 (F := Ideal) 0#32 (k0_pay10 q) (k0_pay11 q) (lanes 0#32) k0 k1 b (ix2 ⟨p.val, by omega⟩ k)
      = ∑ d : Fin 64, q (ix2 p ⟨d.val, by omega⟩) * Ideal.ofBits .bf16 15872#16 * pair k0 k1 k ⟨d.val, by omega⟩ + b (ix2 ⟨p.val, by omega⟩ k) := by
  pointwise [k0_pay14, k0_pay10, k0_pay11, lanes]
  rw [split]
  refine congrArg (fun z => z + b _) ?_
  refine (congrArg₂ (· + ·) (Finset.sum_congr rfl fun d _ => ?_) (Finset.sum_eq_zero fun d _ => ?_)).trans (add_zero _)
  · refine pick_one (low0 d.val d.isLt) _ _ _ ?_
    rfl
  · exact pick_zero (high0 d.val d.isLt) _ _

theorem scores01 (q k0 k1 : Vec Ideal S128x128 .bf16) (b : Vec Ideal S256x256 .f32) (p : Fin 128) (k : Fin 256) :
    k0_pay14 (F := Ideal) 0#32 (k0_pay10 q) (k0_pay11 q) (lanes 0#32) k0 k1 b (ix2 ⟨128 + p.val, by omega⟩ k)
      = ∑ d : Fin 64, q (ix2 p ⟨64 + d.val, by omega⟩) * Ideal.ofBits .bf16 15872#16 * pair k0 k1 k ⟨d.val, by omega⟩ + b (ix2 ⟨128 + p.val, by omega⟩ k) := by
  pointwise [k0_pay14, k0_pay10, k0_pay11, lanes]
  rw [split]
  refine congrArg (fun z => z + b _) ?_
  refine (congrArg₂ (· + ·) (Finset.sum_congr rfl fun d _ => ?_) (Finset.sum_eq_zero fun d _ => ?_)).trans (add_zero _)
  · refine pick_one (low0 d.val d.isLt) _ _ _ ?_
    have e : (⟨(d.val + 128 - 64) % 128, by omega⟩ : Fin 128) = ⟨64 + d.val, by omega⟩ := Fin.ext (by show (d.val + 128 - 64) % 128 = 64 + d.val; omega)
    exact congrArg (fun z => q (ix2 p z) * Ideal.ofBits .bf16 15872#16 * pair k0 k1 k ⟨d.val, by omega⟩) e
  · exact pick_zero (high0 d.val d.isLt) _ _

theorem scores10 (q k0 k1 : Vec Ideal S128x128 .bf16) (b : Vec Ideal S256x256 .f32) (p : Fin 128) (k : Fin 256) :
    k0_pay14 (F := Ideal) 1#32 (k0_pay10 q) (k0_pay11 q) (lanes 1#32) k0 k1 b (ix2 ⟨p.val, by omega⟩ k)
      = ∑ d : Fin 64, q (ix2 p ⟨d.val, by omega⟩) * Ideal.ofBits .bf16 15872#16 * pair k0 k1 k ⟨64 + d.val, by omega⟩ + b (ix2 ⟨p.val, by omega⟩ k) := by
  pointwise [k0_pay14, k0_pay10, k0_pay11, lanes]
  rw [split]
  refine congrArg (fun z => z + b _) ?_
  refine (congrArg₂ (· + ·) (Finset.sum_eq_zero fun d _ => ?_) (Finset.sum_congr rfl fun d _ => ?_)).trans (zero_add _)
  · exact pick_zero (low1 d.val d.isLt) _ _
  · refine pick_one (high1 d.val d.isLt) _ _ _ ?_
    have e : (⟨(64 + d.val + 128 - 64) % 128, by omega⟩ : Fin 128) = ⟨d.val, by omega⟩ := Fin.ext (by show (64 + d.val + 128 - 64) % 128 = d.val; omega)
    exact congrArg (fun z => q (ix2 p z) * Ideal.ofBits .bf16 15872#16 * pair k0 k1 k ⟨64 + d.val, by omega⟩) e

theorem scores11 (q k0 k1 : Vec Ideal S128x128 .bf16) (b : Vec Ideal S256x256 .f32) (p : Fin 128) (k : Fin 256) :
    k0_pay14 (F := Ideal) 1#32 (k0_pay10 q) (k0_pay11 q) (lanes 1#32) k0 k1 b (ix2 ⟨128 + p.val, by omega⟩ k)
      = ∑ d : Fin 64, q (ix2 p ⟨64 + d.val, by omega⟩) * Ideal.ofBits .bf16 15872#16 * pair k0 k1 k ⟨64 + d.val, by omega⟩ + b (ix2 ⟨128 + p.val, by omega⟩ k) := by
  pointwise [k0_pay14, k0_pay10, k0_pay11, lanes]
  rw [split]
  refine congrArg (fun z => z + b _) ?_
  refine (congrArg₂ (· + ·) (Finset.sum_eq_zero fun d _ => ?_) (Finset.sum_congr rfl fun d _ => ?_)).trans (zero_add _)
  · exact pick_zero (low1 d.val d.isLt) _ _
  · refine pick_one (high1 d.val d.isLt) _ _ _ ?_
    rfl

/-- A row's attention: the values weighted by the exponentials of the scores, over the exponentials' sum and the sink's. -/
def soft (f : Fin 256 → EReal) (s : EReal) (v : Fin 256 → EReal) : EReal :=
  ∑ x, Ideal.exp (f x - max (Finset.fold max (Ideal.ofBits .f32 4286578688#32) f Finset.univ) s) *
    Ideal.div 1 (∑ y, Ideal.exp (f y - max (Finset.fold max (Ideal.ofBits .f32 4286578688#32) f Finset.univ) s)
      + Ideal.exp (s - max (Finset.fold max (Ideal.ofBits .f32 4286578688#32) f Finset.univ) s)) * v x

/-- A row of scores, the ones out of reach replaced. -/
def row (valid : IVec S256x256 1) (s mask : FVec Ideal S256x256 .f32) (r k : Fin 256) : EReal :=
  Scalar.select (valid (ix2 r k)) (s (ix2 r k)) (mask (ix2 r k))

theorem soft0 (v : FVec Ideal S256x128 .bf16) (s : FVec Ideal S256x256 .f32) (valid : IVec S256x256 1) (mask : FVec Ideal S256x256 .f32)
    (s0 s1 : Elt Ideal .f32) (p l : Fin 128) :
    k0_pay17 (F := Ideal) 0#32 (iota .tc S128x128 32 [1] iota_S128x128_d1_w32) v s valid mask s0 s1 (ix2 p l)
      = if h : l.val < 64 then soft (row valid s mask ⟨p.val, by omega⟩) s0 (fun k => v (ix2 k l))
        else soft (row valid s mask ⟨128 + p.val, by omega⟩) s1 (fun k => v (ix2 k ⟨l.val - 64, by omega⟩)) := by
  pointwise [k0_pay17]
  by_cases h : l.val < 64
  · rw [dif_pos h]
    refine pick_one (side_one l h) _ _ _ ?_
    simp only [first_row, second_row, sel_one, sel_zero, word_ne0, word_ne1]
    unfold soft row
    rfl
  · rw [dif_neg h]
    refine (pick_snd (side_zero l h) _ _ _ ?_)
    simp only [first_row, second_row, sel_one, sel_zero, word_ne0, word_ne1]
    unfold soft row
    exact Finset.sum_congr rfl fun x _ => congrArg (fun z => _ * v (ix2 x z)) (Fin.ext (by show (l.val + 128 - 64) % 128 = l.val - 64; omega))

theorem soft1 (v : FVec Ideal S256x128 .bf16) (s : FVec Ideal S256x256 .f32) (valid : IVec S256x256 1) (mask : FVec Ideal S256x256 .f32)
    (s0 s1 : Elt Ideal .f32) (p l : Fin 128) :
    k0_pay17 (F := Ideal) 1#32 (iota .tc S128x128 32 [1] iota_S128x128_d1_w32) v s valid mask s0 s1 (ix2 p l)
      = if h : l.val < 64 then soft (row valid s mask ⟨p.val, by omega⟩) s0 (fun k => v (ix2 k ⟨l.val + 64, by omega⟩))
        else soft (row valid s mask ⟨128 + p.val, by omega⟩) s1 (fun k => v (ix2 k l)) := by
  pointwise [k0_pay17]
  by_cases h : l.val < 64
  · rw [dif_pos h]
    refine pick_one (side_one l h) _ _ _ ?_
    simp only [first_row, second_row, sel_one, sel_zero, word_ne0, word_ne1]
    unfold soft row
    exact Finset.sum_congr rfl fun x _ => congrArg (fun z => _ * v (ix2 x z)) (Fin.ext (by show (l.val + 128 - 64) % 128 = l.val + 64; omega))
  · rw [dif_neg h]
    refine (pick_snd (side_zero l h) _ _ _ ?_)
    simp only [first_row, second_row, sel_one, sel_zero, word_ne0, word_ne1]
    unfold soft row
    rfl

/-- A block's result, from its queries, keys, values, biases and sinks. -/
def blockOf (w a : BitVec 32) (q k0 k1 v0 v1 : Vec Ideal S128x128 .bf16) (b : Vec Ideal S256x256 .f32) (s0 s1 : Elt Ideal .f32) :
    FVec Ideal S128x128 .bf16 :=
  k0_pay17 w (iota .tc S128x128 32 [1] iota_S128x128_d1_w32) (k0_pay13 v0 v1)
    (k0_pay14 w (k0_pay10 q) (k0_pay11 q) (lanes w) k0 k1 b) (k0_pay15 k0_pay9 a) k0_pay16 s0 s1

/-- Whether a key is in reach of a block: always in the block itself, and in the one before it if there is one. -/
def inReach (a : BitVec 32) (k : Fin 256) : BitVec 1 := IntOp.ori (IntOp.cmpi .sge (BitVec.ofNat 32 k.val) 128#32) (Scalar.cmpi .sgt a 0#32)

theorem valid_at (a : BitVec 32) (r k : Fin 256) : k0_pay15 k0_pay9 a (ix2 r k) = inReach a k := by
  pointwise [k0_pay15, k0_pay9, inReach]

theorem mask_at (r k : Fin 256) : k0_pay16 (F := Ideal) (ix2 r k) = ⊥ := by
  pointwise [k0_pay16]
  rfl

theorem pair_at (v0 v1 : Vec Ideal S128x128 .bf16) (k : Fin 256) (l : Fin 128) : k0_pay13 (F := Ideal) v0 v1 (ix2 k l) = pair v0 v1 k l := by
  pointwise [k0_pay13]
  rfl

theorem block0 (a : BitVec 32) (q k0 k1 v0 v1 : Vec Ideal S128x128 .bf16) (b : Vec Ideal S256x256 .f32) (s0 s1 : Elt Ideal .f32) (p l : Fin 128) :
    blockOf 0#32 a q k0 k1 v0 v1 b s0 s1 (ix2 p l)
      = if h : l.val < 64 then
          soft (fun k => Scalar.select (inReach a k) (∑ d : Fin 64, q (ix2 p ⟨d.val, by omega⟩) * Ideal.ofBits .bf16 15872#16 * pair k0 k1 k ⟨d.val, by omega⟩
              + b (ix2 ⟨p.val, by omega⟩ k)) ⊥) s0 (fun k => pair v0 v1 k l)
        else
          soft (fun k => Scalar.select (inReach a k) (∑ d : Fin 64, q (ix2 p ⟨64 + d.val, by omega⟩) * Ideal.ofBits .bf16 15872#16 * pair k0 k1 k ⟨d.val, by omega⟩
              + b (ix2 ⟨128 + p.val, by omega⟩ k)) ⊥) s1 (fun k => pair v0 v1 k ⟨l.val - 64, by omega⟩) := by
  unfold blockOf
  rw [soft0]
  simp only [pair_at]
  unfold row
  simp only [valid_at, mask_at, scores00, scores01]

theorem block1 (a : BitVec 32) (q k0 k1 v0 v1 : Vec Ideal S128x128 .bf16) (b : Vec Ideal S256x256 .f32) (s0 s1 : Elt Ideal .f32) (p l : Fin 128) :
    blockOf 1#32 a q k0 k1 v0 v1 b s0 s1 (ix2 p l)
      = if h : l.val < 64 then
          soft (fun k => Scalar.select (inReach a k) (∑ d : Fin 64, q (ix2 p ⟨d.val, by omega⟩) * Ideal.ofBits .bf16 15872#16 * pair k0 k1 k ⟨64 + d.val, by omega⟩
              + b (ix2 ⟨p.val, by omega⟩ k)) ⊥) s0 (fun k => pair v0 v1 k ⟨l.val + 64, by omega⟩)
        else
          soft (fun k => Scalar.select (inReach a k) (∑ d : Fin 64, q (ix2 p ⟨64 + d.val, by omega⟩) * Ideal.ofBits .bf16 15872#16 * pair k0 k1 k ⟨64 + d.val, by omega⟩
              + b (ix2 ⟨128 + p.val, by omega⟩ k)) ⊥) s1 (fun k => pair v0 v1 k l) := by
  unfold blockOf
  rw [soft1]
  simp only [pair_at]
  unfold row
  simp only [valid_at, mask_at, scores10, scores11]

end Cert.WindowForwardIdeal.Block

end

end
-- ==== Proof.WindowForwardLoop.lean ====
/- The two loops that look the bias table up, trip by trip. -/
module

public import proofs.«01_k».proof.Proof.Gen.WindowForwardIdeal.Loops
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.WindowForwardIdeal.Loop

open Idealize.ShloMosaic.StableHlo Cert.WindowForwardIdeal Cert.WindowForwardIdeal.Gen

/-- The table's entry for bucket `b`, head `h`. -/
def entry (x5 : Vec Ideal S32x8 .f32) (h : Fin 8) (b : ℕ) : Elt Ideal .f32 := if hb : b < 32 then x5 (ix2 ⟨b, hb⟩ h) else (0 : EReal)

theorem one_cell : 0 < S1x1.numel := Nat.lt_of_lt_of_eq Nat.one_pos numel1_S1x1.symm

theorem counter : ∀ k : Fin 32, Scf.iv 0#32 1#32 k.val = BitVec.ofNat 32 k.val := by decide +kernel

theorem word_eq (x : BitVec 32) (k : ℕ) (hk : k < 32) : IntOp.cmpi .eq x (BitVec.ofNat 32 k) = if x.toNat = k then 1#1 else 0#1 := by
  have e : (x = BitVec.ofNat 32 k) ↔ x.toNat = k := by
    rw [← BitVec.toNat_inj, BitVec.toNat_ofNat]; omega
  by_cases h : x.toNat = k
  · rw [if_pos h, e.mpr h]; simp [IntOp.cmpi]
  · rw [if_neg h]; have hne : (x == BitVec.ofNat 32 k) = false := beq_eq_false_iff_ne.mpr fun q => h (e.mp q)
    simp [IntOp.cmpi, hne]

/-- One more trip adds the entry of its own bucket. -/
theorem grow (a e : EReal) (f : ℕ → EReal) (b n : ℕ) (ha : a = if b < n then f b else 0) (he : e = if b = n then f n else 0) :
    a + e = if b < n + 1 then f b else 0 := by
  subst ha he
  rcases Nat.lt_trichotomy b n with h | h | h
  · rw [if_pos h, if_neg (by omega), if_pos (by omega), add_zero]
  · subst h; simp
  · rw [if_neg (by omega), if_neg (by omega), if_neg (by omega), add_zero]

theorem trip1 (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x256 .i32) (harg5 : arg5.IsWhole) (arg6 : Memref sig .tc .smem S8 .f32) (harg6 : arg6.IsWhole) (arg7 : Memref sig .tc .smem S32x8 .f32) (harg7 : arg7.IsWhole) (arg8 : Memref sig .tc .vmem S512x128 .bf16) (harg8 : arg8.IsWhole) (arg9 : Memref sig .tc .vmem S256x256 .f32) (harg9 : arg9.IsWhole) (k0_h1 : k0_cond1 i = 1#1) (x3 : Vec Ideal S128x256 .i32) (x5 : Vec Ideal S32x8 .f32) (k : Fin k0_t1_loop.trips)
    (acc : FVec Ideal S128x256 .f32) :
    tripR_k0_t1 (F := Ideal) 𝒱 c bd i arg2 harg2 arg3 harg3 arg4 harg4 arg5 harg5 arg6 harg6 arg7 harg7 arg8 harg8 arg9 harg9 k0_h1 (harg5.unread x3) (harg7.unread x5) k acc
      = k0_pay4 (F := Ideal) k acc x3 (View.ld x5 (Rect.unit (k0_off1 i k) ![1, 1] (k0_off1_inb i k k0_h1)) (Shape.Idx.first one_cell)) := by
  unfold tripR_k0_t1 trip_k0_t1
  dsimp only
  frame_out

theorem pay1_at (k : Fin k0_t1_loop.trips) (acc : FVec Ideal S128x256 .f32) (x3 : Vec Ideal S128x256 .i32) (r : Elt Ideal .f32) (p : Fin 128) (q : Fin 256) :
    k0_pay4 (F := Ideal) k acc x3 r (ix2 p q) = (acc (ix2 p q) + (if (x3 (ix2 p q)).toNat = k.val then r else (0 : EReal)) : EReal) := by
  have hk : k.val < 32 := k.isLt
  pointwise [k0_pay4]
  rw [show Scf.iv 0#32 1#32 k.val = BitVec.ofNat 32 k.val from counter ⟨k.val, hk⟩, word_eq _ _ hk]
  split <;> rfl

theorem cell1 (i : grid0.Coords) (x5 : Vec Ideal S32x8 .f32) (k : Fin k0_t1_loop.trips) (h : Fin 8) (hoff : k0_off1 i k = ![k.val, h.val]) (inb) :
    View.ld x5 (Rect.unit (k0_off1 i k) ![1, 1] inb) (Shape.Idx.first one_cell) = entry x5 h k.val := by
  have hk : k.val < 32 := k.isLt
  unfold entry
  rw [dif_pos hk]
  refine View.ld_unit_apply_of x5 _ _ _ _ _ fun a => ?_
  refine Eq.trans ?_ (congrArg (· + _) (congrFun hoff a).symm)
  fin_cases a <;> rfl

/-- The carried value after `n` trips: the entry of the bucket, when the bucket's trip has come. -/
theorem state1 (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x256 .i32) (harg5 : arg5.IsWhole) (arg6 : Memref sig .tc .smem S8 .f32) (harg6 : arg6.IsWhole) (arg7 : Memref sig .tc .smem S32x8 .f32) (harg7 : arg7.IsWhole) (arg8 : Memref sig .tc .vmem S512x128 .bf16) (harg8 : arg8.IsWhole) (arg9 : Memref sig .tc .vmem S256x256 .f32) (harg9 : arg9.IsWhole) (k0_h1 : k0_cond1 i = 1#1) (x3 : Vec Ideal S128x256 .i32) (x5 : Vec Ideal S32x8 .f32) (h : Fin 8)
    (hoff : ∀ k, k0_off1 i k = ![k.val, h.val]) (p : Fin 128) (q : Fin 256) : ∀ n : ℕ, n ≤ 32 →
    st_k0_t1 (F := Ideal) 𝒱 c bd i arg2 harg2 arg3 harg3 arg4 harg4 arg5 harg5 arg6 harg6 arg7 harg7 arg8 harg8 arg9 harg9 k0_h1 (harg5.unread x3) (harg7.unread x5) k0_pay3 n (ix2 p q)
      = (if (x3 (ix2 p q)).toNat < n then entry x5 h (x3 (ix2 p q)).toNat else (0 : EReal) : EReal)
  | 0, _ => by
    rw [st_k0_t1_zero]
    pointwise [k0_pay3]
    simp
  | n + 1, hn => by
    have hk : n < k0_t1_loop.trips := hn
    refine (congrFun (st_k0_t1_succ (F := Ideal) 𝒱 c bd i arg2 harg2 arg3 harg3 arg4 harg4 arg5 harg5 arg6 harg6 arg7 harg7 arg8 harg8 arg9 harg9 k0_h1 (harg5.unread x3) (harg7.unread x5) k0_pay3 ⟨n, hk⟩) (ix2 p q)).trans ?_
    rw [trip1, pay1_at, cell1 i x5 ⟨n, hk⟩ h (hoff _)]
    exact grow _ _ (entry x5 h) _ n (state1 𝒱 c bd i arg2 harg2 arg3 harg3 arg4 harg4 arg5 harg5 arg6 harg6 arg7 harg7 arg8 harg8 arg9 harg9 k0_h1 x3 x5 h hoff p q n (by omega)) rfl

theorem trip2 (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x256 .i32) (harg5 : arg5.IsWhole) (arg6 : Memref sig .tc .smem S8 .f32) (harg6 : arg6.IsWhole) (arg7 : Memref sig .tc .smem S32x8 .f32) (harg7 : arg7.IsWhole) (arg8 : Memref sig .tc .vmem S512x128 .bf16) (harg8 : arg8.IsWhole) (arg9 : Memref sig .tc .vmem S256x256 .f32) (harg9 : arg9.IsWhole) (k0_h1 : k0_cond1 i = 1#1) (x3 : Vec Ideal S128x256 .i32) (x5 : Vec Ideal S32x8 .f32) (k : Fin k0_t2_loop.trips)
    (acc : FVec Ideal S128x256 .f32) :
    tripR_k0_t2 (F := Ideal) 𝒱 c bd i arg2 harg2 arg3 harg3 arg4 harg4 arg5 harg5 arg6 harg6 arg7 harg7 arg8 harg8 arg9 harg9 k0_h1 (harg5.unread x3) (harg7.unread x5) k acc
      = k0_pay7 (F := Ideal) k acc x3 (View.ld x5 (Rect.unit (k0_off2 i k) ![1, 1] (k0_off2_inb i k k0_h1)) (Shape.Idx.first one_cell)) := by
  unfold tripR_k0_t2 trip_k0_t2
  dsimp only
  frame_out

theorem pay2_at (k : Fin k0_t2_loop.trips) (acc : FVec Ideal S128x256 .f32) (x3 : Vec Ideal S128x256 .i32) (r : Elt Ideal .f32) (p : Fin 128) (q : Fin 256) :
    k0_pay7 (F := Ideal) k acc x3 r (ix2 p q) = (acc (ix2 p q) + (if (x3 (ix2 p q)).toNat = k.val then r else (0 : EReal)) : EReal) := by
  have hk : k.val < 32 := k.isLt
  pointwise [k0_pay7]
  rw [show Scf.iv 0#32 1#32 k.val = BitVec.ofNat 32 k.val from counter ⟨k.val, hk⟩, word_eq _ _ hk]
  split <;> rfl

theorem cell2 (i : grid0.Coords) (x5 : Vec Ideal S32x8 .f32) (k : Fin k0_t2_loop.trips) (h : Fin 8) (hoff : k0_off2 i k = ![k.val, h.val]) (inb) :
    View.ld x5 (Rect.unit (k0_off2 i k) ![1, 1] inb) (Shape.Idx.first one_cell) = entry x5 h k.val := by
  have hk : k.val < 32 := k.isLt
  unfold entry
  rw [dif_pos hk]
  refine View.ld_unit_apply_of x5 _ _ _ _ _ fun a => ?_
  refine Eq.trans ?_ (congrArg (· + _) (congrFun hoff a).symm)
  fin_cases a <;> rfl

/-- The carried value after `n` trips: the entry of the bucket, when the bucket's trip has come. -/
theorem state2 (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x256 .i32) (harg5 : arg5.IsWhole) (arg6 : Memref sig .tc .smem S8 .f32) (harg6 : arg6.IsWhole) (arg7 : Memref sig .tc .smem S32x8 .f32) (harg7 : arg7.IsWhole) (arg8 : Memref sig .tc .vmem S512x128 .bf16) (harg8 : arg8.IsWhole) (arg9 : Memref sig .tc .vmem S256x256 .f32) (harg9 : arg9.IsWhole) (k0_h1 : k0_cond1 i = 1#1) (x3 : Vec Ideal S128x256 .i32) (x5 : Vec Ideal S32x8 .f32) (h : Fin 8)
    (hoff : ∀ k, k0_off2 i k = ![k.val, h.val]) (p : Fin 128) (q : Fin 256) : ∀ n : ℕ, n ≤ 32 →
    st_k0_t2 (F := Ideal) 𝒱 c bd i arg2 harg2 arg3 harg3 arg4 harg4 arg5 harg5 arg6 harg6 arg7 harg7 arg8 harg8 arg9 harg9 k0_h1 (harg5.unread x3) (harg7.unread x5) k0_pay6 n (ix2 p q)
      = (if (x3 (ix2 p q)).toNat < n then entry x5 h (x3 (ix2 p q)).toNat else (0 : EReal) : EReal)
  | 0, _ => by
    rw [st_k0_t2_zero]
    pointwise [k0_pay6]
    simp
  | n + 1, hn => by
    have hk : n < k0_t2_loop.trips := hn
    refine (congrFun (st_k0_t2_succ (F := Ideal) 𝒱 c bd i arg2 harg2 arg3 harg3 arg4 harg4 arg5 harg5 arg6 harg6 arg7 harg7 arg8 harg8 arg9 harg9 k0_h1 (harg5.unread x3) (harg7.unread x5) k0_pay6 ⟨n, hk⟩) (ix2 p q)).trans ?_
    rw [trip2, pay2_at, cell2 i x5 ⟨n, hk⟩ h (hoff _)]
    exact grow _ _ (entry x5 h) _ n (state2 𝒱 c bd i arg2 harg2 arg3 harg3 arg4 harg4 arg5 harg5 arg6 harg6 arg7 harg7 arg8 harg8 arg9 harg9 k0_h1 x3 x5 h hoff p q n (by omega)) rfl

end Cert.WindowForwardIdeal.Loop

end

end
-- ==== Proof.WindowForwardBody.lean ====
/- What one point of the grid leaves in the output block: four blocks of attention. -/
module

public import proofs.«01_k».proof.Proof.Gen.WindowForwardIdeal.Value
public import proofs.«01_k».proof.Proof.WindowForwardBlock
public import proofs.«01_k».proof.Proof.WindowForwardLoop
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.WindowForwardIdeal.Body

open Idealize.ShloMosaic.StableHlo Cert.WindowForwardIdeal Cert.WindowForwardIdeal.Gen Cert.WindowForwardIdeal.Value Cert.WindowForwardIdeal.Block Cert.WindowForwardIdeal.Loop

variable (m : (ℓ : Loc nD τ sig) → Buf (Elt Ideal) ℓ)

/-- Which half of the lanes the point's key head holds. -/
def half (t : Fin cfg0.N) : BitVec 32 :=
  Scalar.select (Scalar.andi (Scalar.cmpi .ne (Scalar.subi (Scalar.extui (Scalar.cmpi .sgt (BitVec.ofNat 32 (grid0.coords t 0).val) 0#32))
      (Scalar.extui (Scalar.cmpi .slt (BitVec.ofNat 32 (grid0.coords t 0).val) 0#32))) 1#32)
      (Scalar.cmpi .ne (Scalar.remsi (BitVec.ofNat 32 (grid0.coords t 0).val) 2#32) 0#32))
    (Scalar.subi (Scalar.divsi (BitVec.ofNat 32 (grid0.coords t 0).val) 2#32) 1#32) (Scalar.divsi (BitVec.ofNat 32 (grid0.coords t 0).val) 2#32)

/-- The number of the block of queries. -/
def step (t : Fin cfg0.N) (r : BitVec 32) : BitVec 32 := Scalar.addi (Scalar.muli (BitVec.ofNat 32 (grid0.coords t 1).val) 4#32) r

/-- One block of 128 queries, off the point's windows. -/
def part (c : Dev nD) (t : Fin cfg0.N) (b : Vec Ideal S256x256 .f32) (r : BitVec 32) (o : Fin 2 → ℕ)
    (hq : ∀ a, o a + S128x128.size a ≤ S512x128.size a)
    (h3 : ∀ a, k0_off3 (grid0.coords t) r a + S128x128.size a ≤ S4096x128.size a)
    (h4 : ∀ a, k0_off4 (grid0.coords t) r a + S128x128.size a ≤ S4096x128.size a) : Vec Ideal S128x128 .bf16 :=
  blockOf (half t) (step t r) (View.ld (iblk m c 0 t) (Rect.unit o ![128, 128] hq))
    (View.ld (iblk m c 1 t) (Rect.unit (k0_off3 (grid0.coords t) r) ![128, 128] h3))
    (View.ld (iblk m c 1 t) (Rect.unit (k0_off4 (grid0.coords t) r) ![128, 128] h4))
    (View.ld (iblk m c 2 t) (Rect.unit (k0_off3 (grid0.coords t) r) ![128, 128] h3))
    (View.ld (iblk m c 2 t) (Rect.unit (k0_off4 (grid0.coords t) r) ![128, 128] h4)) b
    (View.ld (iblk m c 4 t) (Rect.unit (k0_off5 (grid0.coords t)) ![1] (k0_off5_inb (grid0.coords t))) (Shape.Idx.first (Nat.lt_of_lt_of_eq Nat.one_pos numel1_S1.symm)))
    (View.ld (iblk m c 4 t) (Rect.unit (k0_off6 (grid0.coords t)) ![1] (k0_off6_inb (grid0.coords t))) (Shape.Idx.first (Nat.lt_of_lt_of_eq Nat.one_pos numel1_S1.symm)))

theorem reread (X : Vec Ideal S256x256 .f32) : View.read (Elt Ideal) (View.whole cc0_scratch0)
    ((Memref.isWhole_whole cc0_scratch0).unread X) = X := (Memref.isWhole_whole cc0_scratch0).read_unread X

theorem outB (c : Dev nD) (t : Fin cfg0.N) (h : ¬ t.val % 8 = 0) : (outsAt0 m c t.val t.isLt).1
    = (View.canon (Val := Elt Ideal) (s := S512x128) (e := .bf16) [
        ⟨Rect.unit (s := S512x128) ![384, 0] ![128, 128] inb_S512x128_S128x128_384_0, part m c t ((outsAt0 m c (t.val - 1) (Nat.lt_of_le_of_lt (Nat.sub_le _ _) t.isLt)).2) 3#32 ![384, 0] inb_S512x128_S128x128_384_0 (k0_off3_inb (grid0.coords t) 3) (k0_off4_inb (grid0.coords t) 3)⟩,
        ⟨Rect.unit (s := S512x128) ![256, 0] ![128, 128] inb_S512x128_S128x128_256_0, part m c t ((outsAt0 m c (t.val - 1) (Nat.lt_of_le_of_lt (Nat.sub_le _ _) t.isLt)).2) 2#32 ![256, 0] inb_S512x128_S128x128_256_0 (k0_off3_inb (grid0.coords t) 2) (k0_off4_inb (grid0.coords t) 2)⟩,
        ⟨Rect.unit (s := S512x128) ![128, 0] ![128, 128] inb_S512x128_S128x128_128_0, part m c t ((outsAt0 m c (t.val - 1) (Nat.lt_of_le_of_lt (Nat.sub_le _ _) t.isLt)).2) 1#32 ![128, 0] inb_S512x128_S128x128_128_0 (k0_off3_inb (grid0.coords t) 1) (k0_off4_inb (grid0.coords t) 1)⟩,
        ⟨Rect.unit (s := S512x128) ![0, 0] ![128, 128] inb_S512x128_S128x128_0_0, part m c t ((outsAt0 m c (t.val - 1) (Nat.lt_of_le_of_lt (Nat.sub_le _ _) t.isLt)).2) 0#32 ![0, 0] inb_S512x128_S128x128_0_0 (k0_off3_inb (grid0.coords t) 0) (k0_off4_inb (grid0.coords t) 0)⟩]) := by
  rw [outsAt0_B m c t h]
  frame_out
  rw [reread]
  rfl

theorem carB (c : Dev nD) (t : Fin cfg0.N) (h : ¬ t.val % 8 = 0) : (outsAt0 m c t.val t.isLt).2
    = (outsAt0 m c (t.val - 1) (Nat.lt_of_le_of_lt (Nat.sub_le _ _) t.isLt)).2 := by
  rw [outsAt0_B m c t h]
  rfl

theorem readBack (L : List (View.Piece (Elt Ideal) S256x256 .f32)) (inb : ∀ a, (![0, 0] : Fin 2 → ℕ) a + ![256, 256] a ≤ S256x256.size a) :
    (View.whole cc0_scratch0).readCov L (Rect.unit (s := S256x256) ![0, 0] ![256, 256] inb).toLoadRect = View.canon (Val := Elt Ideal) (s := S256x256) (e := .f32) L := by
  rw [View.readCov_eq_canon']
  refine funext fun j => congrArg _ (funext fun a => Fin.ext ?_)
  refine (Rect.idx_unit_val _ _ inb j a).trans ?_
  fin_cases a <;> exact Nat.zero_add _

theorem outA (c : Dev nD) (t : Fin cfg0.N) (h : t.val % 8 = 0) : (outsAt0 m c t.val t.isLt).1
    = (View.canon (Val := Elt Ideal) (s := S512x128) (e := .bf16) [
        ⟨Rect.unit (s := S512x128) ![384, 0] ![128, 128] inb_S512x128_S128x128_384_0, part m c t ((outsAt0 m c t.val t.isLt).2) 3#32 ![384, 0] inb_S512x128_S128x128_384_0 (k0_off3_inb (grid0.coords t) 3) (k0_off4_inb (grid0.coords t) 3)⟩,
        ⟨Rect.unit (s := S512x128) ![256, 0] ![128, 128] inb_S512x128_S128x128_256_0, part m c t ((outsAt0 m c t.val t.isLt).2) 2#32 ![256, 0] inb_S512x128_S128x128_256_0 (k0_off3_inb (grid0.coords t) 2) (k0_off4_inb (grid0.coords t) 2)⟩,
        ⟨Rect.unit (s := S512x128) ![128, 0] ![128, 128] inb_S512x128_S128x128_128_0, part m c t ((outsAt0 m c t.val t.isLt).2) 1#32 ![128, 0] inb_S512x128_S128x128_128_0 (k0_off3_inb (grid0.coords t) 1) (k0_off4_inb (grid0.coords t) 1)⟩,
        ⟨Rect.unit (s := S512x128) ![0, 0] ![128, 128] inb_S512x128_S128x128_0_0, part m c t ((outsAt0 m c t.val t.isLt).2) 0#32 ![0, 0] inb_S512x128_S128x128_0_0 (k0_off3_inb (grid0.coords t) 0) (k0_off4_inb (grid0.coords t) 0)⟩]) := by
  rw [outsAt0_A m c t h]
  frame_out
  rw [readBack]
  rfl

theorem out (c : Dev nD) (t : Fin cfg0.N) : (outsAt0 m c t.val t.isLt).1
    = (View.canon (Val := Elt Ideal) (s := S512x128) (e := .bf16) [
        ⟨Rect.unit (s := S512x128) ![384, 0] ![128, 128] inb_S512x128_S128x128_384_0, part m c t ((outsAt0 m c t.val t.isLt).2) 3#32 ![384, 0] inb_S512x128_S128x128_384_0 (k0_off3_inb (grid0.coords t) 3) (k0_off4_inb (grid0.coords t) 3)⟩,
        ⟨Rect.unit (s := S512x128) ![256, 0] ![128, 128] inb_S512x128_S128x128_256_0, part m c t ((outsAt0 m c t.val t.isLt).2) 2#32 ![256, 0] inb_S512x128_S128x128_256_0 (k0_off3_inb (grid0.coords t) 2) (k0_off4_inb (grid0.coords t) 2)⟩,
        ⟨Rect.unit (s := S512x128) ![128, 0] ![128, 128] inb_S512x128_S128x128_128_0, part m c t ((outsAt0 m c t.val t.isLt).2) 1#32 ![128, 0] inb_S512x128_S128x128_128_0 (k0_off3_inb (grid0.coords t) 1) (k0_off4_inb (grid0.coords t) 1)⟩,
        ⟨Rect.unit (s := S512x128) ![0, 0] ![128, 128] inb_S512x128_S128x128_0_0, part m c t ((outsAt0 m c t.val t.isLt).2) 0#32 ![0, 0] inb_S512x128_S128x128_0_0 (k0_off3_inb (grid0.coords t) 0) (k0_off4_inb (grid0.coords t) 0)⟩]) := by
  by_cases h : t.val % 8 = 0
  · exact outA m c t h
  · rw [outB m c t h, carB m c t h]

end Cert.WindowForwardIdeal.Body

end

end
-- ==== Proof.WindowForwardPoint.lean ====
/- What the windows and the carried table of biases hold, as a function of the arguments. -/
module

public import proofs.«01_k».proof.Proof.Gen.WindowForwardIdeal.Value
public import proofs.«01_k».proof.Proof.WindowForwardBody
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.WindowForwardIdeal.Point

open Idealize.ShloMosaic.StableHlo Cert.WindowForwardIdeal Cert.WindowForwardIdeal.Gen Cert.WindowForwardIdeal.Value Cert.WindowForwardIdeal.Block Cert.WindowForwardIdeal.Loop Cert.WindowForwardIdeal.Body

variable (m : (ℓ : Loc nD τ sig) → Buf (Elt Ideal) ℓ)

theorem V_0 (c : Dev nD) : V m c main_arg0 = m ((c : Thread nD τ).loc main_arg0) := by
  unfold V
  simp only [hostOps0, List.flatten_cons, List.flatten_nil, List.append_nil, List.cons_append,
    List.nil_append, TRef.binary, TRef.nullary, TRef.unary, TRef.toBuf, TRef.ofBuf, cast_eq]
  after_results

theorem V_1 (c : Dev nD) : V m c main_arg1 = m ((c : Thread nD τ).loc main_arg1) := by
  unfold V
  simp only [hostOps0, List.flatten_cons, List.flatten_nil, List.append_nil, List.cons_append,
    List.nil_append, TRef.binary, TRef.nullary, TRef.unary, TRef.toBuf, TRef.ofBuf, cast_eq]
  after_results

theorem V_2 (c : Dev nD) : V m c main_arg2 = m ((c : Thread nD τ).loc main_arg2) := by
  unfold V
  simp only [hostOps0, List.flatten_cons, List.flatten_nil, List.append_nil, List.cons_append,
    List.nil_append, TRef.binary, TRef.nullary, TRef.unary, TRef.toBuf, TRef.ofBuf, cast_eq]
  after_results

/-- The bucket of a distance: the distance itself below sixteen, and one more at each step. -/
def bucketOf (x : BitVec 32) : BitVec 32 :=
  IntOp.addi (IntOp.addi (IntOp.addi (IntOp.addi (IntOp.addi (IntOp.addi (IntOp.addi (IntOp.addi (IntOp.addi (IntOp.addi (IntOp.addi (IntOp.addi (IntOp.addi (IntOp.addi (IntOp.addi (IntOp.minsi (IntOp.maxsi x 0#32) 16#32) (BitVec.setWidth 32 (IntOp.cmpi .sge (IntOp.maxsi x 0#32) 19#32))) (BitVec.setWidth 32 (IntOp.cmpi .sge (IntOp.maxsi x 0#32) 21#32))) (BitVec.setWidth 32 (IntOp.cmpi .sge (IntOp.maxsi x 0#32) 24#32))) (BitVec.setWidth 32 (IntOp.cmpi .sge (IntOp.maxsi x 0#32) 27#32))) (BitVec.setWidth 32 (IntOp.cmpi .sge (IntOp.maxsi x 0#32) 31#32))) (BitVec.setWidth 32 (IntOp.cmpi .sge (IntOp.maxsi x 0#32) 35#32))) (BitVec.setWidth 32 (IntOp.cmpi .sge (IntOp.maxsi x 0#32) 40#32))) (BitVec.setWidth 32 (IntOp.cmpi .sge (IntOp.maxsi x 0#32) 46#32))) (BitVec.setWidth 32 (IntOp.cmpi .sge (IntOp.maxsi x 0#32) 52#32))) (BitVec.setWidth 32 (IntOp.cmpi .sge (IntOp.maxsi x 0#32) 59#32))) (BitVec.setWidth 32 (IntOp.cmpi .sge (IntOp.maxsi x 0#32) 67#32))) (BitVec.setWidth 32 (IntOp.cmpi .sge (IntOp.maxsi x 0#32) 77#32))) (BitVec.setWidth 32 (IntOp.cmpi .sge (IntOp.maxsi x 0#32) 87#32))) (BitVec.setWidth 32 (IntOp.cmpi .sge (IntOp.maxsi x 0#32) 99#32))) (BitVec.setWidth 32 (IntOp.cmpi .sge (IntOp.maxsi x 0#32) 113#32))

set_option maxHeartbeats 4000000 in
theorem V_table (c : Dev nD) : V m c main_v68 = ((fun i : S128x256.Idx =>
    bucketOf (128#32 + BitVec.ofNat 32 (i 0).val - BitVec.ofNat 32 (i 1).val)) : IVec S128x256 32) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S128x256.Idx) => ?_
  pointwise [bucketOf]
  rfl

theorem rows : ∀ t : Fin cfg0.N, win0_0.index t = ![t.val % 8, 12 + t.val / 8] ∧ win0_1.index t = ![0, 16] ∧ win0_2.index t = ![0, 17]
    ∧ win0_3.index t = ![0, 0] ∧ win0_4.index t = ![0] ∧ win0_5.index t = ![0, 0] ∧ win0_6.index t = ![t.val % 8, t.val / 8] :=
  (by decide +kernel : ∀ t : Fin grid0.N, _)

/-- Row `p` of the block of queries at point `t`. -/
def row (t : Fin cfg0.N) (p : Fin 512) : Fin 4096 := ⟨t.val % 8 * 512 + p.val, by omega⟩

/-- Column `l` of that block. -/
def col (t : Fin cfg0.N) (l : Fin 128) : Fin 2304 := ⟨1536 + t.val / 8 * 128 + l.val, by have := t.isLt; have : cfg0.N = 32 := N_0; omega⟩

theorem at_q (c : Dev nD) (t : Fin cfg0.N) (p : Fin 512) (l : Fin 128) : iblk m c 0 t (ix2 p l) = (m ((c : Thread nD τ).loc main_arg0)) (ix2 (row t p) (col t l)) := by
  refine (congrFun (V_0 m c) _).trans ?_
  blk_point [iblk, V_0, rows t, row, col]

theorem at_k (c : Dev nD) (t : Fin cfg0.N) (p : Fin 4096) (l : Fin 128) : iblk m c 1 t (ix2 p l) = (m ((c : Thread nD τ).loc main_arg0)) (ix2 p ⟨2048 + l.val, by omega⟩) := by
  refine (congrFun (V_0 m c) _).trans ?_
  blk_point [iblk, V_0, rows t]

theorem at_v (c : Dev nD) (t : Fin cfg0.N) (p : Fin 4096) (l : Fin 128) : iblk m c 2 t (ix2 p l) = (m ((c : Thread nD τ).loc main_arg0)) (ix2 p ⟨2176 + l.val, by omega⟩) := by
  refine (congrFun (V_0 m c) _).trans ?_
  blk_point [iblk, V_0, rows t]

theorem at_table (c : Dev nD) (t : Fin cfg0.N) (p : Fin 128) (k : Fin 256) : iblk m c 3 t (ix2 p k)
    = bucketOf (128#32 + BitVec.ofNat 32 p.val - BitVec.ofNat 32 k.val) := by
  refine (congrFun (V_table m c) _).trans ?_
  blk_point [iblk, V_table, rows t]

theorem at_sink (c : Dev nD) (t : Fin cfg0.N) (h : Fin 8) : iblk m c 4 t (ix1 h) = (m ((c : Thread nD τ).loc main_arg1)) (ix1 h) := by
  refine (congrFun (V_1 m c) _).trans ?_
  blk_point [iblk, V_1, rows t]

theorem at_bias (c : Dev nD) (t : Fin cfg0.N) : iblk m c 5 t = (m ((c : Thread nD τ).loc main_arg2)) := by
  refine funext fun (y : S32x8.Idx) => ?_
  idx_vars y
  refine (congrFun (V_2 m c) _).trans ?_
  blk_point [iblk, V_2, rows t]

theorem heads : ∀ t : Fin cfg0.N, (∀ k, k0_off1 (grid0.coords t) k = ![k.val, 2 * (t.val / 8)]) ∧ (∀ k, k0_off2 (grid0.coords t) k = ![k.val, 2 * (t.val / 8) + 1]) :=
  (by decide +kernel : ∀ t : Fin grid0.N, _)

/-- The point's first head, and its second. -/
def head0 (t : Fin cfg0.N) : Fin 8 := ⟨2 * (t.val / 8), by have := t.isLt; have : cfg0.N = 32 := N_0; omega⟩
def head1 (t : Fin cfg0.N) : Fin 8 := ⟨2 * (t.val / 8) + 1, by have := t.isLt; have : cfg0.N = 32 := N_0; omega⟩

/-- The bias of head `h` at query `p` and key `k` of a block: the table's entry inside the window. -/
def biasAt (rel : Vec Ideal S32x8 .f32) (h : Fin 8) (p : Fin 128) (k : Fin 256) : Elt Ideal .f32 :=
  Scalar.select (k0_pay2 (ix2 p k)) (entry rel h (bucketOf (128#32 + BitVec.ofNat 32 p.val - BitVec.ofNat 32 k.val)).toNat) (⊥ : EReal)

theorem entry_if (rel : Vec Ideal S32x8 .f32) (h : Fin 8) (b : ℕ) : (if b < 32 then entry rel h b else (0 : EReal)) = entry rel h b := by
  unfold entry
  split <;> rfl

theorem masked1 (v : FVec Ideal S128x256 .f32) (p : Fin 128) (k : Fin 256) :
    k0_pay5 (F := Ideal) v (ix2 p k) = Scalar.select (k0_pay2 (ix2 p k)) (v (ix2 p k)) (⊥ : EReal) := by
  pointwise [k0_pay5]
  rfl

theorem masked2 (v : FVec Ideal S128x256 .f32) (p : Fin 128) (k : Fin 256) :
    k0_pay8 (F := Ideal) v (ix2 p k) = Scalar.select (k0_pay2 (ix2 p k)) (v (ix2 p k)) (⊥ : EReal) := by
  pointwise [k0_pay8]
  rfl

/-- What the first point of a run leaves of the biases. -/
theorem fill (c : Dev nD) (t : Fin cfg0.N) (h : t.val % 8 = 0) (r k : Fin 256) : (outsAt0 m c t.val t.isLt).2 (ix2 r k)
    = if hr : r.val < 128 then biasAt (m ((c : Thread nD τ).loc main_arg2)) (head0 t) ⟨r.val, hr⟩ k
      else biasAt (m ((c : Thread nD τ).loc main_arg2)) (head1 t) ⟨r.val - 128, by omega⟩ k := by
  rw [outsAt0_A m c t h]
  frame_out
  canon_tiles x hx
  · obtain ⟨p, q, rfl⟩ : ∃ (p : Fin 128) (q : Fin 256), x = ix2 p q := ⟨x 0, x 1, by funext a; fin_cases a <;> rfl⟩
    have hr : r.val = 128 + p.val := hx0
    obtain rfl : k = q := Fin.ext hx1
    refine (masked2 _ _ _).trans ?_
    refine (congrArg (fun e => Scalar.select (k0_pay2 (ix2 p k)) e (⊥ : EReal)) (state2 _ c _ _ _ _ _ _ _ _ _ _ _ _ _ _ _ _ _ _ _ (iblk m c 3 t) (iblk m c 5 t) (head1 t) (heads t).2 p k 32 (by omega))).trans ?_
    rw [entry_if, at_table, at_bias, dif_neg (by omega), show (⟨r.val - 128, by omega⟩ : Fin 128) = p from Fin.ext (by show r.val - 128 = p.val; omega)]
    rfl
  · obtain ⟨p, q, rfl⟩ : ∃ (p : Fin 128) (q : Fin 256), x = ix2 p q := ⟨x 0, x 1, by funext a; fin_cases a <;> rfl⟩
    have hr : r.val = p.val := hx0
    obtain rfl : k = q := Fin.ext hx1
    refine (masked1 _ _ _).trans ?_
    refine (congrArg (fun e => Scalar.select (k0_pay2 (ix2 p k)) e (⊥ : EReal)) (state1 _ c _ _ _ _ _ _ _ _ _ _ _ _ _ _ _ _ _ _ _ (iblk m c 3 t) (iblk m c 5 t) (head0 t) (heads t).1 p k 32 (by omega))).trans ?_
    rw [entry_if, at_table, at_bias, dif_pos (by omega), show (⟨r.val, by omega⟩ : Fin 128) = p from Fin.ext (by show r.val = p.val; omega)]
    rfl

/-- What every point finds of the biases. -/
theorem bias (c : Dev nD) : ∀ (n : ℕ) (hn : n < cfg0.N) (r k : Fin 256), (outsAt0 m c n hn).2 (ix2 r k)
    = if hr : r.val < 128 then biasAt (m ((c : Thread nD τ).loc main_arg2)) (head0 ⟨n, hn⟩) ⟨r.val, hr⟩ k
      else biasAt (m ((c : Thread nD τ).loc main_arg2)) (head1 ⟨n, hn⟩) ⟨r.val - 128, by omega⟩ k
  | 0, hn, r, k => fill m c ⟨0, hn⟩ rfl r k
  | n + 1, hn, r, k => by
    by_cases h : (n + 1) % 8 = 0
    · exact fill m c ⟨n + 1, hn⟩ h r k
    · refine (congrFun (carB m c ⟨n + 1, hn⟩ h) (ix2 r k)).trans ?_
      refine (bias c n (Nat.lt_of_succ_lt hn) r k).trans ?_
      rw [show head0 ⟨n, Nat.lt_of_succ_lt hn⟩ = head0 ⟨n + 1, hn⟩ from Fin.ext (by show 2 * (n / 8) = 2 * ((n + 1) / 8); omega),
        show head1 ⟨n, Nat.lt_of_succ_lt hn⟩ = head1 ⟨n + 1, hn⟩ from Fin.ext (by show 2 * (n / 8) + 1 = 2 * ((n + 1) / 8) + 1; omega)]

end Cert.WindowForwardIdeal.Point

end

end
-- ==== Proof.WindowForwardArray.lean ====
/- The array that the sliding-window attention returns, at the extended reals, as a function of the arguments. -/
module

public import proofs.«01_k».proof.Proof.Gen.WindowForwardIdeal.Value
public import proofs.«01_k».proof.Proof.WindowForwardPoint
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.WindowForwardIdeal.Array

open Idealize.ShloMosaic.StableHlo Cert.WindowForwardIdeal Cert.WindowForwardIdeal.Gen Cert.WindowForwardIdeal.Value Cert.WindowForwardIdeal.Block Cert.WindowForwardIdeal.Loop Cert.WindowForwardIdeal.Body Cert.WindowForwardIdeal.Point

variable (m : (ℓ : Loc nD τ sig) → Buf (Elt Ideal) ℓ)

/-- The row of key `k` for the query of row `i`: the block before, then the block itself. -/
def krow (i : Fin 4096) (k : Fin 256) : Fin 4096 :=
  if h : k.val < 128 then ⟨(i.val / 128 - 1) * 128 + k.val, by omega⟩ else ⟨i.val / 128 * 128 + (k.val - 128), by omega⟩

/-- The window: the last 128 keys up to the query itself, and no key before the first. -/
def seen (i : Fin 4096) (k : Fin 256) : Prop := i.val % 128 < k.val ∧ k.val ≤ 128 + i.val % 128 ∧ (128 ≤ k.val ∨ 128 ≤ i.val)

instance (i : Fin 4096) (k : Fin 256) : Decidable (seen i k) := by unfold seen; infer_instance

/-- The score of key `k` in head `h`. -/
def score (x : FVec Ideal S4096x2304 .bf16) (rel : Vec Ideal S32x8 .f32) (i : Fin 4096) (h : Fin 8) (k : Fin 256) : EReal :=
  if seen i k then ∑ d : Fin 64, x (ix2 i ⟨1536 + h.val * 64 + d.val, by omega⟩) * Ideal.ofBits .bf16 15872#16
      * x (ix2 (krow i k) ⟨2048 + h.val / 4 * 64 + d.val, by omega⟩)
    + entry rel h (bucketOf (128#32 + BitVec.ofNat 32 (i.val % 128) - BitVec.ofNat 32 k.val)).toNat else ⊥

/-- One lane of one head's attention. -/
def lane (x : FVec Ideal S4096x2304 .bf16) (sinks : Vec Ideal S8 .f32) (rel : Vec Ideal S32x8 .f32) (i : Fin 4096) (h : Fin 8) (d : Fin 64) : EReal :=
  soft (score x rel i h) (sinks (ix1 h)) (fun k => x (ix2 (krow i k) ⟨2176 + h.val / 4 * 64 + d.val, by omega⟩))

/-- The attention of all heads. -/
def attend (x : FVec Ideal S4096x2304 .bf16) (sinks : Vec Ideal S8 .f32) (rel : Vec Ideal S32x8 .f32) : FVec Ideal S4096x512 .bf16 := fun i =>
  lane x sinks rel (i 0) ⟨(i 1).val / 64, by have := (i 1).isLt; change _ < 512 at this; omega⟩ ⟨(i 1).val % 64, by omega⟩

theorem soft_congr {f f' : Fin 256 → EReal} {s s' : EReal} {v v' : Fin 256 → EReal} (hf : ∀ k, f k = f' k) (hs : s = s') (hv : ∀ k, v k = v' k) :
    soft f s v = soft f' s' v' := by
  obtain rfl : f = f' := funext hf
  obtain rfl : v = v' := funext hv
  rw [hs]

theorem halves : ∀ t : Fin cfg0.N, half t = if t.val / 8 < 2 then 0#32 else 1#32 :=
  (by decide +kernel : ∀ t : Fin grid0.N, _)

theorem offsets : ∀ (t : Fin cfg0.N) (r : Fin 4), k0_off3 (grid0.coords t) (BitVec.ofNat 32 r.val) = ![(t.val % 8 * 4 + r.val - 1) * 128, 0]
    ∧ k0_off4 (grid0.coords t) (BitVec.ofNat 32 r.val) = ![(t.val % 8 * 4 + r.val) * 128, 0]
    ∧ Scalar.cmpi .sgt (step t (BitVec.ofNat 32 r.val)) 0#32 = if 0 < t.val % 8 * 4 + r.val then 1#1 else 0#1 :=
  (by decide +kernel : ∀ (t : Fin grid0.N) (r : Fin 4), _)

theorem sinkOffsets : ∀ t : Fin cfg0.N, k0_off5 (grid0.coords t) = ![2 * (t.val / 8)] ∧ k0_off6 (grid0.coords t) = ![2 * (t.val / 8) + 1] :=
  (by decide +kernel : ∀ t : Fin grid0.N, _)

theorem own : ∀ k : Fin 256, IntOp.cmpi .sge (BitVec.ofNat 32 k.val) 128#32 = if 128 ≤ k.val then 1#1 else 0#1 := by decide +kernel

theorem nearWord : ∀ (p : Fin 128) (k : Fin 256),
    IntOp.andi (IntOp.cmpi .sge (IntOp.subi (IntOp.addi 128#32 (BitVec.ofNat 32 p.val)) (BitVec.ofNat 32 k.val)) 0#32)
      (IntOp.cmpi .slt (IntOp.subi (IntOp.addi 128#32 (BitVec.ofNat 32 p.val)) (BitVec.ofNat 32 k.val)) 128#32)
      = if p.val < k.val ∧ k.val ≤ 128 + p.val then 1#1 else 0#1 := by decide +kernel

theorem near (p : Fin 128) (k : Fin 256) : k0_pay2 (ix2 p k) = if p.val < k.val ∧ k.val ≤ 128 + p.val then 1#1 else 0#1 := by
  pointwise [k0_pay2]
  exact nearWord p k

theorem merge_words (P A B : Prop) [Decidable P] [Decidable A] [Decidable B] (s e : EReal) :
    Scalar.select (IntOp.ori (if A then 1#1 else 0#1) (if B then 1#1 else 0#1)) (s + Scalar.select (if P then 1#1 else 0#1) e (⊥ : EReal)) (⊥ : EReal)
      = if P ∧ (A ∨ B) then s + e else ⊥ := by
  by_cases hP : P <;> by_cases hA : A <;> by_cases hB : B <;> simp [hP, hA, hB, Scalar.select, IntOp.ori]

/-- The masks of a score, as one condition. -/
theorem merge (t : Fin cfg0.N) (r : Fin 4) (p : Fin 128) (k : Fin 256) (s e : EReal) :
    Scalar.select (inReach (step t (BitVec.ofNat 32 r.val)) k) (s + Scalar.select (k0_pay2 (ix2 p k)) e (⊥ : EReal)) (⊥ : EReal)
      = if (p.val < k.val ∧ k.val ≤ 128 + p.val) ∧ (128 ≤ k.val ∨ 0 < t.val % 8 * 4 + r.val) then s + e else ⊥ := by
  unfold inReach
  rw [near, own, (offsets t r).2.2]
  exact merge_words _ _ _ s e

/-- The row of query `p` of the point's block `r`. -/
def qrow (t : Fin cfg0.N) (r : Fin 4) (p : Fin 128) : Fin 4096 := row t ⟨128 * r.val + p.val, by omega⟩

theorem qrow_val (t : Fin cfg0.N) (r : Fin 4) (p : Fin 128) : (qrow t r p).val = t.val % 8 * 512 + (128 * r.val + p.val) := rfl

theorem query_at (c : Dev nD) (t : Fin cfg0.N) (r : Fin 4) (hq) (p l : Fin 128) :
    View.ld (iblk m c 0 t) (Rect.unit (s := S512x128) ![128 * r.val, 0] ![128, 128] hq) (ix2 p l) = (m ((c : Thread nD τ).loc main_arg0)) (ix2 (qrow t r p) (col t l)) := by
  refine (View.ld_unit_apply_of (iblk m c 0 t) _ _ hq (ix2 p l) (ix2 ⟨128 * r.val + p.val, by omega⟩ l) fun a => ?_).trans (at_q m c t _ l)
  fin_cases a
  · rfl
  · exact (Nat.zero_add _).symm

theorem key_at (c : Dev nD) (t : Fin cfg0.N) (r : Fin 4) (h3) (h4) (p : Fin 128) (k : Fin 256) (l : Fin 128) :
    pair (View.ld (iblk m c 1 t) (Rect.unit (s := S4096x128) (k0_off3 (grid0.coords t) (BitVec.ofNat 32 r.val)) ![128, 128] h3))
      (View.ld (iblk m c 1 t) (Rect.unit (s := S4096x128) (k0_off4 (grid0.coords t) (BitVec.ofNat 32 r.val)) ![128, 128] h4)) k l
      = (m ((c : Thread nD τ).loc main_arg0)) (ix2 (krow (qrow t r p) k) ⟨2048 + l.val, by omega⟩) := by
  have hq := qrow_val t r p
  unfold pair
  by_cases h : k.val < 128
  · rw [dif_pos h]
    refine (View.ld_unit_apply_of (iblk m c 1 t) _ _ h3 (ix2 ⟨k.val, h⟩ l) (ix2 (krow (qrow t r p) k) l) fun a => ?_).trans (at_k m c t _ l)
    refine Eq.trans ?_ (congrArg (· + _) (congrFun (offsets t r).1 a).symm)
    fin_cases a
    · show (krow (qrow t r p) k).val = (t.val % 8 * 4 + r.val - 1) * 128 + k.val
      unfold krow
      rw [dif_pos h]
      show ((qrow t r p).val / 128 - 1) * 128 + k.val = _
      omega
    · exact (Nat.zero_add _).symm
  · rw [dif_neg h]
    refine (View.ld_unit_apply_of (iblk m c 1 t) _ _ h4 (ix2 ⟨k.val - 128, by omega⟩ l) (ix2 (krow (qrow t r p) k) l) fun a => ?_).trans (at_k m c t _ l)
    refine Eq.trans ?_ (congrArg (· + _) (congrFun (offsets t r).2.1 a).symm)
    fin_cases a
    · show (krow (qrow t r p) k).val = (t.val % 8 * 4 + r.val) * 128 + (k.val - 128)
      unfold krow
      rw [dif_neg h]
      show (qrow t r p).val / 128 * 128 + (k.val - 128) = _
      omega
    · exact (Nat.zero_add _).symm

theorem value_at (c : Dev nD) (t : Fin cfg0.N) (r : Fin 4) (h3) (h4) (p : Fin 128) (k : Fin 256) (l : Fin 128) :
    pair (View.ld (iblk m c 2 t) (Rect.unit (s := S4096x128) (k0_off3 (grid0.coords t) (BitVec.ofNat 32 r.val)) ![128, 128] h3))
      (View.ld (iblk m c 2 t) (Rect.unit (s := S4096x128) (k0_off4 (grid0.coords t) (BitVec.ofNat 32 r.val)) ![128, 128] h4)) k l
      = (m ((c : Thread nD τ).loc main_arg0)) (ix2 (krow (qrow t r p) k) ⟨2176 + l.val, by omega⟩) := by
  have hq := qrow_val t r p
  unfold pair
  by_cases h : k.val < 128
  · rw [dif_pos h]
    refine (View.ld_unit_apply_of (iblk m c 2 t) _ _ h3 (ix2 ⟨k.val, h⟩ l) (ix2 (krow (qrow t r p) k) l) fun a => ?_).trans (at_v m c t _ l)
    refine Eq.trans ?_ (congrArg (· + _) (congrFun (offsets t r).1 a).symm)
    fin_cases a
    · show (krow (qrow t r p) k).val = (t.val % 8 * 4 + r.val - 1) * 128 + k.val
      unfold krow
      rw [dif_pos h]
      show ((qrow t r p).val / 128 - 1) * 128 + k.val = _
      omega
    · exact (Nat.zero_add _).symm
  · rw [dif_neg h]
    refine (View.ld_unit_apply_of (iblk m c 2 t) _ _ h4 (ix2 ⟨k.val - 128, by omega⟩ l) (ix2 (krow (qrow t r p) k) l) fun a => ?_).trans (at_v m c t _ l)
    refine Eq.trans ?_ (congrArg (· + _) (congrFun (offsets t r).2.1 a).symm)
    fin_cases a
    · show (krow (qrow t r p) k).val = (t.val % 8 * 4 + r.val) * 128 + (k.val - 128)
      unfold krow
      rw [dif_neg h]
      show (qrow t r p).val / 128 * 128 + (k.val - 128) = _
      omega
    · exact (Nat.zero_add _).symm

theorem sink0_at (c : Dev nD) (t : Fin cfg0.N) (h) (h1) :
    View.ld (iblk m c 4 t) (Rect.unit (s := S8) (k0_off5 (grid0.coords t)) ![1] h) (Shape.Idx.first h1) = (m ((c : Thread nD τ).loc main_arg1)) (ix1 (head0 t)) := by
  refine (View.ld_unit_apply_of (iblk m c 4 t) _ _ h (Shape.Idx.first h1) (ix1 (head0 t)) fun a => ?_).trans (at_sink m c t _)
  refine Eq.trans ?_ (congrArg (· + _) (congrFun (sinkOffsets t).1 a).symm)
  fin_cases a
  rfl

theorem sink1_at (c : Dev nD) (t : Fin cfg0.N) (h) (h1) :
    View.ld (iblk m c 4 t) (Rect.unit (s := S8) (k0_off6 (grid0.coords t)) ![1] h) (Shape.Idx.first h1) = (m ((c : Thread nD τ).loc main_arg1)) (ix1 (head1 t)) := by
  refine (View.ld_unit_apply_of (iblk m c 4 t) _ _ h (Shape.Idx.first h1) (ix1 (head1 t)) fun a => ?_).trans (at_sink m c t _)
  refine Eq.trans ?_ (congrArg (· + _) (congrFun (sinkOffsets t).2 a).symm)
  fin_cases a
  rfl

theorem low (c : Dev nD) (t : Fin cfg0.N) (p : Fin 128) (k : Fin 256) :
    (outsAt0 m c t.val t.isLt).2 (ix2 ⟨p.val, by omega⟩ k) = biasAt (m ((c : Thread nD τ).loc main_arg2)) (head0 t) p k :=
  (bias m c t.val t.isLt _ k).trans (dif_pos p.isLt)

theorem high (c : Dev nD) (t : Fin cfg0.N) (p : Fin 128) (k : Fin 256) :
    (outsAt0 m c t.val t.isLt).2 (ix2 ⟨128 + p.val, by omega⟩ k) = biasAt (m ((c : Thread nD τ).loc main_arg2)) (head1 t) p k :=
  (bias m c t.val t.isLt _ k).trans ((dif_neg (by show ¬ 128 + p.val < 128; omega)).trans
    (congrArg (biasAt (m ((c : Thread nD τ).loc main_arg2)) (head1 t) · k) (Fin.ext (by show 128 + p.val - 128 = p.val; omega))))

/-- A score off the windows is the score off the arguments. -/
theorem score_at (x : FVec Ideal S4096x2304 .bf16) (rel : Vec Ideal S32x8 .f32) (t : Fin cfg0.N) (r : Fin 4) (p : Fin 128) (k : Fin 256) (h : Fin 8) (s : EReal)
    (hs : s = ∑ d : Fin 64, x (ix2 (qrow t r p) ⟨1536 + h.val * 64 + d.val, by omega⟩) * Ideal.ofBits .bf16 15872#16
      * x (ix2 (krow (qrow t r p) k) ⟨2048 + h.val / 4 * 64 + d.val, by omega⟩)) :
    Scalar.select (inReach (step t (BitVec.ofNat 32 r.val)) k) (s + biasAt rel h p k) (⊥ : EReal) = score x rel (qrow t r p) h k := by
  have hq := qrow_val t r p
  have hm : (qrow t r p).val % 128 = p.val := by omega
  unfold biasAt
  refine (merge t r p k s _).trans ?_
  unfold score
  rw [hm, ← hs]
  have e : ((p.val < k.val ∧ k.val ≤ 128 + p.val) ∧ (128 ≤ k.val ∨ 0 < t.val % 8 * 4 + r.val)) ↔ seen (qrow t r p) k := by
    unfold seen
    rw [hm]
    omega
  by_cases h : seen (qrow t r p) k
  · rw [if_pos h, if_pos (e.mpr h)]
  · rw [if_neg h, if_neg (fun q => h (e.mp q))]

theorem term_congr (x : FVec Ideal S4096x2304 .bf16) (i j : Fin 4096) {a a' b b' : Fin 2304} (ha : a.val = a'.val) (hb : b.val = b'.val) :
    (x (ix2 i a) * Ideal.ofBits .bf16 15872#16 * x (ix2 j b) : EReal) = x (ix2 i a') * Ideal.ofBits .bf16 15872#16 * x (ix2 j b') := by
  obtain rfl := Fin.ext ha
  obtain rfl := Fin.ext hb
  rfl

/-- One block of queries is the attention of its rows. -/
theorem part_at (c : Dev nD) (t : Fin cfg0.N) (r : Fin 4) (hq) (h3) (h4) (p l : Fin 128) :
    part m c t (outsAt0 m c t.val t.isLt).2 (BitVec.ofNat 32 r.val) ![128 * r.val, 0] hq h3 h4 (ix2 p l)
      = lane (m ((c : Thread nD τ).loc main_arg0)) (m ((c : Thread nD τ).loc main_arg1)) (m ((c : Thread nD τ).loc main_arg2)) (qrow t r p) ⟨(t.val / 8 * 128 + l.val) / 64, by have := t.isLt; have : cfg0.N = 32 := N_0; omega⟩
        ⟨(t.val / 8 * 128 + l.val) % 64, by omega⟩ := by
  have ht := t.isLt
  have hN : cfg0.N = 32 := N_0
  unfold part lane
  rw [halves]
  by_cases hh : t.val / 8 < 2
  · rw [if_pos hh]
    refine (block0 _ _ _ _ _ _ _ _ _ p l).trans ?_
    by_cases hl : l.val < 64
    · rw [dif_pos hl, show (⟨(t.val / 8 * 128 + l.val) / 64, by omega⟩ : Fin 8) = head0 t from Fin.ext (by show (t.val / 8 * 128 + l.val) / 64 = 2 * (t.val / 8); omega)]
      refine soft_congr (fun k => ?_) (sink0_at m c t _ _) (fun k => ?_)
      · rw [low m c t p k]
        refine score_at (m ((c : Thread nD τ).loc main_arg0)) (m ((c : Thread nD τ).loc main_arg2)) t r p k (head0 t) _ (Finset.sum_congr rfl fun d _ => ?_)
        rw [query_at, key_at m c t r _ _ p k]
        refine term_congr (m ((c : Thread nD τ).loc main_arg0)) _ _ ?_ ?_
        · show 1536 + t.val / 8 * 128 + d.val = 1536 + (2 * (t.val / 8)) * 64 + d.val
          omega
        · show 2048 + d.val = 2048 + (2 * (t.val / 8)) / 4 * 64 + d.val
          omega
      · refine (value_at m c t r _ _ p k _).trans (congrArg (fun b => (m ((c : Thread nD τ).loc main_arg0)) (ix2 (krow (qrow t r p) k) b)) (Fin.ext ?_))
        show 2176 + l.val = 2176 + (2 * (t.val / 8)) / 4 * 64 + (t.val / 8 * 128 + l.val) % 64
        omega
    · rw [dif_neg hl, show (⟨(t.val / 8 * 128 + l.val) / 64, by omega⟩ : Fin 8) = head1 t from Fin.ext (by show (t.val / 8 * 128 + l.val) / 64 = 2 * (t.val / 8) + 1; omega)]
      refine soft_congr (fun k => ?_) (sink1_at m c t _ _) (fun k => ?_)
      · rw [high m c t p k]
        refine score_at (m ((c : Thread nD τ).loc main_arg0)) (m ((c : Thread nD τ).loc main_arg2)) t r p k (head1 t) _ (Finset.sum_congr rfl fun d _ => ?_)
        rw [query_at, key_at m c t r _ _ p k]
        refine term_congr (m ((c : Thread nD τ).loc main_arg0)) _ _ ?_ ?_
        · show 1536 + t.val / 8 * 128 + (64 + d.val) = 1536 + (2 * (t.val / 8) + 1) * 64 + d.val
          omega
        · show 2048 + d.val = 2048 + (2 * (t.val / 8) + 1) / 4 * 64 + d.val
          omega
      · refine (value_at m c t r _ _ p k _).trans (congrArg (fun b => (m ((c : Thread nD τ).loc main_arg0)) (ix2 (krow (qrow t r p) k) b)) (Fin.ext ?_))
        show 2176 + (l.val - 64) = 2176 + (2 * (t.val / 8) + 1) / 4 * 64 + (t.val / 8 * 128 + l.val) % 64
        omega
  · rw [if_neg hh]
    refine (block1 _ _ _ _ _ _ _ _ _ p l).trans ?_
    by_cases hl : l.val < 64
    · rw [dif_pos hl, show (⟨(t.val / 8 * 128 + l.val) / 64, by omega⟩ : Fin 8) = head0 t from Fin.ext (by show (t.val / 8 * 128 + l.val) / 64 = 2 * (t.val / 8); omega)]
      refine soft_congr (fun k => ?_) (sink0_at m c t _ _) (fun k => ?_)
      · rw [low m c t p k]
        refine score_at (m ((c : Thread nD τ).loc main_arg0)) (m ((c : Thread nD τ).loc main_arg2)) t r p k (head0 t) _ (Finset.sum_congr rfl fun d _ => ?_)
        rw [query_at, key_at m c t r _ _ p k]
        refine term_congr (m ((c : Thread nD τ).loc main_arg0)) _ _ ?_ ?_
        · show 1536 + t.val / 8 * 128 + d.val = 1536 + (2 * (t.val / 8)) * 64 + d.val
          omega
        · show 2048 + (64 + d.val) = 2048 + (2 * (t.val / 8)) / 4 * 64 + d.val
          omega
      · refine (value_at m c t r _ _ p k _).trans (congrArg (fun b => (m ((c : Thread nD τ).loc main_arg0)) (ix2 (krow (qrow t r p) k) b)) (Fin.ext ?_))
        show 2176 + (l.val + 64) = 2176 + (2 * (t.val / 8)) / 4 * 64 + (t.val / 8 * 128 + l.val) % 64
        omega
    · rw [dif_neg hl, show (⟨(t.val / 8 * 128 + l.val) / 64, by omega⟩ : Fin 8) = head1 t from Fin.ext (by show (t.val / 8 * 128 + l.val) / 64 = 2 * (t.val / 8) + 1; omega)]
      refine soft_congr (fun k => ?_) (sink1_at m c t _ _) (fun k => ?_)
      · rw [high m c t p k]
        refine score_at (m ((c : Thread nD τ).loc main_arg0)) (m ((c : Thread nD τ).loc main_arg2)) t r p k (head1 t) _ (Finset.sum_congr rfl fun d _ => ?_)
        rw [query_at, key_at m c t r _ _ p k]
        refine term_congr (m ((c : Thread nD τ).loc main_arg0)) _ _ ?_ ?_
        · show 1536 + t.val / 8 * 128 + (64 + d.val) = 1536 + (2 * (t.val / 8) + 1) * 64 + d.val
          omega
        · show 2048 + (64 + d.val) = 2048 + (2 * (t.val / 8) + 1) / 4 * 64 + d.val
          omega
      · refine (value_at m c t r _ _ p k _).trans (congrArg (fun b => (m ((c : Thread nD τ).loc main_arg0)) (ix2 (krow (qrow t r p) k) b)) (Fin.ext ?_))
        show 2176 + l.val = 2176 + (2 * (t.val / 8) + 1) / 4 * 64 + (t.val / 8 * 128 + l.val) % 64
        omega

theorem settle (c : Dev nD) (t : Fin cfg0.N) (r : Fin 4) (hq) (h3) (h4) (z : S128x128.Idx) (y0 : Fin 512) (y1 : Fin 128)
    (hz0 : y0.val = 128 * r.val + (z 0).val) (hz1 : y1.val = (z 1).val) :
    part m c t (outsAt0 m c t.val t.isLt).2 (BitVec.ofNat 32 r.val) ![128 * r.val, 0] hq h3 h4 z
      = attend (m ((c : Thread nD τ).loc main_arg0)) (m ((c : Thread nD τ).loc main_arg1)) (m ((c : Thread nD τ).loc main_arg2)) (ix2 (row t y0) ⟨t.val / 8 * 128 + y1.val, by have := t.isLt; have : cfg0.N = 32 := N_0; omega⟩) := by
  obtain ⟨p, l, rfl⟩ : ∃ p l : Fin 128, z = ix2 p l := ⟨z 0, z 1, by funext a; fin_cases a <;> rfl⟩
  obtain rfl : y1 = l := Fin.ext hz1
  rw [show y0 = ⟨128 * r.val + p.val, by omega⟩ from Fin.ext hz0]
  exact part_at m c t r hq h3 h4 p y1

theorem final6 (c : Dev nD) : (dats m 0 c).arrAt 6 cfg0.N = attend (m ((c : Thread nD τ).loc main_arg0)) (m ((c : Thread nD τ).loc main_arg1)) (m ((c : Thread nD τ).loc main_arg2)) := by
  refine (dats m 0 c).arrAt_eq_of_covers 6 _ (by decide +kernel) fun t hf y => ?_
  idx_vars y
  blk_simp
  rw [after0_6]
  rw [out m c t]
  canon_tiles x hx
  · refine (settle m c t 3 _ _ _ x y0 y1 hx0 hx1).trans (congrArg _ ?_)
    blk_ext [rows t, Cert.WindowForwardIdeal.Point.row]
  · refine (settle m c t 2 _ _ _ x y0 y1 hx0 hx1).trans (congrArg _ ?_)
    blk_ext [rows t, Cert.WindowForwardIdeal.Point.row]
  · refine (settle m c t 1 _ _ _ x y0 y1 hx0 hx1).trans (congrArg _ ?_)
    blk_ext [rows t, Cert.WindowForwardIdeal.Point.row]
  · refine (settle m c t 0 _ _ _ x y0 y1 (hx0.trans (Nat.zero_add _).symm) hx1).trans (congrArg _ ?_)
    blk_ext [rows t, Cert.WindowForwardIdeal.Point.row]

end Cert.WindowForwardIdeal.Array

end

end
-- ==== Proof.WindowForwardEquation.lean ====
/- The reference's result at the extended reals is the kernel's array. -/
module

public import proofs.«01_k».proof.Defs
public import proofs.«01_k».proof.Proof.WindowForwardArray
public import proofs.«01_k».proof.Proof.NormGradient
public import proofs.«01_k».proof.Proof.Gen.WindowForwardReferenceIdeal.Read
public import proofs.«01_k».proof.Proof.Gen.WindowForwardReferenceIdeal.Run
public import Idealize.ShloMosaic.Lib.Pointwise

@[expose] public section

set_option maxRecDepth 16384

noncomputable section

open Idealize.ShloMosaic Idealize.ShloMosaic.TcCoe Idealize.SL.Sem

namespace Cert.WindowForwardReferenceIdeal.Equation

open Cert.WindowForwardIdeal.Block (soft)
open Cert.WindowForwardIdeal.Loop (entry)
open Cert.WindowForwardIdeal.Point (bucketOf)
open Cert.WindowForwardIdeal.Array (krow seen score lane attend nearWord)
open Cert.WindowForwardReferenceIdeal Cert.WindowForwardReferenceIdeal.Read

variable (x : FVec Ideal S4096x2304 .bf16) (sinks : FVec Ideal S8 .f32) (rel : FVec Ideal S32x8 .f32)

/-! ## The bucket of a distance -/

theorem word_at (p : Fin 128) (k : Fin 256) : val_main_v15 (F := Ideal) (ix2 p k) = 128#32 + BitVec.ofNat 32 p.val - BitVec.ofNat 32 k.val := by
  pointwise [val_main_v7, val_main_v8, val_main_v9, val_main_v10, val_main_v11, val_main_v12, val_main_v13, val_main_v14, val_main_v15, val_main_c]
  rfl

theorem bucket_at (p : Fin 128) (k : Fin 256) :
    val_main_v79 (F := Ideal) (ix2 p k) = bucketOf (128#32 + BitVec.ofNat 32 p.val - BitVec.ofNat 32 k.val) := by
  pointwise [val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16]
  rw [word_at]
  rfl

theorem distance : ∀ (p : Fin 128) (k : Fin 256), p.val < k.val → k.val ≤ 128 + p.val →
    128#32 + BitVec.ofNat 32 p.val - BitVec.ofNat 32 k.val = BitVec.ofNat 32 (128 + p.val - k.val) := by decide +kernel

/-- The bucket of a distance within the window is a row of the table, so the wrapping of negative indices leaves it. -/
theorem bucket_small : ∀ d : Fin 128, (bucketOf (BitVec.ofNat 32 d.val)).toNat < 32
    ∧ Scalar.select (IntOp.cmpi .slt (bucketOf (BitVec.ofNat 32 d.val)) 0#32) (IntOp.addi (bucketOf (BitVec.ofNat 32 d.val)) 32#32) (bucketOf (BitVec.ofNat 32 d.val))
      = bucketOf (BitVec.ofNat 32 d.val) := by decide +kernel

theorem index_at (p : Fin 128) (k : Fin 256) (h1 : p.val < k.val) (h2 : k.val ≤ 128 + p.val) :
    val_main_v85 (F := Ideal) (ix3 p k 0) = bucketOf (BitVec.ofNat 32 (128 + p.val - k.val)) := by
  pointwise [val_main_v80, val_main_v81, val_main_v82, val_main_v83, val_main_v84, val_main_v85, val_main_c_17, val_main_c_18]
  rw [bucket_at, distance p k h1 h2]
  exact (bucket_small ⟨128 + p.val - k.val, by omega⟩).2

/-- The gather takes the row of the table whose number the index is. -/
theorem gather_row (idx : IVec S128x256x1 32) (p : Fin 128) (k : Fin 256) (h : Fin 8) (b : BitVec 32) (hb : b.toNat < 32) (hi : idx (ix3 p k 0) = b) :
    Host.gather gather_S32x8_S128x256x1_S128x256x8_2_0_n_n_0_2_18 rel idx (ix3 p k h) = rel (ix2 ⟨b.toNat, hb⟩ h) := by
  unfold Host.gather
  refine congrArg rel (funext fun a => Fin.ext ?_)
  show GatherDims.start _ (ix3 p k h) idx a + GatherDims.batchCoord _ (ix3 p k h) a + GatherDims.offCoord _ (ix3 p k h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by cases h),
      GatherDims.offCoord_eq_zero _ _ _ (fun h => ((GatherDims.mem_sKept _ _).mp h).1 (List.mem_singleton.mpr rfl))]
    unfold GatherDims.start
    rw [dif_pos (show (0 : Fin 2) ∈ GatherDims.startIndexMap gather_S32x8_S128x256x1_S128x256x8_2_0_n_n_0_2_18 from List.mem_singleton.mpr rfl)]
    have hsi : GatherDims.siIdx gather_S32x8_S128x256x1_S128x256x8_2_0_n_n_0_2_18 (ix3 p k h) ⟨List.idxOf (0 : Fin 2) (GatherDims.startIndexMap gather_S32x8_S128x256x1_S128x256x8_2_0_n_n_0_2_18),
        List.idxOf_lt_length_iff.2 (List.mem_singleton.mpr rfl)⟩ = (ix3 p k 0 : S128x256x1.Idx) := by
      funext b; refine Fin.ext ?_
      match b with
      | ⟨0, _⟩ => rfl
      | ⟨1, _⟩ => rfl
      | ⟨2, _⟩ => rfl
    rw [hsi, hi]
    show min b.toInt.toNat 31 = b.toNat
    rw [BitVec.toInt_eq_toNat_of_lt (by omega)]
    omega
  · rw [GatherDims.batchCoord_eq_zero _ _ _ (fun h => by cases h)]
    unfold GatherDims.start
    rw [dif_neg (by decide)]
    rw [Nat.zero_add]
    rfl

/-- The bias of a pair within the window. -/
theorem gather_at (p : Fin 128) (k : Fin 256) (h : Fin 8) (h1 : p.val < k.val) (h2 : k.val ≤ 128 + p.val) :
    val_main_v86 (F := Ideal) rel (ix3 p k h) = entry rel h (bucketOf (128#32 + BitVec.ofNat 32 p.val - BitVec.ofNat 32 k.val)).toNat := by
  have hs : (bucketOf (BitVec.ofNat 32 (128 + p.val - k.val))).toNat < 32 := (bucket_small ⟨128 + p.val - k.val, by omega⟩).1
  rw [distance p k h1 h2]
  unfold entry val_main_v86
  rw [dif_pos hs]
  exact gather_row rel _ p k h _ hs (index_at p k h1 h2)

/-! ## The scores -/

theorem q_at (i : Fin 4096) (n : Fin 32) (p : Fin 128) (g : Fin 2) (r : Fin 4) (d : Fin 64) (h : Fin 8) (hn : i.val / 128 = n.val) (hp : i.val % 128 = p.val)
    (hh : h.val = g.val * 4 + r.val) : val_main_v89 (F := Ideal) x (ix6 0 n p g r d) = x (ix2 i ⟨1536 + h.val * 64 + d.val, by omega⟩) := by
  pointwise [val_main_v0, val_main_v1, val_main_v4, val_main_v89]
  refine congrArg x (congrArg₂ ix2 (Fin.ext ?_) (Fin.ext ?_))
  · show n.val * 128 + p.val = i.val
    omega
  · show 1536 + ((g.val * 4 + r.val) * 64 + d.val) = 1536 + h.val * 64 + d.val
    rw [hh]
    omega

theorem k_at (n : Fin 32) (k : Fin 256) (g : Fin 2) (d : Fin 64) (i : Fin 4096) (hn : i.val / 128 = n.val) (hs : seen i k) :
    val_main_v97 (F := Ideal) x (ix5 0 n k g d) = x (ix2 (krow i k) ⟨2048 + g.val * 64 + d.val, by omega⟩) := by
  have h3 := hs.2.2
  pointwise [val_main_v0, val_main_v2, val_main_v5, val_main_v90, val_main_v91, val_main_v92, val_main_v95, val_main_v96, val_main_v97]
  unfold krow
  by_cases hk : k.val < 128
  · rw [dif_pos hk, dif_neg (by omega), dif_pos hk]
    refine congrArg x (congrArg₂ ix2 (Fin.ext ?_) (Fin.ext ?_))
    · show n.val * 128 + k.val - 128 = (i.val / 128 - 1) * 128 + k.val
      omega
    · show 2048 + (g.val * 64 + d.val) = 2048 + g.val * 64 + d.val
      omega
  · rw [dif_neg hk, dif_neg (by omega), dif_neg hk]
    refine congrArg x (congrArg₂ ix2 (Fin.ext ?_) (Fin.ext ?_))
    · show (1 + n.val) * 128 + (k.val - 128) - 128 = i.val / 128 * 128 + (k.val - 128)
      omega
    · show 2048 + (g.val * 64 + d.val) = 2048 + g.val * 64 + d.val
      omega

theorem v_at (n : Fin 32) (k : Fin 256) (g : Fin 2) (d : Fin 64) (i : Fin 4096) (hn : i.val / 128 = n.val) (hs : seen i k) :
    val_main_v100 (F := Ideal) x (ix5 0 n k g d) = x (ix2 (krow i k) ⟨2176 + g.val * 64 + d.val, by omega⟩) := by
  have h3 := hs.2.2
  pointwise [val_main_v0, val_main_v3, val_main_v6, val_main_v90, val_main_v93, val_main_v94, val_main_v98, val_main_v99, val_main_v100]
  unfold krow
  by_cases hk : k.val < 128
  · rw [dif_pos hk, dif_neg (by omega), dif_pos hk]
    refine congrArg x (congrArg₂ ix2 (Fin.ext ?_) (Fin.ext ?_))
    · show n.val * 128 + k.val - 128 = (i.val / 128 - 1) * 128 + k.val
      omega
    · show 2176 + (g.val * 64 + d.val) = 2176 + g.val * 64 + d.val
      omega
  · rw [dif_neg hk, dif_neg (by omega), dif_neg hk]
    refine congrArg x (congrArg₂ ix2 (Fin.ext ?_) (Fin.ext ?_))
    · show (1 + n.val) * 128 + (k.val - 128) - 128 = i.val / 128 * 128 + (k.val - 128)
      omega
    · show 2176 + (g.val * 64 + d.val) = 2176 + g.val * 64 + d.val
      omega

theorem scored (n : Fin 32) (g : Fin 2) (r : Fin 4) (p : Fin 128) (k : Fin 256) :
    val_main_v107 (F := Ideal) x rel (ix6 0 n g r p k) = (∑ d : Fin 64, val_main_v97 (F := Ideal) x (ix5 0 n k g d) * val_main_v89 (F := Ideal) x (ix6 0 n p g r d))
        * Ideal.ofBits .f32 1040187392#32 + val_main_v86 (F := Ideal) rel (ix3 p k ⟨g.val * 4 + r.val, by omega⟩) := by
  pointwise [val_main_v101, val_main_v102, val_main_v103, val_main_v104, val_main_v105, val_main_v106, val_main_v107, val_main_cst_19, val_main_v87, val_main_v88]

theorem validWord : ∀ (n : Fin 32) (k : Fin 256),
    IntOp.cmpi .sge (IntOp.addi (IntOp.muli (IntOp.subi (BitVec.ofNat 32 n.val) 1#32) 128#32) (BitVec.ofNat 32 k.val)) 0#32
      = if 128 ≤ k.val ∨ 0 < n.val then 1#1 else 0#1 := by decide +kernel

theorem bottom : Ideal.ofBits .f32 4286578688#32 = ⊥ := by simp [Ideal.ofBits, Ideal.ieee]

theorem both (P Q : Prop) [Decidable P] [Decidable Q] (s : EReal) :
    Scalar.select (IntOp.andi (if P then 1#1 else 0#1) (if Q then 1#1 else 0#1)) s (⊥ : EReal) = if P ∧ Q then s else ⊥ := by
  by_cases hP : P <;> by_cases hQ : Q <;> simp [hP, hQ, Scalar.select, IntOp.andi]

theorem masked (n : Fin 32) (g : Fin 2) (r : Fin 4) (p : Fin 128) (k : Fin 256) :
    val_main_v139 (F := Ideal) x rel (ix6 0 n g r p k) = if (p.val < k.val ∧ k.val ≤ 128 + p.val) ∧ (128 ≤ k.val ∨ 0 < n.val)
      then val_main_v107 (F := Ideal) x rel (ix6 0 n g r p k) else ⊥ := by
  pointwise [val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_c_20, val_main_c_21, val_main_c_22, val_main_c_23, val_main_c_24, val_main_c_25, val_main_cst_26, val_main_call0_v0, val_main_call0_v1, val_main_call0_v2]
  rw [nearWord, validWord]
  refine Eq.trans ?_ (both _ _ _)
  exact congrArg (Scalar.select _ _) bottom

theorem scale_bf16 : Ideal.ofBits .bf16 15872#16 = ((1 / 8 : ℝ) : EReal) := by
  simp [Ideal.ofBits, Ideal.ieee, -EReal.coe_mul]; norm_num

theorem scale_f32 : Ideal.ofBits .f32 1040187392#32 = ((1 / 8 : ℝ) : EReal) := by
  simp [Ideal.ofBits, Ideal.ieee, -EReal.coe_mul]; norm_num

theorem score_at (i : Fin 4096) (n : Fin 32) (g : Fin 2) (r : Fin 4) (p : Fin 128) (h : Fin 8) (hn : i.val / 128 = n.val) (hp : i.val % 128 = p.val) (hh : h.val = g.val * 4 + r.val) (k : Fin 256) :
    val_main_v139 (F := Ideal) x rel (ix6 0 n g r p k) = score x rel i h k := by
  rw [masked]
  have e : ((p.val < k.val ∧ k.val ≤ 128 + p.val) ∧ (128 ≤ k.val ∨ 0 < n.val)) ↔ seen i k := by
    unfold seen
    rw [hp]
    omega
  unfold score
  by_cases hs : seen i k
  · rw [if_pos (e.mpr hs), if_pos hs, scored, gather_at rel p k _ (e.mpr hs).1.1 (e.mpr hs).1.2, hp,
      show (⟨g.val * 4 + r.val, by omega⟩ : Fin 8) = h from Fin.ext hh.symm]
    refine congrArg (· + _) ?_
    rw [scale_f32, scale_bf16, mul_comm, Cert.Norm.coe_mul_sum (by norm_num)]
    refine Finset.sum_congr rfl fun d _ => ?_
    rw [k_at x n k g d i hn hs, q_at x i n p g r d h hn hp hh]
    have hc : (⟨2048 + g.val * 64 + d.val, by omega⟩ : Fin 2304) = ⟨2048 + h.val / 4 * 64 + d.val, by omega⟩ := Fin.ext (by
      show 2048 + g.val * 64 + d.val = 2048 + h.val / 4 * 64 + d.val
      omega)
    rw [hc]
    ac_rfl
  · rw [if_neg (fun h => hs (e.mp h)), if_neg hs]

/-! ## The weights -/

theorem largest (i : Fin 4096) (n : Fin 32) (g : Fin 2) (r : Fin 4) (p : Fin 128) (h : Fin 8) (hn : i.val / 128 = n.val) (hp : i.val % 128 = p.val) (hh : h.val = g.val * 4 + r.val) :
    val_main_v142 (F := Ideal) x rel (ix5 0 n g r p) = Finset.fold max (Ideal.ofBits .f32 4286578688#32) (score x rel i h) Finset.univ := by
  pointwise [val_main_v142, val_main_cst_27]
  refine (Finset.fold_filter_eq_fold_of_fiber max _ (fun k : Fin 256 => (ix6 0 n g r p k : S1x32x2x4x128x256.Idx)) (fun _ _ e => congrFun e 5) (fun z => ?_) _ _).trans ?_
  · constructor
    · intro e
      refine ⟨z 5, ?_⟩
      funext a
      apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => exact (congrArg Fin.val (congrFun e 3)).symm
      | ⟨4, _⟩ => exact (congrArg Fin.val (congrFun e 4)).symm
      | ⟨5, _⟩ => rfl
    · rintro ⟨k, rfl⟩
      funext b
      apply Fin.ext
      match b with
      | ⟨0, _⟩ => rfl
      | ⟨1, _⟩ => rfl
      | ⟨2, _⟩ => rfl
      | ⟨3, _⟩ => rfl
      | ⟨4, _⟩ => rfl
  · exact congrArg (fun f => Finset.fold max _ f Finset.univ) (funext fun k => score_at x rel i n g r p h hn hp hh k)

theorem peak (i : Fin 4096) (n : Fin 32) (g : Fin 2) (r : Fin 4) (p : Fin 128) (h : Fin 8) (hn : i.val / 128 = n.val) (hp : i.val % 128 = p.val) (hh : h.val = g.val * 4 + r.val) :
    val_main_v145 (F := Ideal) x sinks rel (ix6 0 n g r p 0) = max (Finset.fold max (Ideal.ofBits .f32 4286578688#32) (score x rel i h) Finset.univ) (sinks (ix1 h)) := by
  rw [val_main_v145_apply]
  refine congrArg₂ max ?_ ?_
  · rw [val_main_v143_apply, ← largest x rel i n g r p h hn hp hh]
    refine congrArg (val_main_v142 (F := Ideal) x rel) (funext fun a => Fin.ext ?_)
    fin_cases a <;> rfl
  · rw [val_main_v144_apply, val_main_v141_apply, val_main_v140_apply]
    refine congrArg sinks (funext fun a => Fin.ext ?_)
    fin_cases a
    exact hh.symm

theorem grown (i : Fin 4096) (n : Fin 32) (g : Fin 2) (r : Fin 4) (p : Fin 128) (h : Fin 8) (hn : i.val / 128 = n.val) (hp : i.val % 128 = p.val) (hh : h.val = g.val * 4 + r.val) (k : Fin 256) :
    val_main_v148 (F := Ideal) x sinks rel (ix6 0 n g r p k) = Ideal.exp (score x rel i h k - max (Finset.fold max (Ideal.ofBits .f32 4286578688#32) (score x rel i h) Finset.univ) (sinks (ix1 h))) := by
  pointwise [val_main_v146, val_main_v147, val_main_v148]
  rw [peak x sinks rel i n g r p h hn hp hh, score_at x rel i n g r p h hn hp hh]

theorem summed (i : Fin 4096) (n : Fin 32) (g : Fin 2) (r : Fin 4) (p : Fin 128) (h : Fin 8) (hn : i.val / 128 = n.val) (hp : i.val % 128 = p.val) (hh : h.val = g.val * 4 + r.val) :
    val_main_v149 (F := Ideal) x sinks rel (ix5 0 n g r p) = ∑ k : Fin 256, Ideal.exp (score x rel i h k - max (Finset.fold max (Ideal.ofBits .f32 4286578688#32) (score x rel i h) Finset.univ) (sinks (ix1 h))) := by
  rw [val_main_v149_apply]
  refine (congrArg (· + _) Ideal.ofBits_zero_f32).trans ((zero_add _).trans (Finset.sum_congr rfl fun k _ => ?_))
  rw [← grown x sinks rel i n g r p h hn hp hh k]
  refine congrArg (val_main_v148 (F := Ideal) x sinks rel) (funext fun a => Fin.ext ?_)
  fin_cases a <;> rfl

theorem weights (i : Fin 4096) (n : Fin 32) (g : Fin 2) (r : Fin 4) (p : Fin 128) (h : Fin 8) (hn : i.val / 128 = n.val) (hp : i.val % 128 = p.val) (hh : h.val = g.val * 4 + r.val) (k : Fin 256) :
    val_main_v158 (F := Ideal) x sinks rel (ix6 0 n g r p k) = Ideal.exp (score x rel i h k - max (Finset.fold max (Ideal.ofBits .f32 4286578688#32) (score x rel i h) Finset.univ) (sinks (ix1 h)))
      * Ideal.div 1 (∑ y, Ideal.exp (score x rel i h y - max (Finset.fold max (Ideal.ofBits .f32 4286578688#32) (score x rel i h) Finset.univ) (sinks (ix1 h))) + Ideal.exp (sinks (ix1 h) - max (Finset.fold max (Ideal.ofBits .f32 4286578688#32) (score x rel i h) Finset.univ) (sinks (ix1 h)))) := by
  pointwise [val_main_v150, val_main_v151, val_main_v152, val_main_v153, val_main_v154, val_main_v155, val_main_v156, val_main_v157, val_main_v158, val_main_cst_29, val_main_v140, val_main_v141]
  rw [peak x sinks rel i n g r p h hn hp hh, grown x sinks rel i n g r p h hn hp hh, summed x sinks rel i n g r p h hn hp hh, show (⟨g.val * 4 + r.val, by omega⟩ : Fin 8) = h from Fin.ext hh.symm]

/-! ## The result -/

/-- A value counts only where its score is above `-inf`. -/
theorem soft_eq (f : Fin 256 → EReal) (s : EReal) (v w : Fin 256 → EReal) (hv : ∀ k, f k = ⊥ ∨ w k = v k) :
    ∑ k, w k * (Ideal.exp (f k - max (Finset.fold max (Ideal.ofBits .f32 4286578688#32) f Finset.univ) s)
      * Ideal.div 1 (∑ y, Ideal.exp (f y - max (Finset.fold max (Ideal.ofBits .f32 4286578688#32) f Finset.univ) s)
        + Ideal.exp (s - max (Finset.fold max (Ideal.ofBits .f32 4286578688#32) f Finset.univ) s))) = soft f s v := by
  unfold soft
  refine Finset.sum_congr rfl fun k _ => ?_
  rw [mul_comm (w k)]
  rcases hv k with h | h
  · rw [h, sub_eq_add_neg, EReal.bot_add, show Ideal.exp (⊥ : EReal) = 0 from rfl, zero_mul, zero_mul, zero_mul]
  · rw [h]

theorem attend_eq : val_main_v163 (F := Ideal) x sinks rel = attend x sinks rel := by
  refine funext fun (z : S4096x512.Idx) => ?_
  obtain ⟨i, c, rfl⟩ : ∃ (i : Fin 4096) (c : Fin 512), z = ix2 i c := ⟨z 0, z 1, by funext a; fin_cases a <;> rfl⟩
  have e : val_main_v163 (F := Ideal) x sinks rel (ix2 i c) = ∑ k : Fin 256, val_main_v100 (F := Ideal) x (ix5 0 ⟨i.val / 128, by omega⟩ k ⟨c.val / 256, by omega⟩ ⟨c.val % 64, by omega⟩)
      * val_main_v158 (F := Ideal) x sinks rel (ix6 0 ⟨i.val / 128, by omega⟩ ⟨c.val / 256, by omega⟩ ⟨c.val / 64 % 4, by omega⟩ ⟨i.val % 128, by omega⟩ k) := by
    pointwise [val_main_v159, val_main_v160, val_main_v161, val_main_v162, val_main_v163]
  rw [e]
  have hh : c.val / 64 = c.val / 256 * 4 + c.val / 64 % 4 := by omega
  refine (Finset.sum_congr rfl fun k _ => congrArg (_ * ·) (weights x sinks rel i ⟨i.val / 128, by omega⟩ ⟨c.val / 256, by omega⟩ ⟨c.val / 64 % 4, by omega⟩ ⟨i.val % 128, by omega⟩
    ⟨c.val / 64, by omega⟩ rfl rfl hh k)).trans ?_
  refine soft_eq (score x rel i ⟨c.val / 64, by omega⟩) (sinks (ix1 ⟨c.val / 64, by omega⟩)) (fun k => x (ix2 (krow i k) ⟨2176 + c.val / 64 / 4 * 64 + c.val % 64, by omega⟩)) _ fun k => ?_
  by_cases hs : seen i k
  · right
    rw [v_at x ⟨i.val / 128, by omega⟩ k ⟨c.val / 256, by omega⟩ ⟨c.val % 64, by omega⟩ i rfl hs]
    refine congrArg x (congrArg (ix2 _) (Fin.ext ?_))
    show 2176 + c.val / 256 * 64 + c.val % 64 = 2176 + c.val / 64 / 4 * 64 + c.val % 64
    omega
  · left
    unfold score
    exact if_neg hs

end Cert.WindowForwardReferenceIdeal.Equation

namespace Cert.Proof

theorem windowForward_algebraic : Cert.algebraic_WindowForwardIdeal_WindowForwardReferenceIdeal := by
  pair_intro
  · run_from Cert.WindowForwardIdeal.Value.run_blocks m g
  · run_from Cert.WindowForwardReferenceIdeal.Value.run m' g'
    · rw [Cert.WindowForwardIdeal.Array.final6]
      obtain ⟨h0, h1, h2⟩ := hagree c
      refine (Cert.WindowForwardReferenceIdeal.Read.val_main_v163_eq (StableHlo.launchContents m' c)).trans ?_
      refine (Cert.WindowForwardReferenceIdeal.Equation.attend_eq _ _ _).trans ?_
      rw [← h0, ← h1, ← h2]

theorem windowForward_reference_frame : Cert.quiescent_WindowForwardReferenceIdeal := fun m ρ _ =>
  (θ_run Cert.WindowForwardReferenceIdeal.defs _ _).mono (fun r h => ⟨fun c => (h c).2,
      Idealize.ShloMosaic.sem_eq_zero_of_no_sems (by decide) r.2⟩)
    (Cert.WindowForwardReferenceIdeal.Value.run (F := Ideal) m ρ)

end Cert.Proof

end
-- ==== Proof.FfOutForwardArray.lean ====
/- The array that the MLP's second product returns, at the extended reals, as a function of the arguments. -/
module

public import proofs.«01_k».proof.Proof.Gen.FfOutForwardIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.FfOutForwardIdeal.Array

open Idealize.ShloMosaic.StableHlo Cert.FfOutForwardIdeal Cert.FfOutForwardIdeal.Gen Cert.FfOutForwardIdeal.Value

variable (m : (ℓ : Loc nD τ sig) → Buf (Elt Ideal) ℓ)

/-- The squared positive part. -/
def act (u : FVec Ideal S4096x4096 .f32) : FVec Ideal S4096x4096 .bf16 := fun i => (max (u i) 0 * max (u i) 0 : EReal)

/-- The sum of the argument and the product. -/
def out (u : FVec Ideal S4096x4096 .f32) (x w : FVec Ideal S4096x1024 .f32) : FVec Ideal S4096x1024 .f32 := fun i =>
  (x i + ∑ k : Fin 4096, act u (ix2 (i 0) k) * w (ix2 k (i 1)) : EReal)

theorem V_a (c : Dev nD) : V m c main_v2
    = act (m ((c : Thread nD τ).loc main_arg0)) := by
  unfold V
  simp only [hostOps0, hostOps0_1, List.flatten_cons, List.flatten_nil, List.append_nil, List.cons_append,
    List.nil_append, TRef.binary, TRef.nullary, TRef.unary, TRef.toBuf, TRef.ofBuf, cast_eq]
  after_results
  refine funext fun (i : S4096x4096.Idx) => ?_
  pointwise [act]

theorem V_w (c : Dev nD) : V m c main_v3
    = ((fun i : S4096x1024.Idx => m ((c : Thread nD τ).loc main_arg2) i) : FVec Ideal S4096x1024 .bf16) := by
  unfold V
  simp only [hostOps0, hostOps0_1, List.flatten_cons, List.flatten_nil, List.append_nil, List.cons_append,
    List.nil_append, TRef.binary, TRef.nullary, TRef.unary, TRef.toBuf, TRef.ofBuf, cast_eq]
  after_results
  refine funext fun (i : S4096x1024.Idx) => ?_
  pointwise

theorem V_x (c : Dev nD) : V m c main_arg1
    = m ((c : Thread nD τ).loc main_arg1) := by
  unfold V
  simp only [hostOps0, hostOps0_1, List.flatten_cons, List.flatten_nil, List.append_nil, List.cons_append,
    List.nil_append, TRef.binary, TRef.nullary, TRef.unary, TRef.toBuf, TRef.ofBuf, cast_eq]
  after_results

theorem rows : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- Row `p` of the block at point `t`. -/
def row (t : Fin cfg0.N) (p : Fin 512) : Fin 4096 := ⟨t.val * 512 + p.val, by have := t.isLt; have : cfg0.N = 8 := N_0; omega⟩

theorem at_a (c : Dev nD) (t : Fin cfg0.N) (p : Fin 512) (k : Fin 4096) : iblk m c 0 t (ix2 p k)
    = (act (m ((c : Thread nD τ).loc main_arg0))) (ix2 (row t p) k) := by
  refine (congrFun (V_a m c) _).trans ?_
  blk_point [iblk, V_a, rows t, row]

theorem at_x (c : Dev nD) (t : Fin cfg0.N) (p : Fin 512) (k : Fin 1024) : iblk m c 1 t (ix2 p k)
    = (m ((c : Thread nD τ).loc main_arg1)) (ix2 (row t p) k) := by
  refine (congrFun (V_x m c) _).trans ?_
  blk_point [iblk, V_x, rows t, row]

theorem at_w (c : Dev nD) (t : Fin cfg0.N) (k : Fin 4096) (j : Fin 1024) : iblk m c 2 t (ix2 k j)
    = (m ((c : Thread nD τ).loc main_arg2)) (ix2 k j) := by
  refine (congrFun (V_w m c) _).trans ?_
  blk_point [iblk, V_w, rows t, row]

/-- What the body leaves. -/
theorem out_at (c : Dev nD) (t : Fin cfg0.N) (p : Fin 512) (j : Fin 1024) :
    k0_pay1 (iblk m c 1 t) (iblk m c 0 t) (iblk m c 2 t) (ix2 p j)
      = out (m ((c : Thread nD τ).loc main_arg0)) (m ((c : Thread nD τ).loc main_arg1)) (m ((c : Thread nD τ).loc main_arg2)) (ix2 (row t p) j) := by
  unfold k0_pay1 out
  pointwise
  simp only [at_a, at_w, at_x]

theorem final3 (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  idx_vars y
  blk_simp
  rw [after0_3]
  frame_out
  refine (out_at m c t y0 y1).trans (congrArg _ ?_)
  blk_ext [rows t, row]

end Cert.FfOutForwardIdeal.Array

end
-- ==== Proof.FfOutForwardEquation.lean ====
/- The reference's result at the extended reals is the kernel's array. -/
module

public import proofs.«01_k».proof.Defs
public import proofs.«01_k».proof.Proof.FfOutForwardArray
public import proofs.«01_k».proof.Proof.Gen.FfOutForwardReferenceIdeal.Read
public import proofs.«01_k».proof.Proof.Gen.FfOutForwardReferenceIdeal.Run

@[expose] public section

set_option maxRecDepth 16384

noncomputable section

open Idealize.ShloMosaic Idealize.ShloMosaic.TcCoe Idealize.SL.Sem

namespace Cert.FfOutForwardReferenceIdeal.Equation

open Cert.FfOutForwardIdeal.Array (act out)
open Cert.FfOutForwardReferenceIdeal Cert.FfOutForwardReferenceIdeal.Read

/-- The sum of the argument and the product. -/
theorem out_eq (u : FVec Ideal S4096x4096 .f32) (x w : FVec Ideal S4096x1024 .f32) :
    val_main_v3 (F := Ideal) u x w = out u x w := by
  funext i
  pointwise [
    val_main_call0_cst, val_main_call0_v0, val_main_v0, val_main_v1, val_main_v2, val_main_v3, out, act]

end Cert.FfOutForwardReferenceIdeal.Equation

namespace Cert.Proof

theorem ffOutForward_algebraic : Cert.algebraic_FfOutForwardIdeal_FfOutForwardReferenceIdeal := by
  pair_intro
  · run_from Cert.FfOutForwardIdeal.Value.run_blocks m g
  · run_from Cert.FfOutForwardReferenceIdeal.Value.run m' g'
    · rw [Cert.FfOutForwardIdeal.Array.final3]
      exact (Cert.FfOutForwardReferenceIdeal.Read.val_main_v3_eq _ _ _).trans
        (Cert.FfOutForwardReferenceIdeal.Equation.out_eq _ _ _)

theorem ffOutForward_reference_frame : Cert.quiescent_FfOutForwardReferenceIdeal := fun m ρ _ =>
  (θ_run Cert.FfOutForwardReferenceIdeal.defs _ _).mono (fun r h => ⟨fun c => (h c).2,
      Idealize.ShloMosaic.sem_eq_zero_of_no_sems (by decide) r.2⟩)
    (Cert.FfOutForwardReferenceIdeal.Value.run (F := Ideal) m ρ)

end Cert.Proof

end
-- ==== Proof.EmbedForwardArray.lean ====
/- The arrays that the gated embedding returns, at the extended reals, as functions of the arguments. -/
module

public import proofs.«01_k».proof.Proof.Gen.EmbedForwardIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.EmbedForwardIdeal.Array

open Idealize.ShloMosaic.StableHlo Cert.EmbedForwardIdeal Cert.EmbedForwardIdeal.Gen Cert.EmbedForwardIdeal.Value

variable (m : (ℓ : Loc nD τ sig) → Buf (Elt Ideal) ℓ)

/-- The logistic function as the kernel computes it. -/
def sigm (x : EReal) : EReal := Ideal.div 1 (1 + Ideal.exp (-x))

/-- Column `j` of the weight's block `s`. -/
def col (s : Fin 4) (j : Fin 256) : Fin 1024 := ⟨s.val * 256 + j.val, by omega⟩

theorem col_of (s : Fin 4) (j : Fin 1024) {n : ℕ} {h : n < 256} (e : s.val * 256 + n = j.val) : col s ⟨n, h⟩ = j := Fin.ext e

/-- A value read off the column's block is the value at the column. -/
theorem ladder (F : Fin 1024 → EReal) (j : Fin 1024) :
    (if h : j.val < 256 then F (col 0 ⟨j.val, h⟩)
      else if h : j.val - 256 < 256 then F (col 1 ⟨j.val - 256, h⟩)
      else if h : j.val - 256 - 256 < 256 then F (col 2 ⟨j.val - 256 - 256, h⟩)
      else F (col 3 ⟨j.val - 256 - 256 - 256, by omega⟩)) = F j := by
  by_cases h0 : j.val < 256
  · rw [dif_pos h0, col_of 0 j]
    show 0 * 256 + j.val = j.val; omega
  by_cases h1 : j.val - 256 < 256
  · rw [dif_neg h0, dif_pos h1, col_of 1 j]
    show 1 * 256 + (j.val - 256) = j.val; omega
  by_cases h2 : j.val - 256 - 256 < 256
  · rw [dif_neg h0, dif_neg h1, dif_pos h2, col_of 2 j]
    show 2 * 256 + (j.val - 256 - 256) = j.val; omega
  rw [dif_neg h0, dif_neg h1, dif_neg h2, col_of 3 j]
  show 3 * 256 + (j.val - 256 - 256 - 256) = j.val; omega

/-- The reciprocal root of a row's mean square. -/
def root (x : FVec Ideal S4096x1024 .f32) (i : Fin 4096) : EReal :=
  Ideal.rsqrt (Ideal.div (∑ k : Fin 1024, x (ix2 i k) * x (ix2 i k)) (Ideal.ofBits .f32 0x44800000#32)
    + Ideal.ofBits .f32 0x358637BD#32)

/-- The norm's result. -/
def normed (x : FVec Ideal S4096x1024 .f32) (g : FVec Ideal S1024 .f32) : FVec Ideal S4096x1024 .bf16 := fun i =>
  (x i * root x (i 0) * g (ix1 (i 1)) : EReal)

/-- The rounded argument holds the same numbers. -/
def rounded (p : FVec Ideal S4096x256 .f32) : FVec Ideal S4096x256 .bf16 := fun i => (p i : EReal)

/-- The embedding. -/
def emb (p : FVec Ideal S4096x256 .f32) (w : FVec Ideal S256x1024 .f32) : FVec Ideal S4096x1024 .f32 := fun i =>
  (∑ k : Fin 256, p (ix2 (i 0) k) * w (ix2 k (i 1)) : EReal)

/-- The gate. -/
def gate (x : FVec Ideal S4096x1024 .f32) (g : FVec Ideal S1024 .f32) (w : FVec Ideal S1024x1024 .f32) :
    FVec Ideal S4096x1024 .f32 := fun i => (∑ k : Fin 1024, normed x g (ix2 (i 0) k) * w (ix2 k (i 1)) : EReal)

/-- The argument plus the gated embedding. -/
def out (p : FVec Ideal S4096x256 .f32) (x : FVec Ideal S4096x1024 .f32) (g : FVec Ideal S1024 .f32)
    (w : FVec Ideal S256x1024 .f32) (v : FVec Ideal S1024x1024 .f32) : FVec Ideal S4096x1024 .f32 := fun i =>
  (x i + emb p w i * sigm (gate x g v i) : EReal)

theorem V_gain (c : Dev nD) : V m c main_v0
    = ((fun i : S1x1024.Idx => m ((c : Thread nD τ).loc main_arg2) (ix1 (i 1))) : FVec Ideal S1x1024 .f32) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S1x1024.Idx) => ?_
  pointwise

theorem V_w (c : Dev nD) : V m c main_v3
    = ((fun i : S4x256x256.Idx => m ((c : Thread nD τ).loc main_arg3) (ix2 (i 1) (col (i 0) (i 2)))) : FVec Ideal S4x256x256 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S4x256x256.Idx) => ?_
  pointwise [col]

theorem V_v (c : Dev nD) : V m c main_v4
    = ((fun i : S1024x1024.Idx => m ((c : Thread nD τ).loc main_arg4) i) : FVec Ideal S1024x1024 .bf16) := by
  unfold V
  simp only [hostOps0, List.flatten_cons, List.flatten_nil, List.append_nil, List.cons_append,
    List.nil_append, TRef.binary, TRef.nullary, TRef.unary, TRef.toBuf, TRef.ofBuf, cast_eq]
  after_results
  refine funext fun (i : S1024x1024.Idx) => ?_
  pointwise

theorem V_p (c : Dev nD) : V m c main_arg0
    = m ((c : Thread nD τ).loc main_arg0) := by
  unfold V
  simp only [hostOps0, List.flatten_cons, List.flatten_nil, List.append_nil, List.cons_append,
    List.nil_append, TRef.binary, TRef.nullary, TRef.unary, TRef.toBuf, TRef.ofBuf, cast_eq]
  after_results

theorem V_x (c : Dev nD) : V m c main_arg1
    = m ((c : Thread nD τ).loc main_arg1) := by
  unfold V
  simp only [hostOps0, List.flatten_cons, List.flatten_nil, List.append_nil, List.cons_append,
    List.nil_append, TRef.binary, TRef.nullary, TRef.unary, TRef.toBuf, TRef.ofBuf, cast_eq]
  after_results

theorem rows : ∀ t : Fin cfg0.N, win0_0.index t = ![t.val, 0] ∧ win0_1.index t = ![t.val, 0] ∧ win0_2.index t = ![0, 0] ∧ win0_3.index t = ![0, 0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

/-- Row `p` of the block at point `t`. -/
def row (t : Fin cfg0.N) (p : Fin 512) : Fin 4096 := ⟨t.val * 512 + p.val, by have := t.isLt; have : cfg0.N = 8 := N_0; omega⟩

theorem at_p (c : Dev nD) (t : Fin cfg0.N) (p : Fin 512) (k : Fin 256) : iblk m c 0 t (ix2 p k)
    = (m ((c : Thread nD τ).loc main_arg0)) (ix2 (row t p) k) := by
  refine (congrFun (V_p m c) _).trans ?_
  blk_point [iblk, V_p, rows t, row]

theorem at_x (c : Dev nD) (t : Fin cfg0.N) (p : Fin 512) (k : Fin 1024) : iblk m c 1 t (ix2 p k)
    = (m ((c : Thread nD τ).loc main_arg1)) (ix2 (row t p) k) := by
  refine (congrFun (V_x m c) _).trans ?_
  blk_point [iblk, V_x, rows t, row]

theorem at_gain (c : Dev nD) (t : Fin cfg0.N) (p : Fin 1) (k : Fin 1024) : iblk m c 2 t (ix2 p k)
    = (m ((c : Thread nD τ).loc main_arg2)) (ix1 k) := by
  refine (congrFun (V_gain m c) _).trans ?_
  blk_point [iblk, V_gain, rows t, row]

theorem at_w (c : Dev nD) (t : Fin cfg0.N) (s : Fin 4) (k j : Fin 256) : iblk m c 3 t (ix3 s k j)
    = (m ((c : Thread nD τ).loc main_arg3)) (ix2 k (col s j)) := by
  refine (congrFun (V_w m c) _).trans ?_
  blk_point [iblk, V_w, rows t, row, col]

theorem at_v (c : Dev nD) (t : Fin cfg0.N) (k j : Fin 1024) : iblk m c 4 t (ix2 k j)
    = (m ((c : Thread nD τ).loc main_arg4)) (ix2 k j) := by
  refine (congrFun (V_v m c) _).trans ?_
  blk_point [iblk, V_v, rows t, row]

/-- What the body leaves of the rounded argument. -/
theorem rounded_at (c : Dev nD) (t : Fin cfg0.N) (p : Fin 512) (j : Fin 256) :
    k0_pay4 (iblk m c 0 t) (ix2 p j)
      = rounded (m ((c : Thread nD τ).loc main_arg0)) (ix2 (row t p) j) := by
  unfold k0_pay4 rounded
  pointwise
  simp only [at_p]

/-- What the body leaves of the embedding. -/
theorem emb_at (c : Dev nD) (t : Fin cfg0.N) (p : Fin 512) (j : Fin 1024) :
    k0_pay5 (iblk m c 0 t)
        (View.ld (iblk m c 3 t) (Rect.unit ![0, 0, 0] ![1, 256, 256] inb_S4x256x256_S1x256x256_0_0_0))
        (View.ld (iblk m c 3 t) (Rect.unit ![1, 0, 0] ![1, 256, 256] inb_S4x256x256_S1x256x256_1_0_0))
        (View.ld (iblk m c 3 t) (Rect.unit ![2, 0, 0] ![1, 256, 256] inb_S4x256x256_S1x256x256_2_0_0))
        (View.ld (iblk m c 3 t) (Rect.unit ![3, 0, 0] ![1, 256, 256] inb_S4x256x256_S1x256x256_3_0_0)) (ix2 p j)
      = emb (m ((c : Thread nD τ).loc main_arg0)) (m ((c : Thread nD τ).loc main_arg3)) (ix2 (row t p) j) := by
  unfold k0_pay5 k0_pay4 emb
  pointwise
  simp only [at_p, at_w]
  exact ladder (fun q => emb (m ((c : Thread nD τ).loc main_arg0)) (m ((c : Thread nD τ).loc main_arg3)) (ix2 (row t p) q)) j

/-- What the body leaves of the norm. -/
theorem norm_at (c : Dev nD) (t : Fin cfg0.N) (p : Fin 512) (j : Fin 1024) :
    k0_pay1 (k0_pay6 (iblk m c 1 t) (iblk m c 2 t)) (ix2 p j)
      = normed (m ((c : Thread nD τ).loc main_arg1)) (m ((c : Thread nD τ).loc main_arg2)) (ix2 (row t p) j) := by
  unfold k0_pay1 k0_pay6 normed root
  pointwise
  simp only [at_x, at_gain]

/-- What the body leaves of the gate. -/
theorem gate_at (c : Dev nD) (t : Fin cfg0.N) (p : Fin 512) (j : Fin 1024) :
    k0_pay2 (k0_pay6 (iblk m c 1 t) (iblk m c 2 t)) (iblk m c 4 t) (ix2 p j)
      = gate (m ((c : Thread nD τ).loc main_arg1)) (m ((c : Thread nD τ).loc main_arg2)) (m ((c : Thread nD τ).loc main_arg4)) (ix2 (row t p) j) := by
  unfold k0_pay2 gate
  pointwise
  simp only [norm_at, at_v]

/-- What the body leaves of the sum. -/
theorem out_at (c : Dev nD) (t : Fin cfg0.N) (p : Fin 512) (j : Fin 1024) :
    k0_pay3 (k0_pay5 (iblk m c 0 t)
        (View.ld (iblk m c 3 t) (Rect.unit ![0, 0, 0] ![1, 256, 256] inb_S4x256x256_S1x256x256_0_0_0))
        (View.ld (iblk m c 3 t) (Rect.unit ![1, 0, 0] ![1, 256, 256] inb_S4x256x256_S1x256x256_1_0_0))
        (View.ld (iblk m c 3 t) (Rect.unit ![2, 0, 0] ![1, 256, 256] inb_S4x256x256_S1x256x256_2_0_0))
        (View.ld (iblk m c 3 t) (Rect.unit ![3, 0, 0] ![1, 256, 256] inb_S4x256x256_S1x256x256_3_0_0)))
        (iblk m c 1 t) (k0_pay6 (iblk m c 1 t) (iblk m c 2 t)) (iblk m c 4 t) (ix2 p j)
      = out (m ((c : Thread nD τ).loc main_arg0)) (m ((c : Thread nD τ).loc main_arg1)) (m ((c : Thread nD τ).loc main_arg2)) (m ((c : Thread nD τ).loc main_arg3)) (m ((c : Thread nD τ).loc main_arg4)) (ix2 (row t p) j) := by
  unfold k0_pay3 out sigm
  pointwise
  simp only [gate_at, emb_at, at_x, zero_sub]

theorem final5 (c : Dev nD) : (dats m 0 c).arrAt 5 cfg0.N
    = rounded (m ((c : Thread nD τ).loc main_arg0)) := by
  refine (dats m 0 c).arrAt_eq_of_covers 5 _ (by decide +kernel) fun t hf y => ?_
  idx_vars y
  blk_simp
  rw [after0_5]
  unfold_out out0_5
  frame_out
  refine (rounded_at m c t y0 y1).trans (congrArg _ ?_)
  blk_ext [rows t, row]

theorem final6 (c : Dev nD) : (dats m 0 c).arrAt 6 cfg0.N
    = normed (m ((c : Thread nD τ).loc main_arg1)) (m ((c : Thread nD τ).loc main_arg2)) := by
  refine (dats m 0 c).arrAt_eq_of_covers 6 _ (by decide +kernel) fun t hf y => ?_
  idx_vars y
  blk_simp
  rw [after0_6]
  unfold_out out0_6
  frame_out
  refine (norm_at m c t y0 y1).trans (congrArg _ ?_)
  blk_ext [rows t, row]

theorem final7 (c : Dev nD) : (dats m 0 c).arrAt 7 cfg0.N
    = emb (m ((c : Thread nD τ).loc main_arg0)) (m ((c : Thread nD τ).loc main_arg3)) := by
  refine (dats m 0 c).arrAt_eq_of_covers 7 _ (by decide +kernel) fun t hf y => ?_
  idx_vars y
  blk_simp
  rw [after0_7]
  unfold_out out0_7
  frame_out
  refine (emb_at m c t y0 y1).trans (congrArg _ ?_)
  blk_ext [rows t, row]

theorem final8 (c : Dev nD) : (dats m 0 c).arrAt 8 cfg0.N
    = gate (m ((c : Thread nD τ).loc main_arg1)) (m ((c : Thread nD τ).loc main_arg2)) (m ((c : Thread nD τ).loc main_arg4)) := by
  refine (dats m 0 c).arrAt_eq_of_covers 8 _ (by decide +kernel) fun t hf y => ?_
  idx_vars y
  blk_simp
  rw [after0_8]
  unfold_out out0_8
  frame_out
  refine (gate_at m c t y0 y1).trans (congrArg _ ?_)
  blk_ext [rows t, row]

theorem final9 (c : Dev nD) : (dats m 0 c).arrAt 9 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  idx_vars y
  blk_simp
  rw [after0_9]
  unfold_out out0_9
  frame_out
  refine (out_at m c t y0 y1).trans (congrArg _ ?_)
  blk_ext [rows t, row]

end Cert.EmbedForwardIdeal.Array

end
-- ==== Proof.EmbedForwardEquation.lean ====
/- The reference's results at the extended reals are the kernel's arrays. -/
module

public import proofs.«01_k».proof.Defs
public import proofs.«01_k».proof.Proof.EmbedForwardArray
public import proofs.«01_k».proof.Proof.Gen.EmbedForwardReferenceIdeal.Read
public import proofs.«01_k».proof.Proof.Gen.EmbedForwardReferenceIdeal.Run

@[expose] public section

set_option maxRecDepth 16384

noncomputable section

open Idealize.ShloMosaic Idealize.ShloMosaic.TcCoe Idealize.SL.Sem

namespace Cert.EmbedForwardReferenceIdeal.Equation

open Cert.EmbedForwardIdeal.Array (sigm root normed rounded emb gate out)
open Cert.EmbedForwardReferenceIdeal Cert.EmbedForwardReferenceIdeal.Read

/-- The rounded argument. -/
theorem rounded_eq (p : FVec Ideal S4096x256 .f32) :
    val_main_v15 (F := Ideal) p = rounded p := by
  funext i
  pointwise [
    val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_v17, val_main_v18, val_main_cst_2, val_main_v19,
    val_main_v20, val_main_cst_3, val_main_v21, val_main_v22, val_main_v23, val_main_v24, rounded]

/-- The norm. -/
theorem norm_eq (x : FVec Ideal S4096x1024 .f32) (g : FVec Ideal S1024 .f32) :
    val_main_v16 (F := Ideal) x g = normed x g := by
  funext i
  pointwise [
    val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_v17, val_main_v18, val_main_cst_2, val_main_v19,
    val_main_v20, val_main_cst_3, val_main_v21, val_main_v22, val_main_v23, val_main_v24, normed, root]

/-- The embedding. -/
theorem emb_eq (p : FVec Ideal S4096x256 .f32) (w : FVec Ideal S256x1024 .f32) :
    val_main_v0 (F := Ideal) p w = emb p w := by
  funext i
  pointwise [
    val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_v17, val_main_v18, val_main_cst_2, val_main_v19,
    val_main_v20, val_main_cst_3, val_main_v21, val_main_v22, val_main_v23, val_main_v24, emb]

/-- The gate. -/
theorem gate_eq (x : FVec Ideal S4096x1024 .f32) (g : FVec Ideal S1024 .f32) (v : FVec Ideal S1024x1024 .f32) :
    val_main_v14 (F := Ideal) x g v = gate x g v := by
  funext i
  pointwise [
    val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_v17, val_main_v18, val_main_cst_2, val_main_v19,
    val_main_v20, val_main_cst_3, val_main_v21, val_main_v22, val_main_v23, val_main_v24, gate, normed, root]

/-- The argument plus the gated embedding. -/
theorem out_eq (p : FVec Ideal S4096x256 .f32) (x : FVec Ideal S4096x1024 .f32) (g : FVec Ideal S1024 .f32) (w : FVec Ideal S256x1024 .f32) (v : FVec Ideal S1024x1024 .f32) :
    val_main_v24 (F := Ideal) p x g w v = out p x g w v := by
  funext i
  pointwise [
    val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_v17, val_main_v18, val_main_cst_2, val_main_v19,
    val_main_v20, val_main_cst_3, val_main_v21, val_main_v22, val_main_v23, val_main_v24, out, emb, gate, sigm,
    normed, root]

end Cert.EmbedForwardReferenceIdeal.Equation

namespace Cert.Proof

theorem embedForward_algebraic : Cert.algebraic_EmbedForwardIdeal_EmbedForwardReferenceIdeal := by
  pair_intro
  · run_from Cert.EmbedForwardIdeal.Value.run_blocks m g
  · run_from Cert.EmbedForwardReferenceIdeal.Value.run m' g'
    · rw [Cert.EmbedForwardIdeal.Array.final5]
      exact (Cert.EmbedForwardReferenceIdeal.Read.val_main_v15_eq _).trans
        (Cert.EmbedForwardReferenceIdeal.Equation.rounded_eq _)
    · rw [Cert.EmbedForwardIdeal.Array.final6]
      exact (Cert.EmbedForwardReferenceIdeal.Read.val_main_v16_eq _ _).trans
        (Cert.EmbedForwardReferenceIdeal.Equation.norm_eq _ _)
    · rw [Cert.EmbedForwardIdeal.Array.final7]
      exact (Cert.EmbedForwardReferenceIdeal.Read.val_main_v0_eq _ _).trans
        (Cert.EmbedForwardReferenceIdeal.Equation.emb_eq _ _)
    · rw [Cert.EmbedForwardIdeal.Array.final8]
      exact (Cert.EmbedForwardReferenceIdeal.Read.val_main_v14_eq _ _ _).trans
        (Cert.EmbedForwardReferenceIdeal.Equation.gate_eq _ _ _)
    · rw [Cert.EmbedForwardIdeal.Array.final9]
      exact (Cert.EmbedForwardReferenceIdeal.Read.val_main_v24_eq _ _ _ _ _).trans
        (Cert.EmbedForwardReferenceIdeal.Equation.out_eq _ _ _ _ _)

theorem embedForward_reference_frame : Cert.quiescent_EmbedForwardReferenceIdeal := fun m ρ _ =>
  (θ_run Cert.EmbedForwardReferenceIdeal.defs _ _).mono (fun r h => ⟨fun c => (h c).2.2.2.2.2,
      Idealize.ShloMosaic.sem_eq_zero_of_no_sems (by decide) r.2⟩)
    (Cert.EmbedForwardReferenceIdeal.Value.run (F := Ideal) m ρ)

end Cert.Proof

end
-- ==== Proof.AdamInArray.lean ====
/- The arrays that the optimiser's step returns, at the extended reals, as functions of the arguments. -/
module

public import proofs.«01_k».proof.Proof.Gen.AdamInIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.AdamInIdeal.Array

open Idealize.ShloMosaic.StableHlo Cert.AdamInIdeal Cert.AdamInIdeal.Gen Cert.AdamInIdeal.Value

variable (m : (ℓ : Loc nD τ sig) → Buf (Elt Ideal) ℓ)

/-- The stacked gradient. -/
def grad (a b : FVec Ideal S1088x1024 .f32) : FVec Ideal S2x1088x1024 .f32 := fun i =>
  (if (i 0).val < 1 then a (ix2 (i 1) (i 2)) else b (ix2 (i 1) (i 2)) : EReal)

/-- The next first moment. -/
def first (p : FVec Ideal S2x1088x1024 .f32) (a b : FVec Ideal S1088x1024 .f32) : FVec Ideal S2x1088x1024 .f32 := fun i =>
  (Ideal.ofBits .f32 0x3F666666#32 * p i + Ideal.ofBits .f32 0x3DCCCCCD#32 * grad a b i : EReal)

/-- The next second moment. -/
def second (q : FVec Ideal S2x1088x1024 .f32) (a b : FVec Ideal S1088x1024 .f32) : FVec Ideal S2x1088x1024 .f32 := fun i =>
  (Ideal.ofBits .f32 0x3F7FBE77#32 * q i + Ideal.ofBits .f32 0x3A83126F#32 * (grad a b i * grad a b i) : EReal)

/-- The weight's change. -/
def delta (w p q : FVec Ideal S2x1088x1024 .f32) (a b : FVec Ideal S1088x1024 .f32) : FVec Ideal S2x1088x1024 .f32 := fun i =>
  (Ideal.ofBits .f32 0xBA83126F#32 * (Ideal.div (Ideal.div (first p a b i) (Ideal.ofBits .f32 0x3F26BD02#32))
      (Ideal.sqrt (Ideal.div (second q a b i) (Ideal.ofBits .f32 0x3C231ACC#32)) + Ideal.ofBits .f32 0x322BCC77#32)
    + Ideal.ofBits .f32 0x3C23D70A#32 * w i) : EReal)

theorem V_w (c : Dev nD) : V m c main_arg0 = m ((c : Thread nD τ).loc main_arg0) := V_main_arg0 m c

theorem V_p (c : Dev nD) : V m c main_arg1 = m ((c : Thread nD τ).loc main_arg1) := V_main_arg1 m c

theorem V_q (c : Dev nD) : V m c main_arg2 = m ((c : Thread nD τ).loc main_arg2) := V_main_arg2 m c

theorem V_a (c : Dev nD) : V m c main_arg3 = m ((c : Thread nD τ).loc main_arg3) := V_main_arg3 m c

theorem V_b (c : Dev nD) : V m c main_arg4 = m ((c : Thread nD τ).loc main_arg4) := V_main_arg4 m c

theorem rows : ∀ t : Fin cfg0.N, win0_0.index t = ![t.val / 2, t.val % 2, 0] ∧ win0_1.index t = ![t.val / 2, t.val % 2, 0] ∧ win0_2.index t = ![t.val / 2, t.val % 2, 0] ∧ win0_3.index t = ![min t.val 1, 0] ∧ win0_4.index t = ![t.val - 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, _)

/-- The layer of point `t`. -/
def layer (t : Fin cfg0.N) : Fin 2 := ⟨t.val / 2, by have := t.isLt; have : cfg0.N = 4 := N_0; omega⟩

/-- Row `p` of the block at point `t`. -/
def row (t : Fin cfg0.N) (p : Fin 544) : Fin 1088 := ⟨t.val % 2 * 544 + p.val, by omega⟩

theorem low : ∀ t : Fin cfg0.N, t.val < 2 → Scalar.cmpi .eq (BitVec.ofNat 32 ((grid0.coords t) 0).val) 0#32 = 1#1 :=
  (by decide +kernel : ∀ t : Fin grid0.N, _)

theorem high : ∀ t : Fin cfg0.N, ¬ t.val < 2 → Scalar.cmpi .eq (BitVec.ofNat 32 ((grid0.coords t) 0).val) 0#32 = 0#1 :=
  (by decide +kernel : ∀ t : Fin grid0.N, _)

theorem at_w (c : Dev nD) (t : Fin cfg0.N) (s : Fin 1) (p : Fin 544) (j : Fin 1024) : iblk m c 0 t (ix3 s p j)
    = (m ((c : Thread nD τ).loc main_arg0)) (ix3 (layer t) (row t p) j) := by
  refine (congrFun (V_w m c) _).trans ?_
  blk_point [iblk, V_w, rows t, row, layer]

theorem at_p (c : Dev nD) (t : Fin cfg0.N) (s : Fin 1) (p : Fin 544) (j : Fin 1024) : iblk m c 1 t (ix3 s p j)
    = (m ((c : Thread nD τ).loc main_arg1)) (ix3 (layer t) (row t p) j) := by
  refine (congrFun (V_p m c) _).trans ?_
  blk_point [iblk, V_p, rows t, row, layer]

theorem at_q (c : Dev nD) (t : Fin cfg0.N) (s : Fin 1) (p : Fin 544) (j : Fin 1024) : iblk m c 2 t (ix3 s p j)
    = (m ((c : Thread nD τ).loc main_arg2)) (ix3 (layer t) (row t p) j) := by
  refine (congrFun (V_q m c) _).trans ?_
  blk_point [iblk, V_q, rows t, row, layer]

theorem at_a (c : Dev nD) (t : Fin cfg0.N) (h : t.val < 2) (p : Fin 544) (j : Fin 1024) : iblk m c 3 t (ix2 p j)
    = (m ((c : Thread nD τ).loc main_arg3)) (ix2 (row t p) j) := by
  have hN : t.val < 4 := by have := t.isLt; have : cfg0.N = 4 := N_0; omega
  refine (congrFun (V_a m c) _).trans ?_
  blk_point [iblk, V_a, rows t, row]

theorem at_b (c : Dev nD) (t : Fin cfg0.N) (h : ¬ t.val < 2) (p : Fin 544) (j : Fin 1024) : iblk m c 4 t (ix2 p j)
    = (m ((c : Thread nD τ).loc main_arg4)) (ix2 (row t p) j) := by
  have hN : t.val < 4 := by have := t.isLt; have : cfg0.N = 4 := N_0; omega
  refine (congrFun (V_b m c) _).trans ?_
  blk_point [iblk, V_b, rows t, row]

/-- The body's gradient is the stacked one. -/
theorem grad_at (c : Dev nD) (t : Fin cfg0.N) (p : Fin 544) (j : Fin 1024) :
    k0_pay5 (grid0.coords t) (iblk m c 3 t) (iblk m c 4 t) (ix2 p j)
      = grad (m ((c : Thread nD τ).loc main_arg3)) (m ((c : Thread nD τ).loc main_arg4)) (ix3 (layer t) (row t p) j) := by
  have hN : t.val < 4 := by have := t.isLt; have : cfg0.N = 4 := N_0; omega
  unfold k0_pay5 grad
  by_cases h : t.val < 2
  · refine (congrFun (congrArg (fun z => Scalar.select z (iblk m c 3 t) (iblk m c 4 t)) (low t h)) _).trans ?_
    exact (at_a m c t h p j).trans (if_pos (show t.val / 2 < 1 by omega)).symm
  · refine (congrFun (congrArg (fun z => Scalar.select z (iblk m c 3 t) (iblk m c 4 t)) (high t h)) _).trans ?_
    exact (at_b m c t h p j).trans (if_neg (show ¬ t.val / 2 < 1 by omega)).symm

/-- The body's first moment. -/
theorem first_at (c : Dev nD) (t : Fin cfg0.N) (p : Fin 544) (j : Fin 1024) :
    k0_pay6 (grid0.coords t) (iblk m c 3 t) (iblk m c 4 t) (iblk m c 1 t) (ix2 p j)
      = first (m ((c : Thread nD τ).loc main_arg1)) (m ((c : Thread nD τ).loc main_arg3)) (m ((c : Thread nD τ).loc main_arg4)) (ix3 (layer t) (row t p) j) := by
  unfold k0_pay6 first
  pointwise
  simp only [grad_at, at_p]

/-- The body's second moment. -/
theorem second_at (c : Dev nD) (t : Fin cfg0.N) (p : Fin 544) (j : Fin 1024) :
    k0_pay7 (grid0.coords t) (iblk m c 3 t) (iblk m c 4 t) (iblk m c 2 t) (ix2 p j)
      = second (m ((c : Thread nD τ).loc main_arg2)) (m ((c : Thread nD τ).loc main_arg3)) (m ((c : Thread nD τ).loc main_arg4)) (ix3 (layer t) (row t p) j) := by
  unfold k0_pay7 second
  pointwise
  simp only [grad_at, at_q]

/-- The body's change of the weight. -/
theorem delta_at (c : Dev nD) (t : Fin cfg0.N) (p : Fin 544) (j : Fin 1024) :
    k0_pay8 (grid0.coords t) (iblk m c 3 t) (iblk m c 4 t) (iblk m c 0 t) (iblk m c 1 t) (iblk m c 2 t) (ix2 p j)
      = delta (m ((c : Thread nD τ).loc main_arg0)) (m ((c : Thread nD τ).loc main_arg1)) (m ((c : Thread nD τ).loc main_arg2)) (m ((c : Thread nD τ).loc main_arg3)) (m ((c : Thread nD τ).loc main_arg4)) (ix3 (layer t) (row t p) j) := by
  unfold k0_pay8 delta
  pointwise
  simp only [first_at, second_at, at_w]

/-- What the body leaves of it. -/
theorem out5_at (c : Dev nD) (t : Fin cfg0.N) (s : Fin 1) (p : Fin 544) (j : Fin 1024) :
    k0_pay1 (k0_pay5 (grid0.coords t) (iblk m c 3 t) (iblk m c 4 t)) (ix3 s p j)
      = grad (m ((c : Thread nD τ).loc main_arg3)) (m ((c : Thread nD τ).loc main_arg4)) (ix3 (layer t) (row t p) j) := by
  unfold k0_pay1
  pointwise
  simp only [grad_at]

theorem final5 (c : Dev nD) : (dats m 0 c).arrAt 5 cfg0.N
    = grad (m ((c : Thread nD τ).loc main_arg3)) (m ((c : Thread nD τ).loc main_arg4)) := by
  refine (dats m 0 c).arrAt_eq_of_covers 5 _ (by decide +kernel) fun t hf y => ?_
  idx_vars y
  blk_simp
  rw [after0_5]
  frame_out
  refine (out5_at m c t y0 y1 y2).trans (congrArg _ ?_)
  blk_ext [rows t, row, layer]

/-- What the body leaves of it. -/
theorem out6_at (c : Dev nD) (t : Fin cfg0.N) (s : Fin 1) (p : Fin 544) (j : Fin 1024) :
    k0_pay2 (k0_pay8 (grid0.coords t) (iblk m c 3 t) (iblk m c 4 t) (iblk m c 0 t) (iblk m c 1 t) (iblk m c 2 t)) (ix3 s p j)
      = delta (m ((c : Thread nD τ).loc main_arg0)) (m ((c : Thread nD τ).loc main_arg1)) (m ((c : Thread nD τ).loc main_arg2)) (m ((c : Thread nD τ).loc main_arg3)) (m ((c : Thread nD τ).loc main_arg4)) (ix3 (layer t) (row t p) j) := by
  unfold k0_pay2
  pointwise
  simp only [delta_at]

theorem final6 (c : Dev nD) : (dats m 0 c).arrAt 6 cfg0.N
    = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  idx_vars y
  blk_simp
  rw [after0_6]
  frame_out
  refine (out6_at m c t y0 y1 y2).trans (congrArg _ ?_)
  blk_ext [rows t, row, layer]

/-- What the body leaves of it. -/
theorem out7_at (c : Dev nD) (t : Fin cfg0.N) (s : Fin 1) (p : Fin 544) (j : Fin 1024) :
    k0_pay3 (k0_pay6 (grid0.coords t) (iblk m c 3 t) (iblk m c 4 t) (iblk m c 1 t)) (ix3 s p j)
      = first (m ((c : Thread nD τ).loc main_arg1)) (m ((c : Thread nD τ).loc main_arg3)) (m ((c : Thread nD τ).loc main_arg4)) (ix3 (layer t) (row t p) j) := by
  unfold k0_pay3
  pointwise
  simp only [first_at]

theorem final7 (c : Dev nD) : (dats m 0 c).arrAt 7 cfg0.N
    = first (m ((c : Thread nD τ).loc main_arg1)) (m ((c : Thread nD τ).loc main_arg3)) (m ((c : Thread nD τ).loc main_arg4)) := by
  refine (dats m 0 c).arrAt_eq_of_covers 7 _ (by decide +kernel) fun t hf y => ?_
  idx_vars y
  blk_simp
  rw [after0_7]
  frame_out
  refine (out7_at m c t y0 y1 y2).trans (congrArg _ ?_)
  blk_ext [rows t, row, layer]

/-- What the body leaves of it. -/
theorem out8_at (c : Dev nD) (t : Fin cfg0.N) (s : Fin 1) (p : Fin 544) (j : Fin 1024) :
    k0_pay4 (k0_pay7 (grid0.coords t) (iblk m c 3 t) (iblk m c 4 t) (iblk m c 2 t)) (ix3 s p j)
      = second (m ((c : Thread nD τ).loc main_arg2)) (m ((c : Thread nD τ).loc main_arg3)) (m ((c : Thread nD τ).loc main_arg4)) (ix3 (layer t) (row t p) j) := by
  unfold k0_pay4
  pointwise
  simp only [second_at]

theorem final8 (c : Dev nD) : (dats m 0 c).arrAt 8 cfg0.N
    = second (m ((c : Thread nD τ).loc main_arg2)) (m ((c : Thread nD τ).loc main_arg3)) (m ((c : Thread nD τ).loc main_arg4)) := by
  refine (dats m 0 c).arrAt_eq_of_covers 8 _ (by decide +kernel) fun t hf y => ?_
  idx_vars y
  blk_simp
  rw [after0_8]
  frame_out
  refine (out8_at m c t y0 y1 y2).trans (congrArg _ ?_)
  blk_ext [rows t, row, layer]

end Cert.AdamInIdeal.Array

end
-- ==== Proof.AdamInEquation.lean ====
/- The reference's results at the extended reals are the kernel's arrays. -/
module

public import proofs.«01_k».proof.Defs
public import proofs.«01_k».proof.Proof.AdamInArray
public import proofs.«01_k».proof.Proof.Gen.AdamInReferenceIdeal.Read
public import proofs.«01_k».proof.Proof.Gen.AdamInReferenceIdeal.Run

@[expose] public section

set_option maxRecDepth 16384

noncomputable section

open Idealize.ShloMosaic Idealize.ShloMosaic.TcCoe Idealize.SL.Sem

namespace Cert.AdamInReferenceIdeal.Equation

open Cert.AdamInIdeal.Array (grad first second delta)
open Cert.AdamInReferenceIdeal Cert.AdamInReferenceIdeal.Read

/-- The stacked gradient. -/
theorem grad_eq (a b : FVec Ideal S1088x1024 .f32) :
    val_main_v2 (F := Ideal) a b = grad a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, grad]
  simp only [dite_eq_ite]

/-- The weight's change. -/
theorem delta_eq (w p q : FVec Ideal S2x1088x1024 .f32) (a b : FVec Ideal S1088x1024 .f32) :
    val_main_v26 (F := Ideal) w p q a b = delta w p q a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, delta, first, second, grad]
  simp only [dite_eq_ite]

/-- The next first moment. -/
theorem first_eq (p : FVec Ideal S2x1088x1024 .f32) (a b : FVec Ideal S1088x1024 .f32) :
    val_main_v7 (F := Ideal) p a b = first p a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, first, grad]
  simp only [dite_eq_ite]

/-- The next second moment. -/
theorem second_eq (q : FVec Ideal S2x1088x1024 .f32) (a b : FVec Ideal S1088x1024 .f32) :
    val_main_v13 (F := Ideal) q a b = second q a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, second, grad]
  simp only [dite_eq_ite]

end Cert.AdamInReferenceIdeal.Equation

namespace Cert.Proof

theorem adamIn_algebraic : Cert.algebraic_AdamInIdeal_AdamInReferenceIdeal := by
  pair_intro
  · run_from Cert.AdamInIdeal.Value.run_blocks m g
  · run_from Cert.AdamInReferenceIdeal.Value.run m' g'
    · rw [Cert.AdamInIdeal.Array.final5]
      exact (Cert.AdamInReferenceIdeal.Read.val_main_v2_eq _ _).trans
        (by rw [(hagree c).2.2.2.1, (hagree c).2.2.2.2]; exact Cert.AdamInReferenceIdeal.Equation.grad_eq _ _)
    · rw [Cert.AdamInIdeal.Array.final6]
      exact (Cert.AdamInReferenceIdeal.Read.val_main_v26_eq _ _ _ _ _).trans
        (by rw [(hagree c).2.2.2.1, (hagree c).2.2.2.2]; exact Cert.AdamInReferenceIdeal.Equation.delta_eq _ _ _ _ _)
    · rw [Cert.AdamInIdeal.Array.final7]
      exact (Cert.AdamInReferenceIdeal.Read.val_main_v7_eq _ _ _).trans
        (by rw [(hagree c).2.2.2.1, (hagree c).2.2.2.2]; exact Cert.AdamInReferenceIdeal.Equation.first_eq _ _ _)
    · rw [Cert.AdamInIdeal.Array.final8]
      exact (Cert.AdamInReferenceIdeal.Read.val_main_v13_eq _ _ _).trans
        (by rw [(hagree c).2.2.2.1, (hagree c).2.2.2.2]; exact Cert.AdamInReferenceIdeal.Equation.second_eq _ _ _)

theorem adamIn_reference_frame : Cert.quiescent_AdamInReferenceIdeal := fun m ρ _ =>
  (θ_run Cert.AdamInReferenceIdeal.defs _ _).mono (fun r h => ⟨fun c => (h c).2.2.2.2,
      Idealize.ShloMosaic.sem_eq_zero_of_no_sems (by decide) r.2⟩)
    (Cert.AdamInReferenceIdeal.Value.run (F := Ideal) m ρ)

end Cert.Proof

end
-- ==== Proof.AdamFfArray.lean ====
/- The arrays that the optimiser's step returns, at the extended reals, as functions of the arguments. -/
module

public import proofs.«01_k».proof.Proof.Gen.AdamFfIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.AdamFfIdeal.Array

open Idealize.ShloMosaic.StableHlo Cert.AdamFfIdeal Cert.AdamFfIdeal.Gen Cert.AdamFfIdeal.Value

variable (m : (ℓ : Loc nD τ sig) → Buf (Elt Ideal) ℓ)

/-- The stacked gradient. -/
def grad (a b : FVec Ideal S1024x1024 .f32) : FVec Ideal S2x1024x1024 .f32 := fun i =>
  (if (i 0).val < 1 then a (ix2 (i 1) (i 2)) else b (ix2 (i 1) (i 2)) : EReal)

/-- The next first moment. -/
def first (p : FVec Ideal S2x1024x1024 .f32) (a b : FVec Ideal S1024x1024 .f32) : FVec Ideal S2x1024x1024 .f32 := fun i =>
  (Ideal.ofBits .f32 0x3F666666#32 * p i + Ideal.ofBits .f32 0x3DCCCCCD#32 * grad a b i : EReal)

/-- The next second moment. -/
def second (q : FVec Ideal S2x1024x1024 .f32) (a b : FVec Ideal S1024x1024 .f32) : FVec Ideal S2x1024x1024 .f32 := fun i =>
  (Ideal.ofBits .f32 0x3F7FBE77#32 * q i + Ideal.ofBits .f32 0x3A83126F#32 * (grad a b i * grad a b i) : EReal)

/-- The weight's change. -/
def delta (w p q : FVec Ideal S2x1024x1024 .f32) (a b : FVec Ideal S1024x1024 .f32) : FVec Ideal S2x1024x1024 .f32 := fun i =>
  (Ideal.ofBits .f32 0xBA83126F#32 * (Ideal.div (Ideal.div (first p a b i) (Ideal.ofBits .f32 0x3F26BD02#32))
      (Ideal.sqrt (Ideal.div (second q a b i) (Ideal.ofBits .f32 0x3C231ACC#32)) + Ideal.ofBits .f32 0x322BCC77#32)
    + Ideal.ofBits .f32 0x3C23D70A#32 * w i) : EReal)

theorem V_w (c : Dev nD) : V m c main_arg0 = m ((c : Thread nD τ).loc main_arg0) := V_main_arg0 m c

theorem V_p (c : Dev nD) : V m c main_arg1 = m ((c : Thread nD τ).loc main_arg1) := V_main_arg1 m c

theorem V_q (c : Dev nD) : V m c main_arg2 = m ((c : Thread nD τ).loc main_arg2) := V_main_arg2 m c

theorem V_a (c : Dev nD) : V m c main_arg3 = m ((c : Thread nD τ).loc main_arg3) := V_main_arg3 m c

theorem V_b (c : Dev nD) : V m c main_arg4 = m ((c : Thread nD τ).loc main_arg4) := V_main_arg4 m c

theorem rows : ∀ t : Fin cfg0.N, win0_0.index t = ![t.val / 2, t.val % 2, 0] ∧ win0_1.index t = ![t.val / 2, t.val % 2, 0] ∧ win0_2.index t = ![t.val / 2, t.val % 2, 0] ∧ win0_3.index t = ![min t.val 1, 0] ∧ win0_4.index t = ![t.val - 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, _)

/-- The layer of point `t`. -/
def layer (t : Fin cfg0.N) : Fin 2 := ⟨t.val / 2, by have := t.isLt; have : cfg0.N = 4 := N_0; omega⟩

/-- Row `p` of the block at point `t`. -/
def row (t : Fin cfg0.N) (p : Fin 512) : Fin 1024 := ⟨t.val % 2 * 512 + p.val, by omega⟩

theorem low : ∀ t : Fin cfg0.N, t.val < 2 → Scalar.cmpi .eq (BitVec.ofNat 32 ((grid0.coords t) 0).val) 0#32 = 1#1 :=
  (by decide +kernel : ∀ t : Fin grid0.N, _)

theorem high : ∀ t : Fin cfg0.N, ¬ t.val < 2 → Scalar.cmpi .eq (BitVec.ofNat 32 ((grid0.coords t) 0).val) 0#32 = 0#1 :=
  (by decide +kernel : ∀ t : Fin grid0.N, _)

theorem at_w (c : Dev nD) (t : Fin cfg0.N) (s : Fin 1) (p : Fin 512) (j : Fin 1024) : iblk m c 0 t (ix3 s p j)
    = (m ((c : Thread nD τ).loc main_arg0)) (ix3 (layer t) (row t p) j) := by
  refine (congrFun (V_w m c) _).trans ?_
  blk_point [iblk, V_w, rows t, row, layer]

theorem at_p (c : Dev nD) (t : Fin cfg0.N) (s : Fin 1) (p : Fin 512) (j : Fin 1024) : iblk m c 1 t (ix3 s p j)
    = (m ((c : Thread nD τ).loc main_arg1)) (ix3 (layer t) (row t p) j) := by
  refine (congrFun (V_p m c) _).trans ?_
  blk_point [iblk, V_p, rows t, row, layer]

theorem at_q (c : Dev nD) (t : Fin cfg0.N) (s : Fin 1) (p : Fin 512) (j : Fin 1024) : iblk m c 2 t (ix3 s p j)
    = (m ((c : Thread nD τ).loc main_arg2)) (ix3 (layer t) (row t p) j) := by
  refine (congrFun (V_q m c) _).trans ?_
  blk_point [iblk, V_q, rows t, row, layer]

theorem at_a (c : Dev nD) (t : Fin cfg0.N) (h : t.val < 2) (p : Fin 512) (j : Fin 1024) : iblk m c 3 t (ix2 p j)
    = (m ((c : Thread nD τ).loc main_arg3)) (ix2 (row t p) j) := by
  have hN : t.val < 4 := by have := t.isLt; have : cfg0.N = 4 := N_0; omega
  refine (congrFun (V_a m c) _).trans ?_
  blk_point [iblk, V_a, rows t, row]

theorem at_b (c : Dev nD) (t : Fin cfg0.N) (h : ¬ t.val < 2) (p : Fin 512) (j : Fin 1024) : iblk m c 4 t (ix2 p j)
    = (m ((c : Thread nD τ).loc main_arg4)) (ix2 (row t p) j) := by
  have hN : t.val < 4 := by have := t.isLt; have : cfg0.N = 4 := N_0; omega
  refine (congrFun (V_b m c) _).trans ?_
  blk_point [iblk, V_b, rows t, row]

/-- The body's gradient is the stacked one. -/
theorem grad_at (c : Dev nD) (t : Fin cfg0.N) (p : Fin 512) (j : Fin 1024) :
    k0_pay5 (grid0.coords t) (iblk m c 3 t) (iblk m c 4 t) (ix2 p j)
      = grad (m ((c : Thread nD τ).loc main_arg3)) (m ((c : Thread nD τ).loc main_arg4)) (ix3 (layer t) (row t p) j) := by
  have hN : t.val < 4 := by have := t.isLt; have : cfg0.N = 4 := N_0; omega
  unfold k0_pay5 grad
  by_cases h : t.val < 2
  · refine (congrFun (congrArg (fun z => Scalar.select z (iblk m c 3 t) (iblk m c 4 t)) (low t h)) _).trans ?_
    exact (at_a m c t h p j).trans (if_pos (show t.val / 2 < 1 by omega)).symm
  · refine (congrFun (congrArg (fun z => Scalar.select z (iblk m c 3 t) (iblk m c 4 t)) (high t h)) _).trans ?_
    exact (at_b m c t h p j).trans (if_neg (show ¬ t.val / 2 < 1 by omega)).symm

/-- The body's first moment. -/
theorem first_at (c : Dev nD) (t : Fin cfg0.N) (p : Fin 512) (j : Fin 1024) :
    k0_pay6 (grid0.coords t) (iblk m c 3 t) (iblk m c 4 t) (iblk m c 1 t) (ix2 p j)
      = first (m ((c : Thread nD τ).loc main_arg1)) (m ((c : Thread nD τ).loc main_arg3)) (m ((c : Thread nD τ).loc main_arg4)) (ix3 (layer t) (row t p) j) := by
  unfold k0_pay6 first
  pointwise
  simp only [grad_at, at_p]

/-- The body's second moment. -/
theorem second_at (c : Dev nD) (t : Fin cfg0.N) (p : Fin 512) (j : Fin 1024) :
    k0_pay7 (grid0.coords t) (iblk m c 3 t) (iblk m c 4 t) (iblk m c 2 t) (ix2 p j)
      = second (m ((c : Thread nD τ).loc main_arg2)) (m ((c : Thread nD τ).loc main_arg3)) (m ((c : Thread nD τ).loc main_arg4)) (ix3 (layer t) (row t p) j) := by
  unfold k0_pay7 second
  pointwise
  simp only [grad_at, at_q]

/-- The body's change of the weight. -/
theorem delta_at (c : Dev nD) (t : Fin cfg0.N) (p : Fin 512) (j : Fin 1024) :
    k0_pay8 (grid0.coords t) (iblk m c 3 t) (iblk m c 4 t) (iblk m c 0 t) (iblk m c 1 t) (iblk m c 2 t) (ix2 p j)
      = delta (m ((c : Thread nD τ).loc main_arg0)) (m ((c : Thread nD τ).loc main_arg1)) (m ((c : Thread nD τ).loc main_arg2)) (m ((c : Thread nD τ).loc main_arg3)) (m ((c : Thread nD τ).loc main_arg4)) (ix3 (layer t) (row t p) j) := by
  unfold k0_pay8 delta
  pointwise
  simp only [first_at, second_at, at_w]

/-- What the body leaves of it. -/
theorem out5_at (c : Dev nD) (t : Fin cfg0.N) (s : Fin 1) (p : Fin 512) (j : Fin 1024) :
    k0_pay1 (k0_pay5 (grid0.coords t) (iblk m c 3 t) (iblk m c 4 t)) (ix3 s p j)
      = grad (m ((c : Thread nD τ).loc main_arg3)) (m ((c : Thread nD τ).loc main_arg4)) (ix3 (layer t) (row t p) j) := by
  unfold k0_pay1
  pointwise
  simp only [grad_at]

theorem final5 (c : Dev nD) : (dats m 0 c).arrAt 5 cfg0.N
    = grad (m ((c : Thread nD τ).loc main_arg3)) (m ((c : Thread nD τ).loc main_arg4)) := by
  refine (dats m 0 c).arrAt_eq_of_covers 5 _ (by decide +kernel) fun t hf y => ?_
  idx_vars y
  blk_simp
  rw [after0_5]
  frame_out
  refine (out5_at m c t y0 y1 y2).trans (congrArg _ ?_)
  blk_ext [rows t, row, layer]

/-- What the body leaves of it. -/
theorem out6_at (c : Dev nD) (t : Fin cfg0.N) (s : Fin 1) (p : Fin 512) (j : Fin 1024) :
    k0_pay2 (k0_pay8 (grid0.coords t) (iblk m c 3 t) (iblk m c 4 t) (iblk m c 0 t) (iblk m c 1 t) (iblk m c 2 t)) (ix3 s p j)
      = delta (m ((c : Thread nD τ).loc main_arg0)) (m ((c : Thread nD τ).loc main_arg1)) (m ((c : Thread nD τ).loc main_arg2)) (m ((c : Thread nD τ).loc main_arg3)) (m ((c : Thread nD τ).loc main_arg4)) (ix3 (layer t) (row t p) j) := by
  unfold k0_pay2
  pointwise
  simp only [delta_at]

theorem final6 (c : Dev nD) : (dats m 0 c).arrAt 6 cfg0.N
    = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  idx_vars y
  blk_simp
  rw [after0_6]
  frame_out
  refine (out6_at m c t y0 y1 y2).trans (congrArg _ ?_)
  blk_ext [rows t, row, layer]

/-- What the body leaves of it. -/
theorem out7_at (c : Dev nD) (t : Fin cfg0.N) (s : Fin 1) (p : Fin 512) (j : Fin 1024) :
    k0_pay3 (k0_pay6 (grid0.coords t) (iblk m c 3 t) (iblk m c 4 t) (iblk m c 1 t)) (ix3 s p j)
      = first (m ((c : Thread nD τ).loc main_arg1)) (m ((c : Thread nD τ).loc main_arg3)) (m ((c : Thread nD τ).loc main_arg4)) (ix3 (layer t) (row t p) j) := by
  unfold k0_pay3
  pointwise
  simp only [first_at]

theorem final7 (c : Dev nD) : (dats m 0 c).arrAt 7 cfg0.N
    = first (m ((c : Thread nD τ).loc main_arg1)) (m ((c : Thread nD τ).loc main_arg3)) (m ((c : Thread nD τ).loc main_arg4)) := by
  refine (dats m 0 c).arrAt_eq_of_covers 7 _ (by decide +kernel) fun t hf y => ?_
  idx_vars y
  blk_simp
  rw [after0_7]
  frame_out
  refine (out7_at m c t y0 y1 y2).trans (congrArg _ ?_)
  blk_ext [rows t, row, layer]

/-- What the body leaves of it. -/
theorem out8_at (c : Dev nD) (t : Fin cfg0.N) (s : Fin 1) (p : Fin 512) (j : Fin 1024) :
    k0_pay4 (k0_pay7 (grid0.coords t) (iblk m c 3 t) (iblk m c 4 t) (iblk m c 2 t)) (ix3 s p j)
      = second (m ((c : Thread nD τ).loc main_arg2)) (m ((c : Thread nD τ).loc main_arg3)) (m ((c : Thread nD τ).loc main_arg4)) (ix3 (layer t) (row t p) j) := by
  unfold k0_pay4
  pointwise
  simp only [second_at]

theorem final8 (c : Dev nD) : (dats m 0 c).arrAt 8 cfg0.N
    = second (m ((c : Thread nD τ).loc main_arg2)) (m ((c : Thread nD τ).loc main_arg3)) (m ((c : Thread nD τ).loc main_arg4)) := by
  refine (dats m 0 c).arrAt_eq_of_covers 8 _ (by decide +kernel) fun t hf y => ?_
  idx_vars y
  blk_simp
  rw [after0_8]
  frame_out
  refine (out8_at m c t y0 y1 y2).trans (congrArg _ ?_)
  blk_ext [rows t, row, layer]

end Cert.AdamFfIdeal.Array

end
-- ==== Proof.AdamFfEquation.lean ====
/- The reference's results at the extended reals are the kernel's arrays. -/
module

public import proofs.«01_k».proof.Defs
public import proofs.«01_k».proof.Proof.AdamFfArray
public import proofs.«01_k».proof.Proof.Gen.AdamFfReferenceIdeal.Read
public import proofs.«01_k».proof.Proof.Gen.AdamFfReferenceIdeal.Run

@[expose] public section

set_option maxRecDepth 16384

noncomputable section

open Idealize.ShloMosaic Idealize.ShloMosaic.TcCoe Idealize.SL.Sem

namespace Cert.AdamFfReferenceIdeal.Equation

open Cert.AdamFfIdeal.Array (grad first second delta)
open Cert.AdamFfReferenceIdeal Cert.AdamFfReferenceIdeal.Read

/-- The stacked gradient. -/
theorem grad_eq (a b : FVec Ideal S1024x1024 .f32) :
    val_main_v2 (F := Ideal) a b = grad a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, grad]
  simp only [dite_eq_ite]

/-- The weight's change. -/
theorem delta_eq (w p q : FVec Ideal S2x1024x1024 .f32) (a b : FVec Ideal S1024x1024 .f32) :
    val_main_v26 (F := Ideal) w p q a b = delta w p q a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, delta, first, second, grad]
  simp only [dite_eq_ite]

/-- The next first moment. -/
theorem first_eq (p : FVec Ideal S2x1024x1024 .f32) (a b : FVec Ideal S1024x1024 .f32) :
    val_main_v7 (F := Ideal) p a b = first p a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, first, grad]
  simp only [dite_eq_ite]

/-- The next second moment. -/
theorem second_eq (q : FVec Ideal S2x1024x1024 .f32) (a b : FVec Ideal S1024x1024 .f32) :
    val_main_v13 (F := Ideal) q a b = second q a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, second, grad]
  simp only [dite_eq_ite]

end Cert.AdamFfReferenceIdeal.Equation

namespace Cert.Proof

theorem adamFf_algebraic : Cert.algebraic_AdamFfIdeal_AdamFfReferenceIdeal := by
  pair_intro
  · run_from Cert.AdamFfIdeal.Value.run_blocks m g
  · run_from Cert.AdamFfReferenceIdeal.Value.run m' g'
    · rw [Cert.AdamFfIdeal.Array.final5]
      exact (Cert.AdamFfReferenceIdeal.Read.val_main_v2_eq _ _).trans
        (by rw [(hagree c).2.2.2.1, (hagree c).2.2.2.2]; exact Cert.AdamFfReferenceIdeal.Equation.grad_eq _ _)
    · rw [Cert.AdamFfIdeal.Array.final6]
      exact (Cert.AdamFfReferenceIdeal.Read.val_main_v26_eq _ _ _ _ _).trans
        (by rw [(hagree c).2.2.2.1, (hagree c).2.2.2.2]; exact Cert.AdamFfReferenceIdeal.Equation.delta_eq _ _ _ _ _)
    · rw [Cert.AdamFfIdeal.Array.final7]
      exact (Cert.AdamFfReferenceIdeal.Read.val_main_v7_eq _ _ _).trans
        (by rw [(hagree c).2.2.2.1, (hagree c).2.2.2.2]; exact Cert.AdamFfReferenceIdeal.Equation.first_eq _ _ _)
    · rw [Cert.AdamFfIdeal.Array.final8]
      exact (Cert.AdamFfReferenceIdeal.Read.val_main_v13_eq _ _ _).trans
        (by rw [(hagree c).2.2.2.1, (hagree c).2.2.2.2]; exact Cert.AdamFfReferenceIdeal.Equation.second_eq _ _ _)

theorem adamFf_reference_frame : Cert.quiescent_AdamFfReferenceIdeal := fun m ρ _ =>
  (θ_run Cert.AdamFfReferenceIdeal.defs _ _).mono (fun r h => ⟨fun c => (h c).2.2.2.2,
      Idealize.ShloMosaic.sem_eq_zero_of_no_sems (by decide) r.2⟩)
    (Cert.AdamFfReferenceIdeal.Value.run (F := Ideal) m ρ)

end Cert.Proof

end
-- ==== Proof.AdamUpArray.lean ====
/- The arrays that the optimiser's step returns, at the extended reals, as functions of the arguments. -/
module

public import proofs.«01_k».proof.Proof.Gen.AdamUpIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.AdamUpIdeal.Array

open Idealize.ShloMosaic.StableHlo Cert.AdamUpIdeal Cert.AdamUpIdeal.Gen Cert.AdamUpIdeal.Value

variable (m : (ℓ : Loc nD τ sig) → Buf (Elt Ideal) ℓ)

/-- The stacked gradient. -/
def grad (a b : FVec Ideal S512x256 .f32) : FVec Ideal S2x512x256 .f32 := fun i =>
  (if (i 0).val < 1 then a (ix2 (i 1) (i 2)) else b (ix2 (i 1) (i 2)) : EReal)

/-- The next first moment. -/
def first (p : FVec Ideal S2x512x256 .f32) (a b : FVec Ideal S512x256 .f32) : FVec Ideal S2x512x256 .f32 := fun i =>
  (Ideal.ofBits .f32 0x3F666666#32 * p i + Ideal.ofBits .f32 0x3DCCCCCD#32 * grad a b i : EReal)

/-- The next second moment. -/
def second (q : FVec Ideal S2x512x256 .f32) (a b : FVec Ideal S512x256 .f32) : FVec Ideal S2x512x256 .f32 := fun i =>
  (Ideal.ofBits .f32 0x3F7FBE77#32 * q i + Ideal.ofBits .f32 0x3A83126F#32 * (grad a b i * grad a b i) : EReal)

/-- The weight's change. -/
def delta (w p q : FVec Ideal S2x512x256 .f32) (a b : FVec Ideal S512x256 .f32) : FVec Ideal S2x512x256 .f32 := fun i =>
  (Ideal.ofBits .f32 0xBA83126F#32 * (Ideal.div (Ideal.div (first p a b i) (Ideal.ofBits .f32 0x3F26BD02#32))
      (Ideal.sqrt (Ideal.div (second q a b i) (Ideal.ofBits .f32 0x3C231ACC#32)) + Ideal.ofBits .f32 0x322BCC77#32)
    + Ideal.ofBits .f32 0x3C23D70A#32 * w i) : EReal)

theorem V_w (c : Dev nD) : V m c main_arg0 = m ((c : Thread nD τ).loc main_arg0) := V_main_arg0 m c

theorem V_p (c : Dev nD) : V m c main_arg1 = m ((c : Thread nD τ).loc main_arg1) := V_main_arg1 m c

theorem V_q (c : Dev nD) : V m c main_arg2 = m ((c : Thread nD τ).loc main_arg2) := V_main_arg2 m c

theorem V_a (c : Dev nD) : V m c main_arg3 = m ((c : Thread nD τ).loc main_arg3) := V_main_arg3 m c

theorem V_b (c : Dev nD) : V m c main_arg4 = m ((c : Thread nD τ).loc main_arg4) := V_main_arg4 m c

theorem rows : ∀ t : Fin cfg0.N, win0_0.index t = ![t.val / 1, t.val % 1, 0] ∧ win0_1.index t = ![t.val / 1, t.val % 1, 0] ∧ win0_2.index t = ![t.val / 1, t.val % 1, 0] ∧ win0_3.index t = ![min t.val 0, 0] ∧ win0_4.index t = ![t.val - 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] :=
  (by decide +kernel : ∀ t : Fin grid0.N, _)

/-- The layer of point `t`. -/
def layer (t : Fin cfg0.N) : Fin 2 := ⟨t.val / 1, by have := t.isLt; have : cfg0.N = 2 := N_0; omega⟩

/-- Row `p` of the block at point `t`. -/
def row (t : Fin cfg0.N) (p : Fin 512) : Fin 512 := ⟨t.val % 1 * 512 + p.val, by omega⟩

theorem low : ∀ t : Fin cfg0.N, t.val < 1 → Scalar.cmpi .eq (BitVec.ofNat 32 ((grid0.coords t) 0).val) 0#32 = 1#1 :=
  (by decide +kernel : ∀ t : Fin grid0.N, _)

theorem high : ∀ t : Fin cfg0.N, ¬ t.val < 1 → Scalar.cmpi .eq (BitVec.ofNat 32 ((grid0.coords t) 0).val) 0#32 = 0#1 :=
  (by decide +kernel : ∀ t : Fin grid0.N, _)

theorem at_w (c : Dev nD) (t : Fin cfg0.N) (s : Fin 1) (p : Fin 512) (j : Fin 256) : iblk m c 0 t (ix3 s p j)
    = (m ((c : Thread nD τ).loc main_arg0)) (ix3 (layer t) (row t p) j) := by
  refine (congrFun (V_w m c) _).trans ?_
  blk_point [iblk, V_w, rows t, row, layer]

theorem at_p (c : Dev nD) (t : Fin cfg0.N) (s : Fin 1) (p : Fin 512) (j : Fin 256) : iblk m c 1 t (ix3 s p j)
    = (m ((c : Thread nD τ).loc main_arg1)) (ix3 (layer t) (row t p) j) := by
  refine (congrFun (V_p m c) _).trans ?_
  blk_point [iblk, V_p, rows t, row, layer]

theorem at_q (c : Dev nD) (t : Fin cfg0.N) (s : Fin 1) (p : Fin 512) (j : Fin 256) : iblk m c 2 t (ix3 s p j)
    = (m ((c : Thread nD τ).loc main_arg2)) (ix3 (layer t) (row t p) j) := by
  refine (congrFun (V_q m c) _).trans ?_
  blk_point [iblk, V_q, rows t, row, layer]

theorem at_a (c : Dev nD) (t : Fin cfg0.N) (h : t.val < 1) (p : Fin 512) (j : Fin 256) : iblk m c 3 t (ix2 p j)
    = (m ((c : Thread nD τ).loc main_arg3)) (ix2 (row t p) j) := by
  have hN : t.val < 2 := by have := t.isLt; have : cfg0.N = 2 := N_0; omega
  refine (congrFun (V_a m c) _).trans ?_
  blk_point [iblk, V_a, rows t, row]

theorem at_b (c : Dev nD) (t : Fin cfg0.N) (h : ¬ t.val < 1) (p : Fin 512) (j : Fin 256) : iblk m c 4 t (ix2 p j)
    = (m ((c : Thread nD τ).loc main_arg4)) (ix2 (row t p) j) := by
  have hN : t.val < 2 := by have := t.isLt; have : cfg0.N = 2 := N_0; omega
  refine (congrFun (V_b m c) _).trans ?_
  blk_point [iblk, V_b, rows t, row]

/-- The body's gradient is the stacked one. -/
theorem grad_at (c : Dev nD) (t : Fin cfg0.N) (p : Fin 512) (j : Fin 256) :
    k0_pay5 (grid0.coords t) (iblk m c 3 t) (iblk m c 4 t) (ix2 p j)
      = grad (m ((c : Thread nD τ).loc main_arg3)) (m ((c : Thread nD τ).loc main_arg4)) (ix3 (layer t) (row t p) j) := by
  have hN : t.val < 2 := by have := t.isLt; have : cfg0.N = 2 := N_0; omega
  unfold k0_pay5 grad
  by_cases h : t.val < 1
  · refine (congrFun (congrArg (fun z => Scalar.select z (iblk m c 3 t) (iblk m c 4 t)) (low t h)) _).trans ?_
    exact (at_a m c t h p j).trans (if_pos (show t.val / 1 < 1 by omega)).symm
  · refine (congrFun (congrArg (fun z => Scalar.select z (iblk m c 3 t) (iblk m c 4 t)) (high t h)) _).trans ?_
    exact (at_b m c t h p j).trans (if_neg (show ¬ t.val / 1 < 1 by omega)).symm

/-- The body's first moment. -/
theorem first_at (c : Dev nD) (t : Fin cfg0.N) (p : Fin 512) (j : Fin 256) :
    k0_pay6 (grid0.coords t) (iblk m c 3 t) (iblk m c 4 t) (iblk m c 1 t) (ix2 p j)
      = first (m ((c : Thread nD τ).loc main_arg1)) (m ((c : Thread nD τ).loc main_arg3)) (m ((c : Thread nD τ).loc main_arg4)) (ix3 (layer t) (row t p) j) := by
  unfold k0_pay6 first
  pointwise
  simp only [grad_at, at_p]

/-- The body's second moment. -/
theorem second_at (c : Dev nD) (t : Fin cfg0.N) (p : Fin 512) (j : Fin 256) :
    k0_pay7 (grid0.coords t) (iblk m c 3 t) (iblk m c 4 t) (iblk m c 2 t) (ix2 p j)
      = second (m ((c : Thread nD τ).loc main_arg2)) (m ((c : Thread nD τ).loc main_arg3)) (m ((c : Thread nD τ).loc main_arg4)) (ix3 (layer t) (row t p) j) := by
  unfold k0_pay7 second
  pointwise
  simp only [grad_at, at_q]

/-- The body's change of the weight. -/
theorem delta_at (c : Dev nD) (t : Fin cfg0.N) (p : Fin 512) (j : Fin 256) :
    k0_pay8 (grid0.coords t) (iblk m c 3 t) (iblk m c 4 t) (iblk m c 0 t) (iblk m c 1 t) (iblk m c 2 t) (ix2 p j)
      = delta (m ((c : Thread nD τ).loc main_arg0)) (m ((c : Thread nD τ).loc main_arg1)) (m ((c : Thread nD τ).loc main_arg2)) (m ((c : Thread nD τ).loc main_arg3)) (m ((c : Thread nD τ).loc main_arg4)) (ix3 (layer t) (row t p) j) := by
  unfold k0_pay8 delta
  pointwise
  simp only [first_at, second_at, at_w]

/-- What the body leaves of it. -/
theorem out5_at (c : Dev nD) (t : Fin cfg0.N) (s : Fin 1) (p : Fin 512) (j : Fin 256) :
    k0_pay1 (k0_pay5 (grid0.coords t) (iblk m c 3 t) (iblk m c 4 t)) (ix3 s p j)
      = grad (m ((c : Thread nD τ).loc main_arg3)) (m ((c : Thread nD τ).loc main_arg4)) (ix3 (layer t) (row t p) j) := by
  unfold k0_pay1
  pointwise
  simp only [grad_at]

theorem final5 (c : Dev nD) : (dats m 0 c).arrAt 5 cfg0.N
    = grad (m ((c : Thread nD τ).loc main_arg3)) (m ((c : Thread nD τ).loc main_arg4)) := by
  refine (dats m 0 c).arrAt_eq_of_covers 5 _ (by decide +kernel) fun t hf y => ?_
  idx_vars y
  blk_simp
  rw [after0_5]
  frame_out
  refine (out5_at m c t y0 y1 y2).trans (congrArg _ ?_)
  blk_ext [rows t, row, layer]

/-- What the body leaves of it. -/
theorem out6_at (c : Dev nD) (t : Fin cfg0.N) (s : Fin 1) (p : Fin 512) (j : Fin 256) :
    k0_pay2 (k0_pay8 (grid0.coords t) (iblk m c 3 t) (iblk m c 4 t) (iblk m c 0 t) (iblk m c 1 t) (iblk m c 2 t)) (ix3 s p j)
      = delta (m ((c : Thread nD τ).loc main_arg0)) (m ((c : Thread nD τ).loc main_arg1)) (m ((c : Thread nD τ).loc main_arg2)) (m ((c : Thread nD τ).loc main_arg3)) (m ((c : Thread nD τ).loc main_arg4)) (ix3 (layer t) (row t p) j) := by
  unfold k0_pay2
  pointwise
  simp only [delta_at]

theorem final6 (c : Dev nD) : (dats m 0 c).arrAt 6 cfg0.N
    = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  idx_vars y
  blk_simp
  rw [after0_6]
  frame_out
  refine (out6_at m c t y0 y1 y2).trans (congrArg _ ?_)
  blk_ext [rows t, row, layer]

/-- What the body leaves of it. -/
theorem out7_at (c : Dev nD) (t : Fin cfg0.N) (s : Fin 1) (p : Fin 512) (j : Fin 256) :
    k0_pay3 (k0_pay6 (grid0.coords t) (iblk m c 3 t) (iblk m c 4 t) (iblk m c 1 t)) (ix3 s p j)
      = first (m ((c : Thread nD τ).loc main_arg1)) (m ((c : Thread nD τ).loc main_arg3)) (m ((c : Thread nD τ).loc main_arg4)) (ix3 (layer t) (row t p) j) := by
  unfold k0_pay3
  pointwise
  simp only [first_at]

theorem final7 (c : Dev nD) : (dats m 0 c).arrAt 7 cfg0.N
    = first (m ((c : Thread nD τ).loc main_arg1)) (m ((c : Thread nD τ).loc main_arg3)) (m ((c : Thread nD τ).loc main_arg4)) := by
  refine (dats m 0 c).arrAt_eq_of_covers 7 _ (by decide +kernel) fun t hf y => ?_
  idx_vars y
  blk_simp
  rw [after0_7]
  frame_out
  refine (out7_at m c t y0 y1 y2).trans (congrArg _ ?_)
  blk_ext [rows t, row, layer]

/-- What the body leaves of it. -/
theorem out8_at (c : Dev nD) (t : Fin cfg0.N) (s : Fin 1) (p : Fin 512) (j : Fin 256) :
    k0_pay4 (k0_pay7 (grid0.coords t) (iblk m c 3 t) (iblk m c 4 t) (iblk m c 2 t)) (ix3 s p j)
      = second (m ((c : Thread nD τ).loc main_arg2)) (m ((c : Thread nD τ).loc main_arg3)) (m ((c : Thread nD τ).loc main_arg4)) (ix3 (layer t) (row t p) j) := by
  unfold k0_pay4
  pointwise
  simp only [second_at]

theorem final8 (c : Dev nD) : (dats m 0 c).arrAt 8 cfg0.N
    = second (m ((c : Thread nD τ).loc main_arg2)) (m ((c : Thread nD τ).loc main_arg3)) (m ((c : Thread nD τ).loc main_arg4)) := by
  refine (dats m 0 c).arrAt_eq_of_covers 8 _ (by decide +kernel) fun t hf y => ?_
  idx_vars y
  blk_simp
  rw [after0_8]
  frame_out
  refine (out8_at m c t y0 y1 y2).trans (congrArg _ ?_)
  blk_ext [rows t, row, layer]

end Cert.AdamUpIdeal.Array

end
-- ==== Proof.AdamUpEquation.lean ====
/- The reference's results at the extended reals are the kernel's arrays. -/
module

public import proofs.«01_k».proof.Defs
public import proofs.«01_k».proof.Proof.AdamUpArray
public import proofs.«01_k».proof.Proof.Gen.AdamUpReferenceIdeal.Read
public import proofs.«01_k».proof.Proof.Gen.AdamUpReferenceIdeal.Run

@[expose] public section

set_option maxRecDepth 16384

noncomputable section

open Idealize.ShloMosaic Idealize.ShloMosaic.TcCoe Idealize.SL.Sem

namespace Cert.AdamUpReferenceIdeal.Equation

open Cert.AdamUpIdeal.Array (grad first second delta)
open Cert.AdamUpReferenceIdeal Cert.AdamUpReferenceIdeal.Read

/-- The stacked gradient. -/
theorem grad_eq (a b : FVec Ideal S512x256 .f32) :
    val_main_v2 (F := Ideal) a b = grad a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, grad]
  simp only [dite_eq_ite]

/-- The weight's change. -/
theorem delta_eq (w p q : FVec Ideal S2x512x256 .f32) (a b : FVec Ideal S512x256 .f32) :
    val_main_v26 (F := Ideal) w p q a b = delta w p q a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, delta, first, second, grad]
  simp only [dite_eq_ite]

/-- The next first moment. -/
theorem first_eq (p : FVec Ideal S2x512x256 .f32) (a b : FVec Ideal S512x256 .f32) :
    val_main_v7 (F := Ideal) p a b = first p a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, first, grad]
  simp only [dite_eq_ite]

/-- The next second moment. -/
theorem second_eq (q : FVec Ideal S2x512x256 .f32) (a b : FVec Ideal S512x256 .f32) :
    val_main_v13 (F := Ideal) q a b = second q a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, second, grad]
  simp only [dite_eq_ite]

end Cert.AdamUpReferenceIdeal.Equation

namespace Cert.Proof

theorem adamUp_algebraic : Cert.algebraic_AdamUpIdeal_AdamUpReferenceIdeal := by
  pair_intro
  · run_from Cert.AdamUpIdeal.Value.run_blocks m g
  · run_from Cert.AdamUpReferenceIdeal.Value.run m' g'
    · rw [Cert.AdamUpIdeal.Array.final5]
      exact (Cert.AdamUpReferenceIdeal.Read.val_main_v2_eq _ _).trans
        (by rw [(hagree c).2.2.2.1, (hagree c).2.2.2.2]; exact Cert.AdamUpReferenceIdeal.Equation.grad_eq _ _)
    · rw [Cert.AdamUpIdeal.Array.final6]
      exact (Cert.AdamUpReferenceIdeal.Read.val_main_v26_eq _ _ _ _ _).trans
        (by rw [(hagree c).2.2.2.1, (hagree c).2.2.2.2]; exact Cert.AdamUpReferenceIdeal.Equation.delta_eq _ _ _ _ _)
    · rw [Cert.AdamUpIdeal.Array.final7]
      exact (Cert.AdamUpReferenceIdeal.Read.val_main_v7_eq _ _ _).trans
        (by rw [(hagree c).2.2.2.1, (hagree c).2.2.2.2]; exact Cert.AdamUpReferenceIdeal.Equation.first_eq _ _ _)
    · rw [Cert.AdamUpIdeal.Array.final8]
      exact (Cert.AdamUpReferenceIdeal.Read.val_main_v13_eq _ _ _).trans
        (by rw [(hagree c).2.2.2.1, (hagree c).2.2.2.2]; exact Cert.AdamUpReferenceIdeal.Equation.second_eq _ _ _)

theorem adamUp_reference_frame : Cert.quiescent_AdamUpReferenceIdeal := fun m ρ _ =>
  (θ_run Cert.AdamUpReferenceIdeal.defs _ _).mono (fun r h => ⟨fun c => (h c).2.2.2.2,
      Idealize.ShloMosaic.sem_eq_zero_of_no_sems (by decide) r.2⟩)
    (Cert.AdamUpReferenceIdeal.Value.run (F := Ideal) m ρ)

end Cert.Proof

end
-- ==== Proof.AdamMixArray.lean ====
/- The arrays that the optimiser's step returns, at the extended reals, as functions of the arguments. -/
module

public import proofs.«01_k».proof.Proof.Gen.AdamMixIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.AdamMixIdeal.Array

open Idealize.ShloMosaic.StableHlo Cert.AdamMixIdeal Cert.AdamMixIdeal.Gen Cert.AdamMixIdeal.Value

variable (m : (ℓ : Loc nD τ sig) → Buf (Elt Ideal) ℓ)

/-- The stacked gradient. -/
def grad (a b : FVec Ideal S256x1024 .f32) : FVec Ideal S2x256x1024 .f32 := fun i =>
  (if (i 0).val < 1 then a (ix2 (i 1) (i 2)) else b (ix2 (i 1) (i 2)) : EReal)

/-- The next first moment. -/
def first (p : FVec Ideal S2x256x1024 .f32) (a b : FVec Ideal S256x1024 .f32) : FVec Ideal S2x256x1024 .f32 := fun i =>
  (Ideal.ofBits .f32 0x3F666666#32 * p i + Ideal.ofBits .f32 0x3DCCCCCD#32 * grad a b i : EReal)

/-- The next second moment. -/
def second (q : FVec Ideal S2x256x1024 .f32) (a b : FVec Ideal S256x1024 .f32) : FVec Ideal S2x256x1024 .f32 := fun i =>
  (Ideal.ofBits .f32 0x3F7FBE77#32 * q i + Ideal.ofBits .f32 0x3A83126F#32 * (grad a b i * grad a b i) : EReal)

/-- The weight's change. -/
def delta (w p q : FVec Ideal S2x256x1024 .f32) (a b : FVec Ideal S256x1024 .f32) : FVec Ideal S2x256x1024 .f32 := fun i =>
  (Ideal.ofBits .f32 0xBA83126F#32 * (Ideal.div (Ideal.div (first p a b i) (Ideal.ofBits .f32 0x3F26BD02#32))
      (Ideal.sqrt (Ideal.div (second q a b i) (Ideal.ofBits .f32 0x3C231ACC#32)) + Ideal.ofBits .f32 0x322BCC77#32)
    + Ideal.ofBits .f32 0x3C23D70A#32 * w i) : EReal)

theorem V_w (c : Dev nD) : V m c main_arg0 = m ((c : Thread nD τ).loc main_arg0) := V_main_arg0 m c

theorem V_p (c : Dev nD) : V m c main_arg1 = m ((c : Thread nD τ).loc main_arg1) := V_main_arg1 m c

theorem V_q (c : Dev nD) : V m c main_arg2 = m ((c : Thread nD τ).loc main_arg2) := V_main_arg2 m c

theorem V_a (c : Dev nD) : V m c main_arg3 = m ((c : Thread nD τ).loc main_arg3) := V_main_arg3 m c

theorem V_b (c : Dev nD) : V m c main_arg4 = m ((c : Thread nD τ).loc main_arg4) := V_main_arg4 m c

theorem rows : ∀ t : Fin cfg0.N, win0_0.index t = ![t.val / 1, t.val % 1, 0] ∧ win0_1.index t = ![t.val / 1, t.val % 1, 0] ∧ win0_2.index t = ![t.val / 1, t.val % 1, 0] ∧ win0_3.index t = ![min t.val 0, 0] ∧ win0_4.index t = ![t.val - 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] :=
  (by decide +kernel : ∀ t : Fin grid0.N, _)

/-- The layer of point `t`. -/
def layer (t : Fin cfg0.N) : Fin 2 := ⟨t.val / 1, by have := t.isLt; have : cfg0.N = 2 := N_0; omega⟩

/-- Row `p` of the block at point `t`. -/
def row (t : Fin cfg0.N) (p : Fin 256) : Fin 256 := ⟨t.val % 1 * 256 + p.val, by omega⟩

theorem low : ∀ t : Fin cfg0.N, t.val < 1 → Scalar.cmpi .eq (BitVec.ofNat 32 ((grid0.coords t) 0).val) 0#32 = 1#1 :=
  (by decide +kernel : ∀ t : Fin grid0.N, _)

theorem high : ∀ t : Fin cfg0.N, ¬ t.val < 1 → Scalar.cmpi .eq (BitVec.ofNat 32 ((grid0.coords t) 0).val) 0#32 = 0#1 :=
  (by decide +kernel : ∀ t : Fin grid0.N, _)

theorem at_w (c : Dev nD) (t : Fin cfg0.N) (s : Fin 1) (p : Fin 256) (j : Fin 1024) : iblk m c 0 t (ix3 s p j)
    = (m ((c : Thread nD τ).loc main_arg0)) (ix3 (layer t) (row t p) j) := by
  refine (congrFun (V_w m c) _).trans ?_
  blk_point [iblk, V_w, rows t, row, layer]

theorem at_p (c : Dev nD) (t : Fin cfg0.N) (s : Fin 1) (p : Fin 256) (j : Fin 1024) : iblk m c 1 t (ix3 s p j)
    = (m ((c : Thread nD τ).loc main_arg1)) (ix3 (layer t) (row t p) j) := by
  refine (congrFun (V_p m c) _).trans ?_
  blk_point [iblk, V_p, rows t, row, layer]

theorem at_q (c : Dev nD) (t : Fin cfg0.N) (s : Fin 1) (p : Fin 256) (j : Fin 1024) : iblk m c 2 t (ix3 s p j)
    = (m ((c : Thread nD τ).loc main_arg2)) (ix3 (layer t) (row t p) j) := by
  refine (congrFun (V_q m c) _).trans ?_
  blk_point [iblk, V_q, rows t, row, layer]

theorem at_a (c : Dev nD) (t : Fin cfg0.N) (h : t.val < 1) (p : Fin 256) (j : Fin 1024) : iblk m c 3 t (ix2 p j)
    = (m ((c : Thread nD τ).loc main_arg3)) (ix2 (row t p) j) := by
  have hN : t.val < 2 := by have := t.isLt; have : cfg0.N = 2 := N_0; omega
  refine (congrFun (V_a m c) _).trans ?_
  blk_point [iblk, V_a, rows t, row]

theorem at_b (c : Dev nD) (t : Fin cfg0.N) (h : ¬ t.val < 1) (p : Fin 256) (j : Fin 1024) : iblk m c 4 t (ix2 p j)
    = (m ((c : Thread nD τ).loc main_arg4)) (ix2 (row t p) j) := by
  have hN : t.val < 2 := by have := t.isLt; have : cfg0.N = 2 := N_0; omega
  refine (congrFun (V_b m c) _).trans ?_
  blk_point [iblk, V_b, rows t, row]

/-- The body's gradient is the stacked one. -/
theorem grad_at (c : Dev nD) (t : Fin cfg0.N) (p : Fin 256) (j : Fin 1024) :
    k0_pay5 (grid0.coords t) (iblk m c 3 t) (iblk m c 4 t) (ix2 p j)
      = grad (m ((c : Thread nD τ).loc main_arg3)) (m ((c : Thread nD τ).loc main_arg4)) (ix3 (layer t) (row t p) j) := by
  have hN : t.val < 2 := by have := t.isLt; have : cfg0.N = 2 := N_0; omega
  unfold k0_pay5 grad
  by_cases h : t.val < 1
  · refine (congrFun (congrArg (fun z => Scalar.select z (iblk m c 3 t) (iblk m c 4 t)) (low t h)) _).trans ?_
    exact (at_a m c t h p j).trans (if_pos (show t.val / 1 < 1 by omega)).symm
  · refine (congrFun (congrArg (fun z => Scalar.select z (iblk m c 3 t) (iblk m c 4 t)) (high t h)) _).trans ?_
    exact (at_b m c t h p j).trans (if_neg (show ¬ t.val / 1 < 1 by omega)).symm

/-- The body's first moment. -/
theorem first_at (c : Dev nD) (t : Fin cfg0.N) (p : Fin 256) (j : Fin 1024) :
    k0_pay6 (grid0.coords t) (iblk m c 3 t) (iblk m c 4 t) (iblk m c 1 t) (ix2 p j)
      = first (m ((c : Thread nD τ).loc main_arg1)) (m ((c : Thread nD τ).loc main_arg3)) (m ((c : Thread nD τ).loc main_arg4)) (ix3 (layer t) (row t p) j) := by
  unfold k0_pay6 first
  pointwise
  simp only [grad_at, at_p]

/-- The body's second moment. -/
theorem second_at (c : Dev nD) (t : Fin cfg0.N) (p : Fin 256) (j : Fin 1024) :
    k0_pay7 (grid0.coords t) (iblk m c 3 t) (iblk m c 4 t) (iblk m c 2 t) (ix2 p j)
      = second (m ((c : Thread nD τ).loc main_arg2)) (m ((c : Thread nD τ).loc main_arg3)) (m ((c : Thread nD τ).loc main_arg4)) (ix3 (layer t) (row t p) j) := by
  unfold k0_pay7 second
  pointwise
  simp only [grad_at, at_q]

/-- The body's change of the weight. -/
theorem delta_at (c : Dev nD) (t : Fin cfg0.N) (p : Fin 256) (j : Fin 1024) :
    k0_pay8 (grid0.coords t) (iblk m c 3 t) (iblk m c 4 t) (iblk m c 0 t) (iblk m c 1 t) (iblk m c 2 t) (ix2 p j)
      = delta (m ((c : Thread nD τ).loc main_arg0)) (m ((c : Thread nD τ).loc main_arg1)) (m ((c : Thread nD τ).loc main_arg2)) (m ((c : Thread nD τ).loc main_arg3)) (m ((c : Thread nD τ).loc main_arg4)) (ix3 (layer t) (row t p) j) := by
  unfold k0_pay8 delta
  pointwise
  simp only [first_at, second_at, at_w]

/-- What the body leaves of it. -/
theorem out5_at (c : Dev nD) (t : Fin cfg0.N) (s : Fin 1) (p : Fin 256) (j : Fin 1024) :
    k0_pay1 (k0_pay5 (grid0.coords t) (iblk m c 3 t) (iblk m c 4 t)) (ix3 s p j)
      = grad (m ((c : Thread nD τ).loc main_arg3)) (m ((c : Thread nD τ).loc main_arg4)) (ix3 (layer t) (row t p) j) := by
  unfold k0_pay1
  pointwise
  simp only [grad_at]

theorem final5 (c : Dev nD) : (dats m 0 c).arrAt 5 cfg0.N
    = grad (m ((c : Thread nD τ).loc main_arg3)) (m ((c : Thread nD τ).loc main_arg4)) := by
  refine (dats m 0 c).arrAt_eq_of_covers 5 _ (by decide +kernel) fun t hf y => ?_
  idx_vars y
  blk_simp
  rw [after0_5]
  frame_out
  refine (out5_at m c t y0 y1 y2).trans (congrArg _ ?_)
  blk_ext [rows t, row, layer]

/-- What the body leaves of it. -/
theorem out6_at (c : Dev nD) (t : Fin cfg0.N) (s : Fin 1) (p : Fin 256) (j : Fin 1024) :
    k0_pay2 (k0_pay8 (grid0.coords t) (iblk m c 3 t) (iblk m c 4 t) (iblk m c 0 t) (iblk m c 1 t) (iblk m c 2 t)) (ix3 s p j)
      = delta (m ((c : Thread nD τ).loc main_arg0)) (m ((c : Thread nD τ).loc main_arg1)) (m ((c : Thread nD τ).loc main_arg2)) (m ((c : Thread nD τ).loc main_arg3)) (m ((c : Thread nD τ).loc main_arg4)) (ix3 (layer t) (row t p) j) := by
  unfold k0_pay2
  pointwise
  simp only [delta_at]

theorem final6 (c : Dev nD) : (dats m 0 c).arrAt 6 cfg0.N
    = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  idx_vars y
  blk_simp
  rw [after0_6]
  frame_out
  refine (out6_at m c t y0 y1 y2).trans (congrArg _ ?_)
  blk_ext [rows t, row, layer]

/-- What the body leaves of it. -/
theorem out7_at (c : Dev nD) (t : Fin cfg0.N) (s : Fin 1) (p : Fin 256) (j : Fin 1024) :
    k0_pay3 (k0_pay6 (grid0.coords t) (iblk m c 3 t) (iblk m c 4 t) (iblk m c 1 t)) (ix3 s p j)
      = first (m ((c : Thread nD τ).loc main_arg1)) (m ((c : Thread nD τ).loc main_arg3)) (m ((c : Thread nD τ).loc main_arg4)) (ix3 (layer t) (row t p) j) := by
  unfold k0_pay3
  pointwise
  simp only [first_at]

theorem final7 (c : Dev nD) : (dats m 0 c).arrAt 7 cfg0.N
    = first (m ((c : Thread nD τ).loc main_arg1)) (m ((c : Thread nD τ).loc main_arg3)) (m ((c : Thread nD τ).loc main_arg4)) := by
  refine (dats m 0 c).arrAt_eq_of_covers 7 _ (by decide +kernel) fun t hf y => ?_
  idx_vars y
  blk_simp
  rw [after0_7]
  frame_out
  refine (out7_at m c t y0 y1 y2).trans (congrArg _ ?_)
  blk_ext [rows t, row, layer]

/-- What the body leaves of it. -/
theorem out8_at (c : Dev nD) (t : Fin cfg0.N) (s : Fin 1) (p : Fin 256) (j : Fin 1024) :
    k0_pay4 (k0_pay7 (grid0.coords t) (iblk m c 3 t) (iblk m c 4 t) (iblk m c 2 t)) (ix3 s p j)
      = second (m ((c : Thread nD τ).loc main_arg2)) (m ((c : Thread nD τ).loc main_arg3)) (m ((c : Thread nD τ).loc main_arg4)) (ix3 (layer t) (row t p) j) := by
  unfold k0_pay4
  pointwise
  simp only [second_at]

theorem final8 (c : Dev nD) : (dats m 0 c).arrAt 8 cfg0.N
    = second (m ((c : Thread nD τ).loc main_arg2)) (m ((c : Thread nD τ).loc main_arg3)) (m ((c : Thread nD τ).loc main_arg4)) := by
  refine (dats m 0 c).arrAt_eq_of_covers 8 _ (by decide +kernel) fun t hf y => ?_
  idx_vars y
  blk_simp
  rw [after0_8]
  frame_out
  refine (out8_at m c t y0 y1 y2).trans (congrArg _ ?_)
  blk_ext [rows t, row, layer]

end Cert.AdamMixIdeal.Array

end
-- ==== Proof.AdamMixEquation.lean ====
/- The reference's results at the extended reals are the kernel's arrays. -/
module

public import proofs.«01_k».proof.Defs
public import proofs.«01_k».proof.Proof.AdamMixArray
public import proofs.«01_k».proof.Proof.Gen.AdamMixReferenceIdeal.Read
public import proofs.«01_k».proof.Proof.Gen.AdamMixReferenceIdeal.Run

@[expose] public section

set_option maxRecDepth 16384

noncomputable section

open Idealize.ShloMosaic Idealize.ShloMosaic.TcCoe Idealize.SL.Sem

namespace Cert.AdamMixReferenceIdeal.Equation

open Cert.AdamMixIdeal.Array (grad first second delta)
open Cert.AdamMixReferenceIdeal Cert.AdamMixReferenceIdeal.Read

/-- The stacked gradient. -/
theorem grad_eq (a b : FVec Ideal S256x1024 .f32) :
    val_main_v2 (F := Ideal) a b = grad a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, grad]
  simp only [dite_eq_ite]

/-- The weight's change. -/
theorem delta_eq (w p q : FVec Ideal S2x256x1024 .f32) (a b : FVec Ideal S256x1024 .f32) :
    val_main_v26 (F := Ideal) w p q a b = delta w p q a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, delta, first, second, grad]
  simp only [dite_eq_ite]

/-- The next first moment. -/
theorem first_eq (p : FVec Ideal S2x256x1024 .f32) (a b : FVec Ideal S256x1024 .f32) :
    val_main_v7 (F := Ideal) p a b = first p a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, first, grad]
  simp only [dite_eq_ite]

/-- The next second moment. -/
theorem second_eq (q : FVec Ideal S2x256x1024 .f32) (a b : FVec Ideal S256x1024 .f32) :
    val_main_v13 (F := Ideal) q a b = second q a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, second, grad]
  simp only [dite_eq_ite]

end Cert.AdamMixReferenceIdeal.Equation

namespace Cert.Proof

theorem adamMix_algebraic : Cert.algebraic_AdamMixIdeal_AdamMixReferenceIdeal := by
  pair_intro
  · run_from Cert.AdamMixIdeal.Value.run_blocks m g
  · run_from Cert.AdamMixReferenceIdeal.Value.run m' g'
    · rw [Cert.AdamMixIdeal.Array.final5]
      exact (Cert.AdamMixReferenceIdeal.Read.val_main_v2_eq _ _).trans
        (by rw [(hagree c).2.2.2.1, (hagree c).2.2.2.2]; exact Cert.AdamMixReferenceIdeal.Equation.grad_eq _ _)
    · rw [Cert.AdamMixIdeal.Array.final6]
      exact (Cert.AdamMixReferenceIdeal.Read.val_main_v26_eq _ _ _ _ _).trans
        (by rw [(hagree c).2.2.2.1, (hagree c).2.2.2.2]; exact Cert.AdamMixReferenceIdeal.Equation.delta_eq _ _ _ _ _)
    · rw [Cert.AdamMixIdeal.Array.final7]
      exact (Cert.AdamMixReferenceIdeal.Read.val_main_v7_eq _ _ _).trans
        (by rw [(hagree c).2.2.2.1, (hagree c).2.2.2.2]; exact Cert.AdamMixReferenceIdeal.Equation.first_eq _ _ _)
    · rw [Cert.AdamMixIdeal.Array.final8]
      exact (Cert.AdamMixReferenceIdeal.Read.val_main_v13_eq _ _ _).trans
        (by rw [(hagree c).2.2.2.1, (hagree c).2.2.2.2]; exact Cert.AdamMixReferenceIdeal.Equation.second_eq _ _ _)

theorem adamMix_reference_frame : Cert.quiescent_AdamMixReferenceIdeal := fun m ρ _ =>
  (θ_run Cert.AdamMixReferenceIdeal.defs _ _).mono (fun r h => ⟨fun c => (h c).2.2.2.2,
      Idealize.ShloMosaic.sem_eq_zero_of_no_sems (by decide) r.2⟩)
    (Cert.AdamMixReferenceIdeal.Value.run (F := Ideal) m ρ)

end Cert.Proof

end
-- ==== Proof.AdamEmbedArray.lean ====
/- The arrays that the optimiser's step returns, at the extended reals, as functions of the arguments. -/
module

public import proofs.«01_k».proof.Proof.Gen.AdamEmbedIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.AdamEmbedIdeal.Array

open Idealize.ShloMosaic.StableHlo Cert.AdamEmbedIdeal Cert.AdamEmbedIdeal.Gen Cert.AdamEmbedIdeal.Value

variable (m : (ℓ : Loc nD τ sig) → Buf (Elt Ideal) ℓ)

/-- The stacked gradient. -/
def grad (a b : FVec Ideal S256x256 .f32) : FVec Ideal S2x256x256 .f32 := fun i =>
  (if (i 0).val < 1 then a (ix2 (i 1) (i 2)) else b (ix2 (i 1) (i 2)) : EReal)

/-- The next first moment. -/
def first (p : FVec Ideal S2x256x256 .f32) (a b : FVec Ideal S256x256 .f32) : FVec Ideal S2x256x256 .f32 := fun i =>
  (Ideal.ofBits .f32 0x3F666666#32 * p i + Ideal.ofBits .f32 0x3DCCCCCD#32 * grad a b i : EReal)

/-- The next second moment. -/
def second (q : FVec Ideal S2x256x256 .f32) (a b : FVec Ideal S256x256 .f32) : FVec Ideal S2x256x256 .f32 := fun i =>
  (Ideal.ofBits .f32 0x3F7FBE77#32 * q i + Ideal.ofBits .f32 0x3A83126F#32 * (grad a b i * grad a b i) : EReal)

/-- The weight's change. -/
def delta (w p q : FVec Ideal S2x256x256 .f32) (a b : FVec Ideal S256x256 .f32) : FVec Ideal S2x256x256 .f32 := fun i =>
  (Ideal.ofBits .f32 0xBA83126F#32 * (Ideal.div (Ideal.div (first p a b i) (Ideal.ofBits .f32 0x3F26BD02#32))
      (Ideal.sqrt (Ideal.div (second q a b i) (Ideal.ofBits .f32 0x3C231ACC#32)) + Ideal.ofBits .f32 0x322BCC77#32)
    + Ideal.ofBits .f32 0x3C23D70A#32 * w i) : EReal)

theorem V_w (c : Dev nD) : V m c main_arg0 = m ((c : Thread nD τ).loc main_arg0) := V_main_arg0 m c

theorem V_p (c : Dev nD) : V m c main_arg1 = m ((c : Thread nD τ).loc main_arg1) := V_main_arg1 m c

theorem V_q (c : Dev nD) : V m c main_arg2 = m ((c : Thread nD τ).loc main_arg2) := V_main_arg2 m c

theorem V_a (c : Dev nD) : V m c main_arg3 = m ((c : Thread nD τ).loc main_arg3) := V_main_arg3 m c

theorem V_b (c : Dev nD) : V m c main_arg4 = m ((c : Thread nD τ).loc main_arg4) := V_main_arg4 m c

theorem rows : ∀ t : Fin cfg0.N, win0_0.index t = ![t.val / 1, t.val % 1, 0] ∧ win0_1.index t = ![t.val / 1, t.val % 1, 0] ∧ win0_2.index t = ![t.val / 1, t.val % 1, 0] ∧ win0_3.index t = ![min t.val 0, 0] ∧ win0_4.index t = ![t.val - 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] :=
  (by decide +kernel : ∀ t : Fin grid0.N, _)

/-- The layer of point `t`. -/
def layer (t : Fin cfg0.N) : Fin 2 := ⟨t.val / 1, by have := t.isLt; have : cfg0.N = 2 := N_0; omega⟩

/-- Row `p` of the block at point `t`. -/
def row (t : Fin cfg0.N) (p : Fin 256) : Fin 256 := ⟨t.val % 1 * 256 + p.val, by omega⟩

theorem low : ∀ t : Fin cfg0.N, t.val < 1 → Scalar.cmpi .eq (BitVec.ofNat 32 ((grid0.coords t) 0).val) 0#32 = 1#1 :=
  (by decide +kernel : ∀ t : Fin grid0.N, _)

theorem high : ∀ t : Fin cfg0.N, ¬ t.val < 1 → Scalar.cmpi .eq (BitVec.ofNat 32 ((grid0.coords t) 0).val) 0#32 = 0#1 :=
  (by decide +kernel : ∀ t : Fin grid0.N, _)

theorem at_w (c : Dev nD) (t : Fin cfg0.N) (s : Fin 1) (p : Fin 256) (j : Fin 256) : iblk m c 0 t (ix3 s p j)
    = (m ((c : Thread nD τ).loc main_arg0)) (ix3 (layer t) (row t p) j) := by
  refine (congrFun (V_w m c) _).trans ?_
  blk_point [iblk, V_w, rows t, row, layer]

theorem at_p (c : Dev nD) (t : Fin cfg0.N) (s : Fin 1) (p : Fin 256) (j : Fin 256) : iblk m c 1 t (ix3 s p j)
    = (m ((c : Thread nD τ).loc main_arg1)) (ix3 (layer t) (row t p) j) := by
  refine (congrFun (V_p m c) _).trans ?_
  blk_point [iblk, V_p, rows t, row, layer]

theorem at_q (c : Dev nD) (t : Fin cfg0.N) (s : Fin 1) (p : Fin 256) (j : Fin 256) : iblk m c 2 t (ix3 s p j)
    = (m ((c : Thread nD τ).loc main_arg2)) (ix3 (layer t) (row t p) j) := by
  refine (congrFun (V_q m c) _).trans ?_
  blk_point [iblk, V_q, rows t, row, layer]

theorem at_a (c : Dev nD) (t : Fin cfg0.N) (h : t.val < 1) (p : Fin 256) (j : Fin 256) : iblk m c 3 t (ix2 p j)
    = (m ((c : Thread nD τ).loc main_arg3)) (ix2 (row t p) j) := by
  have hN : t.val < 2 := by have := t.isLt; have : cfg0.N = 2 := N_0; omega
  refine (congrFun (V_a m c) _).trans ?_
  blk_point [iblk, V_a, rows t, row]

theorem at_b (c : Dev nD) (t : Fin cfg0.N) (h : ¬ t.val < 1) (p : Fin 256) (j : Fin 256) : iblk m c 4 t (ix2 p j)
    = (m ((c : Thread nD τ).loc main_arg4)) (ix2 (row t p) j) := by
  have hN : t.val < 2 := by have := t.isLt; have : cfg0.N = 2 := N_0; omega
  refine (congrFun (V_b m c) _).trans ?_
  blk_point [iblk, V_b, rows t, row]

/-- The body's gradient is the stacked one. -/
theorem grad_at (c : Dev nD) (t : Fin cfg0.N) (p : Fin 256) (j : Fin 256) :
    k0_pay5 (grid0.coords t) (iblk m c 3 t) (iblk m c 4 t) (ix2 p j)
      = grad (m ((c : Thread nD τ).loc main_arg3)) (m ((c : Thread nD τ).loc main_arg4)) (ix3 (layer t) (row t p) j) := by
  have hN : t.val < 2 := by have := t.isLt; have : cfg0.N = 2 := N_0; omega
  unfold k0_pay5 grad
  by_cases h : t.val < 1
  · refine (congrFun (congrArg (fun z => Scalar.select z (iblk m c 3 t) (iblk m c 4 t)) (low t h)) _).trans ?_
    exact (at_a m c t h p j).trans (if_pos (show t.val / 1 < 1 by omega)).symm
  · refine (congrFun (congrArg (fun z => Scalar.select z (iblk m c 3 t) (iblk m c 4 t)) (high t h)) _).trans ?_
    exact (at_b m c t h p j).trans (if_neg (show ¬ t.val / 1 < 1 by omega)).symm

/-- The body's first moment. -/
theorem first_at (c : Dev nD) (t : Fin cfg0.N) (p : Fin 256) (j : Fin 256) :
    k0_pay6 (grid0.coords t) (iblk m c 3 t) (iblk m c 4 t) (iblk m c 1 t) (ix2 p j)
      = first (m ((c : Thread nD τ).loc main_arg1)) (m ((c : Thread nD τ).loc main_arg3)) (m ((c : Thread nD τ).loc main_arg4)) (ix3 (layer t) (row t p) j) := by
  unfold k0_pay6 first
  pointwise
  simp only [grad_at, at_p]

/-- The body's second moment. -/
theorem second_at (c : Dev nD) (t : Fin cfg0.N) (p : Fin 256) (j : Fin 256) :
    k0_pay7 (grid0.coords t) (iblk m c 3 t) (iblk m c 4 t) (iblk m c 2 t) (ix2 p j)
      = second (m ((c : Thread nD τ).loc main_arg2)) (m ((c : Thread nD τ).loc main_arg3)) (m ((c : Thread nD τ).loc main_arg4)) (ix3 (layer t) (row t p) j) := by
  unfold k0_pay7 second
  pointwise
  simp only [grad_at, at_q]

/-- The body's change of the weight. -/
theorem delta_at (c : Dev nD) (t : Fin cfg0.N) (p : Fin 256) (j : Fin 256) :
    k0_pay8 (grid0.coords t) (iblk m c 3 t) (iblk m c 4 t) (iblk m c 0 t) (iblk m c 1 t) (iblk m c 2 t) (ix2 p j)
      = delta (m ((c : Thread nD τ).loc main_arg0)) (m ((c : Thread nD τ).loc main_arg1)) (m ((c : Thread nD τ).loc main_arg2)) (m ((c : Thread nD τ).loc main_arg3)) (m ((c : Thread nD τ).loc main_arg4)) (ix3 (layer t) (row t p) j) := by
  unfold k0_pay8 delta
  pointwise
  simp only [first_at, second_at, at_w]

/-- What the body leaves of it. -/
theorem out5_at (c : Dev nD) (t : Fin cfg0.N) (s : Fin 1) (p : Fin 256) (j : Fin 256) :
    k0_pay1 (k0_pay5 (grid0.coords t) (iblk m c 3 t) (iblk m c 4 t)) (ix3 s p j)
      = grad (m ((c : Thread nD τ).loc main_arg3)) (m ((c : Thread nD τ).loc main_arg4)) (ix3 (layer t) (row t p) j) := by
  unfold k0_pay1
  pointwise
  simp only [grad_at]

theorem final5 (c : Dev nD) : (dats m 0 c).arrAt 5 cfg0.N
    = grad (m ((c : Thread nD τ).loc main_arg3)) (m ((c : Thread nD τ).loc main_arg4)) := by
  refine (dats m 0 c).arrAt_eq_of_covers 5 _ (by decide +kernel) fun t hf y => ?_
  idx_vars y
  blk_simp
  rw [after0_5]
  frame_out
  refine (out5_at m c t y0 y1 y2).trans (congrArg _ ?_)
  blk_ext [rows t, row, layer]

/-- What the body leaves of it. -/
theorem out6_at (c : Dev nD) (t : Fin cfg0.N) (s : Fin 1) (p : Fin 256) (j : Fin 256) :
    k0_pay2 (k0_pay8 (grid0.coords t) (iblk m c 3 t) (iblk m c 4 t) (iblk m c 0 t) (iblk m c 1 t) (iblk m c 2 t)) (ix3 s p j)
      = delta (m ((c : Thread nD τ).loc main_arg0)) (m ((c : Thread nD τ).loc main_arg1)) (m ((c : Thread nD τ).loc main_arg2)) (m ((c : Thread nD τ).loc main_arg3)) (m ((c : Thread nD τ).loc main_arg4)) (ix3 (layer t) (row t p) j) := by
  unfold k0_pay2
  pointwise
  simp only [delta_at]

theorem final6 (c : Dev nD) : (dats m 0 c).arrAt 6 cfg0.N
    = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  idx_vars y
  blk_simp
  rw [after0_6]
  frame_out
  refine (out6_at m c t y0 y1 y2).trans (congrArg _ ?_)
  blk_ext [rows t, row, layer]

/-- What the body leaves of it. -/
theorem out7_at (c : Dev nD) (t : Fin cfg0.N) (s : Fin 1) (p : Fin 256) (j : Fin 256) :
    k0_pay3 (k0_pay6 (grid0.coords t) (iblk m c 3 t) (iblk m c 4 t) (iblk m c 1 t)) (ix3 s p j)
      = first (m ((c : Thread nD τ).loc main_arg1)) (m ((c : Thread nD τ).loc main_arg3)) (m ((c : Thread nD τ).loc main_arg4)) (ix3 (layer t) (row t p) j) := by
  unfold k0_pay3
  pointwise
  simp only [first_at]

theorem final7 (c : Dev nD) : (dats m 0 c).arrAt 7 cfg0.N
    = first (m ((c : Thread nD τ).loc main_arg1)) (m ((c : Thread nD τ).loc main_arg3)) (m ((c : Thread nD τ).loc main_arg4)) := by
  refine (dats m 0 c).arrAt_eq_of_covers 7 _ (by decide +kernel) fun t hf y => ?_
  idx_vars y
  blk_simp
  rw [after0_7]
  frame_out
  refine (out7_at m c t y0 y1 y2).trans (congrArg _ ?_)
  blk_ext [rows t, row, layer]

/-- What the body leaves of it. -/
theorem out8_at (c : Dev nD) (t : Fin cfg0.N) (s : Fin 1) (p : Fin 256) (j : Fin 256) :
    k0_pay4 (k0_pay7 (grid0.coords t) (iblk m c 3 t) (iblk m c 4 t) (iblk m c 2 t)) (ix3 s p j)
      = second (m ((c : Thread nD τ).loc main_arg2)) (m ((c : Thread nD τ).loc main_arg3)) (m ((c : Thread nD τ).loc main_arg4)) (ix3 (layer t) (row t p) j) := by
  unfold k0_pay4
  pointwise
  simp only [second_at]

theorem final8 (c : Dev nD) : (dats m 0 c).arrAt 8 cfg0.N
    = second (m ((c : Thread nD τ).loc main_arg2)) (m ((c : Thread nD τ).loc main_arg3)) (m ((c : Thread nD τ).loc main_arg4)) := by
  refine (dats m 0 c).arrAt_eq_of_covers 8 _ (by decide +kernel) fun t hf y => ?_
  idx_vars y
  blk_simp
  rw [after0_8]
  frame_out
  refine (out8_at m c t y0 y1 y2).trans (congrArg _ ?_)
  blk_ext [rows t, row, layer]

end Cert.AdamEmbedIdeal.Array

end
-- ==== Proof.AdamEmbedEquation.lean ====
/- The reference's results at the extended reals are the kernel's arrays. -/
module

public import proofs.«01_k».proof.Defs
public import proofs.«01_k».proof.Proof.AdamEmbedArray
public import proofs.«01_k».proof.Proof.Gen.AdamEmbedReferenceIdeal.Read
public import proofs.«01_k».proof.Proof.Gen.AdamEmbedReferenceIdeal.Run

@[expose] public section

set_option maxRecDepth 16384

noncomputable section

open Idealize.ShloMosaic Idealize.ShloMosaic.TcCoe Idealize.SL.Sem

namespace Cert.AdamEmbedReferenceIdeal.Equation

open Cert.AdamEmbedIdeal.Array (grad first second delta)
open Cert.AdamEmbedReferenceIdeal Cert.AdamEmbedReferenceIdeal.Read

/-- The stacked gradient. -/
theorem grad_eq (a b : FVec Ideal S256x256 .f32) :
    val_main_v2 (F := Ideal) a b = grad a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, grad]
  simp only [dite_eq_ite]

/-- The weight's change. -/
theorem delta_eq (w p q : FVec Ideal S2x256x256 .f32) (a b : FVec Ideal S256x256 .f32) :
    val_main_v26 (F := Ideal) w p q a b = delta w p q a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, delta, first, second, grad]
  simp only [dite_eq_ite]

/-- The next first moment. -/
theorem first_eq (p : FVec Ideal S2x256x256 .f32) (a b : FVec Ideal S256x256 .f32) :
    val_main_v7 (F := Ideal) p a b = first p a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, first, grad]
  simp only [dite_eq_ite]

/-- The next second moment. -/
theorem second_eq (q : FVec Ideal S2x256x256 .f32) (a b : FVec Ideal S256x256 .f32) :
    val_main_v13 (F := Ideal) q a b = second q a b := by
  funext i
  pointwise [
    val_main_v0, val_main_v1, val_main_v2, val_main_cst, val_main_v3, val_main_v4, val_main_cst_0, val_main_v5,
    val_main_v6, val_main_v7, val_main_cst_1, val_main_v8, val_main_v9, val_main_v10, val_main_cst_2, val_main_v11,
    val_main_v12, val_main_v13, val_main_cst_3, val_main_v14, val_main_v15, val_main_cst_4, val_main_v16,
    val_main_v17, val_main_v18, val_main_cst_5, val_main_v19, val_main_v20, val_main_v21, val_main_cst_6,
    val_main_v22, val_main_v23, val_main_v24, val_main_cst_7, val_main_v25, val_main_v26, second, grad]
  simp only [dite_eq_ite]

end Cert.AdamEmbedReferenceIdeal.Equation

namespace Cert.Proof

theorem adamEmbed_algebraic : Cert.algebraic_AdamEmbedIdeal_AdamEmbedReferenceIdeal := by
  pair_intro
  · run_from Cert.AdamEmbedIdeal.Value.run_blocks m g
  · run_from Cert.AdamEmbedReferenceIdeal.Value.run m' g'
    · rw [Cert.AdamEmbedIdeal.Array.final5]
      exact (Cert.AdamEmbedReferenceIdeal.Read.val_main_v2_eq _ _).trans
        (by rw [(hagree c).2.2.2.1, (hagree c).2.2.2.2]; exact Cert.AdamEmbedReferenceIdeal.Equation.grad_eq _ _)
    · rw [Cert.AdamEmbedIdeal.Array.final6]
      exact (Cert.AdamEmbedReferenceIdeal.Read.val_main_v26_eq _ _ _ _ _).trans
        (by rw [(hagree c).2.2.2.1, (hagree c).2.2.2.2]; exact Cert.AdamEmbedReferenceIdeal.Equation.delta_eq _ _ _ _ _)
    · rw [Cert.AdamEmbedIdeal.Array.final7]
      exact (Cert.AdamEmbedReferenceIdeal.Read.val_main_v7_eq _ _ _).trans
        (by rw [(hagree c).2.2.2.1, (hagree c).2.2.2.2]; exact Cert.AdamEmbedReferenceIdeal.Equation.first_eq _ _ _)
    · rw [Cert.AdamEmbedIdeal.Array.final8]
      exact (Cert.AdamEmbedReferenceIdeal.Read.val_main_v13_eq _ _ _).trans
        (by rw [(hagree c).2.2.2.1, (hagree c).2.2.2.2]; exact Cert.AdamEmbedReferenceIdeal.Equation.second_eq _ _ _)

theorem adamEmbed_reference_frame : Cert.quiescent_AdamEmbedReferenceIdeal := fun m ρ _ =>
  (θ_run Cert.AdamEmbedReferenceIdeal.defs _ _).mono (fun r h => ⟨fun c => (h c).2.2.2.2,
      Idealize.ShloMosaic.sem_eq_zero_of_no_sems (by decide) r.2⟩)
    (Cert.AdamEmbedReferenceIdeal.Value.run (F := Ideal) m ρ)

end Cert.Proof

end
-- ==== Proof.lean ====
module

public import proofs.«01_k».proof.Defs
public import proofs.«01_k».proof.Proof.Gen.FfOut.Frame
public import proofs.«01_k».proof.Proof.Gen.FfOutIdeal.Value
public import proofs.«01_k».proof.Proof.Gen.FfOutReferenceIdeal.Run
public import proofs.«01_k».proof.Proof.Gen.FfOutReferenceIdeal.Read
public import proofs.«01_k».proof.Proof.Gen.FfOutWeight.Frame
public import proofs.«01_k».proof.Proof.Gen.FfOutWeightIdeal.Value
public import proofs.«01_k».proof.Proof.Gen.FfOutWeightReferenceIdeal.Run
public import proofs.«01_k».proof.Proof.Gen.FfOutWeightReferenceIdeal.Read
public import proofs.«01_k».proof.Proof.Gen.FfInWeight.Frame
public import proofs.«01_k».proof.Proof.Gen.FfInWeightIdeal.Value
public import proofs.«01_k».proof.Proof.Gen.FfInWeightReferenceIdeal.Run
public import proofs.«01_k».proof.Proof.Gen.FfInWeightReferenceIdeal.Read
public import proofs.«01_k».proof.Proof.Gen.GateWeight.Frame
public import proofs.«01_k».proof.Proof.Gen.GateWeightIdeal.Value
public import proofs.«01_k».proof.Proof.Gen.GateWeightReferenceIdeal.Run
public import proofs.«01_k».proof.Proof.Gen.GateWeightReferenceIdeal.Read
public import proofs.«01_k».proof.Proof.Gen.EmbedWeight.Frame
public import proofs.«01_k».proof.Proof.Gen.EmbedWeightIdeal.Value
public import proofs.«01_k».proof.Proof.Gen.EmbedWeightReferenceIdeal.Run
public import proofs.«01_k».proof.Proof.Gen.EmbedWeightReferenceIdeal.Read
public import proofs.«01_k».proof.Proof.Gen.MixWeight.Frame
public import proofs.«01_k».proof.Proof.Gen.MixWeightIdeal.Value
public import proofs.«01_k».proof.Proof.Gen.MixWeightReferenceIdeal.Run
public import proofs.«01_k».proof.Proof.Gen.MixWeightReferenceIdeal.Read
public import proofs.«01_k».proof.Proof.Gen.UpWeight.Frame
public import proofs.«01_k».proof.Proof.Gen.UpWeightIdeal.Value
public import proofs.«01_k».proof.Proof.Gen.UpWeightReferenceIdeal.Run
public import proofs.«01_k».proof.Proof.Gen.UpWeightReferenceIdeal.Read
public import proofs.«01_k».proof.Proof.Gen.InWeight.Frame
public import proofs.«01_k».proof.Proof.Gen.InWeightIdeal.Value
public import proofs.«01_k».proof.Proof.Gen.InWeightReferenceIdeal.Run
public import proofs.«01_k».proof.Proof.Gen.InWeightReferenceIdeal.Read
public import proofs.«01_k».proof.Proof.Gen.FfIn.Frame
public import proofs.«01_k».proof.Proof.Gen.FfInIdeal.Value
public import proofs.«01_k».proof.Proof.Gen.FfInReferenceIdeal.Run
public import proofs.«01_k».proof.Proof.Gen.FfInReferenceIdeal.Read
public import proofs.«01_k».proof.Proof.Gen.Gate.Frame
public import proofs.«01_k».proof.Proof.Gen.GateIdeal.Value
public import proofs.«01_k».proof.Proof.Gen.GateReferenceIdeal.Run
public import proofs.«01_k».proof.Proof.Gen.GateReferenceIdeal.Read
public import proofs.«01_k».proof.Proof.Gen.Loss.Frame
public import proofs.«01_k».proof.Proof.Gen.LossIdeal.Value
public import proofs.«01_k».proof.Proof.Gen.LossReferenceIdeal.Run
public import proofs.«01_k».proof.Proof.Gen.LossReferenceIdeal.Read
public import proofs.«01_k».proof.Proof.Gen.InForward.Frame
public import proofs.«01_k».proof.Proof.Gen.InForwardIdeal.Value
public import proofs.«01_k».proof.Proof.Gen.InForwardReferenceIdeal.Run
public import proofs.«01_k».proof.Proof.Gen.InForwardReferenceIdeal.Read
public import proofs.«01_k».proof.Proof.Gen.MixForward.Frame
public import proofs.«01_k».proof.Proof.Gen.MixForwardIdeal.Value
public import proofs.«01_k».proof.Proof.Gen.MixForwardReferenceIdeal.Run
public import proofs.«01_k».proof.Proof.Gen.MixForwardReferenceIdeal.Read
public import proofs.«01_k».proof.Proof.Gen.FfInForward.Frame
public import proofs.«01_k».proof.Proof.Gen.FfInForwardIdeal.Value
public import proofs.«01_k».proof.Proof.Gen.FfInForwardReferenceIdeal.Run
public import proofs.«01_k».proof.Proof.Gen.FfInForwardReferenceIdeal.Read
public import proofs.«01_k».proof.Proof.Gen.FfOutForward.Frame
public import proofs.«01_k».proof.Proof.Gen.FfOutForwardIdeal.Value
public import proofs.«01_k».proof.Proof.Gen.FfOutForwardReferenceIdeal.Run
public import proofs.«01_k».proof.Proof.Gen.FfOutForwardReferenceIdeal.Read
public import proofs.«01_k».proof.Proof.Gen.EmbedForward.Frame
public import proofs.«01_k».proof.Proof.Gen.EmbedForwardIdeal.Value
public import proofs.«01_k».proof.Proof.Gen.EmbedForwardReferenceIdeal.Run
public import proofs.«01_k».proof.Proof.Gen.EmbedForwardReferenceIdeal.Read
public import proofs.«01_k».proof.Proof.Gen.AdamIn.Frame
public import proofs.«01_k».proof.Proof.Gen.AdamInIdeal.Value
public import proofs.«01_k».proof.Proof.Gen.AdamInReferenceIdeal.Run
public import proofs.«01_k».proof.Proof.Gen.AdamInReferenceIdeal.Read
public import proofs.«01_k».proof.Proof.Gen.AdamFf.Frame
public import proofs.«01_k».proof.Proof.Gen.AdamFfIdeal.Value
public import proofs.«01_k».proof.Proof.Gen.AdamFfReferenceIdeal.Run
public import proofs.«01_k».proof.Proof.Gen.AdamFfReferenceIdeal.Read
public import proofs.«01_k».proof.Proof.Gen.AdamUp.Frame
public import proofs.«01_k».proof.Proof.Gen.AdamUpIdeal.Value
public import proofs.«01_k».proof.Proof.Gen.AdamUpReferenceIdeal.Run
public import proofs.«01_k».proof.Proof.Gen.AdamUpReferenceIdeal.Read
public import proofs.«01_k».proof.Proof.Gen.AdamMix.Frame
public import proofs.«01_k».proof.Proof.Gen.AdamMixIdeal.Value
public import proofs.«01_k».proof.Proof.Gen.AdamMixReferenceIdeal.Run
public import proofs.«01_k».proof.Proof.Gen.AdamMixReferenceIdeal.Read
public import proofs.«01_k».proof.Proof.Gen.AdamEmbed.Frame
public import proofs.«01_k».proof.Proof.Gen.AdamEmbedIdeal.Value
public import proofs.«01_k».proof.Proof.Gen.AdamEmbedReferenceIdeal.Run
public import proofs.«01_k».proof.Proof.Gen.AdamEmbedReferenceIdeal.Read
public import proofs.«01_k».proof.Proof.Gen.WindowForward.Frame
public import proofs.«01_k».proof.Proof.Gen.WindowForwardIdeal.Value
public import proofs.«01_k».proof.Proof.Gen.WindowForwardReferenceIdeal.Run
public import proofs.«01_k».proof.Proof.Gen.WindowForwardReferenceIdeal.Read
public import proofs.«01_k».proof.Proof.FfOutEquation
public import proofs.«01_k».proof.Proof.FfOutWeightEquation
public import proofs.«01_k».proof.Proof.FfInWeightEquation
public import proofs.«01_k».proof.Proof.GateWeightEquation
public import proofs.«01_k».proof.Proof.EmbedWeightEquation
public import proofs.«01_k».proof.Proof.MixWeightEquation
public import proofs.«01_k».proof.Proof.UpWeightEquation
public import proofs.«01_k».proof.Proof.InWeightEquation
public import proofs.«01_k».proof.Proof.FfInEquation
public import proofs.«01_k».proof.Proof.GateEquation
public import proofs.«01_k».proof.Proof.LossEquation
public import proofs.«01_k».proof.Proof.InForwardEquation
public import proofs.«01_k».proof.Proof.MixForwardEquation
public import proofs.«01_k».proof.Proof.FfInForwardEquation
public import proofs.«01_k».proof.Proof.WindowForwardEquation
public import proofs.«01_k».proof.Proof.FfOutForwardEquation
public import proofs.«01_k».proof.Proof.EmbedForwardEquation
public import proofs.«01_k».proof.Proof.AdamInEquation
public import proofs.«01_k».proof.Proof.AdamFfEquation
public import proofs.«01_k».proof.Proof.AdamUpEquation
public import proofs.«01_k».proof.Proof.AdamMixEquation
public import proofs.«01_k».proof.Proof.AdamEmbedEquation
public import Idealize.ShloMosaic.Adequacy
public import Idealize.ShloMosaic.Init

@[expose] public section

noncomputable section

namespace Cert.Proof

open Idealize.ShloMosaic Idealize.SL.Sem

theorem claim : Cert.Claim :=
  ⟨Cert.FfOut.Gen.facts, Cert.FfOutIdeal.Gen.facts, Cert.FfOutReferenceIdeal.Gen.facts,
   Cert.FfOutWeight.Gen.facts, Cert.FfOutWeightIdeal.Gen.facts, Cert.FfOutWeightReferenceIdeal.Gen.facts,
   Cert.FfInWeight.Gen.facts, Cert.FfInWeightIdeal.Gen.facts, Cert.FfInWeightReferenceIdeal.Gen.facts,
   Cert.GateWeight.Gen.facts, Cert.GateWeightIdeal.Gen.facts, Cert.GateWeightReferenceIdeal.Gen.facts,
   Cert.EmbedWeight.Gen.facts, Cert.EmbedWeightIdeal.Gen.facts, Cert.EmbedWeightReferenceIdeal.Gen.facts,
   Cert.MixWeight.Gen.facts, Cert.MixWeightIdeal.Gen.facts, Cert.MixWeightReferenceIdeal.Gen.facts,
   Cert.UpWeight.Gen.facts, Cert.UpWeightIdeal.Gen.facts, Cert.UpWeightReferenceIdeal.Gen.facts,
   Cert.InWeight.Gen.facts, Cert.InWeightIdeal.Gen.facts, Cert.InWeightReferenceIdeal.Gen.facts,
   Cert.FfIn.Gen.facts, Cert.FfInIdeal.Gen.facts, Cert.FfInReferenceIdeal.Gen.facts,
   Cert.Gate.Gen.facts, Cert.GateIdeal.Gen.facts, Cert.GateReferenceIdeal.Gen.facts,
   Cert.Loss.Gen.facts, Cert.LossIdeal.Gen.facts, Cert.LossReferenceIdeal.Gen.facts,
   Cert.InForward.Gen.facts, Cert.InForwardIdeal.Gen.facts, Cert.InForwardReferenceIdeal.Gen.facts,
   Cert.MixForward.Gen.facts, Cert.MixForwardIdeal.Gen.facts, Cert.MixForwardReferenceIdeal.Gen.facts,
   Cert.FfInForward.Gen.facts, Cert.FfInForwardIdeal.Gen.facts, Cert.FfInForwardReferenceIdeal.Gen.facts,
   Cert.FfOutForward.Gen.facts, Cert.FfOutForwardIdeal.Gen.facts, Cert.FfOutForwardReferenceIdeal.Gen.facts,
   Cert.EmbedForward.Gen.facts, Cert.EmbedForwardIdeal.Gen.facts, Cert.EmbedForwardReferenceIdeal.Gen.facts,
   Cert.AdamIn.Gen.facts, Cert.AdamInIdeal.Gen.facts, Cert.AdamInReferenceIdeal.Gen.facts,
   Cert.AdamFf.Gen.facts, Cert.AdamFfIdeal.Gen.facts, Cert.AdamFfReferenceIdeal.Gen.facts,
   Cert.AdamUp.Gen.facts, Cert.AdamUpIdeal.Gen.facts, Cert.AdamUpReferenceIdeal.Gen.facts,
   Cert.AdamMix.Gen.facts, Cert.AdamMixIdeal.Gen.facts, Cert.AdamMixReferenceIdeal.Gen.facts,
   Cert.AdamEmbed.Gen.facts, Cert.AdamEmbedIdeal.Gen.facts, Cert.AdamEmbedReferenceIdeal.Gen.facts,
   Cert.WindowForward.Gen.facts, Cert.WindowForwardIdeal.Gen.facts, Cert.WindowForwardReferenceIdeal.Gen.facts,
   fun m ρ _ => Cert.FfOut.Gen.frame m ρ, fun m ρ _ => Cert.FfOutIdeal.Gen.frame m ρ, ffOut_reference_frame,
   fun m ρ _ => Cert.FfOutWeight.Gen.frame m ρ, fun m ρ _ => Cert.FfOutWeightIdeal.Gen.frame m ρ, ffOutWeight_reference_frame,
   fun m ρ _ => Cert.FfInWeight.Gen.frame m ρ, fun m ρ _ => Cert.FfInWeightIdeal.Gen.frame m ρ, ffInWeight_reference_frame,
   fun m ρ _ => Cert.GateWeight.Gen.frame m ρ, fun m ρ _ => Cert.GateWeightIdeal.Gen.frame m ρ, gateWeight_reference_frame,
   fun m ρ _ => Cert.EmbedWeight.Gen.frame m ρ, fun m ρ _ => Cert.EmbedWeightIdeal.Gen.frame m ρ, embedWeight_reference_frame,
   fun m ρ _ => Cert.MixWeight.Gen.frame m ρ, fun m ρ _ => Cert.MixWeightIdeal.Gen.frame m ρ, mixWeight_reference_frame,
   fun m ρ _ => Cert.UpWeight.Gen.frame m ρ, fun m ρ _ => Cert.UpWeightIdeal.Gen.frame m ρ, upWeight_reference_frame,
   fun m ρ _ => Cert.InWeight.Gen.frame m ρ, fun m ρ _ => Cert.InWeightIdeal.Gen.frame m ρ, inWeight_reference_frame,
   fun m ρ _ => Cert.FfIn.Gen.frame m ρ, fun m ρ _ => Cert.FfInIdeal.Gen.frame m ρ, ffIn_reference_frame,
   fun m ρ _ => Cert.Gate.Gen.frame m ρ, fun m ρ _ => Cert.GateIdeal.Gen.frame m ρ, gate_reference_frame,
   fun m ρ _ => Cert.Loss.Gen.frame m ρ, fun m ρ _ => Cert.LossIdeal.Gen.frame m ρ, loss_reference_frame,
   fun m ρ _ => Cert.InForward.Gen.frame m ρ, fun m ρ _ => Cert.InForwardIdeal.Gen.frame m ρ, inForward_reference_frame,
   fun m ρ _ => Cert.MixForward.Gen.frame m ρ, fun m ρ _ => Cert.MixForwardIdeal.Gen.frame m ρ, mixForward_reference_frame,
   fun m ρ _ => Cert.FfInForward.Gen.frame m ρ, fun m ρ _ => Cert.FfInForwardIdeal.Gen.frame m ρ, ffInForward_reference_frame,
   fun m ρ _ => Cert.FfOutForward.Gen.frame m ρ, fun m ρ _ => Cert.FfOutForwardIdeal.Gen.frame m ρ, ffOutForward_reference_frame,
   fun m ρ _ => Cert.EmbedForward.Gen.frame m ρ, fun m ρ _ => Cert.EmbedForwardIdeal.Gen.frame m ρ, embedForward_reference_frame,
   fun m ρ _ => Cert.AdamIn.Gen.frame m ρ, fun m ρ _ => Cert.AdamInIdeal.Gen.frame m ρ, adamIn_reference_frame,
   fun m ρ _ => Cert.AdamFf.Gen.frame m ρ, fun m ρ _ => Cert.AdamFfIdeal.Gen.frame m ρ, adamFf_reference_frame,
   fun m ρ _ => Cert.AdamUp.Gen.frame m ρ, fun m ρ _ => Cert.AdamUpIdeal.Gen.frame m ρ, adamUp_reference_frame,
   fun m ρ _ => Cert.AdamMix.Gen.frame m ρ, fun m ρ _ => Cert.AdamMixIdeal.Gen.frame m ρ, adamMix_reference_frame,
   fun m ρ _ => Cert.AdamEmbed.Gen.frame m ρ, fun m ρ _ => Cert.AdamEmbedIdeal.Gen.frame m ρ, adamEmbed_reference_frame,
   fun m ρ _ => Cert.WindowForward.Gen.frame m ρ, fun m ρ _ => Cert.WindowForwardIdeal.Gen.frame m ρ, windowForward_reference_frame,
   trivial, ffOut_algebraic,
   trivial, ffOutWeight_algebraic,
   trivial, ffInWeight_algebraic,
   trivial, gateWeight_algebraic,
   trivial, embedWeight_algebraic,
   trivial, mixWeight_algebraic,
   trivial, upWeight_algebraic,
   trivial, inWeight_algebraic,
   trivial, ffIn_algebraic,
   trivial, gate_algebraic,
   trivial, loss_algebraic,
   trivial, inForward_algebraic,
   trivial, mixForward_algebraic,
   trivial, ffInForward_algebraic,
   trivial, ffOutForward_algebraic,
   trivial, embedForward_algebraic,
   trivial, adamIn_algebraic,
   trivial, adamFf_algebraic,
   trivial, adamUp_algebraic,
   trivial, adamMix_algebraic,
   trivial, adamEmbed_algebraic,
   IdealRules.named_const.statement _ _ _ _ _ rfl, windowForward_algebraic⟩

end Cert.Proof

end
